-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_in_range [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_experts_in_range [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_experts_in_range [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_experts_in_range : Cert.Pre_experts_in_range.Facts),
    quiescent_Kernel (hKernel := hKernel)
    ∧ quiescent_KernelIdeal (hKernelIdeal := hKernelIdeal)
    ∧ quiescent_KernelIdeal_pre_experts_in_range (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_experts_in_range (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts_in_range.lean ====
abbrev S6144x4096 : Shape := ⟨2, ![6144, 4096]⟩
abbrev S6144x128 : Shape := ⟨2, ![6144, 128]⟩
abbrev S1x8x4096x14336 : Shape := ⟨4, ![1, 8, 4096, 14336]⟩
abbrev S1x8x14336x4096 : Shape := ⟨4, ![1, 8, 14336, 4096]⟩
abbrev S6144x2 : Shape := ⟨2, ![6144, 2]⟩
abbrev S_ : Shape := ⟨0, ![]⟩

class Facts : Prop where
  slices_S6144x128_S6144x2_0_0 : S6144x128.Slices ![0, 0] S6144x2
  bcast_S_S6144x2 : S_.BroadcastsInDim S6144x2 (![] : Fin 0 → Fin S6144x2.rank)

variable [Facts]

def fn {F : FTy → Type} [FloatOps F] (main_arg0 : FVec F S6144x4096 .bf16) (main_arg1 : FVec F S6144x128 .f32) (main_arg2 : FVec F S1x8x4096x14336 .f32) (main_arg3 : FVec F S1x8x4096x14336 .f32) (main_arg4 : FVec F S1x8x14336x4096 .f32) : IVec S6144x2 1 :=
  let main_v0 : FVec F S6144x2 .f32 := (extractStridedSlice S6144x2 ![0, 0] · slices_S6144x128_S6144x2_0_0) main_arg1
  let main_v1 : IVec S6144x2 32 := fptosi 32 main_v0
  let main_c : IVec S_ 32 := constantI S_ 32 0#32
  let main_v2 : IVec S6144x2 32 := broadcastInDim S6144x2 ![] bcast_S_S6144x2 main_c
  let main_v3 : IVec S6144x2 1 := cmpi .sge main_v1 main_v2
  let main_c_0 : IVec S_ 32 := constantI S_ 32 8#32
  let main_v4 : IVec S6144x2 32 := broadcastInDim S6144x2 ![] bcast_S_S6144x2 main_c_0
  let main_v5 : IVec S6144x2 1 := cmpi .slt main_v1 main_v4
  let main_v6 : IVec S6144x2 1 := andi main_v3 main_v5
  main_v6
-- ==== Kernel.lean ====
abbrev S6144x4096 : Shape := ⟨2, ![6144, 4096]⟩
abbrev S6144x128 : Shape := ⟨2, ![6144, 128]⟩
abbrev S1x8x4096x14336 : Shape := ⟨4, ![1, 8, 4096, 14336]⟩
abbrev S1x8x14336x4096 : Shape := ⟨4, ![1, 8, 14336, 4096]⟩
abbrev S6144x2 : Shape := ⟨2, ![6144, 2]⟩
abbrev S12288 : Shape := ⟨1, ![12288]⟩
abbrev S12288x1 : Shape := ⟨2, ![12288, 1]⟩
abbrev S8 : Shape := ⟨1, ![8]⟩
abbrev S1x8 : Shape := ⟨2, ![1, 8]⟩
abbrev S12288x8 : Shape := ⟨2, ![12288, 8]⟩
abbrev S_ : Shape := ⟨0, ![]⟩
abbrev S19456 : Shape := ⟨1, ![19456]⟩
abbrev S19 : Shape := ⟨1, ![19]⟩
abbrev S1 : Shape := ⟨1, ![1]⟩
abbrev S19x1 : Shape := ⟨2, ![19, 1]⟩
abbrev S19x8 : Shape := ⟨2, ![19, 8]⟩
abbrev S19456x1 : Shape := ⟨2, ![19456, 1]⟩
abbrev S19456x4096 : Shape := ⟨2, ![19456, 4096]⟩
abbrev S1024x4096 : Shape := ⟨2, ![1024, 4096]⟩
abbrev S1x1x4096x256 : Shape := ⟨4, ![1, 1, 4096, 256]⟩
abbrev S1x1x256x4096 : Shape := ⟨4, ![1, 1, 256, 4096]⟩
abbrev S256x1024 : Shape := ⟨2, ![256, 1024]⟩
abbrev S1x1x1024x256 : Shape := ⟨4, ![1, 1, 1024, 256]⟩
abbrev S1024x256 : Shape := ⟨2, ![1024, 256]⟩
abbrev S256x256 : Shape := ⟨2, ![256, 256]⟩
abbrev S256x512 : Shape := ⟨2, ![256, 512]⟩
abbrev S1x1x256x512 : Shape := ⟨4, ![1, 1, 256, 512]⟩
abbrev S512x1024 : Shape := ⟨2, ![512, 1024]⟩
abbrev S512x256 : Shape := ⟨2, ![512, 256]⟩
abbrev S512x512 : Shape := ⟨2, ![512, 512]⟩
abbrev S768x1024 : Shape := ⟨2, ![768, 1024]⟩
abbrev S768x256 : Shape := ⟨2, ![768, 256]⟩
abbrev S768x512 : Shape := ⟨2, ![768, 512]⟩
abbrev S1024x1024 : Shape := ⟨2, ![1024, 1024]⟩
abbrev S1024x512 : Shape := ⟨2, ![1024, 512]⟩
abbrev S6144x1 : Shape := ⟨2, ![6144, 1]⟩
abbrev S6144 : Shape := ⟨1, ![6144]⟩

abbrev nBuf : Space → Nat
  | .hbm => 157
  | .vmem => 8
  | .smem => 3
  | _ => 0

abbrev hbmTy0_0 (i : Nat) : BufTy := match i % 128 with
  | 0 => ⟨S6144x4096, .bf16⟩
  | 1 => ⟨S6144x128, .f32⟩
  | 2 => ⟨S1x8x4096x14336, .f32⟩
  | 3 => ⟨S1x8x4096x14336, .f32⟩
  | 4 => ⟨S1x8x14336x4096, .f32⟩
  | 5 => ⟨S6144x2, .f32⟩
  | 6 => ⟨S6144x2, .i32⟩
  | 7 => ⟨S12288, .i32⟩
  | 8 => ⟨S12288x1, .i32⟩
  | 9 => ⟨S8, .i32⟩
  | 10 => ⟨S1x8, .i32⟩
  | 11 => ⟨S12288x8, .i32⟩
  | 12 => ⟨S12288x8, .i32⟩
  | 13 => ⟨S12288x8, .i1⟩
  | 14 => ⟨S12288x8, .i32⟩
  | 15 => ⟨S_, .i32⟩
  | 16 => ⟨S_, .i32⟩
  | 17 => ⟨S12288x8, .i32⟩
  | 18 => ⟨S1x8, .i32⟩
  | 19 => ⟨S8, .i32⟩
  | 20 => ⟨S12288x8, .i32⟩
  | 21 => ⟨S_, .i32⟩
  | 22 => ⟨S12288, .i32⟩
  | 23 => ⟨S_, .i32⟩
  | 24 => ⟨S12288, .i32⟩
  | 25 => ⟨S12288, .i32⟩
  | 26 => ⟨S_, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i1⟩
  | 40 => ⟨S8, .i32⟩
  | 41 => ⟨S8, .i32⟩
  | 42 => ⟨S_, .i32⟩
  | 43 => ⟨S8, .i32⟩
  | 44 => ⟨S8, .i1⟩
  | 45 => ⟨S8, .i1⟩
  | 46 => ⟨S_, .i32⟩
  | 47 => ⟨S8, .i32⟩
  | 48 => ⟨S8, .i32⟩
  | 49 => ⟨S8, .i32⟩
  | 50 => ⟨S_, .i32⟩
  | 51 => ⟨S_, .i32⟩
  | 52 => ⟨S8, .i32⟩
  | 53 => ⟨S8, .i32⟩
  | 54 => ⟨S1x8, .i32⟩
  | 55 => ⟨S12288x8, .i32⟩
  | 56 => ⟨S12288x8, .i32⟩
  | 57 => ⟨S_, .i32⟩
  | 58 => ⟨S12288, .i32⟩
  | 59 => ⟨S_, .i32⟩
  | 60 => ⟨S12288, .i32⟩
  | 61 => ⟨S12288, .i32⟩
  | 62 => ⟨S12288, .i32⟩
  | 63 => ⟨S_, .i32⟩
  | 64 => ⟨S19456, .i32⟩
  | 65 => ⟨S12288, .i32⟩
  | 66 => ⟨S_, .i32⟩
  | 67 => ⟨S_, .i32⟩
  | 68 => ⟨S12288, .i32⟩
  | 69 => ⟨S12288, .i32⟩
  | 70 => ⟨S12288, .i32⟩
  | 71 => ⟨S_, .i32⟩
  | 72 => ⟨S12288, .i32⟩
  | 73 => ⟨S12288, .i1⟩
  | 74 => ⟨S12288, .i32⟩
  | 75 => ⟨S12288, .i32⟩
  | 76 => ⟨S_, .i32⟩
  | 77 => ⟨S12288, .i32⟩
  | 78 => ⟨S12288, .i1⟩
  | 79 => ⟨S12288, .i1⟩
  | 80 => ⟨S_, .i32⟩
  | 81 => ⟨S12288, .i32⟩
  | 82 => ⟨S12288, .i32⟩
  | 83 => ⟨S12288, .i32⟩
  | 84 => ⟨S_, .i32⟩
  | 85 => ⟨S12288, .i32⟩
  | 86 => ⟨S12288, .i1⟩
  | 87 => ⟨S_, .i32⟩
  | 88 => ⟨S12288, .i32⟩
  | 89 => ⟨S12288, .i32⟩
  | 90 => ⟨S12288, .i32⟩
  | 91 => ⟨S12288x1, .i32⟩
  | 92 => ⟨S19456, .i32⟩
  | 93 => ⟨S6144x2, .i32⟩
  | 94 => ⟨S1, .i32⟩
  | 95 => ⟨S_, .i32⟩
  | 96 => ⟨S_, .i32⟩
  | 97 => ⟨S_, .i32⟩
  | 98 => ⟨S19, .i32⟩
  | 99 => ⟨S19, .i32⟩
  | 100 => ⟨S19x1, .i32⟩
  | 101 => ⟨S1x8, .i32⟩
  | 102 => ⟨S19x8, .i32⟩
  | 103 => ⟨S19x8, .i32⟩
  | 104 => ⟨S19x8, .i1⟩
  | 105 => ⟨S19x8, .i32⟩
  | 106 => ⟨S_, .i32⟩
  | 107 => ⟨S19, .i32⟩
  | 108 => ⟨S_, .i32⟩
  | 109 => ⟨S19, .i32⟩
  | 110 => ⟨S_, .i32⟩
  | 111 => ⟨S19, .i32⟩
  | 112 => ⟨S19, .i1⟩
  | 113 => ⟨S_, .i32⟩
  | 114 => ⟨S19, .i32⟩
  | 115 => ⟨S19, .i32⟩
  | 116 => ⟨S19, .i32⟩
  | 117 => ⟨S19x1, .i32⟩
  | 118 => ⟨S19, .i32⟩
  | 119 => ⟨S_, .i32⟩
  | 120 => ⟨S19, .i32⟩
  | 121 => ⟨S19, .i1⟩
  | 122 => ⟨S_, .i32⟩
  | 123 => ⟨S19, .i32⟩
  | 124 => ⟨S19, .i32⟩
  | 125 => ⟨S19, .i32⟩
  | 126 => ⟨S19x1, .i32⟩
  | 127 => ⟨S19, .i32⟩
  | _ => ⟨S6144x4096, .bf16⟩

abbrev hbmTy0_1 (i : Nat) : BufTy := match i % 128 with
  | 0 => ⟨S19, .i32⟩
  | 1 => ⟨S_, .i32⟩
  | 2 => ⟨S19, .i32⟩
  | 3 => ⟨S19, .i32⟩
  | 4 => ⟨S19, .i32⟩
  | 5 => ⟨S19, .i32⟩
  | 6 => ⟨S19, .i1⟩
  | 7 => ⟨S_, .i32⟩
  | 8 => ⟨S_, .i32⟩
  | 9 => ⟨S_, .i32⟩
  | 10 => ⟨S19, .i32⟩
  | 11 => ⟨S19, .i32⟩
  | 12 => ⟨S_, .i32⟩
  | 13 => ⟨S19, .i32⟩
  | 14 => ⟨S19, .i32⟩
  | 15 => ⟨S_, .i32⟩
  | 16 => ⟨S_, .i32⟩
  | 17 => ⟨S19, .i32⟩
  | 18 => ⟨S19456x1, .i32⟩
  | 19 => ⟨S19456x4096, .bf16⟩
  | 20 => ⟨S19456x4096, .f32⟩
  | 21 => ⟨S6144x1, .i32⟩
  | 22 => ⟨S6144, .i32⟩
  | 23 => ⟨S6144x1, .i32⟩
  | 24 => ⟨S6144x4096, .f32⟩
  | 25 => ⟨S6144x1, .i32⟩
  | 26 => ⟨S6144, .i32⟩
  | 27 => ⟨S6144x1, .i32⟩
  | 28 => ⟨S6144x4096, .f32⟩
  | _ => ⟨S6144x4096, .bf16⟩

abbrev hbmTy (i : Nat) : BufTy := match i / 128 with
  | 0 => hbmTy0_0 i
  | 1 => hbmTy0_1 i
  | _ => ⟨S6144x4096, .bf16⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1x1x4096x256, .f32⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x256x4096, .f32⟩
  | .local _ .vmem, ⟨6, _⟩ => ⟨S1x1x256x4096, .f32⟩
  | .local _ .vmem, ⟨7, _⟩ => ⟨S1024x4096, .f32⟩
  | .local _ .smem, ⟨0, _⟩ => ⟨S19, .i32⟩
  | .local _ .smem, ⟨1, _⟩ => ⟨S19, .i32⟩
  | .local _ .smem, ⟨2, _⟩ => ⟨S19, .i32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_call0_c : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v21 : Ref sig .tc := ⟨.hbm, 49, rfl⟩
abbrev main_call2_call0_c : Ref sig .tc := ⟨.hbm, 50, rfl⟩
abbrev main_call2_call0_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_c : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_0 : Ref sig .tc := ⟨.hbm, 80, rfl⟩
abbrev main_call3_v12 : Ref sig .tc := ⟨.hbm, 81, rfl⟩
abbrev main_call3_v13 : Ref sig .tc := ⟨.hbm, 82, rfl⟩
abbrev main_v33 : Ref sig .tc := ⟨.hbm, 83, rfl⟩
abbrev main_c_8 : Ref sig .tc := ⟨.hbm, 84, rfl⟩
abbrev main_v34 : Ref sig .tc := ⟨.hbm, 85, rfl⟩
abbrev main_v35 : Ref sig .tc := ⟨.hbm, 86, rfl⟩
abbrev main_c_9 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v43 : Ref sig .tc := ⟨.hbm, 94, rfl⟩
abbrev main_v44 : Ref sig .tc := ⟨.hbm, 95, rfl⟩
abbrev main_c_10 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_c_11 : Ref sig .tc := ⟨.hbm, 106, rfl⟩
abbrev main_v54 : Ref sig .tc := ⟨.hbm, 107, rfl⟩
abbrev main_c_12 : Ref sig .tc := ⟨.hbm, 108, rfl⟩
abbrev main_v55 : Ref sig .tc := ⟨.hbm, 109, rfl⟩
abbrev main_c_13 : Ref sig .tc := ⟨.hbm, 110, rfl⟩
abbrev main_v57 : Ref sig .tc := ⟨.hbm, 111, rfl⟩
abbrev main_v58 : Ref sig .tc := ⟨.hbm, 112, rfl⟩
abbrev main_c_14 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_c_15 : Ref sig .tc := ⟨.hbm, 119, rfl⟩
abbrev main_v64 : Ref sig .tc := ⟨.hbm, 120, rfl⟩
abbrev main_v65 : Ref sig .tc := ⟨.hbm, 121, rfl⟩
abbrev main_c_16 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_c_17 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_18 : Ref sig .tc := ⟨.hbm, 135, rfl⟩
abbrev main_c_19 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v77 : Ref sig .tc := ⟨.hbm, 142, rfl⟩
abbrev main_c_20 : Ref sig .tc := ⟨.hbm, 143, rfl⟩
abbrev main_call5_v0 : Ref sig .tc := ⟨.hbm, 144, rfl⟩
abbrev main_call5_v1 : Ref sig .tc := ⟨.hbm, 145, rfl⟩
abbrev main_call6_v0 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_call7_v0 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_call8_v0 : Ref sig .tc := ⟨.hbm, 155, rfl⟩
abbrev main_v86 : Ref sig .tc := ⟨.hbm, 156, rfl⟩
abbrev main_v56 : Ref sig .tc := ⟨.smem, 0, rfl⟩
abbrev main_v42 : Ref sig .tc := ⟨.smem, 1, rfl⟩
abbrev main_v78 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![19, 56], ![false, false]⟩

abbrev pre0 : Pipeline.Prefetch sig := ⟨3, ![main_v56.idx, main_v42.idx, main_v78.idx], fun | 0 => main_v56.names | 1 => main_v42.names | 2 => main_v78.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c256_i32 : BitVec 32 := 256#32
  let v5 : BitVec 32 := Scalar.addi v1 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let c1_i32_8 : BitVec 32 := 1#32
  let v24 : BitVec 1 := Scalar.cmpi .eq v23 c1_i32_8
  let v25 : BitVec 32 := Scalar.extui v24
  let c0_i32_9 : BitVec 32 := 0#32
  let v26 : BitVec 1 := Scalar.cmpi .ne v25 c0_i32_9
  v26

def k0_cond3 (v1 : BitVec 32) : BitVec 1 :=
  let c256_i32 : BitVec 32 := 256#32
  let v5 : BitVec 32 := Scalar.addi v1 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let c2_i32 : BitVec 32 := 2#32
  let v27 : BitVec 1 := Scalar.cmpi .eq v23 c2_i32
  let v28 : BitVec 32 := Scalar.extui v27
  let c0_i32_10 : BitVec 32 := 0#32
  let v29 : BitVec 1 := Scalar.cmpi .ne v28 c0_i32_10
  v29

def k0_cond4 (v1 : BitVec 32) : BitVec 1 :=
  let c256_i32 : BitVec 32 := 256#32
  let v5 : BitVec 32 := Scalar.addi v1 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let c3_i32 : BitVec 32 := 3#32
  let v30 : BitVec 1 := Scalar.cmpi .eq v23 c3_i32
  let v31 : BitVec 32 := Scalar.extui v30
  let c0_i32_11 : BitVec 32 := 0#32
  let v32 : BitVec 1 := Scalar.cmpi .ne v31 c0_i32_11
  v32

def k0_cond5 (v1 : BitVec 32) : BitVec 1 :=
  let c256_i32 : BitVec 32 := 256#32
  let v5 : BitVec 32 := Scalar.addi v1 c256_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c256_i32_1 : BitVec 32 := 256#32
  let c0_i32_4 : BitVec 32 := 0#32
  let v13 : BitVec 1 := Scalar.cmpi .sgt c256_i32_1 c0_i32_4
  let v14 : BitVec 32 := Scalar.extui v13
  let c0_i32_5 : BitVec 32 := 0#32
  let v15 : BitVec 1 := Scalar.cmpi .slt c256_i32_1 c0_i32_5
  let v16 : BitVec 32 := Scalar.extui v15
  let v17 : BitVec 32 := Scalar.subi v14 v16
  let v18 : BitVec 1 := Scalar.cmpi .ne v12 v17
  let v19 : BitVec 32 := Scalar.remsi v6 c256_i32_1
  let c0_i32_6 : BitVec 32 := 0#32
  let v20 : BitVec 1 := Scalar.cmpi .ne v19 c0_i32_6
  let v21 : BitVec 1 := Scalar.andi v18 v20
  let v7 : BitVec 32 := Scalar.divsi v6 c256_i32_1
  let c1_i32_7 : BitVec 32 := 1#32
  let v22 : BitVec 32 := Scalar.subi v7 c1_i32_7
  let v23 : BitVec 32 := Scalar.select v21 v22 v7
  let c4_i32 : BitVec 32 := 4#32
  let v33 : BitVec 1 := Scalar.cmpi .eq v23 c4_i32
  let v34 : BitVec 32 := Scalar.extui v33
  let c0_i32_12 : BitVec 32 := 0#32
  let v35 : BitVec 1 := Scalar.cmpi .ne v34 c0_i32_12
  v35

def cc0_transform_0 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S19) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S19.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S19) ![v0.toNat] S1.size (k0_off1_inb i)) numel1_S1
  let v2 : Index := Scalar.indexCast arg0
  let v3 : BitVec 32 := pf.at 2 (Rect.unit (s := S19) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S19.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S19) ![v0.toNat] S1.size (k0_off1_inb i)) numel1_S1
  let v2 : Index := Scalar.indexCast arg0
  let v3 : BitVec 32 := pf.at 2 (Rect.unit (s := S19) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_3 (k0_off1_inb : ∀ i : grid0.Coords, ∀ a, (k0_off1 i) a + S1.size a ≤ S19.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S19) ![v0.toNat] S1.size (k0_off1_inb i)) numel1_S1
  let v2 : Index := Scalar.indexCast arg0
  let v3 : BitVec 32 := pf.at 2 (Rect.unit (s := S19) ![v2.toNat] S1.size (k0_off1_inb i)) numel1_S1
  let c0_i32 : BitVec 32 := 0#32
  let v4 : BitVec 1 := Scalar.cmpi .sgt v3 c0_i32
  let c55_i32 : BitVec 32 := 55#32
  let v5 : BitVec 32 := Scalar.select v4 arg1 c55_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S19) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== ReferenceIdeal.lean ====
abbrev S6144x4096 : Shape := ⟨2, ![6144, 4096]⟩
abbrev S6144x128 : Shape := ⟨2, ![6144, 128]⟩
abbrev S1x8x4096x14336 : Shape := ⟨4, ![1, 8, 4096, 14336]⟩
abbrev S1x8x14336x4096 : Shape := ⟨4, ![1, 8, 14336, 4096]⟩
abbrev S6144x1 : Shape := ⟨2, ![6144, 1]⟩
abbrev S6144 : Shape := ⟨1, ![6144]⟩
abbrev S1x8 : Shape := ⟨2, ![1, 8]⟩
abbrev S6144x8 : Shape := ⟨2, ![6144, 8]⟩
abbrev S_ : Shape := ⟨0, ![]⟩
abbrev S1x1x4096x14336 : Shape := ⟨4, ![1, 1, 4096, 14336]⟩
abbrev S4096x14336 : Shape := ⟨2, ![4096, 14336]⟩
abbrev S1x1x14336x4096 : Shape := ⟨4, ![1, 1, 14336, 4096]⟩
abbrev S14336x4096 : Shape := ⟨2, ![14336, 4096]⟩
abbrev S6144x14336 : Shape := ⟨2, ![6144, 14336]⟩

abbrev nBuf : Space → Nat
  | .hbm => 244
  | .vmem => 0
  | .smem => 0
  | _ => 0

abbrev hbmTy0_0 (i : Nat) : BufTy := match i % 128 with
  | 0 => ⟨S6144x4096, .bf16⟩
  | 1 => ⟨S6144x128, .f32⟩
  | 2 => ⟨S1x8x4096x14336, .f32⟩
  | 3 => ⟨S1x8x4096x14336, .f32⟩
  | 4 => ⟨S1x8x14336x4096, .f32⟩
  | 5 => ⟨S6144x4096, .f32⟩
  | 6 => ⟨S6144x1, .f32⟩
  | 7 => ⟨S6144, .f32⟩
  | 8 => ⟨S6144, .i32⟩
  | 9 => ⟨S6144x1, .i32⟩
  | 10 => ⟨S1x8, .i32⟩
  | 11 => ⟨S6144x8, .i32⟩
  | 12 => ⟨S6144x8, .i32⟩
  | 13 => ⟨S6144x8, .i1⟩
  | 14 => ⟨S6144x8, .f32⟩
  | 15 => ⟨S6144x1, .f32⟩
  | 16 => ⟨S6144, .f32⟩
  | 17 => ⟨S6144, .i32⟩
  | 18 => ⟨S6144x1, .i32⟩
  | 19 => ⟨S1x8, .i32⟩
  | 20 => ⟨S6144x8, .i32⟩
  | 21 => ⟨S6144x8, .i32⟩
  | 22 => ⟨S6144x8, .i1⟩
  | 23 => ⟨S6144x8, .f32⟩
  | 24 => ⟨S_, .f32⟩
  | 25 => ⟨S6144x4096, .f32⟩
  | 26 => ⟨S_, .f32⟩
  | 27 => ⟨S6144x4096, .f32⟩
  | 28 => ⟨S1x1x4096x14336, .f32⟩
  | 29 => ⟨S4096x14336, .f32⟩
  | 30 => ⟨S1x1x4096x14336, .f32⟩
  | 31 => ⟨S4096x14336, .f32⟩
  | 32 => ⟨S1x1x14336x4096, .f32⟩
  | 33 => ⟨S14336x4096, .f32⟩
  | 34 => ⟨S6144x14336, .f32⟩
  | 35 => ⟨S6144x14336, .f32⟩
  | 36 => ⟨S6144x14336, .f32⟩
  | 37 => ⟨S_, .f32⟩
  | 38 => ⟨S6144x14336, .f32⟩
  | 39 => ⟨S6144x14336, .f32⟩
  | 40 => ⟨S_, .f32⟩
  | 41 => ⟨S6144x14336, .f32⟩
  | 42 => ⟨S6144x14336, .f32⟩
  | 43 => ⟨S6144x14336, .f32⟩
  | 44 => ⟨S6144x14336, .f32⟩
  | 45 => ⟨S6144x14336, .f32⟩
  | 46 => ⟨S6144x4096, .f32⟩
  | 47 => ⟨S6144x1, .f32⟩
  | 48 => ⟨S6144x4096, .f32⟩
  | 49 => ⟨S6144x4096, .f32⟩
  | 50 => ⟨S6144x4096, .f32⟩
  | 51 => ⟨S6144x1, .f32⟩
  | 52 => ⟨S6144x4096, .f32⟩
  | 53 => ⟨S6144x4096, .f32⟩
  | 54 => ⟨S6144x4096, .f32⟩
  | 55 => ⟨S1x1x4096x14336, .f32⟩
  | 56 => ⟨S4096x14336, .f32⟩
  | 57 => ⟨S1x1x4096x14336, .f32⟩
  | 58 => ⟨S4096x14336, .f32⟩
  | 59 => ⟨S1x1x14336x4096, .f32⟩
  | 60 => ⟨S14336x4096, .f32⟩
  | 61 => ⟨S6144x14336, .f32⟩
  | 62 => ⟨S6144x14336, .f32⟩
  | 63 => ⟨S6144x14336, .f32⟩
  | 64 => ⟨S_, .f32⟩
  | 65 => ⟨S6144x14336, .f32⟩
  | 66 => ⟨S6144x14336, .f32⟩
  | 67 => ⟨S_, .f32⟩
  | 68 => ⟨S6144x14336, .f32⟩
  | 69 => ⟨S6144x14336, .f32⟩
  | 70 => ⟨S6144x14336, .f32⟩
  | 71 => ⟨S6144x14336, .f32⟩
  | 72 => ⟨S6144x14336, .f32⟩
  | 73 => ⟨S6144x4096, .f32⟩
  | 74 => ⟨S6144x1, .f32⟩
  | 75 => ⟨S6144x4096, .f32⟩
  | 76 => ⟨S6144x4096, .f32⟩
  | 77 => ⟨S6144x4096, .f32⟩
  | 78 => ⟨S6144x1, .f32⟩
  | 79 => ⟨S6144x4096, .f32⟩
  | 80 => ⟨S6144x4096, .f32⟩
  | 81 => ⟨S6144x4096, .f32⟩
  | 82 => ⟨S1x1x4096x14336, .f32⟩
  | 83 => ⟨S4096x14336, .f32⟩
  | 84 => ⟨S1x1x4096x14336, .f32⟩
  | 85 => ⟨S4096x14336, .f32⟩
  | 86 => ⟨S1x1x14336x4096, .f32⟩
  | 87 => ⟨S14336x4096, .f32⟩
  | 88 => ⟨S6144x14336, .f32⟩
  | 89 => ⟨S6144x14336, .f32⟩
  | 90 => ⟨S6144x14336, .f32⟩
  | 91 => ⟨S_, .f32⟩
  | 92 => ⟨S6144x14336, .f32⟩
  | 93 => ⟨S6144x14336, .f32⟩
  | 94 => ⟨S_, .f32⟩
  | 95 => ⟨S6144x14336, .f32⟩
  | 96 => ⟨S6144x14336, .f32⟩
  | 97 => ⟨S6144x14336, .f32⟩
  | 98 => ⟨S6144x14336, .f32⟩
  | 99 => ⟨S6144x14336, .f32⟩
  | 100 => ⟨S6144x4096, .f32⟩
  | 101 => ⟨S6144x1, .f32⟩
  | 102 => ⟨S6144x4096, .f32⟩
  | 103 => ⟨S6144x4096, .f32⟩
  | 104 => ⟨S6144x4096, .f32⟩
  | 105 => ⟨S6144x1, .f32⟩
  | 106 => ⟨S6144x4096, .f32⟩
  | 107 => ⟨S6144x4096, .f32⟩
  | 108 => ⟨S6144x4096, .f32⟩
  | 109 => ⟨S1x1x4096x14336, .f32⟩
  | 110 => ⟨S4096x14336, .f32⟩
  | 111 => ⟨S1x1x4096x14336, .f32⟩
  | 112 => ⟨S4096x14336, .f32⟩
  | 113 => ⟨S1x1x14336x4096, .f32⟩
  | 114 => ⟨S14336x4096, .f32⟩
  | 115 => ⟨S6144x14336, .f32⟩
  | 116 => ⟨S6144x14336, .f32⟩
  | 117 => ⟨S6144x14336, .f32⟩
  | 118 => ⟨S_, .f32⟩
  | 119 => ⟨S6144x14336, .f32⟩
  | 120 => ⟨S6144x14336, .f32⟩
  | 121 => ⟨S_, .f32⟩
  | 122 => ⟨S6144x14336, .f32⟩
  | 123 => ⟨S6144x14336, .f32⟩
  | 124 => ⟨S6144x14336, .f32⟩
  | 125 => ⟨S6144x14336, .f32⟩
  | 126 => ⟨S6144x14336, .f32⟩
  | 127 => ⟨S6144x4096, .f32⟩
  | _ => ⟨S6144x4096, .bf16⟩

abbrev hbmTy0_1 (i : Nat) : BufTy := match i % 128 with
  | 0 => ⟨S6144x1, .f32⟩
  | 1 => ⟨S6144x4096, .f32⟩
  | 2 => ⟨S6144x4096, .f32⟩
  | 3 => ⟨S6144x4096, .f32⟩
  | 4 => ⟨S6144x1, .f32⟩
  | 5 => ⟨S6144x4096, .f32⟩
  | 6 => ⟨S6144x4096, .f32⟩
  | 7 => ⟨S6144x4096, .f32⟩
  | 8 => ⟨S1x1x4096x14336, .f32⟩
  | 9 => ⟨S4096x14336, .f32⟩
  | 10 => ⟨S1x1x4096x14336, .f32⟩
  | 11 => ⟨S4096x14336, .f32⟩
  | 12 => ⟨S1x1x14336x4096, .f32⟩
  | 13 => ⟨S14336x4096, .f32⟩
  | 14 => ⟨S6144x14336, .f32⟩
  | 15 => ⟨S6144x14336, .f32⟩
  | 16 => ⟨S6144x14336, .f32⟩
  | 17 => ⟨S_, .f32⟩
  | 18 => ⟨S6144x14336, .f32⟩
  | 19 => ⟨S6144x14336, .f32⟩
  | 20 => ⟨S_, .f32⟩
  | 21 => ⟨S6144x14336, .f32⟩
  | 22 => ⟨S6144x14336, .f32⟩
  | 23 => ⟨S6144x14336, .f32⟩
  | 24 => ⟨S6144x14336, .f32⟩
  | 25 => ⟨S6144x14336, .f32⟩
  | 26 => ⟨S6144x4096, .f32⟩
  | 27 => ⟨S6144x1, .f32⟩
  | 28 => ⟨S6144x4096, .f32⟩
  | 29 => ⟨S6144x4096, .f32⟩
  | 30 => ⟨S6144x4096, .f32⟩
  | 31 => ⟨S6144x1, .f32⟩
  | 32 => ⟨S6144x4096, .f32⟩
  | 33 => ⟨S6144x4096, .f32⟩
  | 34 => ⟨S6144x4096, .f32⟩
  | 35 => ⟨S1x1x4096x14336, .f32⟩
  | 36 => ⟨S4096x14336, .f32⟩
  | 37 => ⟨S1x1x4096x14336, .f32⟩
  | 38 => ⟨S4096x14336, .f32⟩
  | 39 => ⟨S1x1x14336x4096, .f32⟩
  | 40 => ⟨S14336x4096, .f32⟩
  | 41 => ⟨S6144x14336, .f32⟩
  | 42 => ⟨S6144x14336, .f32⟩
  | 43 => ⟨S6144x14336, .f32⟩
  | 44 => ⟨S_, .f32⟩
  | 45 => ⟨S6144x14336, .f32⟩
  | 46 => ⟨S6144x14336, .f32⟩
  | 47 => ⟨S_, .f32⟩
  | 48 => ⟨S6144x14336, .f32⟩
  | 49 => ⟨S6144x14336, .f32⟩
  | 50 => ⟨S6144x14336, .f32⟩
  | 51 => ⟨S6144x14336, .f32⟩
  | 52 => ⟨S6144x14336, .f32⟩
  | 53 => ⟨S6144x4096, .f32⟩
  | 54 => ⟨S6144x1, .f32⟩
  | 55 => ⟨S6144x4096, .f32⟩
  | 56 => ⟨S6144x4096, .f32⟩
  | 57 => ⟨S6144x4096, .f32⟩
  | 58 => ⟨S6144x1, .f32⟩
  | 59 => ⟨S6144x4096, .f32⟩
  | 60 => ⟨S6144x4096, .f32⟩
  | 61 => ⟨S6144x4096, .f32⟩
  | 62 => ⟨S1x1x4096x14336, .f32⟩
  | 63 => ⟨S4096x14336, .f32⟩
  | 64 => ⟨S1x1x4096x14336, .f32⟩
  | 65 => ⟨S4096x14336, .f32⟩
  | 66 => ⟨S1x1x14336x4096, .f32⟩
  | 67 => ⟨S14336x4096, .f32⟩
  | 68 => ⟨S6144x14336, .f32⟩
  | 69 => ⟨S6144x14336, .f32⟩
  | 70 => ⟨S6144x14336, .f32⟩
  | 71 => ⟨S_, .f32⟩
  | 72 => ⟨S6144x14336, .f32⟩
  | 73 => ⟨S6144x14336, .f32⟩
  | 74 => ⟨S_, .f32⟩
  | 75 => ⟨S6144x14336, .f32⟩
  | 76 => ⟨S6144x14336, .f32⟩
  | 77 => ⟨S6144x14336, .f32⟩
  | 78 => ⟨S6144x14336, .f32⟩
  | 79 => ⟨S6144x14336, .f32⟩
  | 80 => ⟨S6144x4096, .f32⟩
  | 81 => ⟨S6144x1, .f32⟩
  | 82 => ⟨S6144x4096, .f32⟩
  | 83 => ⟨S6144x4096, .f32⟩
  | 84 => ⟨S6144x4096, .f32⟩
  | 85 => ⟨S6144x1, .f32⟩
  | 86 => ⟨S6144x4096, .f32⟩
  | 87 => ⟨S6144x4096, .f32⟩
  | 88 => ⟨S6144x4096, .f32⟩
  | 89 => ⟨S1x1x4096x14336, .f32⟩
  | 90 => ⟨S4096x14336, .f32⟩
  | 91 => ⟨S1x1x4096x14336, .f32⟩
  | 92 => ⟨S4096x14336, .f32⟩
  | 93 => ⟨S1x1x14336x4096, .f32⟩
  | 94 => ⟨S14336x4096, .f32⟩
  | 95 => ⟨S6144x14336, .f32⟩
  | 96 => ⟨S6144x14336, .f32⟩
  | 97 => ⟨S6144x14336, .f32⟩
  | 98 => ⟨S_, .f32⟩
  | 99 => ⟨S6144x14336, .f32⟩
  | 100 => ⟨S6144x14336, .f32⟩
  | 101 => ⟨S_, .f32⟩
  | 102 => ⟨S6144x14336, .f32⟩
  | 103 => ⟨S6144x14336, .f32⟩
  | 104 => ⟨S6144x14336, .f32⟩
  | 105 => ⟨S6144x14336, .f32⟩
  | 106 => ⟨S6144x14336, .f32⟩
  | 107 => ⟨S6144x4096, .f32⟩
  | 108 => ⟨S6144x1, .f32⟩
  | 109 => ⟨S6144x4096, .f32⟩
  | 110 => ⟨S6144x4096, .f32⟩
  | 111 => ⟨S6144x4096, .f32⟩
  | 112 => ⟨S6144x1, .f32⟩
  | 113 => ⟨S6144x4096, .f32⟩
  | 114 => ⟨S6144x4096, .f32⟩
  | 115 => ⟨S6144x4096, .f32⟩
  | _ => ⟨S6144x4096, .bf16⟩

abbrev hbmTy (i : Nat) : BufTy := match i / 128 with
  | 0 => hbmTy0_0 i
  | 1 => hbmTy0_1 i
  | _ => ⟨S6144x4096, .bf16⟩

abbrev bufTy : (tb : Table) → Fin (tcTables nBuf tb) → BufTy
  | .hbm, ⟨i, _⟩ => hbmTy i
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call4_v0 : Ref sig .tc := ⟨.hbm, 89, rfl⟩
abbrev main_call4_v1 : Ref sig .tc := ⟨.hbm, 90, rfl⟩
abbrev main_call4_cst : Ref sig .tc := ⟨.hbm, 91, rfl⟩
abbrev main_call4_v2 : Ref sig .tc := ⟨.hbm, 92, rfl⟩
abbrev main_call4_v3 : Ref sig .tc := ⟨.hbm, 93, rfl⟩
abbrev main_call4_cst_0 : Ref sig .tc := ⟨.hbm, 94, rfl⟩
abbrev main_call4_v4 : Ref sig .tc := ⟨.hbm, 95, rfl⟩
abbrev main_call4_v5 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call5_v0 : Ref sig .tc := ⟨.hbm, 116, rfl⟩
abbrev main_call5_v1 : Ref sig .tc := ⟨.hbm, 117, rfl⟩
abbrev main_call5_cst : Ref sig .tc := ⟨.hbm, 118, rfl⟩
abbrev main_call5_v2 : Ref sig .tc := ⟨.hbm, 119, rfl⟩
abbrev main_call5_v3 : Ref sig .tc := ⟨.hbm, 120, rfl⟩
abbrev main_call5_cst_0 : Ref sig .tc := ⟨.hbm, 121, rfl⟩
abbrev main_call5_v4 : Ref sig .tc := ⟨.hbm, 122, rfl⟩
abbrev main_call5_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_call6_v0 : Ref sig .tc := ⟨.hbm, 143, rfl⟩
abbrev main_call6_v1 : Ref sig .tc := ⟨.hbm, 144, rfl⟩
abbrev main_call6_cst : Ref sig .tc := ⟨.hbm, 145, rfl⟩
abbrev main_call6_v2 : Ref sig .tc := ⟨.hbm, 146, rfl⟩
abbrev main_call6_v3 : Ref sig .tc := ⟨.hbm, 147, rfl⟩
abbrev main_call6_cst_0 : Ref sig .tc := ⟨.hbm, 148, rfl⟩
abbrev main_call6_v4 : Ref sig .tc := ⟨.hbm, 149, rfl⟩
abbrev main_call6_v5 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_call7_v0 : Ref sig .tc := ⟨.hbm, 170, rfl⟩
abbrev main_call7_v1 : Ref sig .tc := ⟨.hbm, 171, rfl⟩
abbrev main_call7_cst : Ref sig .tc := ⟨.hbm, 172, rfl⟩
abbrev main_call7_v2 : Ref sig .tc := ⟨.hbm, 173, rfl⟩
abbrev main_call7_v3 : Ref sig .tc := ⟨.hbm, 174, rfl⟩
abbrev main_call7_cst_0 : Ref sig .tc := ⟨.hbm, 175, rfl⟩
abbrev main_call7_v4 : Ref sig .tc := ⟨.hbm, 176, rfl⟩
abbrev main_call7_v5 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_call8_v0 : Ref sig .tc := ⟨.hbm, 197, rfl⟩
abbrev main_call8_v1 : Ref sig .tc := ⟨.hbm, 198, rfl⟩
abbrev main_call8_cst : Ref sig .tc := ⟨.hbm, 199, rfl⟩
abbrev main_call8_v2 : Ref sig .tc := ⟨.hbm, 200, rfl⟩
abbrev main_call8_v3 : Ref sig .tc := ⟨.hbm, 201, rfl⟩
abbrev main_call8_cst_0 : Ref sig .tc := ⟨.hbm, 202, rfl⟩
abbrev main_call8_v4 : Ref sig .tc := ⟨.hbm, 203, rfl⟩
abbrev main_call8_v5 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_call9_v0 : Ref sig .tc := ⟨.hbm, 224, rfl⟩
abbrev main_call9_v1 : Ref sig .tc := ⟨.hbm, 225, rfl⟩
abbrev main_call9_cst : Ref sig .tc := ⟨.hbm, 226, rfl⟩
abbrev main_call9_v2 : Ref sig .tc := ⟨.hbm, 227, rfl⟩
abbrev main_call9_v3 : Ref sig .tc := ⟨.hbm, 228, rfl⟩
abbrev main_call9_cst_0 : Ref sig .tc := ⟨.hbm, 229, rfl⟩
abbrev main_call9_v4 : Ref sig .tc := ⟨.hbm, 230, rfl⟩
abbrev main_call9_v5 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩

abbrev nD : Nat := 1
abbrev τ : Topo := Topo.v7x

variable {F : FTy → Type} [FloatOps F]
-- ==== Kernel2.lean ====
abbrev S6144x4096 : Shape := ⟨2, ![6144, 4096]⟩
abbrev S1x4096x14336 : Shape := ⟨3, ![1, 4096, 14336]⟩
abbrev S1x14336x4096 : Shape := ⟨3, ![1, 14336, 4096]⟩
abbrev S_ : Shape := ⟨0, ![]⟩
abbrev S6 : Shape := ⟨1, ![6]⟩
abbrev S1024x4096 : Shape := ⟨2, ![1024, 4096]⟩
abbrev S1 : Shape := ⟨1, ![1]⟩
abbrev S1x4096x256 : Shape := ⟨3, ![1, 4096, 256]⟩
abbrev S1x256x4096 : Shape := ⟨3, ![1, 256, 4096]⟩
abbrev S1024x1024 : Shape := ⟨2, ![1024, 1024]⟩
abbrev S1x1024x256 : Shape := ⟨3, ![1, 1024, 256]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 7
  | .vmem => 8
  | .smem => 3
  | _ => 0

abbrev bufTy : (tb : Table) → Fin (tcTables nBuf tb) → BufTy
  | .hbm, ⟨0, _⟩ => ⟨S6144x4096, .bf16⟩
  | .hbm, ⟨1, _⟩ => ⟨S1x4096x14336, .f32⟩
  | .hbm, ⟨2, _⟩ => ⟨S1x4096x14336, .f32⟩
  | .hbm, ⟨3, _⟩ => ⟨S1x14336x4096, .f32⟩
  | .hbm, ⟨4, _⟩ => ⟨S_, .i32⟩
  | .hbm, ⟨5, _⟩ => ⟨S_, .i32⟩
  | .hbm, ⟨6, _⟩ => ⟨S6144x4096, .f32⟩
  | .local _ .vmem, ⟨0, _⟩ => ⟨S1024x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x256x4096, .f32⟩
  | .local _ .vmem, ⟨6, _⟩ => ⟨S1x256x4096, .f32⟩
  | .local _ .vmem, ⟨7, _⟩ => ⟨S1024x4096, .f32⟩
  | .local _ .smem, ⟨0, _⟩ => ⟨S6, .i32⟩
  | .local _ .smem, ⟨1, _⟩ => ⟨S6, .i32⟩
  | .local _ .smem, ⟨2, _⟩ => ⟨S6, .i32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![6, 56], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1024_i32 : BitVec 32 := 1024#32
  let v5 : BitVec 32 := Scalar.addi v1 c1024_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c1024_i32_1 : BitVec 32 := 1024#32
  let c0_i32_4 : BitVec 32 := 0#32
  let v13 : BitVec 1 := Scalar.cmpi .sgt c1024_i32_1 c0_i32_4
  let v14 : BitVec 32 := Scalar.extui v13
  let c0_i32_5 : BitVec 32 := 0#32
  let v15 : BitVec 1 := Scalar.cmpi .slt c1024_i32_1 c0_i32_5
  let v16 : BitVec 32 := Scalar.extui v15
  let v17 : BitVec 32 := Scalar.subi v14 v16
  let v18 : BitVec 1 := Scalar.cmpi .ne v12 v17
  let v19 : BitVec 32 := Scalar.remsi v6 c1024_i32_1
  let c0_i32_6 : BitVec 32 := 0#32
  let v20 : BitVec 1 := Scalar.cmpi .ne v19 c0_i32_6
  let v21 : BitVec 1 := Scalar.andi v18 v20
  let v7 : BitVec 32 := Scalar.divsi v6 c1024_i32_1
  let c1_i32_7 : BitVec 32 := 1#32
  let v22 : BitVec 32 := Scalar.subi v7 c1_i32_7
  let v23 : BitVec 32 := Scalar.select v21 v22 v7
  let c1_i32_8 : BitVec 32 := 1#32
  let v24 : BitVec 1 := Scalar.cmpi .eq v23 c1_i32_8
  let v25 : BitVec 32 := Scalar.extui v24
  let c0_i32_9 : BitVec 32 := 0#32
  let v26 : BitVec 1 := Scalar.cmpi .ne v25 c0_i32_9
  v26

def cc0_transform_0 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S6) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S6) ![v0.toNat] S1.size (k0_off1_inb i)) numel1_S1
  let c0_i32 : BitVec 32 := 0#32
  let v2 : BitVec 1 := Scalar.cmpi .sgt v1 c0_i32
  let c55_i32 : BitVec 32 := 55#32
  let v3 : BitVec 32 := Scalar.select v2 arg1 c55_i32
  let c0_i32_0 : BitVec 32 := 0#32
  let c0_i32_1 : BitVec 32 := 0#32
  let c0_i32_2 : BitVec 32 := 0#32
  ![c0_i32_0.toNat, c0_i32_1.toNat, v3.toNat]

def cc0_transform_2 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S6) ![v0.toNat] S1.size (k0_off1_inb i)) numel1_S1
  let c0_i32 : BitVec 32 := 0#32
  let v2 : BitVec 1 := Scalar.cmpi .sgt v1 c0_i32
  let c55_i32 : BitVec 32 := 55#32
  let v3 : BitVec 32 := Scalar.select v2 arg1 c55_i32
  let c0_i32_0 : BitVec 32 := 0#32
  let c0_i32_1 : BitVec 32 := 0#32
  let c0_i32_2 : BitVec 32 := 0#32
  ![c0_i32_0.toNat, c0_i32_1.toNat, v3.toNat]

def cc0_transform_3 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S6) ![v0.toNat] S1.size (k0_off1_inb i)) numel1_S1
  let c0_i32 : BitVec 32 := 0#32
  let v2 : BitVec 1 := Scalar.cmpi .sgt v1 c0_i32
  let c55_i32 : BitVec 32 := 55#32
  let v3 : BitVec 32 := Scalar.select v2 arg1 c55_i32
  let c0_i32_0 : BitVec 32 := 0#32
  let c0_i32_1 : BitVec 32 := 0#32
  let c0_i32_2 : BitVec 32 := 0#32
  ![c0_i32_0.toNat, v3.toNat, c0_i32_1.toNat]

def cc0_transform_4 (k0_off1_inb : ∀ i : grid0.Coords, ∀ a, (k0_off1 i) a + S1.size a ≤ S6.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S6) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference2Ideal.lean ====
abbrev S6144x4096 : Shape := ⟨2, ![6144, 4096]⟩
abbrev S1x4096x14336 : Shape := ⟨3, ![1, 4096, 14336]⟩
abbrev S1x14336x4096 : Shape := ⟨3, ![1, 14336, 4096]⟩
abbrev S4096x14336 : Shape := ⟨2, ![4096, 14336]⟩
abbrev S14336x4096 : Shape := ⟨2, ![14336, 4096]⟩
abbrev S6144x14336 : Shape := ⟨2, ![6144, 14336]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S1x4096x14336, .f32⟩
  | .hbm, ⟨2, _⟩ => ⟨S1x4096x14336, .f32⟩
  | .hbm, ⟨3, _⟩ => ⟨S1x14336x4096, .f32⟩
  | .hbm, ⟨4, _⟩ => ⟨S6144x4096, .f32⟩
  | .hbm, ⟨5, _⟩ => ⟨S4096x14336, .f32⟩
  | .hbm, ⟨6, _⟩ => ⟨S4096x14336, .f32⟩
  | .hbm, ⟨7, _⟩ => ⟨S14336x4096, .f32⟩
  | .hbm, ⟨8, _⟩ => ⟨S6144x14336, .f32⟩
  | .hbm, ⟨9, _⟩ => ⟨S6144x14336, .f32⟩
  | .hbm, ⟨10, _⟩ => ⟨S6144x14336, .f32⟩
  | .hbm, ⟨11, _⟩ => ⟨S_, .f32⟩
  | .hbm, ⟨12, _⟩ => ⟨S6144x14336, .f32⟩
  | .hbm, ⟨13, _⟩ => ⟨S6144x14336, .f32⟩
  | .hbm, ⟨14, _⟩ => ⟨S_, .f32⟩
  | .hbm, ⟨15, _⟩ => ⟨S6144x14336, .f32⟩
  | .hbm, ⟨16, _⟩ => ⟨S6144x14336, .f32⟩
  | .hbm, ⟨17, _⟩ => ⟨S6144x14336, .f32⟩
  | .hbm, ⟨18, _⟩ => ⟨S6144x14336, .f32⟩
  | .hbm, ⟨19, _⟩ => ⟨S6144x14336, .f32⟩
  | .hbm, ⟨20, _⟩ => ⟨S6144x4096, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S6144x4096 : Shape := ⟨2, ![6144, 4096]⟩
abbrev S2x4096x9280 : Shape := ⟨3, ![2, 4096, 9280]⟩
abbrev S2x9280x4096 : Shape := ⟨3, ![2, 9280, 4096]⟩
abbrev S18560x4096 : Shape := ⟨2, ![18560, 4096]⟩
abbrev S6144x9728 : Shape := ⟨2, ![6144, 9728]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S6144x4096, .bf16⟩
  | .hbm, ⟨1, _⟩ => ⟨S2x4096x9280, .f32⟩
  | .hbm, ⟨2, _⟩ => ⟨S2x9280x4096, .f32⟩
  | .hbm, ⟨3, _⟩ => ⟨S18560x4096, .f32⟩
  | .hbm, ⟨4, _⟩ => ⟨S6144x9728, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![19, 6], ![false, false]⟩

def k0_mult1 (i : grid0.Coords) : BitVec 32 :=
  let c0_i32 : BitVec 32 := 0#32
  let arg0 : BitVec 32 := BitVec.ofNat 32 (i 0).val
  let c12_i32 : BitVec 32 := 12#32
  let v0 : BitVec 1 := Scalar.cmpi .slt arg0 c12_i32
  let c512_i32 : BitVec 32 := 512#32
  let v1 : BitVec 32 := Scalar.muli arg0 c512_i32
  let c18_i32 : BitVec 32 := 18#32
  let v2 : BitVec 1 := Scalar.cmpi .slt arg0 c18_i32
  let c6208_i32 : BitVec 32 := 6208#32
  let c12_i32_0 : BitVec 32 := 12#32
  let v3 : BitVec 32 := Scalar.subi arg0 c12_i32_0
  let c512_i32_1 : BitVec 32 := 512#32
  let v4 : BitVec 32 := Scalar.muli v3 c512_i32_1
  let v5 : BitVec 32 := Scalar.addi c6208_i32 v4
  let c6144_i32 : BitVec 32 := 6144#32
  let v6 : BitVec 32 := Scalar.select v2 v5 c6144_i32
  let v7 : BitVec 32 := Scalar.select v0 v1 v6
  let v8 : BitVec 32 := Scalar.addi c0_i32 v7
  v8
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .slt arg0 c12_i32
  let c512_i32 : BitVec 32 := 512#32
  let v1 : BitVec 32 := Scalar.muli arg0 c512_i32
  let c18_i32 : BitVec 32 := 18#32
  let v2 : BitVec 1 := Scalar.cmpi .slt arg0 c18_i32
  let c12_i32_0 : BitVec 32 := 12#32
  let v3 : BitVec 32 := Scalar.subi arg0 c12_i32_0
  let c512_i32_1 : BitVec 32 := 512#32
  let v4 : BitVec 32 := Scalar.muli v3 c512_i32_1
  let c6208_i32 : BitVec 32 := 6208#32
  let v5 : BitVec 32 := Scalar.addi c6208_i32 v4
  let c6144_i32 : BitVec 32 := 6144#32
  let v6 : BitVec 32 := Scalar.select v2 v5 c6144_i32
  let v7 : BitVec 32 := Scalar.select v0 v1 v6
  let c0_i32 : BitVec 32 := 0#32
  let v8 : BitVec 32 := Scalar.addi c0_i32 v7
  let v9 : BitVec 32 := v8
  let c0_i32_2 : BitVec 32 := 0#32
  let c0_i32_3 : BitVec 32 := 0#32
  ![v9.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S6144x4096 : Shape := ⟨2, ![6144, 4096]⟩
abbrev S2x4096x9280 : Shape := ⟨3, ![2, 4096, 9280]⟩
abbrev S1x4096x9280 : Shape := ⟨3, ![1, 4096, 9280]⟩
abbrev S4096x9280 : Shape := ⟨2, ![4096, 9280]⟩
abbrev S6144x9280 : Shape := ⟨2, ![6144, 9280]⟩
abbrev S6144x6144 : Shape := ⟨2, ![6144, 6144]⟩
abbrev S6144x3072 : Shape := ⟨2, ![6144, 3072]⟩
abbrev S6144x512 : Shape := ⟨2, ![6144, 512]⟩
abbrev S6144x9728 : Shape := ⟨2, ![6144, 9728]⟩

abbrev nBuf : Space → Nat
  | .hbm => 10
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S2x4096x9280, .f32⟩
  | .hbm, ⟨2, _⟩ => ⟨S6144x4096, .f32⟩
  | .hbm, ⟨3, _⟩ => ⟨S1x4096x9280, .f32⟩
  | .hbm, ⟨4, _⟩ => ⟨S4096x9280, .f32⟩
  | .hbm, ⟨5, _⟩ => ⟨S6144x9280, .f32⟩
  | .hbm, ⟨6, _⟩ => ⟨S6144x6144, .f32⟩
  | .hbm, ⟨7, _⟩ => ⟨S6144x3072, .f32⟩
  | .hbm, ⟨8, _⟩ => ⟨S6144x512, .f32⟩
  | .hbm, ⟨9, _⟩ => ⟨S6144x9728, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel4.lean ====
abbrev S6144x1024 : Shape := ⟨2, ![6144, 1024]⟩
abbrev S6144x2048 : Shape := ⟨2, ![6144, 2048]⟩
abbrev S2x4096x4096 : Shape := ⟨3, ![2, 4096, 4096]⟩
abbrev S6144x4096 : Shape := ⟨2, ![6144, 4096]⟩
abbrev S3x1x4096 : Shape := ⟨3, ![3, 1, 4096]⟩
abbrev S1024x1024 : Shape := ⟨2, ![1024, 1024]⟩
abbrev S1024x2048 : Shape := ⟨2, ![1024, 2048]⟩
abbrev S1x4096x512 : Shape := ⟨3, ![1, 4096, 512]⟩
abbrev S1024x512 : Shape := ⟨2, ![1024, 512]⟩
abbrev S1x1x512 : Shape := ⟨3, ![1, 1, 512]⟩
abbrev S4096x512 : Shape := ⟨2, ![4096, 512]⟩
abbrev S2048x512 : Shape := ⟨2, ![2048, 512]⟩
abbrev S1x512 : Shape := ⟨2, ![1, 512]⟩

abbrev nBuf : Space → Nat
  | .hbm => 7
  | .vmem => 15
  | .smem => 0
  | _ => 0

abbrev bufTy : (tb : Table) → Fin (tcTables nBuf tb) → BufTy
  | .hbm, ⟨0, _⟩ => ⟨S6144x1024, .bf16⟩
  | .hbm, ⟨1, _⟩ => ⟨S6144x2048, .bf16⟩
  | .hbm, ⟨2, _⟩ => ⟨S6144x1024, .bf16⟩
  | .hbm, ⟨3, _⟩ => ⟨S2x4096x4096, .f32⟩
  | .hbm, ⟨4, _⟩ => ⟨S6144x4096, .f32⟩
  | .hbm, ⟨5, _⟩ => ⟨S3x1x4096, .f32⟩
  | .hbm, ⟨6, _⟩ => ⟨S6144x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x4096x512, .f32⟩
  | .local _ .vmem, ⟨7, _⟩ => ⟨S1x4096x512, .f32⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | .local _ .vmem, ⟨14, _⟩ => ⟨S4096x512, .bf16⟩
  | _, _ => ⟨S6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.subi v0 c4096_i32
  let c1024_i32_0 : BitVec 32 := 1024#32
  let v2 : BitVec 32 := Scalar.divsi v1 c1024_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32_0 c0_i32_2
  let v9 : BitVec 32 := Scalar.extui v8
  let c0_i32_3 : BitVec 32 := 0#32
  let v10 : BitVec 1 := Scalar.cmpi .slt c1024_i32_0 c0_i32_3
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c0_i32_6 : BitVec 32 := 0#32
  let v20 : BitVec 32 := Scalar.maxsi v19 c0_i32_6
  let c0_i32_7 : BitVec 32 := 0#32
  let c0_i32_8 : BitVec 32 := 0#32
  ![v20.toNat, c0_i32_7.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S6144x1024 : Shape := ⟨2, ![6144, 1024]⟩
abbrev S6144x2048 : Shape := ⟨2, ![6144, 2048]⟩
abbrev S2x4096x4096 : Shape := ⟨3, ![2, 4096, 4096]⟩
abbrev S6144x4096 : Shape := ⟨2, ![6144, 4096]⟩
abbrev S3x1x4096 : Shape := ⟨3, ![3, 1, 4096]⟩
abbrev S1x1x4096 : Shape := ⟨3, ![1, 1, 4096]⟩
abbrev S1x4096 : Shape := ⟨2, ![1, 4096]⟩
abbrev S4096x4096 : Shape := ⟨2, ![4096, 4096]⟩
abbrev S1024x4096 : Shape := ⟨2, ![1024, 4096]⟩
abbrev S1x4096x4096 : Shape := ⟨3, ![1, 4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S6144x1024, .bf16⟩
  | .hbm, ⟨1, _⟩ => ⟨S6144x2048, .bf16⟩
  | .hbm, ⟨2, _⟩ => ⟨S6144x1024, .bf16⟩
  | .hbm, ⟨3, _⟩ => ⟨S2x4096x4096, .f32⟩
  | .hbm, ⟨4, _⟩ => ⟨S6144x4096, .f32⟩
  | .hbm, ⟨5, _⟩ => ⟨S3x1x4096, .f32⟩
  | .hbm, ⟨6, _⟩ => ⟨S6144x4096, .bf16⟩
  | .hbm, ⟨7, _⟩ => ⟨S6144x4096, .f32⟩
  | .hbm, ⟨8, _⟩ => ⟨S1x1x4096, .f32⟩
  | .hbm, ⟨9, _⟩ => ⟨S1x4096, .f32⟩
  | .hbm, ⟨10, _⟩ => ⟨S4096x4096, .f32⟩
  | .hbm, ⟨11, _⟩ => ⟨S1x1x4096, .f32⟩
  | .hbm, ⟨12, _⟩ => ⟨S1x4096, .f32⟩
  | .hbm, ⟨13, _⟩ => ⟨S1024x4096, .f32⟩
  | .hbm, ⟨14, _⟩ => ⟨S1x1x4096, .f32⟩
  | .hbm, ⟨15, _⟩ => ⟨S1x4096, .f32⟩
  | .hbm, ⟨16, _⟩ => ⟨S1024x4096, .f32⟩
  | .hbm, ⟨17, _⟩ => ⟨S6144x4096, .f32⟩
  | .hbm, ⟨18, _⟩ => ⟨S1x4096x4096, .f32⟩
  | .hbm, ⟨19, _⟩ => ⟨S4096x4096, .f32⟩
  | .hbm, ⟨20, _⟩ => ⟨S6144x4096, .f32⟩
  | .hbm, ⟨21, _⟩ => ⟨S6144x4096, .f32⟩
  | .hbm, ⟨22, _⟩ => ⟨S6144x4096, .f32⟩
  | _, _ => ⟨S6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S6144x4096 : Shape := ⟨2, ![6144, 4096]⟩
abbrev S3x1x24576 : Shape := ⟨3, ![3, 1, 24576]⟩
abbrev S6144x128 : Shape := ⟨2, ![6144, 128]⟩
abbrev S4096 : Shape := ⟨1, ![4096]⟩
abbrev S1x4096 : Shape := ⟨2, ![1, 4096]⟩
abbrev S256x4096 : Shape := ⟨2, ![256, 4096]⟩
abbrev S1x1x4096 : Shape := ⟨3, ![1, 1, 4096]⟩
abbrev S256x128 : Shape := ⟨2, ![256, 128]⟩
abbrev S256x1 : Shape := ⟨2, ![256, 1]⟩
abbrev S256 : Shape := ⟨1, ![256]⟩
abbrev S4096x4096 : Shape := ⟨2, ![4096, 4096]⟩
abbrev S16x256x4096 : Shape := ⟨3, ![16, 256, 4096]⟩
abbrev S2048x4096 : Shape := ⟨2, ![2048, 4096]⟩
abbrev S2x1024x4096 : Shape := ⟨3, ![2, 1024, 4096]⟩

abbrev nBuf : Space → Nat
  | .hbm => 12
  | .vmem => 13
  | .smem => 0
  | _ => 0

abbrev bufTy : (tb : Table) → Fin (tcTables nBuf tb) → BufTy
  | .hbm, ⟨0, _⟩ => ⟨S6144x4096, .f32⟩
  | .hbm, ⟨1, _⟩ => ⟨S6144x4096, .f32⟩
  | .hbm, ⟨2, _⟩ => ⟨S6144x4096, .f32⟩
  | .hbm, ⟨3, _⟩ => ⟨S3x1x24576, .f32⟩
  | .hbm, ⟨4, _⟩ => ⟨S6144x128, .f32⟩
  | .hbm, ⟨5, _⟩ => ⟨S4096, .f32⟩
  | .hbm, ⟨6, _⟩ => ⟨S1x4096, .f32⟩
  | .hbm, ⟨7, _⟩ => ⟨S6144x4096, .f32⟩
  | .hbm, ⟨8, _⟩ => ⟨S4096x4096, .f32⟩
  | .hbm, ⟨9, _⟩ => ⟨S16x256x4096, .f32⟩
  | .hbm, ⟨10, _⟩ => ⟨S2048x4096, .f32⟩
  | .hbm, ⟨11, _⟩ => ⟨S2x1024x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1x4096, .f32⟩
  | .local _ .vmem, ⟨7, _⟩ => ⟨S1x1x4096, .f32⟩
  | .local _ .vmem, ⟨8, _⟩ => ⟨S256x128, .f32⟩
  | .local _ .vmem, ⟨9, _⟩ => ⟨S256x128, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.subi v0 c4096_i32
  let c1024_i32 : BitVec 32 := 1024#32
  let v2 : BitVec 32 := Scalar.divsi v1 c1024_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c5_i32 : BitVec 32 := 5#32
  let c0_i32_7 : BitVec 32 := 0#32
  ![v20.toNat, c0_i32_6.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S6144x4096 : Shape := ⟨2, ![6144, 4096]⟩
abbrev S3x1x24576 : Shape := ⟨3, ![3, 1, 24576]⟩
abbrev S6144x128 : Shape := ⟨2, ![6144, 128]⟩
abbrev S4096 : Shape := ⟨1, ![4096]⟩
abbrev S3x1x4096 : Shape := ⟨3, ![3, 1, 4096]⟩
abbrev S1x1x4096 : Shape := ⟨3, ![1, 1, 4096]⟩
abbrev S1x4096 : Shape := ⟨2, ![1, 4096]⟩
abbrev S4096x4096 : Shape := ⟨2, ![4096, 4096]⟩
abbrev S1024x4096 : Shape := ⟨2, ![1024, 4096]⟩
abbrev S6144x1 : Shape := ⟨2, ![6144, 1]⟩
abbrev S_ : Shape := ⟨0, ![]⟩
abbrev S6144 : Shape := ⟨1, ![6144]⟩
abbrev S16x256x4096 : Shape := ⟨3, ![16, 256, 4096]⟩
abbrev S2048x4096 : Shape := ⟨2, ![2048, 4096]⟩
abbrev S2x1024x4096 : Shape := ⟨3, ![2, 1024, 4096]⟩

abbrev nBuf : Space → Nat
  | .hbm => 46
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S6144x4096, .f32⟩
  | .hbm, ⟨2, _⟩ => ⟨S6144x4096, .f32⟩
  | .hbm, ⟨3, _⟩ => ⟨S3x1x24576, .f32⟩
  | .hbm, ⟨4, _⟩ => ⟨S6144x128, .f32⟩
  | .hbm, ⟨5, _⟩ => ⟨S4096, .f32⟩
  | .hbm, ⟨6, _⟩ => ⟨S3x1x4096, .f32⟩
  | .hbm, ⟨7, _⟩ => ⟨S1x1x4096, .f32⟩
  | .hbm, ⟨8, _⟩ => ⟨S1x4096, .f32⟩
  | .hbm, ⟨9, _⟩ => ⟨S4096x4096, .f32⟩
  | .hbm, ⟨10, _⟩ => ⟨S1x1x4096, .f32⟩
  | .hbm, ⟨11, _⟩ => ⟨S1x4096, .f32⟩
  | .hbm, ⟨12, _⟩ => ⟨S1024x4096, .f32⟩
  | .hbm, ⟨13, _⟩ => ⟨S1x1x4096, .f32⟩
  | .hbm, ⟨14, _⟩ => ⟨S1x4096, .f32⟩
  | .hbm, ⟨15, _⟩ => ⟨S1024x4096, .f32⟩
  | .hbm, ⟨16, _⟩ => ⟨S6144x4096, .f32⟩
  | .hbm, ⟨17, _⟩ => ⟨S6144x1, .f32⟩
  | .hbm, ⟨18, _⟩ => ⟨S6144x4096, .f32⟩
  | .hbm, ⟨19, _⟩ => ⟨S6144x4096, .f32⟩
  | .hbm, ⟨20, _⟩ => ⟨S6144x1, .f32⟩
  | .hbm, ⟨21, _⟩ => ⟨S6144x4096, .f32⟩
  | .hbm, ⟨22, _⟩ => ⟨S6144x4096, .f32⟩
  | .hbm, ⟨23, _⟩ => ⟨S6144x4096, .f32⟩
  | .hbm, ⟨24, _⟩ => ⟨S6144x4096, .f32⟩
  | .hbm, ⟨25, _⟩ => ⟨S6144x4096, .f32⟩
  | .hbm, ⟨26, _⟩ => ⟨S6144x4096, .f32⟩
  | .hbm, ⟨27, _⟩ => ⟨S_, .f32⟩
  | .hbm, ⟨28, _⟩ => ⟨S6144, .f32⟩
  | .hbm, ⟨29, _⟩ => ⟨S6144x1, .f32⟩
  | .hbm, ⟨30, _⟩ => ⟨S_, .f32⟩
  | .hbm, ⟨31, _⟩ => ⟨S6144x1, .f32⟩
  | .hbm, ⟨32, _⟩ => ⟨S6144x1, .f32⟩
  | .hbm, ⟨33, _⟩ => ⟨S_, .f32⟩
  | .hbm, ⟨34, _⟩ => ⟨S6144x1, .f32⟩
  | .hbm, ⟨35, _⟩ => ⟨S6144x1, .f32⟩
  | .hbm, ⟨36, _⟩ => ⟨S6144x1, .f32⟩
  | .hbm, ⟨37, _⟩ => ⟨S6144x4096, .f32⟩
  | .hbm, ⟨38, _⟩ => ⟨S6144x4096, .f32⟩
  | .hbm, ⟨39, _⟩ => ⟨S1x4096, .f32⟩
  | .hbm, ⟨40, _⟩ => ⟨S6144x4096, .f32⟩
  | .hbm, ⟨41, _⟩ => ⟨S6144x4096, .f32⟩
  | .hbm, ⟨42, _⟩ => ⟨S4096x4096, .f32⟩
  | .hbm, ⟨43, _⟩ => ⟨S16x256x4096, .f32⟩
  | .hbm, ⟨44, _⟩ => ⟨S2048x4096, .f32⟩
  | .hbm, ⟨45, _⟩ => ⟨S2x1024x4096, .f32⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel6.lean ====
abbrev S6144x4096 : Shape := ⟨2, ![6144, 4096]⟩
abbrev S2x4096 : Shape := ⟨2, ![2, 4096]⟩
abbrev S3x1x24576 : Shape := ⟨3, ![3, 1, 24576]⟩
abbrev S1x4096 : Shape := ⟨2, ![1, 4096]⟩
abbrev S4096 : Shape := ⟨1, ![4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S6144x4096, .f32⟩
  | .hbm, ⟨1, _⟩ => ⟨S2x4096, .f32⟩
  | .hbm, ⟨2, _⟩ => ⟨S3x1x24576, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S6144x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S6144x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.subi v0 c4096_i32
  let c1024_i32 : BitVec 32 := 1024#32
  let v2 : BitVec 32 := Scalar.divsi v1 c1024_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c1_i32_7 : BitVec 32 := 1#32
  let c0_i32_8 : BitVec 32 := 0#32
  ![v20.toNat, c0_i32_6.toNat, c1_i32_7.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.subi v0 c4096_i32
  let c1024_i32 : BitVec 32 := 1024#32
  let v2 : BitVec 32 := Scalar.divsi v1 c1024_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi v18 c1_i32_4
  let c0_i32_5 : BitVec 32 := 0#32
  let v20 : BitVec 32 := Scalar.maxsi v19 c0_i32_5
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S6144x4096 : Shape := ⟨2, ![6144, 4096]⟩
abbrev S2x4096 : Shape := ⟨2, ![2, 4096]⟩
abbrev S3x1x24576 : Shape := ⟨3, ![3, 1, 24576]⟩
abbrev S3x1x4096 : Shape := ⟨3, ![3, 1, 4096]⟩
abbrev S1x1x4096 : Shape := ⟨3, ![1, 1, 4096]⟩
abbrev S1x4096 : Shape := ⟨2, ![1, 4096]⟩
abbrev S4096x4096 : Shape := ⟨2, ![4096, 4096]⟩
abbrev S1024x4096 : Shape := ⟨2, ![1024, 4096]⟩
abbrev S4096 : Shape := ⟨1, ![4096]⟩
abbrev S_ : Shape := ⟨0, ![]⟩
abbrev S6144 : Shape := ⟨1, ![6144]⟩
abbrev S6144x1 : Shape := ⟨2, ![6144, 1]⟩

abbrev nBuf : Space → Nat
  | .hbm => 49
  | .vmem => 0
  | .smem => 0
  | _ => 0

abbrev bufTy : (tb : Table) → Fin (tcTables nBuf tb) → BufTy
  | .hbm, ⟨0, _⟩ => ⟨S6144x4096, .f32⟩
  | .hbm, ⟨1, _⟩ => ⟨S2x4096, .f32⟩
  | .hbm, ⟨2, _⟩ => ⟨S3x1x24576, .f32⟩
  | .hbm, ⟨3, _⟩ => ⟨S3x1x4096, .f32⟩
  | .hbm, ⟨4, _⟩ => ⟨S1x1x4096, .f32⟩
  | .hbm, ⟨5, _⟩ => ⟨S1x4096, .f32⟩
  | .hbm, ⟨6, _⟩ => ⟨S4096x4096, .f32⟩
  | .hbm, ⟨7, _⟩ => ⟨S1x1x4096, .f32⟩
  | .hbm, ⟨8, _⟩ => ⟨S1x4096, .f32⟩
  | .hbm, ⟨9, _⟩ => ⟨S1024x4096, .f32⟩
  | .hbm, ⟨10, _⟩ => ⟨S1x1x4096, .f32⟩
  | .hbm, ⟨11, _⟩ => ⟨S1x4096, .f32⟩
  | .hbm, ⟨12, _⟩ => ⟨S1024x4096, .f32⟩
  | .hbm, ⟨13, _⟩ => ⟨S6144x4096, .f32⟩
  | .hbm, ⟨14, _⟩ => ⟨S3x1x4096, .f32⟩
  | .hbm, ⟨15, _⟩ => ⟨S1x1x4096, .f32⟩
  | .hbm, ⟨16, _⟩ => ⟨S1x4096, .f32⟩
  | .hbm, ⟨17, _⟩ => ⟨S4096x4096, .f32⟩
  | .hbm, ⟨18, _⟩ => ⟨S1x1x4096, .f32⟩
  | .hbm, ⟨19, _⟩ => ⟨S1x4096, .f32⟩
  | .hbm, ⟨20, _⟩ => ⟨S1024x4096, .f32⟩
  | .hbm, ⟨21, _⟩ => ⟨S1x1x4096, .f32⟩
  | .hbm, ⟨22, _⟩ => ⟨S1x4096, .f32⟩
  | .hbm, ⟨23, _⟩ => ⟨S1024x4096, .f32⟩
  | .hbm, ⟨24, _⟩ => ⟨S6144x4096, .f32⟩
  | .hbm, ⟨25, _⟩ => ⟨S1x4096, .f32⟩
  | .hbm, ⟨26, _⟩ => ⟨S4096, .f32⟩
  | .hbm, ⟨27, _⟩ => ⟨S6144x4096, .f32⟩
  | .hbm, ⟨28, _⟩ => ⟨S_, .f32⟩
  | .hbm, ⟨29, _⟩ => ⟨S6144, .f32⟩
  | .hbm, ⟨30, _⟩ => ⟨S6144x1, .f32⟩
  | .hbm, ⟨31, _⟩ => ⟨S_, .f32⟩
  | .hbm, ⟨32, _⟩ => ⟨S6144x1, .f32⟩
  | .hbm, ⟨33, _⟩ => ⟨S6144x1, .f32⟩
  | .hbm, ⟨34, _⟩ => ⟨S_, .f32⟩
  | .hbm, ⟨35, _⟩ => ⟨S6144x1, .f32⟩
  | .hbm, ⟨36, _⟩ => ⟨S6144x1, .f32⟩
  | .hbm, ⟨37, _⟩ => ⟨S6144x1, .f32⟩
  | .hbm, ⟨38, _⟩ => ⟨S6144x4096, .f32⟩
  | .hbm, ⟨39, _⟩ => ⟨S6144x4096, .f32⟩
  | .hbm, ⟨40, _⟩ => ⟨S1x4096, .f32⟩
  | .hbm, ⟨41, _⟩ => ⟨S6144x4096, .f32⟩
  | .hbm, ⟨42, _⟩ => ⟨S6144x4096, .f32⟩
  | .hbm, ⟨43, _⟩ => ⟨S_, .f32⟩
  | .hbm, ⟨44, _⟩ => ⟨S6144x4096, .f32⟩
  | .hbm, ⟨45, _⟩ => ⟨S6144x4096, .f32⟩
  | .hbm, ⟨46, _⟩ => ⟨S6144x4096, .f32⟩
  | .hbm, ⟨47, _⟩ => ⟨S6144x4096, .f32⟩
  | .hbm, ⟨48, _⟩ => ⟨S6144x4096, .bf16⟩
  | _, _ => ⟨S6144x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel7.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S_ : Shape := ⟨0, ![]⟩
abbrev S8x4096 : Shape := ⟨2, ![8, 4096]⟩
abbrev S1 : Shape := ⟨1, ![1]⟩
abbrev S2x1x24576 : Shape := ⟨3, ![2, 1, 24576]⟩
abbrev S8x24576 : Shape := ⟨2, ![8, 24576]⟩
abbrev S1x4096x512 : Shape := ⟨3, ![1, 4096, 512]⟩
abbrev S1x1x512 : Shape := ⟨3, ![1, 1, 512]⟩
abbrev S8x512 : Shape := ⟨2, ![8, 512]⟩
abbrev S4096x512 : Shape := ⟨2, ![4096, 512]⟩
abbrev S1x512 : Shape := ⟨2, ![1, 512]⟩
abbrev S3x24576 : Shape := ⟨2, ![3, 24576]⟩
abbrev S3x1x24576 : Shape := ⟨3, ![3, 1, 24576]⟩

abbrev nBuf : Space → Nat
  | .hbm => 16
  | .vmem => 8
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S_, .i32⟩
  | .hbm, ⟨10, _⟩ => ⟨S1, .i32⟩
  | .hbm, ⟨11, _⟩ => ⟨S8x4096, .f32⟩
  | .hbm, ⟨12, _⟩ => ⟨S2x1x24576, .f32⟩
  | .hbm, ⟨13, _⟩ => ⟨S8x24576, .f32⟩
  | .hbm, ⟨14, _⟩ => ⟨S3x24576, .f32⟩
  | .hbm, ⟨15, _⟩ => ⟨S3x1x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S8x512, .f32⟩
  | .local _ .vmem, ⟨6, _⟩ => ⟨S8x512, .f32⟩
  | .local _ .vmem, ⟨7, _⟩ => ⟨S4096x512, .bf16⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S3x4096 : Shape := ⟨2, ![3, 4096]⟩
abbrev S_ : Shape := ⟨0, ![]⟩
abbrev S1x4096x24576 : Shape := ⟨3, ![1, 4096, 24576]⟩
abbrev S4096x24576 : Shape := ⟨2, ![4096, 24576]⟩
abbrev S3x24576 : Shape := ⟨2, ![3, 24576]⟩
abbrev S1x24576 : Shape := ⟨2, ![1, 24576]⟩
abbrev S24576 : Shape := ⟨1, ![24576]⟩
abbrev S3x1x24576 : Shape := ⟨3, ![3, 1, 24576]⟩

abbrev nBuf : Space → Nat
  | .hbm => 24
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S3x4096, .f32⟩
  | .hbm, ⟨6, _⟩ => ⟨S3x4096, .f32⟩
  | .hbm, ⟨7, _⟩ => ⟨S3x4096, .f32⟩
  | .hbm, ⟨8, _⟩ => ⟨S_, .f32⟩
  | .hbm, ⟨9, _⟩ => ⟨S3x4096, .f32⟩
  | .hbm, ⟨10, _⟩ => ⟨S3x4096, .f32⟩
  | .hbm, ⟨11, _⟩ => ⟨S_, .f32⟩
  | .hbm, ⟨12, _⟩ => ⟨S3x4096, .f32⟩
  | .hbm, ⟨13, _⟩ => ⟨S3x4096, .f32⟩
  | .hbm, ⟨14, _⟩ => ⟨S3x4096, .f32⟩
  | .hbm, ⟨15, _⟩ => ⟨S1x4096x24576, .f32⟩
  | .hbm, ⟨16, _⟩ => ⟨S4096x24576, .f32⟩
  | .hbm, ⟨17, _⟩ => ⟨S3x24576, .f32⟩
  | .hbm, ⟨18, _⟩ => ⟨S1x24576, .f32⟩
  | .hbm, ⟨19, _⟩ => ⟨S24576, .f32⟩
  | .hbm, ⟨20, _⟩ => ⟨S1x24576, .f32⟩
  | .hbm, ⟨21, _⟩ => ⟨S3x24576, .f32⟩
  | .hbm, ⟨22, _⟩ => ⟨S3x24576, .f32⟩
  | .hbm, ⟨23, _⟩ => ⟨S3x1x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Kernel8.lean ====
abbrev S6144x1024 : Shape := ⟨2, ![6144, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6144x1024, .bf16⟩
  | .hbm, ⟨1, _⟩ => ⟨S2x1024x1024, .f32⟩
  | .hbm, ⟨2, _⟩ => ⟨S6144x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | _, _ => ⟨S6144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S6144x1024 : Shape := ⟨2, ![6144, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S6144x1024, .bf16⟩
  | .hbm, ⟨1, _⟩ => ⟨S2x1024x1024, .f32⟩
  | .hbm, ⟨2, _⟩ => ⟨S6144x1024, .f32⟩
  | .hbm, ⟨3, _⟩ => ⟨S6144x1024, .f32⟩
  | .hbm, ⟨4, _⟩ => ⟨S6144x1024, .f32⟩
  | .hbm, ⟨5, _⟩ => ⟨S_, .f32⟩
  | .hbm, ⟨6, _⟩ => ⟨S6144x1024, .f32⟩
  | .hbm, ⟨7, _⟩ => ⟨S6144x1024, .f32⟩
  | .hbm, ⟨8, _⟩ => ⟨S6144x1024, .f32⟩
  | .hbm, ⟨9, _⟩ => ⟨S_, .f32⟩
  | .hbm, ⟨10, _⟩ => ⟨S6144x1024, .f32⟩
  | .hbm, ⟨11, _⟩ => ⟨S6144x1024, .f32⟩
  | .hbm, ⟨12, _⟩ => ⟨S6144x1024, .f32⟩
  | .hbm, ⟨13, _⟩ => ⟨S_, .f32⟩
  | .hbm, ⟨14, _⟩ => ⟨S6144x1024, .f32⟩
  | .hbm, ⟨15, _⟩ => ⟨S6144x1024, .f32⟩
  | .hbm, ⟨16, _⟩ => ⟨S_, .f32⟩
  | .hbm, ⟨17, _⟩ => ⟨S6144x1024, .f32⟩
  | .hbm, ⟨18, _⟩ => ⟨S6144x1024, .f32⟩
  | .hbm, ⟨19, _⟩ => ⟨S6144x1024, .f32⟩
  | .hbm, ⟨20, _⟩ => ⟨S1x1024x1024, .f32⟩
  | .hbm, ⟨21, _⟩ => ⟨S1024x1024, .f32⟩
  | .hbm, ⟨22, _⟩ => ⟨S6144x1024, .f32⟩
  | .hbm, ⟨23, _⟩ => ⟨S6144x1024, .f32⟩
  | .hbm, ⟨24, _⟩ => ⟨S6144x1024, .f32⟩
  | .hbm, ⟨25, _⟩ => ⟨S_, .f32⟩
  | .hbm, ⟨26, _⟩ => ⟨S6144x1024, .f32⟩
  | .hbm, ⟨27, _⟩ => ⟨S6144x1024, .f32⟩
  | .hbm, ⟨28, _⟩ => ⟨S_, .f32⟩
  | .hbm, ⟨29, _⟩ => ⟨S6144x1024, .f32⟩
  | .hbm, ⟨30, _⟩ => ⟨S6144x1024, .f32⟩
  | .hbm, ⟨31, _⟩ => ⟨S6144x1024, .f32⟩
  | .hbm, ⟨32, _⟩ => ⟨S6144x1024, .bf16⟩
  | _, _ => ⟨S6144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel9.lean ====
abbrev S6144x2048 : Shape := ⟨2, ![6144, 2048]⟩
abbrev S6144x9728 : Shape := ⟨2, ![6144, 9728]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S6144x2048, .f32⟩
  | .hbm, ⟨1, _⟩ => ⟨S6144x9728, .f32⟩
  | .hbm, ⟨2, _⟩ => ⟨S2x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S6144x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S6144x2048 : Shape := ⟨2, ![6144, 2048]⟩
abbrev S6144x9728 : Shape := ⟨2, ![6144, 9728]⟩
abbrev S2x2048 : Shape := ⟨2, ![2, 2048]⟩
abbrev S_ : Shape := ⟨0, ![]⟩
abbrev S1x2048 : Shape := ⟨2, ![1, 2048]⟩
abbrev S2048 : Shape := ⟨1, ![2048]⟩
abbrev S6144 : Shape := ⟨1, ![6144]⟩
abbrev S6144x1 : Shape := ⟨2, ![6144, 1]⟩

abbrev nBuf : Space → Nat
  | .hbm => 33
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x9728, .f32⟩
  | .hbm, ⟨2, _⟩ => ⟨S2x2048, .f32⟩
  | .hbm, ⟨3, _⟩ => ⟨S6144x2048, .f32⟩
  | .hbm, ⟨4, _⟩ => ⟨S6144x2048, .f32⟩
  | .hbm, ⟨5, _⟩ => ⟨S6144x2048, .f32⟩
  | .hbm, ⟨6, _⟩ => ⟨S_, .f32⟩
  | .hbm, ⟨7, _⟩ => ⟨S6144x2048, .f32⟩
  | .hbm, ⟨8, _⟩ => ⟨S6144x2048, .f32⟩
  | .hbm, ⟨9, _⟩ => ⟨S_, .f32⟩
  | .hbm, ⟨10, _⟩ => ⟨S6144x2048, .f32⟩
  | .hbm, ⟨11, _⟩ => ⟨S6144x2048, .f32⟩
  | .hbm, ⟨12, _⟩ => ⟨S6144x2048, .f32⟩
  | .hbm, ⟨13, _⟩ => ⟨S6144x2048, .f32⟩
  | .hbm, ⟨14, _⟩ => ⟨S1x2048, .f32⟩
  | .hbm, ⟨15, _⟩ => ⟨S2048, .f32⟩
  | .hbm, ⟨16, _⟩ => ⟨S6144x2048, .f32⟩
  | .hbm, ⟨17, _⟩ => ⟨S_, .f32⟩
  | .hbm, ⟨18, _⟩ => ⟨S6144, .f32⟩
  | .hbm, ⟨19, _⟩ => ⟨S6144x1, .f32⟩
  | .hbm, ⟨20, _⟩ => ⟨S_, .f32⟩
  | .hbm, ⟨21, _⟩ => ⟨S6144x1, .f32⟩
  | .hbm, ⟨22, _⟩ => ⟨S6144x1, .f32⟩
  | .hbm, ⟨23, _⟩ => ⟨S_, .f32⟩
  | .hbm, ⟨24, _⟩ => ⟨S6144x1, .f32⟩
  | .hbm, ⟨25, _⟩ => ⟨S6144x1, .f32⟩
  | .hbm, ⟨26, _⟩ => ⟨S6144x1, .f32⟩
  | .hbm, ⟨27, _⟩ => ⟨S6144x2048, .f32⟩
  | .hbm, ⟨28, _⟩ => ⟨S6144x2048, .f32⟩
  | .hbm, ⟨29, _⟩ => ⟨S1x2048, .f32⟩
  | .hbm, ⟨30, _⟩ => ⟨S6144x2048, .f32⟩
  | .hbm, ⟨31, _⟩ => ⟨S6144x2048, .f32⟩
  | .hbm, ⟨32, _⟩ => ⟨S6144x2048, .bf16⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.KIBody.lean ====
module

public import proofs.«01_k».proof.Proof.Gen.KernelIdeal.Launch
public import proofs.«01_k».proof.Proof.Gen.KernelIdeal.Skeleton
public import Idealize.ShloMosaic.Lib.Claim
public import Idealize.ShloMosaic.Lib.VecWindow
public import Idealize.ShloMosaic.Lib.Pipeline.TableIdle
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load through a literal window of a memref held by values reads that window. -/
theorem readAt_win {sp : Space} {s : Shape} {e : EltTy} (v : View sig .tc sp s e) (x : s.Idx → Elt F e) {off size : Fin s.rank → ℕ}
    (inb : ∀ a, off a + size a ≤ s.size a) :
    v.readAt (Elt F) (Rect.unit off size inb).toLoadRect (v.rep x) = window x off size inb := View.readAt_rep_unit v x inb rfl inb

/-- A memref held by values and not yet written reads its values. -/
theorem read_nil {sp : Space} {s : Shape} {e : EltTy} (v : View sig .tc sp s e) (x : s.Idx → Elt F e) :
    v.read (Elt F) (v.writes (Elt F) (v.rep x) []) = x := View.read_rep v x

/-- The hidden activations of the first 256 rows: the four K-chunks' products added in order, gated. -/
def act256 (x : Vec F S1024x4096 .bf16) (wg wu : Vec F S1x1x4096x256 .f32) : FVec F S256x256 .bf16 :=
  k0_pay7 (k0_pay3 (window x ![0, 0] S256x1024.size inb_S1024x4096_S256x1024_0_0) (window wg ![0, 0, 0, 0] S1x1x1024x256.size inb_S1x1x4096x256_S1x1x1024x256_0_0_0_0) (window x ![0, 1024] S256x1024.size inb_S1024x4096_S256x1024_0_1024) (window wg ![0, 0, 1024, 0] S1x1x1024x256.size inb_S1x1x4096x256_S1x1x1024x256_0_0_1024_0))
    (k0_pay4 (window x ![0, 0] S256x1024.size inb_S1024x4096_S256x1024_0_0) (window wu ![0, 0, 0, 0] S1x1x1024x256.size inb_S1x1x4096x256_S1x1x1024x256_0_0_0_0) (window x ![0, 1024] S256x1024.size inb_S1024x4096_S256x1024_0_1024) (window wu ![0, 0, 1024, 0] S1x1x1024x256.size inb_S1x1x4096x256_S1x1x1024x256_0_0_1024_0))
    (k0_pay5 (window x ![0, 2048] S256x1024.size inb_S1024x4096_S256x1024_0_2048)) (k0_pay6 (window x ![0, 2048] S256x1024.size inb_S1024x4096_S256x1024_0_2048) (window wg ![0, 0, 2048, 0] S1x1x1024x256.size inb_S1x1x4096x256_S1x1x1024x256_0_0_2048_0))
    (window wu ![0, 0, 2048, 0] S1x1x1024x256.size inb_S1x1x4096x256_S1x1x1024x256_0_0_2048_0) (window x ![0, 3072] S256x1024.size inb_S1024x4096_S256x1024_0_3072) (window wg ![0, 0, 3072, 0] S1x1x1024x256.size inb_S1x1x4096x256_S1x1x1024x256_0_0_3072_0) (window wu ![0, 0, 3072, 0] S1x1x1024x256.size inb_S1x1x4096x256_S1x1x1024x256_0_0_3072_0)

/-- What the 256-row variant leaves in the output block that held `d`: its eight column chunks added to. -/
def var256 (x : Vec F S1024x4096 .bf16) (wg wu : Vec F S1x1x4096x256 .f32) (wd : Vec F S1x1x256x4096 .f32) (d : Vec F S1024x4096 .f32) : Vec F S1024x4096 .f32 :=
  let a := act256 x wg wu
  put (put (put (put (put (put (put (put d ![0, 0] S256x512.size (k0_pay11 a (window d ![0, 0] S256x512.size inb_S1024x4096_S256x512_0_0) (window wd ![0, 0, 0, 0] S1x1x256x512.size inb_S1x1x256x4096_S1x1x256x512_0_0_0_0))) ![0, 512] S256x512.size (k0_pay11 a (window d ![0, 512] S256x512.size inb_S1024x4096_S256x512_0_512) (window wd ![0, 0, 0, 512] S1x1x256x512.size inb_S1x1x256x4096_S1x1x256x512_0_0_0_512))) ![0, 1024] S256x512.size (k0_pay11 a (window d ![0, 1024] S256x512.size inb_S1024x4096_S256x512_0_1024) (window wd ![0, 0, 0, 1024] S1x1x256x512.size inb_S1x1x256x4096_S1x1x256x512_0_0_0_1024))) ![0, 1536] S256x512.size (k0_pay11 a (window d ![0, 1536] S256x512.size inb_S1024x4096_S256x512_0_1536) (window wd ![0, 0, 0, 1536] S1x1x256x512.size inb_S1x1x256x4096_S1x1x256x512_0_0_0_1536))) ![0, 2048] S256x512.size (k0_pay11 a (window d ![0, 2048] S256x512.size inb_S1024x4096_S256x512_0_2048) (window wd ![0, 0, 0, 2048] S1x1x256x512.size inb_S1x1x256x4096_S1x1x256x512_0_0_0_2048))) ![0, 2560] S256x512.size (k0_pay11 a (window d ![0, 2560] S256x512.size inb_S1024x4096_S256x512_0_2560) (window wd ![0, 0, 0, 2560] S1x1x256x512.size inb_S1x1x256x4096_S1x1x256x512_0_0_0_2560))) ![0, 3072] S256x512.size (k0_pay11 a (window d ![0, 3072] S256x512.size inb_S1024x4096_S256x512_0_3072) (window wd ![0, 0, 0, 3072] S1x1x256x512.size inb_S1x1x256x4096_S1x1x256x512_0_0_0_3072))) ![0, 3584] S256x512.size (k0_pay11 a (window d ![0, 3584] S256x512.size inb_S1024x4096_S256x512_0_3584) (window wd ![0, 0, 0, 3584] S1x1x256x512.size inb_S1x1x256x4096_S1x1x256x512_0_0_0_3584))

/-- The 256-row branch of the body. -/
def if256 (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) (v1 : Elt F .i32) :
    Prog (TpuEff nD τ sig (Elt F) Λ₀ .tc) PUnit :=
  if h : k0_cond2 v1 = 1#1 then do
    let ⟨v56, v57, v59, v63⟩ : Σ' (v56 : FVec F S256x256 .f32) (v57 : FVec F S256x256 .f32) (v59 : FVec F S256x1024 .bf16), FVec F S256x256 .f32 ← k0_part1 i arg2 harg2 arg3 harg3 arg4 harg4 arg5 harg5 arg6 harg6 arg7 harg7 arg8 harg8 arg9 harg9
    let ⟨v85, v95⟩ : Σ' (v85 : FVec F S256x256 .bf16), FVec F S256x512 .f32 ← k0_part2 i arg2 harg2 arg3 harg3 arg4 harg4 arg5 harg5 arg6 harg6 arg7 harg7 arg8 harg8 arg9 harg9 v56 v57 v59 v63
    let ⟨v119, v121⟩ : Σ' (v119 : FVec F S256x512 .f32), FVec F S256x512 .f32 ← k0_part3 i arg2 harg2 arg3 harg3 arg4 harg4 arg5 harg5 arg6 harg6 arg7 harg7 arg8 harg8 arg9 harg9 v85 v95
    let v148 : FVec F S256x512 .f32 ← k0_part4 i arg2 harg2 arg3 harg3 arg4 harg4 arg5 harg5 arg6 harg6 arg7 harg7 arg8 harg8 arg9 harg9 v85 v119 v121
    let v149 : Vec F S256x512 .f32 ← Prog.lift (.load arg9 (Rect.unit (s := S1024x4096) ![0, 3584] S256x512.size inb_S1024x4096_S256x512_0_3584).toLoadRect (View.loadsAt_vmem h_S256x512))
    Prog.lift (.store arg9 (Rect.unit (s := S1024x4096) ![0, 3584] S256x512.size inb_S1024x4096_S256x512_0_3584) v148 Finset.univ (View.stores_vmem_bits_univ h_S256x512 rfl) (.inl rfl))
    pure ⟨⟩
  else pure ⟨⟩

set_option maxHeartbeats 4000000 in
/-- The 256-row branch of the body, whatever follows it. -/
theorem seg256 (c : Dev nD) (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole)
    (x : Vec F S1024x4096 .bf16) (wg wu : Vec F S1x1x4096x256 .f32) (wd : Vec F S1x1x256x4096 .f32) (d : Vec F S1024x4096 .f32) (v1 : Elt F .i32)
    (E : Set ℕ) (k : PUnit → Prog (TpuEff nD τ sig (Elt F) Λ₀ .tc) PUnit) (K : PUnit → sProp 𝕄) :
    iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (if k0_cond2 v1 = 1#1 then var256 x wg wu wd d else d)))
          -∗ wp frame (wpE (defs₀ (F := F)) Variants.none c none) E (k ⟨⟩) K))
    ⊢ wp frame (wpE (defs₀ (F := F)) Variants.none c none) E (if256 i arg2 harg2 arg3 harg3 arg4 harg4 arg5 harg5 arg6 harg6 arg7 harg7 arg8 harg8 arg9 harg9 v1 >>= k) K := by
  unfold if256
  by_cases hc : k0_cond2 v1 = 1#1
  · simp only [dif_pos hc, if_pos hc]
    simp only [k0_part4_eq_skeleton, k0_part3_eq_skeleton, k0_part2_eq_skeleton, k0_part1_eq_skeleton]
    unfold k0_part4_skel k0_part3_skel k0_part2_skel k0_part1_skel
    iintro ⟨H0, H1, H2, H3, H4, Hk⟩
    sl_exec
    iapply Hk
    isplitl [H0]; · iexact H0
    isplitl [H1]; · iexact H1
    isplitl [H2]; · iexact H2
    isplitl [H3]; · iexact H3
    iapply (pointsTo_rep_of_read c.tc arg9 _ fullShare _ ?_)
    rotate_left
    · iexact H4
    sl_unfold_words
    simp only [View.read_writes_cons_put _ _ _ _ _ rfl, readAt_win, read_nil]
    rfl
  · simp only [dif_neg hc, if_neg hc]
    rw [show ((pure PUnit.unit : Prog (TpuEff nD τ sig (Elt F) Λ₀ .tc) PUnit) >>= k) = k ⟨⟩ from rfl]
    iintro ⟨H0, H1, H2, H3, H4, Hk⟩
    iapply Hk
    isplitl [H0]; · iexact H0
    isplitl [H1]; · iexact H1
    isplitl [H2]; · iexact H2
    isplitl [H3]; · iexact H3
    iexact H4

/-- The hidden activations of the first 512 rows: the four K-chunks' products added in order, gated. -/
def act512 (x : Vec F S1024x4096 .bf16) (wg wu : Vec F S1x1x4096x256 .f32) : FVec F S512x256 .bf16 :=
  k0_pay25 (k0_pay21 (window x ![0, 0] S512x1024.size inb_S1024x4096_S512x1024_0_0) (window wg ![0, 0, 0, 0] S1x1x1024x256.size inb_S1x1x4096x256_S1x1x1024x256_0_0_0_0) (window x ![0, 1024] S512x1024.size inb_S1024x4096_S512x1024_0_1024) (window wg ![0, 0, 1024, 0] S1x1x1024x256.size inb_S1x1x4096x256_S1x1x1024x256_0_0_1024_0))
    (k0_pay22 (window x ![0, 0] S512x1024.size inb_S1024x4096_S512x1024_0_0) (window wu ![0, 0, 0, 0] S1x1x1024x256.size inb_S1x1x4096x256_S1x1x1024x256_0_0_0_0) (window x ![0, 1024] S512x1024.size inb_S1024x4096_S512x1024_0_1024) (window wu ![0, 0, 1024, 0] S1x1x1024x256.size inb_S1x1x4096x256_S1x1x1024x256_0_0_1024_0))
    (k0_pay23 (window x ![0, 2048] S512x1024.size inb_S1024x4096_S512x1024_0_2048)) (k0_pay24 (window x ![0, 2048] S512x1024.size inb_S1024x4096_S512x1024_0_2048) (window wg ![0, 0, 2048, 0] S1x1x1024x256.size inb_S1x1x4096x256_S1x1x1024x256_0_0_2048_0))
    (window wu ![0, 0, 2048, 0] S1x1x1024x256.size inb_S1x1x4096x256_S1x1x1024x256_0_0_2048_0) (window x ![0, 3072] S512x1024.size inb_S1024x4096_S512x1024_0_3072) (window wg ![0, 0, 3072, 0] S1x1x1024x256.size inb_S1x1x4096x256_S1x1x1024x256_0_0_3072_0) (window wu ![0, 0, 3072, 0] S1x1x1024x256.size inb_S1x1x4096x256_S1x1x1024x256_0_0_3072_0)

/-- What the 512-row variant leaves in the output block that held `d`: its eight column chunks added to. -/
def var512 (x : Vec F S1024x4096 .bf16) (wg wu : Vec F S1x1x4096x256 .f32) (wd : Vec F S1x1x256x4096 .f32) (d : Vec F S1024x4096 .f32) : Vec F S1024x4096 .f32 :=
  let a := act512 x wg wu
  put (put (put (put (put (put (put (put d ![0, 0] S512x512.size (k0_pay29 a (window d ![0, 0] S512x512.size inb_S1024x4096_S512x512_0_0) (window wd ![0, 0, 0, 0] S1x1x256x512.size inb_S1x1x256x4096_S1x1x256x512_0_0_0_0))) ![0, 512] S512x512.size (k0_pay29 a (window d ![0, 512] S512x512.size inb_S1024x4096_S512x512_0_512) (window wd ![0, 0, 0, 512] S1x1x256x512.size inb_S1x1x256x4096_S1x1x256x512_0_0_0_512))) ![0, 1024] S512x512.size (k0_pay29 a (window d ![0, 1024] S512x512.size inb_S1024x4096_S512x512_0_1024) (window wd ![0, 0, 0, 1024] S1x1x256x512.size inb_S1x1x256x4096_S1x1x256x512_0_0_0_1024))) ![0, 1536] S512x512.size (k0_pay29 a (window d ![0, 1536] S512x512.size inb_S1024x4096_S512x512_0_1536) (window wd ![0, 0, 0, 1536] S1x1x256x512.size inb_S1x1x256x4096_S1x1x256x512_0_0_0_1536))) ![0, 2048] S512x512.size (k0_pay29 a (window d ![0, 2048] S512x512.size inb_S1024x4096_S512x512_0_2048) (window wd ![0, 0, 0, 2048] S1x1x256x512.size inb_S1x1x256x4096_S1x1x256x512_0_0_0_2048))) ![0, 2560] S512x512.size (k0_pay29 a (window d ![0, 2560] S512x512.size inb_S1024x4096_S512x512_0_2560) (window wd ![0, 0, 0, 2560] S1x1x256x512.size inb_S1x1x256x4096_S1x1x256x512_0_0_0_2560))) ![0, 3072] S512x512.size (k0_pay29 a (window d ![0, 3072] S512x512.size inb_S1024x4096_S512x512_0_3072) (window wd ![0, 0, 0, 3072] S1x1x256x512.size inb_S1x1x256x4096_S1x1x256x512_0_0_0_3072))) ![0, 3584] S512x512.size (k0_pay29 a (window d ![0, 3584] S512x512.size inb_S1024x4096_S512x512_0_3584) (window wd ![0, 0, 0, 3584] S1x1x256x512.size inb_S1x1x256x4096_S1x1x256x512_0_0_0_3584))

/-- The 512-row branch of the body. -/
def if512 (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) (v1 : Elt F .i32) :
    Prog (TpuEff nD τ sig (Elt F) Λ₀ .tc) PUnit :=
  if h : k0_cond3 v1 = 1#1 then do
    let ⟨v56, v57, v59, v63⟩ : Σ' (v56 : FVec F S512x256 .f32) (v57 : FVec F S512x256 .f32) (v59 : FVec F S512x1024 .bf16), FVec F S512x256 .f32 ← k0_part5 i arg2 harg2 arg3 harg3 arg4 harg4 arg5 harg5 arg6 harg6 arg7 harg7 arg8 harg8 arg9 harg9
    let ⟨v85, v95⟩ : Σ' (v85 : FVec F S512x256 .bf16), FVec F S512x512 .f32 ← k0_part6 i arg2 harg2 arg3 harg3 arg4 harg4 arg5 harg5 arg6 harg6 arg7 harg7 arg8 harg8 arg9 harg9 v56 v57 v59 v63
    let ⟨v119, v121⟩ : Σ' (v119 : FVec F S512x512 .f32), FVec F S256x512 .f32 ← k0_part7 i arg2 harg2 arg3 harg3 arg4 harg4 arg5 harg5 arg6 harg6 arg7 harg7 arg8 harg8 arg9 harg9 v85 v95
    let v148 : FVec F S512x512 .f32 ← k0_part8 i arg2 harg2 arg3 harg3 arg4 harg4 arg5 harg5 arg6 harg6 arg7 harg7 arg8 harg8 arg9 harg9 v85 v119 v121
    let v149 : Vec F S512x512 .f32 ← Prog.lift (.load arg9 (Rect.unit (s := S1024x4096) ![0, 3584] S512x512.size inb_S1024x4096_S512x512_0_3584).toLoadRect (View.loadsAt_vmem h_S512x512))
    Prog.lift (.store arg9 (Rect.unit (s := S1024x4096) ![0, 3584] S512x512.size inb_S1024x4096_S512x512_0_3584) v148 Finset.univ (View.stores_vmem_bits_univ h_S512x512 rfl) (.inl rfl))
    pure ⟨⟩
  else pure ⟨⟩

set_option maxHeartbeats 4000000 in
/-- The 512-row branch of the body, whatever follows it. -/
theorem seg512 (c : Dev nD) (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole)
    (x : Vec F S1024x4096 .bf16) (wg wu : Vec F S1x1x4096x256 .f32) (wd : Vec F S1x1x256x4096 .f32) (d : Vec F S1024x4096 .f32) (v1 : Elt F .i32)
    (E : Set ℕ) (k : PUnit → Prog (TpuEff nD τ sig (Elt F) Λ₀ .tc) PUnit) (K : PUnit → sProp 𝕄) :
    iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (if k0_cond3 v1 = 1#1 then var512 x wg wu wd d else d)))
          -∗ wp frame (wpE (defs₀ (F := F)) Variants.none c none) E (k ⟨⟩) K))
    ⊢ wp frame (wpE (defs₀ (F := F)) Variants.none c none) E (if512 i arg2 harg2 arg3 harg3 arg4 harg4 arg5 harg5 arg6 harg6 arg7 harg7 arg8 harg8 arg9 harg9 v1 >>= k) K := by
  unfold if512
  by_cases hc : k0_cond3 v1 = 1#1
  · simp only [dif_pos hc, if_pos hc]
    simp only [k0_part8_eq_skeleton, k0_part7_eq_skeleton, k0_part6_eq_skeleton, k0_part5_eq_skeleton]
    unfold k0_part8_skel k0_part7_skel k0_part6_skel k0_part5_skel
    iintro ⟨H0, H1, H2, H3, H4, Hk⟩
    sl_exec
    iapply Hk
    isplitl [H0]; · iexact H0
    isplitl [H1]; · iexact H1
    isplitl [H2]; · iexact H2
    isplitl [H3]; · iexact H3
    iapply (pointsTo_rep_of_read c.tc arg9 _ fullShare _ ?_)
    rotate_left
    · iexact H4
    sl_unfold_words
    simp only [View.read_writes_cons_put _ _ _ _ _ rfl, readAt_win, read_nil]
    rfl
  · simp only [dif_neg hc, if_neg hc]
    rw [show ((pure PUnit.unit : Prog (TpuEff nD τ sig (Elt F) Λ₀ .tc) PUnit) >>= k) = k ⟨⟩ from rfl]
    iintro ⟨H0, H1, H2, H3, H4, Hk⟩
    iapply Hk
    isplitl [H0]; · iexact H0
    isplitl [H1]; · iexact H1
    isplitl [H2]; · iexact H2
    isplitl [H3]; · iexact H3
    iexact H4

/-- The hidden activations of the first 768 rows: the four K-chunks' products added in order, gated. -/
def act768 (x : Vec F S1024x4096 .bf16) (wg wu : Vec F S1x1x4096x256 .f32) : FVec F S768x256 .bf16 :=
  k0_pay43 (k0_pay39 (window x ![0, 0] S768x1024.size inb_S1024x4096_S768x1024_0_0) (window wg ![0, 0, 0, 0] S1x1x1024x256.size inb_S1x1x4096x256_S1x1x1024x256_0_0_0_0) (window x ![0, 1024] S768x1024.size inb_S1024x4096_S768x1024_0_1024) (window wg ![0, 0, 1024, 0] S1x1x1024x256.size inb_S1x1x4096x256_S1x1x1024x256_0_0_1024_0))
    (k0_pay40 (window x ![0, 0] S768x1024.size inb_S1024x4096_S768x1024_0_0) (window wu ![0, 0, 0, 0] S1x1x1024x256.size inb_S1x1x4096x256_S1x1x1024x256_0_0_0_0) (window x ![0, 1024] S768x1024.size inb_S1024x4096_S768x1024_0_1024) (window wu ![0, 0, 1024, 0] S1x1x1024x256.size inb_S1x1x4096x256_S1x1x1024x256_0_0_1024_0))
    (k0_pay41 (window x ![0, 2048] S768x1024.size inb_S1024x4096_S768x1024_0_2048)) (k0_pay42 (window x ![0, 2048] S768x1024.size inb_S1024x4096_S768x1024_0_2048) (window wg ![0, 0, 2048, 0] S1x1x1024x256.size inb_S1x1x4096x256_S1x1x1024x256_0_0_2048_0))
    (window wu ![0, 0, 2048, 0] S1x1x1024x256.size inb_S1x1x4096x256_S1x1x1024x256_0_0_2048_0) (window x ![0, 3072] S768x1024.size inb_S1024x4096_S768x1024_0_3072) (window wg ![0, 0, 3072, 0] S1x1x1024x256.size inb_S1x1x4096x256_S1x1x1024x256_0_0_3072_0) (window wu ![0, 0, 3072, 0] S1x1x1024x256.size inb_S1x1x4096x256_S1x1x1024x256_0_0_3072_0)

/-- What the 768-row variant leaves in the output block that held `d`: its eight column chunks added to. -/
def var768 (x : Vec F S1024x4096 .bf16) (wg wu : Vec F S1x1x4096x256 .f32) (wd : Vec F S1x1x256x4096 .f32) (d : Vec F S1024x4096 .f32) : Vec F S1024x4096 .f32 :=
  let a := act768 x wg wu
  put (put (put (put (put (put (put (put d ![0, 0] S768x512.size (k0_pay47 a (window d ![0, 0] S768x512.size inb_S1024x4096_S768x512_0_0) (window wd ![0, 0, 0, 0] S1x1x256x512.size inb_S1x1x256x4096_S1x1x256x512_0_0_0_0))) ![0, 512] S768x512.size (k0_pay47 a (window d ![0, 512] S768x512.size inb_S1024x4096_S768x512_0_512) (window wd ![0, 0, 0, 512] S1x1x256x512.size inb_S1x1x256x4096_S1x1x256x512_0_0_0_512))) ![0, 1024] S768x512.size (k0_pay47 a (window d ![0, 1024] S768x512.size inb_S1024x4096_S768x512_0_1024) (window wd ![0, 0, 0, 1024] S1x1x256x512.size inb_S1x1x256x4096_S1x1x256x512_0_0_0_1024))) ![0, 1536] S768x512.size (k0_pay47 a (window d ![0, 1536] S768x512.size inb_S1024x4096_S768x512_0_1536) (window wd ![0, 0, 0, 1536] S1x1x256x512.size inb_S1x1x256x4096_S1x1x256x512_0_0_0_1536))) ![0, 2048] S768x512.size (k0_pay47 a (window d ![0, 2048] S768x512.size inb_S1024x4096_S768x512_0_2048) (window wd ![0, 0, 0, 2048] S1x1x256x512.size inb_S1x1x256x4096_S1x1x256x512_0_0_0_2048))) ![0, 2560] S768x512.size (k0_pay47 a (window d ![0, 2560] S768x512.size inb_S1024x4096_S768x512_0_2560) (window wd ![0, 0, 0, 2560] S1x1x256x512.size inb_S1x1x256x4096_S1x1x256x512_0_0_0_2560))) ![0, 3072] S768x512.size (k0_pay47 a (window d ![0, 3072] S768x512.size inb_S1024x4096_S768x512_0_3072) (window wd ![0, 0, 0, 3072] S1x1x256x512.size inb_S1x1x256x4096_S1x1x256x512_0_0_0_3072))) ![0, 3584] S768x512.size (k0_pay47 a (window d ![0, 3584] S768x512.size inb_S1024x4096_S768x512_0_3584) (window wd ![0, 0, 0, 3584] S1x1x256x512.size inb_S1x1x256x4096_S1x1x256x512_0_0_0_3584))

/-- The 768-row branch of the body. -/
def if768 (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) (v1 : Elt F .i32) :
    Prog (TpuEff nD τ sig (Elt F) Λ₀ .tc) PUnit :=
  if h : k0_cond4 v1 = 1#1 then do
    let ⟨v56, v57, v59, v63⟩ : Σ' (v56 : FVec F S768x256 .f32) (v57 : FVec F S768x256 .f32) (v59 : FVec F S768x1024 .bf16), FVec F S768x256 .f32 ← k0_part9 i arg2 harg2 arg3 harg3 arg4 harg4 arg5 harg5 arg6 harg6 arg7 harg7 arg8 harg8 arg9 harg9
    let ⟨v85, v95⟩ : Σ' (v85 : FVec F S768x256 .bf16), FVec F S768x512 .f32 ← k0_part10 i arg2 harg2 arg3 harg3 arg4 harg4 arg5 harg5 arg6 harg6 arg7 harg7 arg8 harg8 arg9 harg9 v56 v57 v59 v63
    let ⟨v119, v121⟩ : Σ' (v119 : FVec F S768x512 .f32), FVec F S256x512 .f32 ← k0_part11 i arg2 harg2 arg3 harg3 arg4 harg4 arg5 harg5 arg6 harg6 arg7 harg7 arg8 harg8 arg9 harg9 v85 v95
    let v148 : FVec F S768x512 .f32 ← k0_part12 i arg2 harg2 arg3 harg3 arg4 harg4 arg5 harg5 arg6 harg6 arg7 harg7 arg8 harg8 arg9 harg9 v85 v119 v121
    let v149 : Vec F S768x512 .f32 ← Prog.lift (.load arg9 (Rect.unit (s := S1024x4096) ![0, 3584] S768x512.size inb_S1024x4096_S768x512_0_3584).toLoadRect (View.loadsAt_vmem h_S768x512))
    Prog.lift (.store arg9 (Rect.unit (s := S1024x4096) ![0, 3584] S768x512.size inb_S1024x4096_S768x512_0_3584) v148 Finset.univ (View.stores_vmem_bits_univ h_S768x512 rfl) (.inl rfl))
    pure ⟨⟩
  else pure ⟨⟩

set_option maxHeartbeats 4000000 in
/-- The 768-row branch of the body, whatever follows it. -/
theorem seg768 (c : Dev nD) (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole)
    (x : Vec F S1024x4096 .bf16) (wg wu : Vec F S1x1x4096x256 .f32) (wd : Vec F S1x1x256x4096 .f32) (d : Vec F S1024x4096 .f32) (v1 : Elt F .i32)
    (E : Set ℕ) (k : PUnit → Prog (TpuEff nD τ sig (Elt F) Λ₀ .tc) PUnit) (K : PUnit → sProp 𝕄) :
    iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (if k0_cond4 v1 = 1#1 then var768 x wg wu wd d else d)))
          -∗ wp frame (wpE (defs₀ (F := F)) Variants.none c none) E (k ⟨⟩) K))
    ⊢ wp frame (wpE (defs₀ (F := F)) Variants.none c none) E (if768 i arg2 harg2 arg3 harg3 arg4 harg4 arg5 harg5 arg6 harg6 arg7 harg7 arg8 harg8 arg9 harg9 v1 >>= k) K := by
  unfold if768
  by_cases hc : k0_cond4 v1 = 1#1
  · simp only [dif_pos hc, if_pos hc]
    simp only [k0_part12_eq_skeleton, k0_part11_eq_skeleton, k0_part10_eq_skeleton, k0_part9_eq_skeleton]
    unfold k0_part12_skel k0_part11_skel k0_part10_skel k0_part9_skel
    iintro ⟨H0, H1, H2, H3, H4, Hk⟩
    sl_exec
    iapply Hk
    isplitl [H0]; · iexact H0
    isplitl [H1]; · iexact H1
    isplitl [H2]; · iexact H2
    isplitl [H3]; · iexact H3
    iapply (pointsTo_rep_of_read c.tc arg9 _ fullShare _ ?_)
    rotate_left
    · iexact H4
    sl_unfold_words
    simp only [View.read_writes_cons_put _ _ _ _ _ rfl, readAt_win, read_nil]
    rfl
  · simp only [dif_neg hc, if_neg hc]
    rw [show ((pure PUnit.unit : Prog (TpuEff nD τ sig (Elt F) Λ₀ .tc) PUnit) >>= k) = k ⟨⟩ from rfl]
    iintro ⟨H0, H1, H2, H3, H4, Hk⟩
    iapply Hk
    isplitl [H0]; · iexact H0
    isplitl [H1]; · iexact H1
    isplitl [H2]; · iexact H2
    isplitl [H3]; · iexact H3
    iexact H4

/-- The hidden activations of the first 1024 rows: the four K-chunks' products added in order, gated. -/
def act1024 (x : Vec F S1024x4096 .bf16) (wg wu : Vec F S1x1x4096x256 .f32) : FVec F S1024x256 .bf16 :=
  k0_pay61 (k0_pay57 (window x ![0, 0] S1024x1024.size inb_S1024x4096_S1024x1024_0_0) (window wg ![0, 0, 0, 0] S1x1x1024x256.size inb_S1x1x4096x256_S1x1x1024x256_0_0_0_0) (window x ![0, 1024] S1024x1024.size inb_S1024x4096_S1024x1024_0_1024) (window wg ![0, 0, 1024, 0] S1x1x1024x256.size inb_S1x1x4096x256_S1x1x1024x256_0_0_1024_0))
    (k0_pay58 (window x ![0, 0] S1024x1024.size inb_S1024x4096_S1024x1024_0_0) (window wu ![0, 0, 0, 0] S1x1x1024x256.size inb_S1x1x4096x256_S1x1x1024x256_0_0_0_0) (window x ![0, 1024] S1024x1024.size inb_S1024x4096_S1024x1024_0_1024) (window wu ![0, 0, 1024, 0] S1x1x1024x256.size inb_S1x1x4096x256_S1x1x1024x256_0_0_1024_0))
    (k0_pay59 (window x ![0, 2048] S1024x1024.size inb_S1024x4096_S1024x1024_0_2048)) (k0_pay60 (window x ![0, 2048] S1024x1024.size inb_S1024x4096_S1024x1024_0_2048) (window wg ![0, 0, 2048, 0] S1x1x1024x256.size inb_S1x1x4096x256_S1x1x1024x256_0_0_2048_0))
    (window wu ![0, 0, 2048, 0] S1x1x1024x256.size inb_S1x1x4096x256_S1x1x1024x256_0_0_2048_0) (window x ![0, 3072] S1024x1024.size inb_S1024x4096_S1024x1024_0_3072) (window wg ![0, 0, 3072, 0] S1x1x1024x256.size inb_S1x1x4096x256_S1x1x1024x256_0_0_3072_0) (window wu ![0, 0, 3072, 0] S1x1x1024x256.size inb_S1x1x4096x256_S1x1x1024x256_0_0_3072_0)

/-- What the 1024-row variant leaves in the output block that held `d`: its eight column chunks added to. -/
def var1024 (x : Vec F S1024x4096 .bf16) (wg wu : Vec F S1x1x4096x256 .f32) (wd : Vec F S1x1x256x4096 .f32) (d : Vec F S1024x4096 .f32) : Vec F S1024x4096 .f32 :=
  let a := act1024 x wg wu
  put (put (put (put (put (put (put (put d ![0, 0] S1024x512.size (k0_pay65 a (window d ![0, 0] S1024x512.size inb_S1024x4096_S1024x512_0_0) (window wd ![0, 0, 0, 0] S1x1x256x512.size inb_S1x1x256x4096_S1x1x256x512_0_0_0_0))) ![0, 512] S1024x512.size (k0_pay65 a (window d ![0, 512] S1024x512.size inb_S1024x4096_S1024x512_0_512) (window wd ![0, 0, 0, 512] S1x1x256x512.size inb_S1x1x256x4096_S1x1x256x512_0_0_0_512))) ![0, 1024] S1024x512.size (k0_pay65 a (window d ![0, 1024] S1024x512.size inb_S1024x4096_S1024x512_0_1024) (window wd ![0, 0, 0, 1024] S1x1x256x512.size inb_S1x1x256x4096_S1x1x256x512_0_0_0_1024))) ![0, 1536] S1024x512.size (k0_pay65 a (window d ![0, 1536] S1024x512.size inb_S1024x4096_S1024x512_0_1536) (window wd ![0, 0, 0, 1536] S1x1x256x512.size inb_S1x1x256x4096_S1x1x256x512_0_0_0_1536))) ![0, 2048] S1024x512.size (k0_pay65 a (window d ![0, 2048] S1024x512.size inb_S1024x4096_S1024x512_0_2048) (window wd ![0, 0, 0, 2048] S1x1x256x512.size inb_S1x1x256x4096_S1x1x256x512_0_0_0_2048))) ![0, 2560] S1024x512.size (k0_pay65 a (window d ![0, 2560] S1024x512.size inb_S1024x4096_S1024x512_0_2560) (window wd ![0, 0, 0, 2560] S1x1x256x512.size inb_S1x1x256x4096_S1x1x256x512_0_0_0_2560))) ![0, 3072] S1024x512.size (k0_pay65 a (window d ![0, 3072] S1024x512.size inb_S1024x4096_S1024x512_0_3072) (window wd ![0, 0, 0, 3072] S1x1x256x512.size inb_S1x1x256x4096_S1x1x256x512_0_0_0_3072))) ![0, 3584] S1024x512.size (k0_pay65 a (window d ![0, 3584] S1024x512.size inb_S1024x4096_S1024x512_0_3584) (window wd ![0, 0, 0, 3584] S1x1x256x512.size inb_S1x1x256x4096_S1x1x256x512_0_0_0_3584))

/-- The 1024-row branch of the body. -/
def if1024 (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) (v1 : Elt F .i32) :
    Prog (TpuEff nD τ sig (Elt F) Λ₀ .tc) PUnit :=
  if h : k0_cond5 v1 = 1#1 then do
    let ⟨v56, v57, v59, v63⟩ : Σ' (v56 : FVec F S1024x256 .f32) (v57 : FVec F S1024x256 .f32) (v59 : FVec F S1024x1024 .bf16), FVec F S1024x256 .f32 ← k0_part13 i arg2 harg2 arg3 harg3 arg4 harg4 arg5 harg5 arg6 harg6 arg7 harg7 arg8 harg8 arg9 harg9
    let ⟨v85, v95⟩ : Σ' (v85 : FVec F S1024x256 .bf16), FVec F S1024x512 .f32 ← k0_part14 i arg2 harg2 arg3 harg3 arg4 harg4 arg5 harg5 arg6 harg6 arg7 harg7 arg8 harg8 arg9 harg9 v56 v57 v59 v63
    let ⟨v119, v121⟩ : Σ' (v119 : FVec F S1024x512 .f32), FVec F S256x512 .f32 ← k0_part15 i arg2 harg2 arg3 harg3 arg4 harg4 arg5 harg5 arg6 harg6 arg7 harg7 arg8 harg8 arg9 harg9 v85 v95
    let v148 : FVec F S1024x512 .f32 ← k0_part16 i arg2 harg2 arg3 harg3 arg4 harg4 arg5 harg5 arg6 harg6 arg7 harg7 arg8 harg8 arg9 harg9 v85 v119 v121
    let v149 : Vec F S1024x512 .f32 ← Prog.lift (.load arg9 (Rect.unit (s := S1024x4096) ![0, 3584] S1024x512.size inb_S1024x4096_S1024x512_0_3584).toLoadRect (View.loadsAt_vmem h_S1024x512))
    Prog.lift (.store arg9 (Rect.unit (s := S1024x4096) ![0, 3584] S1024x512.size inb_S1024x4096_S1024x512_0_3584) v148 Finset.univ (View.stores_vmem_bits_univ h_S1024x512 rfl) (.inl rfl))
    pure ⟨⟩
  else pure ⟨⟩

set_option maxHeartbeats 4000000 in
/-- The 1024-row branch of the body, whatever follows it. -/
theorem seg1024 (c : Dev nD) (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole)
    (x : Vec F S1024x4096 .bf16) (wg wu : Vec F S1x1x4096x256 .f32) (wd : Vec F S1x1x256x4096 .f32) (d : Vec F S1024x4096 .f32) (v1 : Elt F .i32)
    (E : Set ℕ) (k : PUnit → Prog (TpuEff nD τ sig (Elt F) Λ₀ .tc) PUnit) (K : PUnit → sProp 𝕄) :
    iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (if k0_cond5 v1 = 1#1 then var1024 x wg wu wd d else d)))
          -∗ wp frame (wpE (defs₀ (F := F)) Variants.none c none) E (k ⟨⟩) K))
    ⊢ wp frame (wpE (defs₀ (F := F)) Variants.none c none) E (if1024 i arg2 harg2 arg3 harg3 arg4 harg4 arg5 harg5 arg6 harg6 arg7 harg7 arg8 harg8 arg9 harg9 v1 >>= k) K := by
  unfold if1024
  by_cases hc : k0_cond5 v1 = 1#1
  · simp only [dif_pos hc, if_pos hc]
    simp only [k0_part16_eq_skeleton, k0_part15_eq_skeleton, k0_part14_eq_skeleton, k0_part13_eq_skeleton]
    unfold k0_part16_skel k0_part15_skel k0_part14_skel k0_part13_skel
    iintro ⟨H0, H1, H2, H3, H4, Hk⟩
    sl_exec
    iapply Hk
    isplitl [H0]; · iexact H0
    isplitl [H1]; · iexact H1
    isplitl [H2]; · iexact H2
    isplitl [H3]; · iexact H3
    iapply (pointsTo_rep_of_read c.tc arg9 _ fullShare _ ?_)
    rotate_left
    · iexact H4
    sl_unfold_words
    simp only [View.read_writes_cons_put _ _ _ _ _ rfl, readAt_win, read_nil]
    rfl
  · simp only [dif_neg hc, if_neg hc]
    rw [show ((pure PUnit.unit : Prog (TpuEff nD τ sig (Elt F) Λ₀ .tc) PUnit) >>= k) = k ⟨⟩ from rfl]
    iintro ⟨H0, H1, H2, H3, H4, Hk⟩
    iapply Hk
    isplitl [H0]; · iexact H0
    isplitl [H1]; · iexact H1
    isplitl [H2]; · iexact H2
    isplitl [H3]; · iexact H3
    iexact H4

/-- The zeroing branch of the body. -/
def ifZ (i : grid0.Coords) (arg9 : Memref sig .tc .vmem S1024x4096 .f32) : Prog (TpuEff nD τ sig (Elt F) Λ₀ .tc) PUnit :=
  if h : k0_cond1 i = 1#1 then do
    let v37 : Vec F S1024x4096 .f32 ← Prog.lift (.load arg9 (Rect.unit (s := S1024x4096) ![0, 0] S1024x4096.size inb_S1024x4096_S1024x4096_0_0).toLoadRect (View.loadsAt_vmem h_S1024x4096))
    Prog.lift (.store arg9 (Rect.unit (s := S1024x4096) ![0, 0] S1024x4096.size inb_S1024x4096_S1024x4096_0_0) (k0_pay73 (F := F)) Finset.univ (View.stores_vmem_bits_univ h_S1024x4096 rfl) (.inl rfl))
    pure ⟨⟩
  else pure ⟨⟩

/-- The zeroing branch of the body, whatever follows it. -/
theorem segZ (c : Dev nD) (i : grid0.Coords) (arg9 : Memref sig .tc .vmem S1024x4096 .f32) (d : Vec F S1024x4096 .f32)
    (E : Set ℕ) (k : PUnit → Prog (TpuEff nD τ sig (Elt F) Λ₀ .tc) PUnit) (K : PUnit → sProp 𝕄) :
    iprop((arg9.view.loc (c : Thread nD τ) ↦[arg9.view.set]{fullShare} arg9.view.rep d) ∗ (iprop(arg9.view.loc (c : Thread nD τ) ↦[arg9.view.set]{fullShare} arg9.view.rep (if k0_cond1 i = 1#1 then k0_pay73 (F := F) else d)) -∗ wp frame (wpE (defs₀ (F := F)) Variants.none c none) E (k ⟨⟩) K))
    ⊢ wp frame (wpE (defs₀ (F := F)) Variants.none c none) E (ifZ i arg9 >>= k) K := by
  unfold ifZ
  by_cases hc : k0_cond1 i = 1#1
  · simp only [dif_pos hc, if_pos hc]
    iintro ⟨H4, Hk⟩
    sl_exec
    iapply Hk
    iapply (pointsTo_rep_of_read c.tc arg9 _ fullShare _ ?_)
    rotate_left
    · iexact H4
    exact View.read_writes_full _ _ _ _ _
  · simp only [dif_neg hc, if_neg hc]
    rw [show ((pure PUnit.unit : Prog (TpuEff nD τ sig (Elt F) Λ₀ .tc) PUnit) >>= k) = k ⟨⟩ from rfl]
    iintro ⟨H4, Hk⟩
    iapply Hk
    iexact H4

/-- The word of a table at a point's item. -/
def tabAt (T : Vec F S19 .i32) (i : grid0.Coords) : Elt F .i32 := T (fun a => ⟨(i 0).val, Nat.lt_of_lt_of_le (i 0).isLt (by fin_cases a; exact le_rfl)⟩)

/-- What the body leaves in the output block: zeroed first at a first step, then the variant of the row count added. -/
def step (i : grid0.Coords) (nv : Elt F .i32) (x : Vec F S1024x4096 .bf16) (wg wu : Vec F S1x1x4096x256 .f32) (wd : Vec F S1x1x256x4096 .f32)
    (d : Vec F S1024x4096 .f32) : Vec F S1024x4096 .f32 :=
  let d1 := if k0_cond1 i = 1#1 then k0_pay73 else d
  let d2 := if k0_cond2 nv = 1#1 then var256 x wg wu wd d1 else d1
  let d3 := if k0_cond3 nv = 1#1 then var512 x wg wu wd d2 else d2
  let d4 := if k0_cond4 nv = 1#1 then var768 x wg wu wd d3 else d3
  if k0_cond5 nv = 1#1 then var1024 x wg wu wd d4 else d4

set_option maxHeartbeats 4000000 in
/-- The printed body is the row count's load, then its five branches in order. -/
theorem body_eq (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) :
    cc0_ffn (F := F) i arg2 harg2 arg3 harg3 arg4 harg4 arg5 harg5 arg6 harg6 arg7 harg7 arg8 harg8 arg9 harg9 = smemLoad arg4 (Rect.unit (s := S19) (k0_off1 i) S1.size (k0_off1_inb i)) numel1_S1 rfl >>= fun v1 =>
      ifZ i arg9 >>= fun _ => if256 i arg2 harg2 arg3 harg3 arg4 harg4 arg5 harg5 arg6 harg6 arg7 harg7 arg8 harg8 arg9 harg9 v1 >>= fun _ => if512 i arg2 harg2 arg3 harg3 arg4 harg4 arg5 harg5 arg6 harg6 arg7 harg7 arg8 harg8 arg9 harg9 v1 >>= fun _ =>
      if768 i arg2 harg2 arg3 harg3 arg4 harg4 arg5 harg5 arg6 harg6 arg7 harg7 arg8 harg8 arg9 harg9 v1 >>= fun _ => if1024 i arg2 harg2 arg3 harg3 arg4 harg4 arg5 harg5 arg6 harg6 arg7 harg7 arg8 harg8 arg9 harg9 v1 >>= fun _ => pure ⟨⟩ := by
  simp only [cc0_ffn_eq_skeleton]; unfold cc0_ffn_skel
  simp only [k0_part17_eq_skeleton]; unfold k0_part17_skel
  simp only [bind_assoc, pure_bind]
  congr 1
  funext v1
  unfold ifZ if256 if512 if768 if1024
  by_cases h1 : k0_cond1 i = 1#1 <;> by_cases h2 : k0_cond2 v1 = 1#1 <;> by_cases h3 : k0_cond3 v1 = 1#1
    <;> by_cases h4 : k0_cond4 v1 = 1#1 <;> by_cases h5 : k0_cond5 v1 = 1#1 <;>
  simp only [h1, h2, h3, h4, h5, dif_pos, dif_neg, not_false_eq_true, bind_assoc, pure_bind]

/-- The branches of the body, the row count `v1` loaded. -/
def branches (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) (v1 : Elt F .i32) : Prog (TpuEff nD τ sig (Elt F) Λ₀ .tc) PUnit :=
  ifZ i arg9 >>= fun _ => if256 i arg2 harg2 arg3 harg3 arg4 harg4 arg5 harg5 arg6 harg6 arg7 harg7 arg8 harg8 arg9 harg9 v1 >>= fun _ => if512 i arg2 harg2 arg3 harg3 arg4 harg4 arg5 harg5 arg6 harg6 arg7 harg7 arg8 harg8 arg9 harg9 v1 >>= fun _ =>
      if768 i arg2 harg2 arg3 harg3 arg4 harg4 arg5 harg5 arg6 harg6 arg7 harg7 arg8 harg8 arg9 harg9 v1 >>= fun _ => if1024 i arg2 harg2 arg3 harg3 arg4 harg4 arg5 harg5 arg6 harg6 arg7 harg7 arg8 harg8 arg9 harg9 v1 >>= fun _ => pure ⟨⟩

/-- The same, the load at the head. -/
theorem body_eq' (i : grid0.Coords) (arg2 : Memref sig .tc .smem S19 .i32) (harg2 : arg2.IsWhole) (arg3 : Memref sig .tc .smem S19 .i32) (harg3 : arg3.IsWhole) (arg4 : Memref sig .tc .smem S19 .i32) (harg4 : arg4.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole) :
    cc0_ffn (F := F) i arg2 harg2 arg3 harg3 arg4 harg4 arg5 harg5 arg6 harg6 arg7 harg7 arg8 harg8 arg9 harg9 = .op (.load arg4 (Rect.unit (s := S19) (k0_off1 i) S1.size (k0_off1_inb i)).toLoadRect (View.loadsAt_rect (View.loads_smem_one rfl numel1_S1)))
      fun f => branches i arg2 harg2 arg3 harg3 arg4 harg4 arg5 harg5 arg6 harg6 arg7 harg7 arg8 harg8 arg9 harg9 (f (Shape.Idx.first (numel1_S1.symm ▸ Nat.one_pos))) :=
  (body_eq i arg2 harg2 arg3 harg3 arg4 harg4 arg5 harg5 arg6 harg6 arg7 harg7 arg8 harg8 arg9 harg9).trans rfl

set_option maxHeartbeats 4000000 in
/-- The whole body, on whole memrefs held by values, the row-count table at any share. -/
theorem body_run (c : Dev nD) (i : grid0.Coords) (arg2 : Memref sig .tc .smem S19 .i32) (harg2 : arg2.IsWhole) (arg3 : Memref sig .tc .smem S19 .i32) (harg3 : arg3.IsWhole) (arg5 : Memref sig .tc .vmem S1024x4096 .bf16) (harg5 : arg5.IsWhole) (arg6 : Memref sig .tc .vmem S1x1x4096x256 .f32) (harg6 : arg6.IsWhole) (arg7 : Memref sig .tc .vmem S1x1x4096x256 .f32) (harg7 : arg7.IsWhole) (arg8 : Memref sig .tc .vmem S1x1x256x4096 .f32) (harg8 : arg8.IsWhole) (arg9 : Memref sig .tc .vmem S1024x4096 .f32) (harg9 : arg9.IsWhole)
    (q : PosShare TreeShare) (T : Vec F S19 .i32) (x : Vec F S1024x4096 .bf16) (wg wu : Vec F S1x1x4096x256 .f32) (wd : Vec F S1x1x256x4096 .f32) (d : Vec F S1024x4096 .f32)
    (E : Set ℕ) (K : PUnit → sProp 𝕄) :
    iprop((((c : Thread nD τ).loc main_v78) ↦{q} T) ∗ (arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((((c : Thread nD τ).loc main_v78) ↦{q} T) ∗ (arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (step i (tabAt T i) x wg wu wd d)))
          -∗ K ⟨⟩))
    ⊢ wp frame (wpE (defs₀ (F := F)) Variants.none c none) E (cc0_ffn i arg2 harg2 arg3 harg3 (Memref.whole main_v78) (Memref.isWhole_whole _) arg5 harg5 arg6 harg6 arg7 harg7 arg8 harg8 arg9 harg9) K := by
  rw [body_eq']
  iintro ⟨HT, H0, H1, H2, H3, H4, Hk⟩
  sl_step
  have hw : ∀ h, View.readAt (Elt F) (Memref.whole main_v78).view (Rect.unit (s := S19) (k0_off1 i) S1.size (k0_off1_inb i)).toLoadRect T
      (Shape.Idx.first h) = tabAt T i := fun h => by
    unfold tabAt
    show T _ = T _
    congr 1
    funext a
    apply Fin.ext
    fin_cases a
    show k0_off1 i 0 + 1 * 0 = (i 0).val
    rw [k0_off1_eq]; rfl
  rw [hw]
  unfold branches
  iapply segZ
  isplitl [H4]; · iexact H4
  iintro H4
  iapply seg256
  isplitl [H0]; · iexact H0
  isplitl [H1]; · iexact H1
  isplitl [H2]; · iexact H2
  isplitl [H3]; · iexact H3
  isplitl [H4]; · iexact H4
  iintro ⟨H0, H1, H2, H3, H4⟩
  iapply seg512
  isplitl [H0]; · iexact H0
  isplitl [H1]; · iexact H1
  isplitl [H2]; · iexact H2
  isplitl [H3]; · iexact H3
  isplitl [H4]; · iexact H4
  iintro ⟨H0, H1, H2, H3, H4⟩
  iapply seg768
  isplitl [H0]; · iexact H0
  isplitl [H1]; · iexact H1
  isplitl [H2]; · iexact H2
  isplitl [H3]; · iexact H3
  isplitl [H4]; · iexact H4
  iintro ⟨H0, H1, H2, H3, H4⟩
  iapply seg1024
  isplitl [H0]; · iexact H0
  isplitl [H1]; · iexact H1
  isplitl [H2]; · iexact H2
  isplitl [H3]; · iexact H3
  isplitl [H4]; · iexact H4
  iintro ⟨H0, H1, H2, H3, H4⟩
  sl_step
  iapply Hk
  isplitl [HT]; · iexact HT
  isplitl [H0]; · iexact H0
  isplitl [H1]; · iexact H1
  isplitl [H2]; · iexact H2
  isplitl [H3]; · iexact H3
  iexact H4

end Cert.KernelIdeal.Hand
-- ==== Proof.KIHost.lean ====
/- The host's operations around the region: what they leave in the tables, and the arguments they keep. -/
module

public import proofs.«01_k».proof.Proof.KIBody
public import Idealize.ShloMosaic.Lib.Pipeline.FrameSuffix
public import Idealize.ShloMosaic.Lib.StableHlo.RunRead
public import Idealize.ShloMosaic.Lib.Routing.Ops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

variable (m : (ℓ : Loc nD τ sig) → Buf (Elt F) ℓ)

/-- The host's operations before the region, -/
abbrev before : List (List (HloOp τ sig (Elt F))) :=
  [hostOps0, hostOps0_1, hostOps0_2, hostOps0_3, hostOps0_4, hostOps0_5, hostOps0_6, hostOps0_7, hostOps0_8, hostOps0_9, hostOps0_10, hostOps0_11]
/-- and after it. -/
abbrev behind : List (List (HloOp τ sig (Elt F))) := [hostOps1, hostOps1_1, hostOps1_2, hostOps1_3]

/-- A device's buffers at the region's entry. -/
def V0 (c : Dev nD) : Valuation τ sig (Elt F) := StableHlo.after before.flatten (fun b => m (c, b))

def V (c : Dev nD) (b : Ref sig .tc) : Buf (Elt F) ((c.tc : Thread nD τ).loc b) := V0 m c (Proc.devRef .tc b)

/-- Item to expert: what the host leaves in the table, under a name that does not unfold. -/
def ie : S19.Idx → BitVec 32 := Classical.choose (⟨V m 0 main_v56, rfl⟩ : ∃ e : S19.Idx → BitVec 32, e = V m 0 main_v56)
/-- Item to its number of rows, likewise. -/
def nv : S19.Idx → BitVec 32 := Classical.choose (⟨V m 0 main_v78, rfl⟩ : ∃ e : S19.Idx → BitVec 32, e = V m 0 main_v78)
theorem ie_eq : ie m = V m 0 main_v56 := Classical.choose_spec (⟨V m 0 main_v56, rfl⟩ : ∃ e : S19.Idx → BitVec 32, e = V m 0 main_v56)
theorem nv_eq : nv m = V m 0 main_v78 := Classical.choose_spec (⟨V m 0 main_v78, rfl⟩ : ∃ e : S19.Idx → BitVec 32, e = V m 0 main_v78)
/-- The gathered rows of tokens, likewise. -/
def rows (c : Dev nD) : FVec F S19456x4096 .bf16 := Classical.choose (⟨V m c main_v79, rfl⟩ : ∃ x : FVec F S19456x4096 .bf16, x = V m c main_v79)
theorem rows_eq (c : Dev nD) : rows m c = V m c main_v79 := Classical.choose_spec (⟨V m c main_v79, rfl⟩ : ∃ x : FVec F S19456x4096 .bf16, x = V m c main_v79)
/-- Item to row block: the host's iota. -/
def ib : S19.Idx → BitVec 32 := fun j => BitVec.ofNat 32 (j 0).val

theorem V_v42 (c : Dev nD) : V m c main_v42 = (ib : S19.Idx → BitVec 32) := by
  unfold V V0
  after_reads_simp
  rfl

theorem V_arg0 (c : Dev nD) : V m c main_arg0 = m ((c.tc : Thread nD τ).loc main_arg0) := by unfold V V0; after_reads_simp
theorem V_arg1 (c : Dev nD) : V m c main_arg1 = m ((c.tc : Thread nD τ).loc main_arg1) := by unfold V V0; after_reads_simp
theorem V_arg2 (c : Dev nD) : V m c main_arg2 = m ((c.tc : Thread nD τ).loc main_arg2) := by unfold V V0; after_reads_simp
theorem V_arg3 (c : Dev nD) : V m c main_arg3 = m ((c.tc : Thread nD τ).loc main_arg3) := by unfold V V0; after_reads_simp
theorem V_arg4 (c : Dev nD) : V m c main_arg4 = m ((c.tc : Thread nD τ).loc main_arg4) := by unfold V V0; after_reads_simp

/-! ## Every item's expert is one of the eight -/

/-- The lesser of seven and a word that is no negative number is below eight. -/
theorem min_seven (x : BitVec 32) (h : x.toNat < 2 ^ 31) : (IntOp.minsi x 7#32).toNat < 8 := by
  unfold IntOp.minsi
  split_ifs with hs
  · simp only [BitVec.slt_eq_decide, decide_eq_true_eq, BitVec.toInt_eq_toNat_cond, BitVec.toNat_ofNat] at hs
    have := x.isLt
    split_ifs at hs <;> omega
  · decide

/-- The count of a row's bits, over eight columns. -/
theorem count_le (b : IVec S19x8 1) (j : S19.Idx) :
    (Host.reduce IntOp.addi (extui 32 b natLt_1_32) (constantI S_ 32 0#32) reducesTo_S19x8_S19_d1 h_S_ j : BitVec 32).toNat < 2 ^ 31 := by
  rw [StableHlo.Predicate.toNat_reduce_count_cols (by norm_num) b natLt_1_32 reducesTo_S19x8_S19_d1 h_S_ j]
  refine Nat.lt_of_le_of_lt (Finset.card_le_univ _) ?_
  simp

/-- Every item's expert is one of the eight. -/
def Tables : Prop := ∀ j : S19.Idx, (ie m j).toNat < 8

theorem tables : Tables m := by
  intro j
  rw [ie_eq]
  unfold V V0
  after_reads_simp
  exact min_seven _ (count_le _ j)

/-! ## The operations after the region -/

theorem behind_mem {ops : List (HloOp τ sig (Elt F))} {op : HloOp τ sig (Elt F)} (hops : ops ∈ (behind : List (List (HloOp τ sig (Elt F))))) (hop : op ∈ ops) :
    op ∈ (behind.flatten : List (HloOp τ sig (Elt F))) := List.mem_flatten.mpr ⟨ops, hops, hop⟩

/-- What they write, in order. -/
abbrev behindW : List (Ref sig .tc) := [main_v81, main_v82, main_call7_v0, main_v83, main_v84, main_v85, main_call8_v0, main_v86]

theorem behind_writes : (behind.flatten : List (HloOp τ sig (Elt F))).map HloOp.writes = behindW.map fun w => {Proc.devRef (τ := τ) .tc w} := rfl

theorem writes_of {op : HloOp τ sig (Elt F)} (h : op ∈ (behind.flatten : List (HloOp τ sig (Elt F)))) :
    ∃ w ∈ behindW, op.writes = {Proc.devRef (τ := τ) .tc w} := by
  have := List.mem_map_of_mem (f := HloOp.writes) h
  rw [behind_writes] at this
  obtain ⟨w, hw, e⟩ := List.mem_map.mp this
  exact ⟨w, hw, e.symm⟩

/-- A table is none of a one-operand line's buffers, -/
theorem not_two (k : Fin 3) (a b : Ref sig .tc) (ha : pre0.ref k ≠ a) (hb : pre0.ref k ≠ b) :
    Proc.devRef (τ := τ) .tc (pre0.ref k) ∉ ({Proc.devRef .tc a, Proc.devRef .tc b} : Finset (DevRef τ sig)) := fun h => by
  rw [Finset.mem_insert, Finset.mem_singleton] at h
  exact h.elim (fun e => ha (Proc.devRef_injective _ e)) fun e => hb (Proc.devRef_injective _ e)

/-- and none of a two-operand line's. -/
theorem not_three (k : Fin 3) (a b d : Ref sig .tc) (ha : pre0.ref k ≠ a) (hb : pre0.ref k ≠ b) (hd : pre0.ref k ≠ d) :
    Proc.devRef (τ := τ) .tc (pre0.ref k) ∉ ({Proc.devRef .tc a, Proc.devRef .tc b, Proc.devRef .tc d} : Finset (DevRef τ sig)) := fun h => by
  rw [Finset.mem_insert, Finset.mem_insert, Finset.mem_singleton] at h
  exact h.elim (fun e => ha (Proc.devRef_injective _ e)) fun h => h.elim (fun e => hb (Proc.devRef_injective _ e)) fun e => hd (Proc.devRef_injective _ e)

theorem behind_sub : (behind.flatten : List (HloOp τ sig (Elt F))).Forall fun op => op.bufs ⊆ StableHlo.tcRefs τ sig ∧ op.fresh = ∅
    ∧ ∀ k, Proc.devRef .tc (pre0.ref k) ∉ op.bufs :=
  ⟨⟨StableHlo.unary_bufs_sub .., rfl, fun k => not_two k main_v41 main_v81 (by revert k; decide) (by revert k; decide)⟩,
   ⟨StableHlo.reshape_bufs_sub .., rfl, fun k => not_two k main_v81 main_v82 (by revert k; decide) (by revert k; decide)⟩,
   ⟨StableHlo.unary_bufs_sub .., rfl, fun k => not_two k main_v82 main_call7_v0 (by revert k; decide) (by revert k; decide)⟩,
   ⟨StableHlo.binary_bufs_sub .., rfl, fun k => not_three k main_v80 main_call7_v0 main_v83 (by revert k; decide) (by revert k; decide) (by revert k; decide)⟩,
   ⟨StableHlo.unary_bufs_sub .., rfl, fun k => not_two k main_v41 main_v84 (by revert k; decide) (by revert k; decide)⟩,
   ⟨StableHlo.reshape_bufs_sub .., rfl, fun k => not_two k main_v84 main_v85 (by revert k; decide) (by revert k; decide)⟩,
   ⟨StableHlo.unary_bufs_sub .., rfl, fun k => not_two k main_v85 main_call8_v0 (by revert k; decide) (by revert k; decide)⟩,
   StableHlo.binary_bufs_sub .., rfl, fun k => not_three k main_v80 main_call8_v0 main_v86 (by revert k; decide) (by revert k; decide) (by revert k; decide)⟩

theorem sfx_sub : ∀ ops ∈ (behind : List (List (HloOp τ sig (Elt F)))), ∀ op ∈ ops, op.bufs ⊆ Pipeline.tailRefs sig pre0 spec0 := fun ops hops op hop =>
  have h := (List.forall_iff_forall_mem.mp behind_sub) op (behind_mem hops hop)
  Pipeline.sub_tailRefs pre0 spec0 op h.1 h.2.2

theorem sfx_fresh : ∀ ops ∈ (behind : List (List (HloOp τ sig (Elt F)))), ∀ op ∈ ops, op.fresh = ∅ := fun ops hops op hop =>
  ((List.forall_iff_forall_mem.mp behind_sub) op (behind_mem hops hop)).2.1

theorem sfx_keeps : ∀ ops ∈ (behind : List (List (HloOp τ sig (Elt F)))), ∀ op ∈ ops,
    ∀ w, Proc.devRef .tc (Pipeline.arrRef spec0 w) ∉ op.writes := fun ops hops op hop w hm => by
  obtain ⟨x, hx, e⟩ := writes_of (behind_mem hops hop)
  rw [e, Finset.mem_singleton] at hm
  have hne : Pipeline.arrRef spec0 w ∉ behindW := by fin_cases w <;> decide
  exact hne (Proc.devRef_injective _ hm ▸ hx)

theorem hmain (𝒱 : Variants) : Pipeline.HMainPK (Ix := Unit) (Name := ℕ) (U := UR sig nD τ) (Lvl := ℕ) (pcfgs (F := F)) 0 defs₀ 𝒱 m main
    (fun c b => V0 m c (Proc.devRef .tc b)) (fun _ => Pipeline.chain (behind.map StableHlo.seq)) :=
  Pipeline.hmainP_around (pcfgs (F := F)) 0 defs₀ 𝒱 m main before behind
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩
    (by repeat' first | exact rfl | constructor) main_chain

end Cert.KernelIdeal.Hand

end
-- ==== Proof.KIFrame.lean ====
module

public import proofs.«01_k».proof.Proof.KIHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The three tables' contents. -/
def pf : pre0.Contents (Elt F) := fun
  | ⟨0, _⟩ => ie m
  | ⟨1, _⟩ => ib
  | ⟨2, _⟩ => nv m
  | ⟨_ + 3, h⟩ => absurd h (by simp)

theorem hpf (c : Dev nD) (k) : V m c (pre0.ref k) = pf m k := by
  match k, c with
  | (0 : Fin 3), ⟨0, _⟩ => exact (ie_eq m).symm
  | (1 : Fin 3), _ => exact V_v42 m _
  | (2 : Fin 3), ⟨0, _⟩ => exact (nv_eq m).symm

/-! ## The index maps -/

theorem at0 (p : pre0.Contents (Elt F)) (i : grid0.Coords) :
    p.at 0 (Rect.unit (s := S19) (k0_off1 i) S1.size (k0_off1_inb i)) numel1_S1 = tabAt (p 0) i := by
  unfold Pipeline.Prefetch.Contents.at tabAt
  congr 1; funext a; apply Fin.ext; fin_cases a
  show (k0_off1 i) 0 + 1 * 0 = _
  rw [k0_off1_eq]; rfl
theorem at1 (p : pre0.Contents (Elt F)) (i : grid0.Coords) :
    p.at 1 (Rect.unit (s := S19) (k0_off1 i) S1.size (k0_off1_inb i)) numel1_S1 = tabAt (p 1) i := by
  unfold Pipeline.Prefetch.Contents.at tabAt
  congr 1; funext a; apply Fin.ext; fin_cases a
  show (k0_off1 i) 0 + 1 * 0 = _
  rw [k0_off1_eq]; rfl
theorem at2 (p : pre0.Contents (Elt F)) (i : grid0.Coords) :
    p.at 2 (Rect.unit (s := S19) (k0_off1 i) S1.size (k0_off1_inb i)) numel1_S1 = tabAt (p 2) i := by
  unfold Pipeline.Prefetch.Contents.at tabAt
  congr 1; funext a; apply Fin.ext; fin_cases a
  show (k0_off1 i) 0 + 1 * 0 = _
  rw [k0_off1_eq]; rfl
theorem atD2 (p : pre0.Contents (Elt F)) (i : grid0.Coords) : p.atD 2 (k0_off1 i) = tabAt (p 2) i := by
  unfold Pipeline.Prefetch.Contents.atD
  split
  · unfold tabAt
    congr 1; funext a; apply Fin.ext; fin_cases a
    show (k0_off1 i) 0 = _
    rw [k0_off1_eq]; rfl
  · next hn => exact absurd (fun a => by fin_cases a; exact k0_off1_inb i 0) hn

/-- The block of the hidden axis a grid point reads: its own where the item has rows, else the last. -/
def fIdx (n : BitVec 32) (i : grid0.Coords) : BitVec 32 := Scalar.select (Scalar.cmpi .sgt n 0#32) (BitVec.ofNat 32 (i 1).val) 55#32

theorem fIdx_lt (n : BitVec 32) (i : grid0.Coords) : (fIdx n i).toNat < 56 := by
  have hi : (i 1).val < 56 := (i 1).isLt
  unfold fIdx Scalar.select
  split
  · rw [BitVec.toNat_ofNat, Nat.mod_eq_of_lt (by omega)]; exact hi
  · decide

theorem tr0 (p : pre0.Contents (Elt F)) (i : grid0.Coords) :
    cc0_transform_0 k0_off1_inb numel1_S1 p i = ![(tabAt (p 1) i : BitVec 32).toNat, 0] := congrArg (fun v : BitVec 32 => ![v.toNat, 0]) (at1 p i)
theorem tr1 (p : pre0.Contents (Elt F)) (i : grid0.Coords) :
    cc0_transform_1 k0_off1_inb numel1_S1 p i = ![0, (tabAt (p 0) i : BitVec 32).toNat, 0, (fIdx (tabAt (p 2) i) i).toNat] := congrArg₂ (fun u v : BitVec 32 => ![0, u.toNat, 0, (fIdx v i).toNat]) (at0 p i) (at2 p i)
theorem tr2 (p : pre0.Contents (Elt F)) (i : grid0.Coords) :
    cc0_transform_2 k0_off1_inb numel1_S1 p i = ![0, (tabAt (p 0) i : BitVec 32).toNat, 0, (fIdx (tabAt (p 2) i) i).toNat] := congrArg₂ (fun u v : BitVec 32 => ![0, u.toNat, 0, (fIdx v i).toNat]) (at0 p i) (at2 p i)
theorem tr3 (p : pre0.Contents (Elt F)) (i : grid0.Coords) :
    cc0_transform_3 k0_off1_inb numel1_S1 p i = ![0, (tabAt (p 0) i : BitVec 32).toNat, (fIdx (tabAt (p 2) i) i).toNat, 0] := congrArg₂ (fun u v : BitVec 32 => ![0, u.toNat, (fIdx v i).toNat, 0]) (at0 p i) (at2 p i)
theorem tr4 (p : pre0.Contents (Elt F)) (i : grid0.Coords) :
    cc0_transform_4 k0_off1_inb numel1_S1 p i = ![(tabAt (p 1) i : BitVec 32).toNat, 0] := congrArg (fun v : BitVec 32 => ![v.toNat, 0]) (at1 p i)

/-! ## The pipeline's side condition -/

theorem ok_pf (h : Tables m) : ok0 (pf m) := by
  have hb : ∀ i : grid0.Coords, (tabAt (pf m 1) i : BitVec 32).toNat = (i 0).val := fun i => by
    have hi : (i 0).val < 19 := (i 0).isLt
    show (BitVec.ofNat 32 (i 0).val).toNat = _
    rw [BitVec.toNat_ofNat, Nat.mod_eq_of_lt (by omega)]
  have he : ∀ i : grid0.Coords, (tabAt (pf m 0) i : BitVec 32).toNat < 8 := fun i => h _
  have hf := fun i : grid0.Coords => fIdx_lt (tabAt (pf m 2) i) i
  unfold ok0
  refine ⟨fun i => ⟨?_, ?_⟩, fun i => ⟨?_, .inl rfl⟩, fun i => ⟨?_, .inl rfl⟩, fun i => ⟨?_, .inl rfl⟩, fun i => ⟨?_, .inl rfl⟩⟩
  · have hi : (i 0).val < 19 := (i 0).isLt
    intro a; rw [tr0]; fin_cases a
    · show ((tabAt (pf m 1) i : BitVec 32).toNat + 1) * 1024 ≤ 19456; rw [hb]; omega
    · show (0 + 1) * 4096 ≤ 4096; omega
  · refine .inr (.inl (.inr ⟨Nat.le_refl 2, rfl, .inl ⟨?_, ?_⟩⟩))
    on_goal 2 => show 2 ∣ 1024; decide
    show 2 ∣ cc0_transform_0 k0_off1_inb numel1_S1 (pf m) i 0 * 1024
    exact Dvd.dvd.mul_left (by decide) _
  · intro a; rw [tr1]; have := he i; have := hf i; fin_cases a
    · show (0 + 1) * 1 ≤ 1; omega
    · show ((tabAt (pf m 0) i : BitVec 32).toNat + 1) * 1 ≤ 8; omega
    · show (0 + 1) * 4096 ≤ 4096; omega
    · show ((fIdx (tabAt (pf m 2) i) i).toNat + 1) * 256 ≤ 14336; omega
  · intro a; rw [tr2]; have := he i; have := hf i; fin_cases a
    · show (0 + 1) * 1 ≤ 1; omega
    · show ((tabAt (pf m 0) i : BitVec 32).toNat + 1) * 1 ≤ 8; omega
    · show (0 + 1) * 4096 ≤ 4096; omega
    · show ((fIdx (tabAt (pf m 2) i) i).toNat + 1) * 256 ≤ 14336; omega
  · intro a; rw [tr3]; have := he i; have := hf i; fin_cases a
    · show (0 + 1) * 1 ≤ 1; omega
    · show ((tabAt (pf m 0) i : BitVec 32).toNat + 1) * 1 ≤ 8; omega
    · show ((fIdx (tabAt (pf m 2) i) i).toNat + 1) * 256 ≤ 14336; omega
    · show (0 + 1) * 4096 ≤ 4096; omega
  · have hi : (i 0).val < 19 := (i 0).isLt
    intro a; rw [tr4]; fin_cases a
    · show ((tabAt (pf m 1) i : BitVec 32).toNat + 1) * 1024 ≤ 19456; rw [hb]; omega
    · show (0 + 1) * 4096 ≤ 4096; omega

/-- The tables' contents, admissible. -/
def adm (h : Tables m) : (pcfg0 (F := F)).Adm := ⟨pf m, ok_pf m h⟩

/-! ## The proof data -/

section Data
variable (h : Tables m)

/-- The pipeline at the tables. -/
abbrev cfgA : Cfg sig Λ₀ := Pipeline.pin (pcfgs (F := F)) (fun _ => adm m h) 0

/-- What an input's staging buffer holds at a grid point: its block of the array. -/
def iblk (c : Dev nD) (w : Fin 5) (t : Fin grid0.N) :
    (((cfgA m h).win w).xblock (grid0.coords t)).Idx → Elt F ((cfgA m h).win w).elt :=
  (((cfgA m h).win w).blk t).view.read (Elt F) (V m c (Pipeline.arrRef spec0 w))

/-- THE ACCUMULATION: the output block after the body at position `n`. -/
def acc (c : Dev nD) : (n : ℕ) → n < grid0.N → Vec F S1024x4096 .f32
  | 0, hn => step (grid0.coords ⟨0, hn⟩) (tabAt (F := F) (nv m) (grid0.coords ⟨0, hn⟩)) (iblk m h c 0 ⟨0, hn⟩) (iblk m h c 1 ⟨0, hn⟩)
      (iblk m h c 2 ⟨0, hn⟩) (iblk m h c 3 ⟨0, hn⟩) k0_pay73
  | n + 1, hn => step (grid0.coords ⟨n + 1, hn⟩) (tabAt (F := F) (nv m) (grid0.coords ⟨n + 1, hn⟩)) (iblk m h c 0 ⟨n + 1, hn⟩)
      (iblk m h c 1 ⟨n + 1, hn⟩) (iblk m h c 2 ⟨n + 1, hn⟩) (iblk m h c 3 ⟨n + 1, hn⟩) (acc c n (Nat.lt_of_succ_lt hn))

/-- The proof data of the one pipeline. -/
def dats (p : Fin 1) (c : Dev nD) : Dat τ (Elt F) Unit ℕ (UR sig nD τ) ℕ (Pipeline.pin (pcfgs (F := F)) (fun _ => adm m h) p) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => acc m h c t.val t.isLt
    | ⟨_ + 5, hw⟩ => absurd hw (Nat.not_lt.2 (Nat.le_add_left _ _))
  Φ _ := iprop(Pipeline.ΦA spec0 c ∗ Pipeline.ΦT pre0 (adm m h).1 c)
  q _ := fullShare
  owed _ := 0

theorem A_eq (c : Dev nD) (w : Fin 5) : (dats m h 0 c).A w = V m c (Pipeline.arrRef spec0 w) := by dsimp only [dats]
theorem after_0 (c : Dev nD) (t : Fin grid0.N) : (dats m h 0 c).after (0 : Fin 5) t = iblk m h c 0 t := by dsimp only [dats]
theorem after_1 (c : Dev nD) (t : Fin grid0.N) : (dats m h 0 c).after (1 : Fin 5) t = iblk m h c 1 t := by dsimp only [dats]
theorem after_2 (c : Dev nD) (t : Fin grid0.N) : (dats m h 0 c).after (2 : Fin 5) t = iblk m h c 2 t := by dsimp only [dats]
theorem after_3 (c : Dev nD) (t : Fin grid0.N) : (dats m h 0 c).after (3 : Fin 5) t = iblk m h c 3 t := by dsimp only [dats]
theorem after_4 (c : Dev nD) (t : Fin grid0.N) : (dats m h 0 c).after (4 : Fin 5) t = acc m h c t.val t.isLt := by dsimp only [dats]

theorem before_0 (c : Dev nD) (t : Fin grid0.N) (d) : (dats m h 0 c).before (0 : Fin 5) t d = iblk m h c 0 t :=
  ((dats m h 0 c).before_in_eq_fetched (0 : Fin 5) rfl (fun _ => rfl) (fun _ _ _ => rfl) (fun t => by rw [after_0]; rfl) t d).trans rfl
theorem before_1 (c : Dev nD) (t : Fin grid0.N) (d) : (dats m h 0 c).before (1 : Fin 5) t d = iblk m h c 1 t :=
  ((dats m h 0 c).before_in_eq_fetched (1 : Fin 5) rfl (fun _ => rfl) (fun _ _ _ => rfl) (fun t => by rw [after_1]; rfl) t d).trans rfl
theorem before_2 (c : Dev nD) (t : Fin grid0.N) (d) : (dats m h 0 c).before (2 : Fin 5) t d = iblk m h c 2 t :=
  ((dats m h 0 c).before_in_eq_fetched (2 : Fin 5) rfl (fun _ => rfl) (fun _ _ _ => rfl) (fun t => by rw [after_2]; rfl) t d).trans rfl
theorem before_3 (c : Dev nD) (t : Fin grid0.N) (d) : (dats m h 0 c).before (3 : Fin 5) t d = iblk m h c 3 t :=
  ((dats m h 0 c).before_in_eq_fetched (3 : Fin 5) rfl (fun _ => rfl) (fun _ _ _ => rfl) (fun t => by rw [after_3]; rfl) t d).trans rfl

/-! ## When the output block starts afresh and is written back -/

theorem coords_0 (t : Fin grid0.N) : (grid0.coords t 0).val = t.val / 56 := by
  have ht : t.val < 1064 := Nat.lt_of_lt_of_eq t.isLt N_0
  have e : (grid0.coords t 0).val = t.val / 56 % 19 := Pipeline.Grid.coords_val t 0 (by decide) rfl
  omega
theorem coords_1 (t : Fin grid0.N) : (grid0.coords t 1).val = t.val % 56 := by
  have e : (grid0.coords t 1).val = t.val / 1 % 56 := Pipeline.Grid.coords_val t 1 (by decide) rfl
  omega

theorem index_4 (t : Fin grid0.N) (a) : ((cfgA m h).win (4 : Fin 5)).index t a = (![t.val / 56, 0] : Fin 2 → ℕ) a := by
  have e : ((cfgA m h).win (4 : Fin 5)).index t = ![(tabAt (pf m 1) (grid0.coords t) : BitVec 32).toNat, 0] := tr4 _ _
  have e2 : (tabAt (pf m 1) (grid0.coords t) : BitVec 32).toNat = t.val / 56 := by
    have hi : (grid0.coords t 0).val < 19 := (grid0.coords t 0).isLt
    show (BitVec.ofNat 32 (grid0.coords t 0).val).toNat = _
    rw [BitVec.toNat_ofNat, Nat.mod_eq_of_lt (by omega), coords_0]
  rw [e, e2]

theorem flush_4 (t : Fin grid0.N) : ((cfgA m h).win (4 : Fin 5)).flush t = decide (t.val % 56 = 55) := by
  have ht : t.val < 1064 := Nat.lt_of_lt_of_eq t.isLt N_0
  rw [Window.flush_eq_flushF]
  unfold Window.flushF
  show (true && (decide (t.val + 1 = grid0.N) || _)) = _
  by_cases h55 : t.val % 56 = 55
  · rw [decide_eq_true h55, Bool.true_and]
    by_cases hl : t.val + 1 = grid0.N
    · rw [decide_eq_true hl, Bool.true_or]
    · have hN := N_0
      rw [Bool.or_eq_true_iff]
      refine .inr (decide_eq_true ⟨by show _ < grid0.N; omega, (0 : Fin 2), ?_⟩)
      rw [index_4, index_4]
      show (t.val + 1) / 56 ≠ t.val / 56
      omega
  · rw [decide_eq_false h55, Bool.true_and, Bool.or_eq_false_iff]
    refine ⟨decide_eq_false (by have hN := N_0; omega), decide_eq_false ?_⟩
    rintro ⟨hl, a, hne⟩
    refine hne ?_
    rw [index_4, index_4]
    have : (t.val + 1) / 56 = t.val / 56 := by omega
    show (![(t.val + 1) / 56, 0] : Fin 2 → ℕ) a = _
    rw [this]

theorem cond1_iff (i : grid0.Coords) : k0_cond1 i = 1#1 ↔ (i 1).val = 0 := by
  have hi : (i 1).val < 56 := (i 1).isLt
  unfold k0_cond1
  generalize (i 1).val = n at hi
  revert n
  decide

theorem idle_4 (i : grid0.Coords) : (cfgA m h).idle (4 : Fin 5) i
    = (!(k0_cond1 i == 1#1) && !(k0_cond2 (tabAt (F := F) (nv m) i) == 1#1) && !(k0_cond3 (tabAt (F := F) (nv m) i) == 1#1)
      && !(k0_cond4 (tabAt (F := F) (nv m) i) == 1#1) && !(k0_cond5 (tabAt (F := F) (nv m) i) == 1#1)) := by
  show idle0 (pf m) (4 : Fin 5) i = _
  show (!(k0_cond1 i == 1#1) && !(k0_cond2 ((pf m).atD 2 (k0_off1 i)) == 1#1) && !(k0_cond3 ((pf m).atD 2 (k0_off1 i)) == 1#1)
      && !(k0_cond4 ((pf m).atD 2 (k0_off1 i)) == 1#1) && !(k0_cond5 ((pf m).atD 2 (k0_off1 i)) == 1#1)) = _
  rw [atD2]; rfl

theorem fresh_4 : ∀ n, n ≤ grid0.N → (cfgA m h).fresh (4 : Fin 5) n = decide (n % 56 = 0) := by
  refine Cfg.fresh_tab (cfgA m h) (4 : Fin 5) (fun n => decide (n % 56 = 0)) rfl fun t => ?_
  rw [flush_4]
  by_cases h0 : t.val % 56 = 0
  · have hidle : (cfgA m h).idle (4 : Fin 5) ((cfgA m h).grid.coords t) = false := by
      rw [idle_4]
      have : k0_cond1 (grid0.coords t) = 1#1 := (cond1_iff _).2 (by rw [coords_1]; exact h0)
      show (!(k0_cond1 (grid0.coords t) == 1#1) && _ && _ && _ && _) = false
      rw [this]; rfl
    rw [hidle, Bool.false_and, Bool.or_false]
    simp only [decide_eq_decide]; omega
  · simp only [decide_eq_false h0, Bool.and_false, Bool.or_false, decide_eq_decide]; omega

/-! ## What the body finds in the output block -/

/-- At the first block of an item the body clears the output, so what it found is not read. -/
theorem step_first (i : grid0.Coords) (n : BitVec 32) (x wg wu wd) (d d' : Vec F S1024x4096 .f32) (hc : k0_cond1 i = 1#1) :
    step i n x wg wu wd d = step i n x wg wu wd d' := by
  unfold step; simp only [if_pos hc]

/-- At a point that stores nothing the output stays. -/
theorem step_idle (i : grid0.Coords) (x wg wu wd) (d : Vec F S1024x4096 .f32) (hi : (cfgA m h).idle (4 : Fin 5) i = true) :
    step i (tabAt (F := F) (nv m) i) x wg wu wd d = d := by
  rw [idle_4] at hi
  simp only [Bool.and_eq_true, Bool.not_eq_true', beq_eq_false_iff_ne] at hi
  obtain ⟨⟨⟨⟨h1, h2⟩, h3⟩, h4⟩, h5⟩ := hi
  unfold step; simp only [if_neg h1, if_neg h2, if_neg h3, if_neg h4, if_neg h5]

/-- One point's step from whatever the item's earlier points left. -/
theorem acc_succ (c : Dev nD) (t : Fin grid0.N) (h0 : t.val ≠ 0) :
    acc m h c t.val t.isLt = step (grid0.coords t) (tabAt (F := F) (nv m) (grid0.coords t)) (iblk m h c 0 t) (iblk m h c 1 t)
      (iblk m h c 2 t) (iblk m h c 3 t) (acc m h c (t.val - 1) (by omega)) := by
  match t, h0 with
  | ⟨n + 1, _⟩, _ => rfl

theorem acc_first (c : Dev nD) (t : Fin grid0.N) (h0 : t.val % 56 = 0) (d) :
    acc m h c t.val t.isLt = step (grid0.coords t) (tabAt (F := F) (nv m) (grid0.coords t)) (iblk m h c 0 t) (iblk m h c 1 t)
      (iblk m h c 2 t) (iblk m h c 3 t) d := by
  have hc : k0_cond1 (grid0.coords t) = 1#1 := (cond1_iff _).2 (by rw [coords_1]; exact h0)
  obtain ⟨tv, htv⟩ := t
  match tv with
  | 0 => exact step_first _ _ _ _ _ _ _ _ hc
  | n + 1 => exact step_first _ _ _ _ _ _ _ _ hc

theorem before_4 (c : Dev nD) (t : Fin grid0.N) (d) : (dats m h 0 c).before (4 : Fin 5) t d
    = if t.val % 56 = 0 then d else acc m h c (t.val - 1) (by omega) := by
  refine ((dats m h 0 c).before_out_traj (4 : Fin 5) rfl (fun _ _ => rfl) (fun t h0 hi hf => ?_) _ t rfl d).trans ?_
  · rw [after_4, after_4]
    have hc : (cfgA m h).idle (4 : Fin 5) (grid0.coords t) = true := hi
    show acc m h c t.val t.isLt = acc m h c (t.val - 1) _
    rw [acc_succ m h c t h0, step_idle m h _ _ _ _ _ _ hc]
  · show (if (cfgA m h).fresh (4 : Fin 5) t.val = true then d else _) = _
    rw [fresh_4 m h t.val (Nat.le_of_lt t.isLt), after_4]
    simp only [decide_eq_true_eq]

/-- So a step from what the body finds leaves the accumulation. -/
theorem step_before (c : Dev nD) (t : Fin grid0.N) (d) :
    step (grid0.coords t) (tabAt (F := F) (nv m) (grid0.coords t)) (iblk m h c 0 t) (iblk m h c 1 t) (iblk m h c 2 t) (iblk m h c 3 t)
      ((dats m h 0 c).before (4 : Fin 5) t d) = acc m h c t.val t.isLt := by
  rw [before_4]
  by_cases h0 : t.val % 56 = 0
  · rw [if_pos h0, acc_first m h c t h0 d]
  · rw [if_neg h0, ← acc_succ m h c t (by omega)]

/-! ## The body obligation -/

abbrev ms0 (t : Fin grid0.N) := spec0_0.stage ((cfgA m h).slots t (0 : Fin 5))
abbrev ms1 (t : Fin grid0.N) := spec0_1.stage ((cfgA m h).slots t (1 : Fin 5))
abbrev ms2 (t : Fin grid0.N) := spec0_2.stage ((cfgA m h).slots t (2 : Fin 5))
abbrev ms3 (t : Fin grid0.N) := spec0_3.stage ((cfgA m h).slots t (3 : Fin 5))
abbrev ms4 (t : Fin grid0.N) := spec0_4.stage ((cfgA m h).slots t (4 : Fin 5))

/-- The body as the pipeline calls it at point `t`. -/
abbrev bodyAt (t : Fin grid0.N) : Prog (TpuEff nD τ sig (Elt F) Λ₀ .tc) PUnit :=
  cc0_ffn (grid0.coords t) (Memref.whole main_v56) (Memref.isWhole_whole _) (Memref.whole main_v42) (Memref.isWhole_whole _)
    (Memref.whole main_v78) (Memref.isWhole_whole _)
    (ms0 m h t) (hstage0_0 (((cfgA m h).slots t (0 : Fin 5)).cast nbuf0_0)) (ms1 m h t) (hstage0_1 (((cfgA m h).slots t (1 : Fin 5)).cast nbuf0_1))
    (ms2 m h t) (hstage0_2 (((cfgA m h).slots t (2 : Fin 5)).cast nbuf0_2)) (ms3 m h t) (hstage0_3 (((cfgA m h).slots t (3 : Fin 5)).cast nbuf0_3))
    (ms4 m h t) (hstage0_4 (((cfgA m h).slots t (4 : Fin 5)).cast nbuf0_4))

/-- What the body is called with, the windows one by one, -/
def bodyPre (c : Dev nD) (t : Fin grid0.N) : sProp 𝕄 :=
  iprop((dats m h 0 c).Φ t.castSucc ∗ (dats m h 0 c).owesAt () t.castSucc
    ∗ (∃ d, owns (c : Thread nD τ) (ms0 m h t) fullShare ((dats m h 0 c).before (0 : Fin 5) t d))
    ∗ (∃ d, owns (c : Thread nD τ) (ms1 m h t) fullShare ((dats m h 0 c).before (1 : Fin 5) t d))
    ∗ (∃ d, owns (c : Thread nD τ) (ms2 m h t) fullShare ((dats m h 0 c).before (2 : Fin 5) t d))
    ∗ (∃ d, owns (c : Thread nD τ) (ms3 m h t) fullShare ((dats m h 0 c).before (3 : Fin 5) t d))
    ∗ (∃ d, owns (c : Thread nD τ) (ms4 m h t) fullShare ((dats m h 0 c).before (4 : Fin 5) t d)))

/-- and what it returns. -/
def bodyPost (c : Dev nD) (t : Fin grid0.N) : sProp 𝕄 :=
  iprop((dats m h 0 c).Φ t.succ ∗ (dats m h 0 c).owesAt () t.succ
    ∗ owns (c : Thread nD τ) (ms0 m h t) fullShare ((dats m h 0 c).after (0 : Fin 5) t)
    ∗ owns (c : Thread nD τ) (ms1 m h t) fullShare ((dats m h 0 c).after (1 : Fin 5) t)
    ∗ owns (c : Thread nD τ) (ms2 m h t) fullShare ((dats m h 0 c).after (2 : Fin 5) t)
    ∗ owns (c : Thread nD τ) (ms3 m h t) fullShare ((dats m h 0 c).after (3 : Fin 5) t)
    ∗ (dats m h 0 c).leavesExact (4 : Fin 5) t)

/-- The stepped output is what the pipeline asks back, at a point that stores and at one that does not. -/
theorem leaves_step (c : Dev nD) (t : Fin grid0.N) (d) :
    (owns (c : Thread nD τ) (ms4 m h t) fullShare (step (grid0.coords t) (tabAt (F := F) (nv m) (grid0.coords t)) (iblk m h c 0 t)
      (iblk m h c 1 t) (iblk m h c 2 t) (iblk m h c 3 t) ((dats m h 0 c).before (4 : Fin 5) t d)) : sProp 𝕄)
      ⊢ (dats m h 0 c).leavesExact (4 : Fin 5) t := by
  have hlive : (owns (c : Thread nD τ) (ms4 m h t) fullShare (step (grid0.coords t) (tabAt (F := F) (nv m) (grid0.coords t)) (iblk m h c 0 t)
      (iblk m h c 1 t) (iblk m h c 2 t) (iblk m h c 3 t) ((dats m h 0 c).before (4 : Fin 5) t d)) : sProp 𝕄)
      ⊢ owns (c : Thread nD τ) (ms4 m h t) fullShare ((dats m h 0 c).after (4 : Fin 5) t) := by
    rw [step_before, after_4]
  rcases hi : (cfgA m h).idle (4 : Fin 5) ((cfgA m h).grid.coords t) with _ | _
  · unfold Dat.leavesExact; rw [hi]; exact hlive
  · rcases hf : ((cfgA m h).win (4 : Fin 5)).flush t with _ | _
    · unfold Dat.leavesExact; rw [hi, hf, step_idle m h _ _ _ _ _ _ hi]
      iintro H; iexists d; iexact H
    · unfold Dat.leavesExact; rw [hi, hf]; exact hlive

/-- The tables' halves, one by one. -/
theorem tables_eq (c : Dev nD) : (Pipeline.ΦT (Val := Elt F) (U := UR sig nD τ) pre0 (pf m) c : sProp 𝕄)
    = iprop((((c : Thread nD τ).loc main_v56) ↦{fullShare.right} pf m 0) ∗ (((c : Thread nD τ).loc main_v42) ↦{fullShare.right} pf m 1)
      ∗ (((c : Thread nD τ).loc main_v78) ↦{fullShare.right} pf m 2)) := by
  unfold Pipeline.ΦT Pipeline.prefHeld
  exact bigSep_univ_eq_bigSepL [(0 : Fin 3), 1, 2] (by decide) (by decide) _

theorem sound_body (c : Dev nD) (t : Fin grid0.N) :
    bodyPre m h c t ⊢ wp frame (wpE (defs₀ (F := F)) Variants.none c none) Set.univ (bodyAt m h t) (fun _ => bodyPost m h c t) := by
  unfold bodyPre bodyPost
  simp only [before_0, before_1, before_2, before_3]
  rw [show (dats m h 0 c).Φ t.succ = iprop(Pipeline.ΦA spec0 c ∗ Pipeline.ΦT pre0 (pf m) c) from rfl,
    show (dats m h 0 c).Φ t.castSucc = iprop(Pipeline.ΦA spec0 c ∗ Pipeline.ΦT pre0 (pf m) c) from rfl,
    show (dats m h 0 c).owesAt () t.succ = (dats m h 0 c).owesAt () t.castSucc from rfl,
    after_0, after_1, after_2, after_3, tables_eq]
  iintro ⟨⟨HA, HT0, HT1, HT2⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ fullShare.right (nv m) (iblk m h c 0 t) (iblk m h c 1 t)
    (iblk m h c 2 t) (iblk m h c 3 t) ((dats m h 0 c).before (4 : Fin 5) t d4) Set.univ _)
  isplitl [HT2]; · iexact HT2
  isplitl [H0]; · iapply (rep_of_owns _ _ _ _); iexact H0
  isplitl [H1]; · iapply (rep_of_owns _ _ _ _); iexact H1
  isplitl [H2]; · iapply (rep_of_owns _ _ _ _); iexact H2
  isplitl [H3]; · iapply (rep_of_owns _ _ _ _); iexact H3
  isplitl [H4]; · iapply (rep_of_owns _ _ _ _); iexact H4
  iintro ⟨HT2, H0, H1, H2, H3, H4⟩
  isplitl [HA HT0 HT1 HT2]
  · isplitl [HA]; · iexact HA
    isplitl [HT0]; · iexact HT0
    isplitl [HT1]; · iexact HT1
    iexact HT2
  isplitl [Ho]; · iexact Ho
  isplitl [H0]; · iapply (owns_of_rep _ _ _ _); iexact H0
  isplitl [H1]; · iapply (owns_of_rep _ _ _ _); iexact H1
  isplitl [H2]; · iapply (owns_of_rep _ _ _ _); iexact H2
  isplitl [H3]; · iapply (owns_of_rep _ _ _ _); iexact H3
  iapply (leaves_step m h c t d4)
  iapply (owns_of_rep _ _ _ _); iexact H4

theorem defs₀_row (t : Fin grid0.N) :
    defs₀ (F := F) .tc (cfgA m h).body ((cfgA m h).bodyArgs t ((cfgA m h).slots t)) = bodyAt m h t := by
  unfold defs₀; rw [Defs.onTc_tc]

theorem of_eq {P Q : sProp 𝕄} (e : P = Q) : P ⊢ Q := e ▸ Entails.rfl

theorem body_obligation (c : Dev nD) : BodyObligation (dats (F := F) m h 0 c) (defs₀ (F := F)) Variants.none () Set.univ := fun t => by
  rw [defs₀_row]
  refine BIBase.Entails.trans (of_eq ?_) ((sound_body m h c t).trans (wp_mono _ _ _ fun _ => of_eq ?_))
  · unfold bodyPre; congr 2; exact bigSep_W0 _
  · unfold bodyPost; congr 2; symm; exact bigSep_W0 (fun w : Fin 5 => (dats m h 0 c).leavesExact w t)

set_option backward.isDefEq.respectTransparency.types false in
/-- THE LAUNCH: every execution ends with every array at what the proof data compute, every other buffer as the host's
    operations after the region leave it, and every semaphore at zero. -/
theorem run_main : θ_run defs (onTc (τ := τ) (main (F := F))) (s₀ m ρ)
    (fun r => (Pipeline.FramePost (Pipeline.pin (pcfgs (F := F)) (fun _ => adm m h)) (dats m h) 0
      (Pipeline.afterTail (pcfgs (F := F)) (fun _ => adm m h) (dats m h) 0 (V0 m) behind)) r ∧ r.2.sem = fun _ => 0) :=
  Pipeline.θ_run_frameP_around (Q' := _) (pcfgs (F := F)) (fun _ => adm m h) (dats m h) (0 : Fin 1) launch0 defs₀ Variants.none m ρ main
    (hbody := fun c => (body_obligation m h c).loose) (hshare := fun c => (dats m h 0 c).share_full fun _ => rfl)
    (howed := fun _ _ => rfl) (V₀ := V0 m) (opss := behind) (hsub := sfx_sub) (hfresh := sfx_fresh) (hkeep := sfx_keeps)
    (hmain := hmain m Variants.none) (hA := A_eq m h) (hpf := hpf m) (hΦ := fun _ _ => rfl)

/-- A buffer neither windowed nor written after the region ends as the region found it. -/
theorem tail_keeps (c : Dev nD) (b : Ref sig .tc) (hw : ∀ w, Pipeline.arrRef spec0 w ≠ b) (hb : b ∉ behindW) :
    Pipeline.afterTail (pcfgs (F := F)) (fun _ => adm m h) (dats m h) 0 (V0 m) behind c b = V m c b :=
  (StableHlo.after_unwritten behindW behind_writes hb _).trans (Pipeline.withArrays_of_ne spec0 c (V0 m c) _ b hw)

/-- The results an execution ends with: every argument array as at the launch. -/
theorem unchanged_of (r : PUnit × MemSt nD τ sig (Elt F))
    (hr : Pipeline.FramePost (Pipeline.pin (pcfgs (F := F)) (fun _ => adm m h)) (dats m h) 0
      (Pipeline.afterTail (pcfgs (F := F)) (fun _ => adm m h) (dats m h) 0 (V0 m) behind) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((hr c).2 main_arg0 (show main_arg0 ∈ Pipeline.restRefs sig spec0 by decide)).trans ((tail_keeps m h c _ (by decide) (by decide)).trans (V_arg0 m c)),
   ((hr c).2 main_arg1 (show main_arg1 ∈ Pipeline.restRefs sig spec0 by decide)).trans ((tail_keeps m h c _ (by decide) (by decide)).trans (V_arg1 m c)),
   ((hr c).1 (1 : Fin 5)).trans (((dats m h 0 c).arrAt_in (1 : Fin 5) rfl _).trans ((A_eq m h c 1).trans (V_arg2 m c))),
   ((hr c).1 (2 : Fin 5)).trans (((dats m h 0 c).arrAt_in (2 : Fin 5) rfl _).trans ((A_eq m h c 2).trans (V_arg3 m c))),
   ((hr c).1 (3 : Fin 5)).trans (((dats m h 0 c).arrAt_in (3 : Fin 5) rfl _).trans ((A_eq m h c 3).trans (V_arg4 m c)))⟩

end Data

/-- THE FRAME: every execution ends, with the arguments unchanged and every semaphore at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r hr => ⟨unchanged_of m (tables m) r hr.1, hr.2⟩) (run_main m ρ (tables m))

end Cert.KernelIdeal.Hand

end
-- ==== Proof.Frames.lean ====
/- The frame claims: the kernel at the device's floats, the kernel at the extended reals, and the reference. -/
module

public import proofs.«01_k».proof.Defs
public import proofs.«01_k».proof.Proof.KFrame
public import proofs.«01_k».proof.Proof.KIFrame
public import proofs.«01_k».proof.Proof.Gen.Pre_experts_in_range
public import proofs.«01_k».proof.Proof.Gen.ReferenceIdeal.Run

@[expose] public section

noncomputable section

namespace Cert.Frames

open Idealize.ShloMosaic Idealize.SL.Sem

attribute [local instance] Cert.Kernel.Gen.facts Cert.KernelIdeal.Gen.facts Cert.ReferenceIdeal.Gen.facts Cert.Pre_experts_in_range.Gen.facts

theorem kernel : Cert.quiescent_Kernel := fun m g _ => Cert.Kernel.Hand.frame_run m g

theorem kernelIdeal : Cert.quiescent_KernelIdeal := fun m g _ => Cert.KernelIdeal.Hand.frame_run m g

theorem kernelIdeal_pre : Cert.quiescent_KernelIdeal_pre_experts_in_range := fun m g _ => Cert.KernelIdeal.Hand.frame_run m g

theorem referenceIdeal : Cert.quiescent_ReferenceIdeal := fun m g _ =>
  (θ_run _ _ _).mono (fun r h => ⟨fun c => (h c).2.2, by
    funext k
    rcases k with ⟨c, k⟩
    cases k <;> rename_i x <;> exact Fin.elim0 x⟩) (Cert.ReferenceIdeal.Value.run m g)

theorem referenceIdeal_pre : Cert.quiescent_ReferenceIdeal_pre_experts_in_range := fun m g _ => referenceIdeal m g trivial

end Cert.Frames

end
-- ==== Proof.KIAct.lean ====
/- One visit of the feed-forward kernel at the extended reals, read at an element: the activations of the rows, what a
   branch adds to the output block, and which branch runs for a row count. -/
module

public import proofs.«01_k».proof.Proof.KIBody
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Hand

open Cert.KernelIdeal Cert.KernelIdeal.Gen
open Idealize.ShloMosaic
open Idealize.ShloMosaic.VecWindow (window put)

attribute [local instance] Cert.KernelIdeal.Gen.facts

/-- A window of a matrix at an element. -/
theorem window2 {α : Type} {R C M W a b : ℕ} (x : (⟨2, ![R, C]⟩ : Shape).Idx → α) (inb) (i : Fin M) (j : Fin W) (hi : a + i.val < R) (hj : b + j.val < C) :
    window x ![a, b] ![M, W] inb (ix2 i j) = x (ix2 ⟨a + i.val, hi⟩ ⟨b + j.val, hj⟩) := by
  unfold window
  congr 1; funext t
  refine Fin.cases ?_ (fun t => Fin.cases ?_ (fun t => t.elim0) t) t
  · exact Fin.ext (show a + 1 * i.val = a + i.val by omega)
  · exact Fin.ext (show b + 1 * j.val = b + j.val by omega)

/-- A window of a stack of one matrix at an element. -/
theorem window4 {α : Type} {R C M W a b : ℕ} (x : (⟨4, ![1, 1, R, C]⟩ : Shape).Idx → α) (inb) (i : Fin M) (j : Fin W) (hi : a + i.val < R) (hj : b + j.val < C) :
    window x ![0, 0, a, b] ![1, 1, M, W] inb (ix4 0 0 i j) = x (ix4 0 0 ⟨a + i.val, hi⟩ ⟨b + j.val, hj⟩) := by
  unfold window
  congr 1; funext t
  refine Fin.cases ?_ (fun t => Fin.cases ?_ (fun t => Fin.cases ?_ (fun t => Fin.cases ?_ (fun t => t.elim0) t) t) t) t
  · exact Fin.ext rfl
  · exact Fin.ext rfl
  · exact Fin.ext (show a + 1 * i.val = a + i.val by omega)
  · exact Fin.ext (show b + 1 * j.val = b + j.val by omega)

/-- A column chunk put into a matrix, at an element. -/
theorem put2 {α : Type} {R C M W o : ℕ} (x : (⟨2, ![R, C]⟩ : Shape).Idx → α) (w : (⟨2, ![M, W]⟩ : Shape).Idx → α) (E : Fin R → Fin C → α)
    (hw : ∀ (i : Fin M) (j : Fin W) (r : Fin R) (c : Fin C), r.val = i.val → c.val = o + j.val → w (ix2 i j) = E r c) (r : Fin R) (c : Fin C) :
    put x ![0, o] ![M, W] w (ix2 r c) = if r.val < M ∧ o ≤ c.val ∧ c.val < o + W then E r c else x (ix2 r c) := by
  unfold put
  by_cases h : r.val < M ∧ o ≤ c.val ∧ c.val < o + W
  · rw [if_pos h]
    have hh : ∀ a : Fin 2, (![0, o] : Fin 2 → ℕ) a ≤ ((ix2 r c : (⟨2, ![R, C]⟩ : Shape).Idx) a).val ∧ ((ix2 r c : (⟨2, ![R, C]⟩ : Shape).Idx) a).val < (![0, o] : Fin 2 → ℕ) a + (![M, W] : Fin 2 → ℕ) a := by
      intro a
      refine Fin.cases ?_ (fun a => Fin.cases ?_ (fun a => a.elim0) a) a
      · exact ⟨Nat.zero_le _, by show r.val < 0 + M; omega⟩
      · exact ⟨h.2.1, h.2.2⟩
    rw [dif_pos hh]
    refine Eq.trans ?_ (hw ⟨r.val, h.1⟩ ⟨c.val - o, by omega⟩ r c rfl (by show c.val = o + (c.val - o); omega))
    congr 1; funext a
    refine Fin.cases ?_ (fun a => Fin.cases ?_ (fun a => a.elim0) a) a
    · exact Fin.ext (show r.val - 0 = r.val by omega)
    · exact Fin.ext rfl
  · rw [if_neg h, dif_neg]
    intro hh
    have h0 : 0 ≤ r.val ∧ r.val < 0 + M := hh 0
    have h1 : o ≤ c.val ∧ c.val < o + W := hh 1
    exact h ⟨by omega, h1⟩

/-- A sum over 4096 in four runs of 1024. -/
theorem sum_quarters (f : Fin 4096 → EReal) : ∑ k : Fin 4096, f k
    = (((∑ k : Fin 1024, f ⟨0 + k.val, by omega⟩) + ∑ k : Fin 1024, f ⟨1024 + k.val, by omega⟩) + ∑ k : Fin 1024, f ⟨2048 + k.val, by omega⟩) + ∑ k : Fin 1024, f ⟨3072 + k.val, by omega⟩ := by
  have e : ∑ k : Fin 4096, f k = ∑ k : Fin (1024 + 1024 + 1024 + 1024), f k := rfl
  rw [e, Fin.sum_univ_add, Fin.sum_univ_add, Fin.sum_univ_add]
  refine congrArg₂ (· + ·) (congrArg₂ (· + ·) (congrArg₂ (· + ·) ?_ ?_) ?_) ?_ <;>
    exact Finset.sum_congr rfl fun k _ => congrArg f (Fin.ext (by simp [Fin.castAdd, Fin.natAdd]))

/-- The product of a row of `x` and a column of a weight block. -/
def rowDot (x : FVec Ideal S1024x4096 .bf16) (w : FVec Ideal S1x1x4096x256 .f32) (r : Fin 1024) (q : Fin 256) : EReal :=
  ∑ k : Fin 4096, x (ix2 r k) * w (ix4 0 0 k q)

/-- The gated activation. -/
def gated (g u : EReal) : EReal := g * FloatOps.logistic (F := Ideal) (φ := .f32) g * u

/-- What a visit adds to the output block. -/
def added (x : FVec Ideal S1024x4096 .bf16) (wg wu : FVec Ideal S1x1x4096x256 .f32) (wd : FVec Ideal S1x1x256x4096 .f32) (r : Fin 1024) (c : Fin 4096) : EReal :=
  ∑ q : Fin 256, gated (rowDot x wg r q) (rowDot x wu r q) * wd (ix4 0 0 q c)

/-! ### The 256-row branch -/

theorem prod256 (x : FVec Ideal S256x1024 .bf16) (w : FVec Ideal S1x1x1024x256 .f32) (r : Fin 256) (q : Fin 256) :
    k0_pay6 (F := Ideal) x w (ix2 r q) = ∑ k : Fin 1024, x (ix2 r k) * w (ix4 0 0 k q) := by
  pointwise! [k0_pay6, k0_pay5]

theorem sumG256 (x0 x1 : FVec Ideal S256x1024 .bf16) (w0 w1 : FVec Ideal S1x1x1024x256 .f32) : k0_pay3 (F := Ideal) x0 w0 x1 w1 = addf (k0_pay6 x0 w0) (k0_pay6 x1 w1) := rfl

theorem sumU256 (x0 x1 : FVec Ideal S256x1024 .bf16) (w0 w1 : FVec Ideal S1x1x1024x256 .f32) : k0_pay4 (F := Ideal) x0 w0 x1 w1 = addf (k0_pay6 x0 w0) (k0_pay6 x1 w1) := rfl

theorem actEq256 (g u p : FVec Ideal S256x256 .f32) (x2 x3 : FVec Ideal S256x1024 .bf16) (wu2 wg3 wu3 : FVec Ideal S1x1x1024x256 .f32) (j : S256x256.Idx) :
    k0_pay7 (F := Ideal) g u (k0_pay5 x2) p wu2 x3 wg3 wu3 j = gated (g j + p j + k0_pay6 (F := Ideal) x3 wg3 j) (u j + k0_pay6 (F := Ideal) x2 wu2 j + k0_pay6 (F := Ideal) x3 wu3 j) := rfl

theorem act256_apply (x : FVec Ideal S1024x4096 .bf16) (wg wu : FVec Ideal S1x1x4096x256 .f32) (i : Fin 256) (r : Fin 1024) (hr : r.val = i.val) (q : Fin 256) :
    act256 (F := Ideal) x wg wu (ix2 i q) = gated (rowDot x wg r q) (rowDot x wu r q) := by
  have e : ∀ (w : FVec Ideal S1x1x4096x256 .f32) (o : ℕ) (ho : o + 1024 ≤ 4096) (inb inb'),
      k0_pay6 (F := Ideal) (window x ![0, o] S256x1024.size inb) (window w ![0, 0, o, 0] S1x1x1024x256.size inb') (ix2 i q)
        = ∑ k : Fin 1024, x (ix2 r ⟨o + k.val, by omega⟩) * w (ix4 0 0 ⟨o + k.val, by omega⟩ q) := by
    intro w o ho inb inb'
    rw [prod256]
    refine Finset.sum_congr rfl fun k _ => ?_
    refine congrArg₂ (· * ·) ((window2 x inb i k (by omega) (by omega)).trans ?_) ((window4 w inb' k q (by omega) (by omega)).trans ?_)
    · exact congrArg x (congrArg (fun t => ix2 t _) (Fin.ext (by show 0 + i.val = r.val; omega)))
    · exact congrArg w (congrArg (fun t => ix4 0 0 _ t) (Fin.ext (by show 0 + q.val = q.val; omega)))
  unfold act256 rowDot
  rw [actEq256, sumG256, sumU256, sum_quarters, sum_quarters]
  refine congrArg₂ gated ?_ ?_
  · show (k0_pay6 (F := Ideal) _ _ (ix2 i q) + k0_pay6 (F := Ideal) _ _ (ix2 i q)) + k0_pay6 (F := Ideal) _ _ (ix2 i q) + k0_pay6 (F := Ideal) _ _ (ix2 i q) = _
    rw [e wg 0 (by omega), e wg 1024 (by omega), e wg 2048 (by omega), e wg 3072 (by omega)]
  · show (k0_pay6 (F := Ideal) _ _ (ix2 i q) + k0_pay6 (F := Ideal) _ _ (ix2 i q)) + k0_pay6 (F := Ideal) _ _ (ix2 i q) + k0_pay6 (F := Ideal) _ _ (ix2 i q) = _
    rw [e wu 0 (by omega), e wu 1024 (by omega), e wu 2048 (by omega), e wu 3072 (by omega)]

theorem down256 (a : FVec Ideal S256x256 .bf16) (d : FVec Ideal S256x512 .f32) (w : FVec Ideal S1x1x256x512 .f32) (r : Fin 256) (c : Fin 512) :
    k0_pay11 (F := Ideal) a d w (ix2 r c) = d (ix2 r c) + ∑ q : Fin 256, a (ix2 r q) * w (ix4 0 0 q c) := by
  pointwise! [k0_pay11]

theorem var256_apply (x : FVec Ideal S1024x4096 .bf16) (wg wu : FVec Ideal S1x1x4096x256 .f32) (wd : FVec Ideal S1x1x256x4096 .f32) (d : FVec Ideal S1024x4096 .f32)
    (r : Fin 1024) (hr : r.val < 256) (c : Fin 4096) :
    var256 (F := Ideal) x wg wu wd d (ix2 r c) = d (ix2 r c) + added x wg wu wd r c := by
  have e : ∀ (o : ℕ) (ho : o + 512 ≤ 4096) (inb inb') (i : Fin 256) (j : Fin 512) (r : Fin 1024) (c : Fin 4096), r.val = i.val → c.val = o + j.val →
      k0_pay11 (F := Ideal) (act256 x wg wu) (window d ![0, o] S256x512.size inb) (window wd ![0, 0, 0, o] S1x1x256x512.size inb') (ix2 i j)
        = d (ix2 r c) + added x wg wu wd r c := by
    intro o ho inb inb' i j r c hr hc
    rw [down256]
    refine congrArg₂ (· + ·) ((window2 d inb i j (by omega) (by omega)).trans ?_) (Finset.sum_congr rfl fun q _ => ?_)
    · exact congrArg d (congrArg₂ ix2 (Fin.ext (by show 0 + i.val = r.val; omega)) (Fin.ext hc.symm))
    · refine congrArg₂ (· * ·) (act256_apply x wg wu i r hr q) ((window4 wd inb' q j (by omega) (by omega)).trans ?_)
      exact congrArg wd (congrArg₂ (ix4 0 0) (Fin.ext (by show 0 + q.val = q.val; omega)) (Fin.ext hc.symm))
  unfold var256
  dsimp only
  rw [put2 (hw := e 3584 (by omega) _ _), put2 (hw := e 3072 (by omega) _ _), put2 (hw := e 2560 (by omega) _ _), put2 (hw := e 2048 (by omega) _ _),
    put2 (hw := e 1536 (by omega) _ _), put2 (hw := e 1024 (by omega) _ _), put2 (hw := e 512 (by omega) _ _), put2 (hw := e 0 (by omega) _ _)]
  have hc := c.isLt
  split_ifs <;> first | rfl | (exfalso; omega)

/-! ### The 512-row branch -/

theorem prod512 (x : FVec Ideal S512x1024 .bf16) (w : FVec Ideal S1x1x1024x256 .f32) (r : Fin 512) (q : Fin 256) :
    k0_pay24 (F := Ideal) x w (ix2 r q) = ∑ k : Fin 1024, x (ix2 r k) * w (ix4 0 0 k q) := by
  pointwise! [k0_pay24, k0_pay23]

theorem sumG512 (x0 x1 : FVec Ideal S512x1024 .bf16) (w0 w1 : FVec Ideal S1x1x1024x256 .f32) : k0_pay21 (F := Ideal) x0 w0 x1 w1 = addf (k0_pay24 x0 w0) (k0_pay24 x1 w1) := rfl

theorem sumU512 (x0 x1 : FVec Ideal S512x1024 .bf16) (w0 w1 : FVec Ideal S1x1x1024x256 .f32) : k0_pay22 (F := Ideal) x0 w0 x1 w1 = addf (k0_pay24 x0 w0) (k0_pay24 x1 w1) := rfl

theorem actEq512 (g u p : FVec Ideal S512x256 .f32) (x2 x3 : FVec Ideal S512x1024 .bf16) (wu2 wg3 wu3 : FVec Ideal S1x1x1024x256 .f32) (j : S512x256.Idx) :
    k0_pay25 (F := Ideal) g u (k0_pay23 x2) p wu2 x3 wg3 wu3 j = gated (g j + p j + k0_pay24 (F := Ideal) x3 wg3 j) (u j + k0_pay24 (F := Ideal) x2 wu2 j + k0_pay24 (F := Ideal) x3 wu3 j) := rfl

theorem act512_apply (x : FVec Ideal S1024x4096 .bf16) (wg wu : FVec Ideal S1x1x4096x256 .f32) (i : Fin 512) (r : Fin 1024) (hr : r.val = i.val) (q : Fin 256) :
    act512 (F := Ideal) x wg wu (ix2 i q) = gated (rowDot x wg r q) (rowDot x wu r q) := by
  have e : ∀ (w : FVec Ideal S1x1x4096x256 .f32) (o : ℕ) (ho : o + 1024 ≤ 4096) (inb inb'),
      k0_pay24 (F := Ideal) (window x ![0, o] S512x1024.size inb) (window w ![0, 0, o, 0] S1x1x1024x256.size inb') (ix2 i q)
        = ∑ k : Fin 1024, x (ix2 r ⟨o + k.val, by omega⟩) * w (ix4 0 0 ⟨o + k.val, by omega⟩ q) := by
    intro w o ho inb inb'
    rw [prod512]
    refine Finset.sum_congr rfl fun k _ => ?_
    refine congrArg₂ (· * ·) ((window2 x inb i k (by omega) (by omega)).trans ?_) ((window4 w inb' k q (by omega) (by omega)).trans ?_)
    · exact congrArg x (congrArg (fun t => ix2 t _) (Fin.ext (by show 0 + i.val = r.val; omega)))
    · exact congrArg w (congrArg (fun t => ix4 0 0 _ t) (Fin.ext (by show 0 + q.val = q.val; omega)))
  unfold act512 rowDot
  rw [actEq512, sumG512, sumU512, sum_quarters, sum_quarters]
  refine congrArg₂ gated ?_ ?_
  · show (k0_pay24 (F := Ideal) _ _ (ix2 i q) + k0_pay24 (F := Ideal) _ _ (ix2 i q)) + k0_pay24 (F := Ideal) _ _ (ix2 i q) + k0_pay24 (F := Ideal) _ _ (ix2 i q) = _
    rw [e wg 0 (by omega), e wg 1024 (by omega), e wg 2048 (by omega), e wg 3072 (by omega)]
  · show (k0_pay24 (F := Ideal) _ _ (ix2 i q) + k0_pay24 (F := Ideal) _ _ (ix2 i q)) + k0_pay24 (F := Ideal) _ _ (ix2 i q) + k0_pay24 (F := Ideal) _ _ (ix2 i q) = _
    rw [e wu 0 (by omega), e wu 1024 (by omega), e wu 2048 (by omega), e wu 3072 (by omega)]

theorem down512 (a : FVec Ideal S512x256 .bf16) (d : FVec Ideal S512x512 .f32) (w : FVec Ideal S1x1x256x512 .f32) (r : Fin 512) (c : Fin 512) :
    k0_pay29 (F := Ideal) a d w (ix2 r c) = d (ix2 r c) + ∑ q : Fin 256, a (ix2 r q) * w (ix4 0 0 q c) := by
  pointwise! [k0_pay29]

theorem var512_apply (x : FVec Ideal S1024x4096 .bf16) (wg wu : FVec Ideal S1x1x4096x256 .f32) (wd : FVec Ideal S1x1x256x4096 .f32) (d : FVec Ideal S1024x4096 .f32)
    (r : Fin 1024) (hr : r.val < 512) (c : Fin 4096) :
    var512 (F := Ideal) x wg wu wd d (ix2 r c) = d (ix2 r c) + added x wg wu wd r c := by
  have e : ∀ (o : ℕ) (ho : o + 512 ≤ 4096) (inb inb') (i : Fin 512) (j : Fin 512) (r : Fin 1024) (c : Fin 4096), r.val = i.val → c.val = o + j.val →
      k0_pay29 (F := Ideal) (act512 x wg wu) (window d ![0, o] S512x512.size inb) (window wd ![0, 0, 0, o] S1x1x256x512.size inb') (ix2 i j)
        = d (ix2 r c) + added x wg wu wd r c := by
    intro o ho inb inb' i j r c hr hc
    rw [down512]
    refine congrArg₂ (· + ·) ((window2 d inb i j (by omega) (by omega)).trans ?_) (Finset.sum_congr rfl fun q _ => ?_)
    · exact congrArg d (congrArg₂ ix2 (Fin.ext (by show 0 + i.val = r.val; omega)) (Fin.ext hc.symm))
    · refine congrArg₂ (· * ·) (act512_apply x wg wu i r hr q) ((window4 wd inb' q j (by omega) (by omega)).trans ?_)
      exact congrArg wd (congrArg₂ (ix4 0 0) (Fin.ext (by show 0 + q.val = q.val; omega)) (Fin.ext hc.symm))
  unfold var512
  dsimp only
  rw [put2 (hw := e 3584 (by omega) _ _), put2 (hw := e 3072 (by omega) _ _), put2 (hw := e 2560 (by omega) _ _), put2 (hw := e 2048 (by omega) _ _),
    put2 (hw := e 1536 (by omega) _ _), put2 (hw := e 1024 (by omega) _ _), put2 (hw := e 512 (by omega) _ _), put2 (hw := e 0 (by omega) _ _)]
  have hc := c.isLt
  split_ifs <;> first | rfl | (exfalso; omega)

/-! ### The 768-row branch -/

theorem prod768 (x : FVec Ideal S768x1024 .bf16) (w : FVec Ideal S1x1x1024x256 .f32) (r : Fin 768) (q : Fin 256) :
    k0_pay42 (F := Ideal) x w (ix2 r q) = ∑ k : Fin 1024, x (ix2 r k) * w (ix4 0 0 k q) := by
  pointwise! [k0_pay42, k0_pay41]

theorem sumG768 (x0 x1 : FVec Ideal S768x1024 .bf16) (w0 w1 : FVec Ideal S1x1x1024x256 .f32) : k0_pay39 (F := Ideal) x0 w0 x1 w1 = addf (k0_pay42 x0 w0) (k0_pay42 x1 w1) := rfl

theorem sumU768 (x0 x1 : FVec Ideal S768x1024 .bf16) (w0 w1 : FVec Ideal S1x1x1024x256 .f32) : k0_pay40 (F := Ideal) x0 w0 x1 w1 = addf (k0_pay42 x0 w0) (k0_pay42 x1 w1) := rfl

theorem actEq768 (g u p : FVec Ideal S768x256 .f32) (x2 x3 : FVec Ideal S768x1024 .bf16) (wu2 wg3 wu3 : FVec Ideal S1x1x1024x256 .f32) (j : S768x256.Idx) :
    k0_pay43 (F := Ideal) g u (k0_pay41 x2) p wu2 x3 wg3 wu3 j = gated (g j + p j + k0_pay42 (F := Ideal) x3 wg3 j) (u j + k0_pay42 (F := Ideal) x2 wu2 j + k0_pay42 (F := Ideal) x3 wu3 j) := rfl

theorem act768_apply (x : FVec Ideal S1024x4096 .bf16) (wg wu : FVec Ideal S1x1x4096x256 .f32) (i : Fin 768) (r : Fin 1024) (hr : r.val = i.val) (q : Fin 256) :
    act768 (F := Ideal) x wg wu (ix2 i q) = gated (rowDot x wg r q) (rowDot x wu r q) := by
  have e : ∀ (w : FVec Ideal S1x1x4096x256 .f32) (o : ℕ) (ho : o + 1024 ≤ 4096) (inb inb'),
      k0_pay42 (F := Ideal) (window x ![0, o] S768x1024.size inb) (window w ![0, 0, o, 0] S1x1x1024x256.size inb') (ix2 i q)
        = ∑ k : Fin 1024, x (ix2 r ⟨o + k.val, by omega⟩) * w (ix4 0 0 ⟨o + k.val, by omega⟩ q) := by
    intro w o ho inb inb'
    rw [prod768]
    refine Finset.sum_congr rfl fun k _ => ?_
    refine congrArg₂ (· * ·) ((window2 x inb i k (by omega) (by omega)).trans ?_) ((window4 w inb' k q (by omega) (by omega)).trans ?_)
    · exact congrArg x (congrArg (fun t => ix2 t _) (Fin.ext (by show 0 + i.val = r.val; omega)))
    · exact congrArg w (congrArg (fun t => ix4 0 0 _ t) (Fin.ext (by show 0 + q.val = q.val; omega)))
  unfold act768 rowDot
  rw [actEq768, sumG768, sumU768, sum_quarters, sum_quarters]
  refine congrArg₂ gated ?_ ?_
  · show (k0_pay42 (F := Ideal) _ _ (ix2 i q) + k0_pay42 (F := Ideal) _ _ (ix2 i q)) + k0_pay42 (F := Ideal) _ _ (ix2 i q) + k0_pay42 (F := Ideal) _ _ (ix2 i q) = _
    rw [e wg 0 (by omega), e wg 1024 (by omega), e wg 2048 (by omega), e wg 3072 (by omega)]
  · show (k0_pay42 (F := Ideal) _ _ (ix2 i q) + k0_pay42 (F := Ideal) _ _ (ix2 i q)) + k0_pay42 (F := Ideal) _ _ (ix2 i q) + k0_pay42 (F := Ideal) _ _ (ix2 i q) = _
    rw [e wu 0 (by omega), e wu 1024 (by omega), e wu 2048 (by omega), e wu 3072 (by omega)]

theorem down768 (a : FVec Ideal S768x256 .bf16) (d : FVec Ideal S768x512 .f32) (w : FVec Ideal S1x1x256x512 .f32) (r : Fin 768) (c : Fin 512) :
    k0_pay47 (F := Ideal) a d w (ix2 r c) = d (ix2 r c) + ∑ q : Fin 256, a (ix2 r q) * w (ix4 0 0 q c) := by
  pointwise! [k0_pay47]

theorem var768_apply (x : FVec Ideal S1024x4096 .bf16) (wg wu : FVec Ideal S1x1x4096x256 .f32) (wd : FVec Ideal S1x1x256x4096 .f32) (d : FVec Ideal S1024x4096 .f32)
    (r : Fin 1024) (hr : r.val < 768) (c : Fin 4096) :
    var768 (F := Ideal) x wg wu wd d (ix2 r c) = d (ix2 r c) + added x wg wu wd r c := by
  have e : ∀ (o : ℕ) (ho : o + 512 ≤ 4096) (inb inb') (i : Fin 768) (j : Fin 512) (r : Fin 1024) (c : Fin 4096), r.val = i.val → c.val = o + j.val →
      k0_pay47 (F := Ideal) (act768 x wg wu) (window d ![0, o] S768x512.size inb) (window wd ![0, 0, 0, o] S1x1x256x512.size inb') (ix2 i j)
        = d (ix2 r c) + added x wg wu wd r c := by
    intro o ho inb inb' i j r c hr hc
    rw [down768]
    refine congrArg₂ (· + ·) ((window2 d inb i j (by omega) (by omega)).trans ?_) (Finset.sum_congr rfl fun q _ => ?_)
    · exact congrArg d (congrArg₂ ix2 (Fin.ext (by show 0 + i.val = r.val; omega)) (Fin.ext hc.symm))
    · refine congrArg₂ (· * ·) (act768_apply x wg wu i r hr q) ((window4 wd inb' q j (by omega) (by omega)).trans ?_)
      exact congrArg wd (congrArg₂ (ix4 0 0) (Fin.ext (by show 0 + q.val = q.val; omega)) (Fin.ext hc.symm))
  unfold var768
  dsimp only
  rw [put2 (hw := e 3584 (by omega) _ _), put2 (hw := e 3072 (by omega) _ _), put2 (hw := e 2560 (by omega) _ _), put2 (hw := e 2048 (by omega) _ _),
    put2 (hw := e 1536 (by omega) _ _), put2 (hw := e 1024 (by omega) _ _), put2 (hw := e 512 (by omega) _ _), put2 (hw := e 0 (by omega) _ _)]
  have hc := c.isLt
  split_ifs <;> first | rfl | (exfalso; omega)

/-! ### The 1024-row branch -/

theorem prod1024 (x : FVec Ideal S1024x1024 .bf16) (w : FVec Ideal S1x1x1024x256 .f32) (r : Fin 1024) (q : Fin 256) :
    k0_pay60 (F := Ideal) x w (ix2 r q) = ∑ k : Fin 1024, x (ix2 r k) * w (ix4 0 0 k q) := by
  pointwise! [k0_pay60, k0_pay59]

theorem sumG1024 (x0 x1 : FVec Ideal S1024x1024 .bf16) (w0 w1 : FVec Ideal S1x1x1024x256 .f32) : k0_pay57 (F := Ideal) x0 w0 x1 w1 = addf (k0_pay60 x0 w0) (k0_pay60 x1 w1) := rfl

theorem sumU1024 (x0 x1 : FVec Ideal S1024x1024 .bf16) (w0 w1 : FVec Ideal S1x1x1024x256 .f32) : k0_pay58 (F := Ideal) x0 w0 x1 w1 = addf (k0_pay60 x0 w0) (k0_pay60 x1 w1) := rfl

theorem actEq1024 (g u p : FVec Ideal S1024x256 .f32) (x2 x3 : FVec Ideal S1024x1024 .bf16) (wu2 wg3 wu3 : FVec Ideal S1x1x1024x256 .f32) (j : S1024x256.Idx) :
    k0_pay61 (F := Ideal) g u (k0_pay59 x2) p wu2 x3 wg3 wu3 j = gated (g j + p j + k0_pay60 (F := Ideal) x3 wg3 j) (u j + k0_pay60 (F := Ideal) x2 wu2 j + k0_pay60 (F := Ideal) x3 wu3 j) := rfl

theorem act1024_apply (x : FVec Ideal S1024x4096 .bf16) (wg wu : FVec Ideal S1x1x4096x256 .f32) (i : Fin 1024) (r : Fin 1024) (hr : r.val = i.val) (q : Fin 256) :
    act1024 (F := Ideal) x wg wu (ix2 i q) = gated (rowDot x wg r q) (rowDot x wu r q) := by
  have e : ∀ (w : FVec Ideal S1x1x4096x256 .f32) (o : ℕ) (ho : o + 1024 ≤ 4096) (inb inb'),
      k0_pay60 (F := Ideal) (window x ![0, o] S1024x1024.size inb) (window w ![0, 0, o, 0] S1x1x1024x256.size inb') (ix2 i q)
        = ∑ k : Fin 1024, x (ix2 r ⟨o + k.val, by omega⟩) * w (ix4 0 0 ⟨o + k.val, by omega⟩ q) := by
    intro w o ho inb inb'
    rw [prod1024]
    refine Finset.sum_congr rfl fun k _ => ?_
    refine congrArg₂ (· * ·) ((window2 x inb i k (by omega) (by omega)).trans ?_) ((window4 w inb' k q (by omega) (by omega)).trans ?_)
    · exact congrArg x (congrArg (fun t => ix2 t _) (Fin.ext (by show 0 + i.val = r.val; omega)))
    · exact congrArg w (congrArg (fun t => ix4 0 0 _ t) (Fin.ext (by show 0 + q.val = q.val; omega)))
  unfold act1024 rowDot
  rw [actEq1024, sumG1024, sumU1024, sum_quarters, sum_quarters]
  refine congrArg₂ gated ?_ ?_
  · show (k0_pay60 (F := Ideal) _ _ (ix2 i q) + k0_pay60 (F := Ideal) _ _ (ix2 i q)) + k0_pay60 (F := Ideal) _ _ (ix2 i q) + k0_pay60 (F := Ideal) _ _ (ix2 i q) = _
    rw [e wg 0 (by omega), e wg 1024 (by omega), e wg 2048 (by omega), e wg 3072 (by omega)]
  · show (k0_pay60 (F := Ideal) _ _ (ix2 i q) + k0_pay60 (F := Ideal) _ _ (ix2 i q)) + k0_pay60 (F := Ideal) _ _ (ix2 i q) + k0_pay60 (F := Ideal) _ _ (ix2 i q) = _
    rw [e wu 0 (by omega), e wu 1024 (by omega), e wu 2048 (by omega), e wu 3072 (by omega)]

theorem down1024 (a : FVec Ideal S1024x256 .bf16) (d : FVec Ideal S1024x512 .f32) (w : FVec Ideal S1x1x256x512 .f32) (r : Fin 1024) (c : Fin 512) :
    k0_pay65 (F := Ideal) a d w (ix2 r c) = d (ix2 r c) + ∑ q : Fin 256, a (ix2 r q) * w (ix4 0 0 q c) := by
  pointwise! [k0_pay65]

theorem var1024_apply (x : FVec Ideal S1024x4096 .bf16) (wg wu : FVec Ideal S1x1x4096x256 .f32) (wd : FVec Ideal S1x1x256x4096 .f32) (d : FVec Ideal S1024x4096 .f32)
    (r : Fin 1024) (hr : r.val < 1024) (c : Fin 4096) :
    var1024 (F := Ideal) x wg wu wd d (ix2 r c) = d (ix2 r c) + added x wg wu wd r c := by
  have e : ∀ (o : ℕ) (ho : o + 512 ≤ 4096) (inb inb') (i : Fin 1024) (j : Fin 512) (r : Fin 1024) (c : Fin 4096), r.val = i.val → c.val = o + j.val →
      k0_pay65 (F := Ideal) (act1024 x wg wu) (window d ![0, o] S1024x512.size inb) (window wd ![0, 0, 0, o] S1x1x256x512.size inb') (ix2 i j)
        = d (ix2 r c) + added x wg wu wd r c := by
    intro o ho inb inb' i j r c hr hc
    rw [down1024]
    refine congrArg₂ (· + ·) ((window2 d inb i j (by omega) (by omega)).trans ?_) (Finset.sum_congr rfl fun q _ => ?_)
    · exact congrArg d (congrArg₂ ix2 (Fin.ext (by show 0 + i.val = r.val; omega)) (Fin.ext hc.symm))
    · refine congrArg₂ (· * ·) (act1024_apply x wg wu i r hr q) ((window4 wd inb' q j (by omega) (by omega)).trans ?_)
      exact congrArg wd (congrArg₂ (ix4 0 0) (Fin.ext (by show 0 + q.val = q.val; omega)) (Fin.ext hc.symm))
  unfold var1024
  dsimp only
  rw [put2 (hw := e 3584 (by omega) _ _), put2 (hw := e 3072 (by omega) _ _), put2 (hw := e 2560 (by omega) _ _), put2 (hw := e 2048 (by omega) _ _),
    put2 (hw := e 1536 (by omega) _ _), put2 (hw := e 1024 (by omega) _ _), put2 (hw := e 512 (by omega) _ _), put2 (hw := e 0 (by omega) _ _)]
  have hc := c.isLt
  split_ifs <;> first | rfl | (exfalso; omega)

end Cert.KernelIdeal.Hand

end
-- ==== Proof.KIStep.lean ====
/- Which branch of the feed-forward kernel runs for a row count, and one visit at an element. -/
module

public import proofs.«01_k».proof.Proof.KIAct

@[expose] public section

set_option maxRecDepth 16384

noncomputable section

namespace Cert.KernelIdeal.Hand

open Cert.KernelIdeal Cert.KernelIdeal.Gen
open Idealize.ShloMosaic

attribute [local instance] Cert.KernelIdeal.Gen.facts

/-- The branches' conditions for every row count up to 1024. -/
theorem conds : ∀ n : Fin 1025,
    k0_cond2 (BitVec.ofNat 32 n.val) = BitVec.ofBool (decide (0 < n.val ∧ n.val ≤ 256))
    ∧ k0_cond3 (BitVec.ofNat 32 n.val) = BitVec.ofBool (decide (256 < n.val ∧ n.val ≤ 512))
    ∧ k0_cond4 (BitVec.ofNat 32 n.val) = BitVec.ofBool (decide (512 < n.val ∧ n.val ≤ 768))
    ∧ k0_cond5 (BitVec.ofNat 32 n.val) = BitVec.ofBool (decide (768 < n.val ∧ n.val ≤ 1024)) := by
  decide +kernel

/-- A visit at a row in use: the output block's element, or zero at an item's first visit, and what the visit adds. -/
theorem step_apply (i : grid0.Coords) (n : BitVec 32) (hn : n.toNat ≤ 1024) (x : FVec Ideal S1024x4096 .bf16) (wg wu : FVec Ideal S1x1x4096x256 .f32)
    (wd : FVec Ideal S1x1x256x4096 .f32) (d : FVec Ideal S1024x4096 .f32) (r : Fin 1024) (hr : r.val < n.toNat) (c : Fin 4096) :
    step (F := Ideal) i n x wg wu wd d (ix2 r c) = (if k0_cond1 i = 1#1 then 0 else d (ix2 r c)) + added x wg wu wd r c := by
  have h := conds ⟨n.toNat, by omega⟩
  simp only [BitVec.ofNat_toNat, BitVec.setWidth_eq] at h
  obtain ⟨h2, h3, h4, h5⟩ := h
  have hz : ∀ d1 : FVec Ideal S1024x4096 .f32, d1 = (if k0_cond1 i = 1#1 then k0_pay73 else d) →
      d1 (ix2 r c) = (if k0_cond1 i = 1#1 then 0 else d (ix2 r c)) := by
    rintro _ rfl
    split
    · pointwise [k0_pay73]
    · rfl
  have hT : BitVec.ofBool true = 1#1 := rfl
  have hF : BitVec.ofBool false ≠ 1#1 := by decide
  unfold step
  by_cases c2 : n.toNat ≤ 256
  · rw [decide_eq_true (show 0 < n.toNat ∧ n.toNat ≤ 256 by omega)] at h2
    rw [decide_eq_false (by omega)] at h3 h4 h5
    rw [h2, h3, h4, h5, if_neg hF, if_neg hF, if_neg hF, if_pos hT, var256_apply _ _ _ _ _ r (by omega), hz _ rfl]
  · by_cases c3 : n.toNat ≤ 512
    · rw [decide_eq_true (show 256 < n.toNat ∧ n.toNat ≤ 512 by omega)] at h3
      rw [decide_eq_false (by omega)] at h2 h4 h5
      rw [h2, h3, h4, h5, if_neg hF, if_neg hF, if_pos hT, var512_apply _ _ _ _ _ r (by omega), if_neg hF, hz _ rfl]
    · by_cases c4 : n.toNat ≤ 768
      · rw [decide_eq_true (show 512 < n.toNat ∧ n.toNat ≤ 768 by omega)] at h4
        rw [decide_eq_false (by omega)] at h2 h3 h5
        rw [h2, h3, h4, h5, if_neg hF, if_pos hT, var768_apply _ _ _ _ _ r (by omega), if_neg hF, if_neg hF, hz _ rfl]
      · rw [decide_eq_true (show 768 < n.toNat ∧ n.toNat ≤ 1024 by omega)] at h5
        rw [decide_eq_false (by omega)] at h2 h3 h4
        rw [h2, h3, h4, h5, if_pos hT, var1024_apply _ _ _ _ _ r (by omega), if_neg hF, if_neg hF, if_neg hF, hz _ rfl]

end Cert.KernelIdeal.Hand

end
-- ==== Proof.KIValue.lean ====
/- The kernel's result array at the extended reals, at a row in use. -/
module

public import proofs.«01_k».proof.Proof.KIStep
public import proofs.«01_k».proof.Proof.KIFrame

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

attribute [local instance] Cert.KernelIdeal.Gen.facts

/-! ## The layer's arithmetic, from the four arrays -/

/-- Hidden unit `j` of expert `e` at row `r`, times its weight towards column `c`. -/
def unit (x : FVec Ideal S19456x4096 .bf16) (wg wu : FVec Ideal S1x8x4096x14336 .f32) (wd : FVec Ideal S1x8x14336x4096 .f32)
    (e : Fin 8) (r : Fin 19456) (c : Fin 4096) (j : Fin 14336) : EReal :=
  gated (∑ k : Fin 4096, x (ix2 r k) * wg (ix4 0 e k j)) (∑ k : Fin 4096, x (ix2 r k) * wu (ix4 0 e k j)) * wd (ix4 0 e j c)

/-- Expert `e`'s feed-forward of row `r`, column `c`. -/
def expert (x : FVec Ideal S19456x4096 .bf16) (wg wu : FVec Ideal S1x8x4096x14336 .f32) (wd : FVec Ideal S1x8x14336x4096 .f32)
    (e : Fin 8) (r : Fin 19456) (c : Fin 4096) : EReal := ∑ j : Fin 14336, unit x wg wu wd e r c j

/-- A sum over 14336 in 56 runs of 256. -/
theorem sum_runs (f : Fin 14336 → EReal) :
    ∑ i ∈ Finset.range 56, ∑ q : Fin 256, (if h : i * 256 + q.val < 14336 then f ⟨i * 256 + q.val, h⟩ else 0) = ∑ j : Fin 14336, f j := by
  rw [Finset.sum_range, ← Fintype.sum_prod_type']
  refine Fintype.sum_equiv (finProdFinEquiv (m := 56) (n := 256)) _ (fun j : Fin 14336 => f j) ?_
  rintro ⟨i, q⟩
  have hb : i.val * 256 + q.val < 14336 := by omega
  show (if h : i.val * 256 + q.val < 14336 then f ⟨i.val * 256 + q.val, h⟩ else 0) = f _
  rw [dif_pos hb]
  congr 1
  apply Fin.ext
  show i.val * 256 + q.val = q.val + 256 * i.val
  omega

variable (m : (ℓ : Loc nD τ sig) → Buf (Elt Ideal) ℓ) (ρ : Dev nD → PrngReg) (h : Tables m)

/-! ## The staged blocks, at an element -/

theorem index_0 (t : Fin grid0.N) : ((cfgA m h).win (0 : Fin 5)).index t = ![t.val / 56, 0] := by
  have e : ((cfgA m h).win (0 : Fin 5)).index t = ![(tabAt (pf m 1) (grid0.coords t) : BitVec 32).toNat, 0] := tr0 _ _
  have e2 : (tabAt (pf m 1) (grid0.coords t) : BitVec 32).toNat = t.val / 56 := by
    have hi : (grid0.coords t 0).val < 19 := (grid0.coords t 0).isLt
    show (BitVec.ofNat 32 (grid0.coords t 0).val).toNat = _
    rw [BitVec.toNat_ofNat, Nat.mod_eq_of_lt (by omega), coords_0]
  rw [e, e2]

/-- The expert of the item at position `t`. -/
def ex (t : Fin grid0.N) : Fin 8 := ⟨(tabAt (F := Ideal) (ie m) (grid0.coords t) : BitVec 32).toNat, h _⟩

/-- At a position of an item with rows, the weight block is the position's own. -/
theorem fIdx_eq (n : BitVec 32) (hn : n.toNat ≤ 1024) (hp : 0 < n.toNat) (i : grid0.Coords) : (fIdx n i).toNat = (i 1).val := by
  have hi : (i 1).val < 56 := (i 1).isLt
  have hs : Scalar.cmpi .sgt n 0#32 = 1#1 := by
    have := (show ∀ n : Fin 1025, 0 < n.val → Scalar.cmpi .sgt (BitVec.ofNat 32 n.val) 0#32 = 1#1 by decide +kernel) ⟨n.toNat, by omega⟩ hp
    simpa only [BitVec.ofNat_toNat, BitVec.setWidth_eq] using this
  unfold fIdx
  rw [hs]
  show (BitVec.ofNat 32 (i 1).val).toNat = _
  rw [BitVec.toNat_ofNat, Nat.mod_eq_of_lt (by omega)]

section At
variable (t : Fin grid0.N) (hn : (tabAt (F := Ideal) (nv m) (grid0.coords t) : BitVec 32).toNat ≤ 1024)
  (hp : 0 < (tabAt (F := Ideal) (nv m) (grid0.coords t) : BitVec 32).toNat)
include hn hp

theorem index_1 : ((cfgA m h).win (1 : Fin 5)).index t = ![0, (ex m h t).val, 0, t.val % 56] := by
  have e : ((cfgA m h).win (1 : Fin 5)).index t = ![0, (tabAt (pf m 0) (grid0.coords t) : BitVec 32).toNat, 0, (fIdx (tabAt (pf m 2) (grid0.coords t)) (grid0.coords t)).toNat] := tr1 _ _
  have e2 : (fIdx (tabAt (pf m 2) (grid0.coords t)) (grid0.coords t)).toNat = t.val % 56 := (fIdx_eq _ hn hp _).trans (coords_1 t)
  rw [e, e2]; rfl

theorem index_2 : ((cfgA m h).win (2 : Fin 5)).index t = ![0, (ex m h t).val, 0, t.val % 56] := by
  have e : ((cfgA m h).win (2 : Fin 5)).index t = ![0, (tabAt (pf m 0) (grid0.coords t) : BitVec 32).toNat, 0, (fIdx (tabAt (pf m 2) (grid0.coords t)) (grid0.coords t)).toNat] := tr2 _ _
  have e2 : (fIdx (tabAt (pf m 2) (grid0.coords t)) (grid0.coords t)).toNat = t.val % 56 := (fIdx_eq _ hn hp _).trans (coords_1 t)
  rw [e, e2]; rfl

theorem index_3 : ((cfgA m h).win (3 : Fin 5)).index t = ![0, (ex m h t).val, t.val % 56, 0] := by
  have e : ((cfgA m h).win (3 : Fin 5)).index t = ![0, (tabAt (pf m 0) (grid0.coords t) : BitVec 32).toNat, (fIdx (tabAt (pf m 2) (grid0.coords t)) (grid0.coords t)).toNat, 0] := tr3 _ _
  have e2 : (fIdx (tabAt (pf m 2) (grid0.coords t)) (grid0.coords t)).toNat = t.val % 56 := (fIdx_eq _ hn hp _).trans (coords_1 t)
  rw [e, e2]; rfl

end At

theorem lt_N (t : Fin grid0.N) : t.val < 1064 := Nat.lt_of_lt_of_eq t.isLt N_0

theorem rd0 (c : Dev nD) (t : Fin grid0.N) (r : Fin 1024) (k : Fin 4096) :
    (iblk m h c 0 t : FVec Ideal S1024x4096 .bf16) (ix2 r k)
      = rows m c (ix2 ⟨t.val / 56 * 1024 + r.val, by have := lt_N t; omega⟩ k) := by
  have hi := index_0 m h t
  unfold iblk
  rw [View.read_apply]
  show V m c main_v79 _ = _
  rw [← rows_eq]
  congr 1; funext a; apply Fin.ext
  match a with
  | ⟨0, _⟩ =>
    show ((cfgA m h).win (0 : Fin 5)).index t (0 : Fin 2) * 1024 + 1 * r.val = _
    rw [hi]; show t.val / 56 * 1024 + 1 * r.val = t.val / 56 * 1024 + r.val; omega
  | ⟨1, _⟩ =>
    show ((cfgA m h).win (0 : Fin 5)).index t (1 : Fin 2) * 4096 + 1 * k.val = _
    rw [hi]; show 0 * 4096 + 1 * k.val = k.val; omega

section At
variable (c : Dev nD) (t : Fin grid0.N) (hn : (tabAt (F := Ideal) (nv m) (grid0.coords t) : BitVec 32).toNat ≤ 1024)
  (hp : 0 < (tabAt (F := Ideal) (nv m) (grid0.coords t) : BitVec 32).toNat)
include hn hp

theorem rd1 (k : Fin 4096) (q : Fin 256) (hb : t.val % 56 * 256 + q.val < 14336) :
    (iblk m h c 1 t : FVec Ideal S1x1x4096x256 .f32) (ix4 0 0 k q)
      = (m ((c.tc : Thread nD τ).loc main_arg2) : FVec Ideal S1x8x4096x14336 .f32) (ix4 0 (ex m h t) k ⟨t.val % 56 * 256 + q.val, hb⟩) := by
  have hi := index_1 m h t hn hp
  unfold iblk
  rw [View.read_apply]
  show V m c main_arg2 _ = _
  rw [V_arg2 m c]
  congr 1; funext a; apply Fin.ext
  match a with
  | ⟨0, _⟩ =>
    show ((cfgA m h).win (1 : Fin 5)).index t (0 : Fin 4) * 1 + 1 * 0 = 0
    rw [hi]; rfl
  | ⟨1, _⟩ =>
    show ((cfgA m h).win (1 : Fin 5)).index t (1 : Fin 4) * 1 + 1 * 0 = (ex m h t).val
    rw [hi]; show (ex m h t).val * 1 + 1 * 0 = _; omega
  | ⟨2, _⟩ =>
    show ((cfgA m h).win (1 : Fin 5)).index t (2 : Fin 4) * 4096 + 1 * k.val = k.val
    rw [hi]; show 0 * 4096 + 1 * k.val = k.val; omega
  | ⟨3, _⟩ =>
    show ((cfgA m h).win (1 : Fin 5)).index t (3 : Fin 4) * 256 + 1 * q.val = t.val % 56 * 256 + q.val
    rw [hi]; show t.val % 56 * 256 + 1 * q.val = _; omega

theorem rd2 (k : Fin 4096) (q : Fin 256) (hb : t.val % 56 * 256 + q.val < 14336) :
    (iblk m h c 2 t : FVec Ideal S1x1x4096x256 .f32) (ix4 0 0 k q)
      = (m ((c.tc : Thread nD τ).loc main_arg3) : FVec Ideal S1x8x4096x14336 .f32) (ix4 0 (ex m h t) k ⟨t.val % 56 * 256 + q.val, hb⟩) := by
  have hi := index_2 m h t hn hp
  unfold iblk
  rw [View.read_apply]
  show V m c main_arg3 _ = _
  rw [V_arg3 m c]
  congr 1; funext a; apply Fin.ext
  match a with
  | ⟨0, _⟩ =>
    show ((cfgA m h).win (2 : Fin 5)).index t (0 : Fin 4) * 1 + 1 * 0 = 0
    rw [hi]; rfl
  | ⟨1, _⟩ =>
    show ((cfgA m h).win (2 : Fin 5)).index t (1 : Fin 4) * 1 + 1 * 0 = (ex m h t).val
    rw [hi]; show (ex m h t).val * 1 + 1 * 0 = _; omega
  | ⟨2, _⟩ =>
    show ((cfgA m h).win (2 : Fin 5)).index t (2 : Fin 4) * 4096 + 1 * k.val = k.val
    rw [hi]; show 0 * 4096 + 1 * k.val = k.val; omega
  | ⟨3, _⟩ =>
    show ((cfgA m h).win (2 : Fin 5)).index t (3 : Fin 4) * 256 + 1 * q.val = t.val % 56 * 256 + q.val
    rw [hi]; show t.val % 56 * 256 + 1 * q.val = _; omega

theorem rd3 (q : Fin 256) (cc : Fin 4096) (hb : t.val % 56 * 256 + q.val < 14336) :
    (iblk m h c 3 t : FVec Ideal S1x1x256x4096 .f32) (ix4 0 0 q cc)
      = (m ((c.tc : Thread nD τ).loc main_arg4) : FVec Ideal S1x8x14336x4096 .f32) (ix4 0 (ex m h t) ⟨t.val % 56 * 256 + q.val, hb⟩ cc) := by
  have hi := index_3 m h t hn hp
  unfold iblk
  rw [View.read_apply]
  show V m c main_arg4 _ = _
  rw [V_arg4 m c]
  congr 1; funext a; apply Fin.ext
  match a with
  | ⟨0, _⟩ =>
    show ((cfgA m h).win (3 : Fin 5)).index t (0 : Fin 4) * 1 + 1 * 0 = 0
    rw [hi]; rfl
  | ⟨1, _⟩ =>
    show ((cfgA m h).win (3 : Fin 5)).index t (1 : Fin 4) * 1 + 1 * 0 = (ex m h t).val
    rw [hi]; show (ex m h t).val * 1 + 1 * 0 = _; omega
  | ⟨2, _⟩ =>
    show ((cfgA m h).win (3 : Fin 5)).index t (2 : Fin 4) * 256 + 1 * q.val = t.val % 56 * 256 + q.val
    rw [hi]; show t.val % 56 * 256 + 1 * q.val = _; omega
  | ⟨3, _⟩ =>
    show ((cfgA m h).win (3 : Fin 5)).index t (3 : Fin 4) * 4096 + 1 * cc.val = cc.val
    rw [hi]; show 0 * 4096 + 1 * cc.val = cc.val; omega

/-- What the visit at `t` adds, from the arrays. -/
theorem added_eq (r : Fin 1024) (cc : Fin 4096) (R : Fin 19456) (hR : R.val = t.val / 56 * 1024 + r.val) :
    added (iblk m h c 0 t) (iblk m h c 1 t) (iblk m h c 2 t) (iblk m h c 3 t) r cc
      = ∑ q : Fin 256, (if hb : t.val % 56 * 256 + q.val < 14336 then
          unit (rows m c) (m ((c.tc : Thread nD τ).loc main_arg2)) (m ((c.tc : Thread nD τ).loc main_arg3))
            (m ((c.tc : Thread nD τ).loc main_arg4)) (ex m h t) R cc ⟨t.val % 56 * 256 + q.val, hb⟩ else 0) := by
  unfold added
  refine Finset.sum_congr rfl fun q _ => ?_
  have hb : t.val % 56 * 256 + q.val < 14336 := by omega
  have eR : R = ⟨t.val / 56 * 1024 + r.val, by have := lt_N t; omega⟩ := Fin.ext hR
  rw [dif_pos hb, rd3 m h c t hn hp q cc hb]
  unfold unit rowDot
  rw [eR]
  refine congrArg (· * _) (congrArg₂ gated ?_ ?_)
  · exact Finset.sum_congr rfl fun k _ => congrArg₂ (· * ·) (rd0 m h c t r k) (rd1 m h c t hn hp k q hb)
  · exact Finset.sum_congr rfl fun k _ => congrArg₂ (· * ·) (rd0 m h c t r k) (rd2 m h c t hn hp k q hb)

end At

end Cert.KernelIdeal.Hand

end
-- ==== Proof.KIRun.lean ====
/- The kernel's run at the extended reals: the result array at a row in use is the row's expert's feed-forward. -/
module

public import proofs.«01_k».proof.Proof.KIValue

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

attribute [local instance] Cert.KernelIdeal.Gen.facts

variable (m : (ℓ : Loc nD τ sig) → Buf (Elt Ideal) ℓ) (ρ : Dev nD → PrngReg) (h : Tables m)

/-- A table at a position is its entry of the position's item. -/
theorem tab_eq (T : S19.Idx → BitVec 32) (t : Fin grid0.N) (j : S19.Idx) (hj : t.val / 56 = (j 0).val) :
    (tabAt (F := Ideal) T (grid0.coords t) : BitVec 32) = T j := by
  unfold tabAt
  congr 1; funext a
  match a with
  | ⟨0, _⟩ => exact Fin.ext ((coords_0 t).trans hj)

/-- What the visits of an item add, from the arrays: the sum of the first `n` blocks of the hidden units. -/
def partialSum (c : Dev nD) (e : Fin 8) (R : Fin 19456) (cc : Fin 4096) (n : ℕ) : EReal :=
  ∑ i ∈ Finset.range n, ∑ q : Fin 256, (if hb : i * 256 + q.val < 14336 then
    unit (rows m c) (m ((c.tc : Thread nD τ).loc main_arg2)) (m ((c.tc : Thread nD τ).loc main_arg3))
      (m ((c.tc : Thread nD τ).loc main_arg4)) e R cc ⟨i * 256 + q.val, hb⟩ else 0)

section Item
variable (c : Dev nD) (j : S19.Idx) (hn : (nv m j : BitVec 32).toNat ≤ 1024) (r : Fin 1024) (hr : r.val < (nv m j : BitVec 32).toNat)
  (cc : Fin 4096) (R : Fin 19456) (hR : R.val = (j 0).val * 1024 + r.val)
include hn hr hR

/-- One visit of the item, at a row in use. -/
theorem visit (t : Fin grid0.N) (hj : t.val / 56 = (j 0).val) (d : FVec Ideal S1024x4096 .f32) :
    step (F := Ideal) (grid0.coords t) (tabAt (F := Ideal) (nv m) (grid0.coords t)) (iblk m h c 0 t) (iblk m h c 1 t) (iblk m h c 2 t) (iblk m h c 3 t) d (ix2 r cc)
      = (if t.val % 56 = 0 then 0 else d (ix2 r cc)) + ∑ q : Fin 256, (if hb : t.val % 56 * 256 + q.val < 14336 then
          unit (rows m c) (m ((c.tc : Thread nD τ).loc main_arg2)) (m ((c.tc : Thread nD τ).loc main_arg3))
            (m ((c.tc : Thread nD τ).loc main_arg4)) ⟨(ie m j : BitVec 32).toNat, h j⟩ R cc ⟨t.val % 56 * 256 + q.val, hb⟩ else 0) := by
  have et := tab_eq (nv m) t j hj
  have ee : ex m h t = ⟨(ie m j : BitVec 32).toNat, h j⟩ := Fin.ext (by show (tabAt (F := Ideal) (ie m) (grid0.coords t) : BitVec 32).toNat = _; rw [tab_eq (ie m) t j hj])
  have hc : (k0_cond1 (grid0.coords t) = 1#1) = (t.val % 56 = 0) := propext ((cond1_iff _).trans (by rw [coords_1]))
  refine (step_apply (grid0.coords t) _ (by rw [et]; exact hn) _ _ _ _ d r (by rw [et]; exact hr) cc).trans ?_
  rw [added_eq m h c t (by rw [et]; exact hn) (by rw [et]; omega) r cc R (by rw [hj]; exact hR), ee]
  simp only [hc]

/-- The output block during an item, at a row in use. -/
theorem acc_run : ∀ (f : ℕ), f < 56 → ∀ (ht : (j 0).val * 56 + f < grid0.N),
    acc m h c ((j 0).val * 56 + f) ht (ix2 r cc) = partialSum m c ⟨(ie m j : BitVec 32).toNat, h j⟩ R cc (f + 1)
  | 0, hf, ht => by
    have hv := visit m h c j hn r hr cc R hR ⟨(j 0).val * 56 + 0, ht⟩ (show ((j 0).val * 56 + 0) / 56 = (j 0).val by omega) (k0_pay73 (F := Ideal))
    have h0 : ((j 0).val * 56 + 0) % 56 = 0 := by omega
    rw [acc_first m h c ⟨(j 0).val * 56 + 0, ht⟩ h0 (k0_pay73 (F := Ideal))]
    refine hv.trans ?_
    simp only [h0, if_pos]
    unfold partialSum
    rw [Finset.sum_range_succ, Finset.sum_range_zero]
  | f + 1, hf, ht => by
    have hv := visit m h c j hn r hr cc R hR ⟨(j 0).val * 56 + (f + 1), ht⟩ (show ((j 0).val * 56 + (f + 1)) / 56 = (j 0).val by omega)
      (acc m h c ((j 0).val * 56 + f) (by omega))
    have h0 : ((j 0).val * 56 + (f + 1)) % 56 = f + 1 := by omega
    have ha := acc_succ m h c ⟨(j 0).val * 56 + (f + 1), ht⟩ (by show (j 0).val * 56 + (f + 1) ≠ 0; omega)
    refine (congrFun ha _).trans (hv.trans ?_)
    simp only [h0]
    rw [if_neg (Nat.succ_ne_zero f), acc_run f (by omega) (by omega)]
    unfold partialSum
    rw [Finset.sum_range_succ _ (f + 1)]

/-- The output block an item leaves, at a row in use. -/
theorem acc_final (ht : (j 0).val * 56 + 55 < grid0.N) :
    acc m h c ((j 0).val * 56 + 55) ht (ix2 r cc)
      = expert (rows m c) (m ((c.tc : Thread nD τ).loc main_arg2)) (m ((c.tc : Thread nD τ).loc main_arg3))
          (m ((c.tc : Thread nD τ).loc main_arg4)) ⟨(ie m j : BitVec 32).toNat, h j⟩ R cc :=
  (acc_run m h c j hn r hr cc R hR 55 (by omega) ht).trans (sum_runs (fun q => unit _ _ _ _ _ R cc q))

end Item

/-! ## The result array -/

/-- The result array: each item's rows as its last visit leaves them. -/
def result (c : Dev nD) : S19456x4096.Idx → EReal := fun i =>
  acc m h c ((i 0).val / 1024 * 56 + 55)
    (by have hi : (i 0).val < 19456 := (i 0).isLt; have hN := N_0; omega)
    (ix2 ⟨(i 0).val % 1024, Nat.mod_lt _ (by decide)⟩ (i 1))

theorem acc_congr (c : Dev nD) {n n' : ℕ} (e : n = n') (hn hn') {p p' : S1024x4096.Idx} (e' : p = p') :
    acc m h c n hn p = acc m h c n' hn' p' := by subst e; subst e'; rfl

theorem flushed_eq (c : Dev nD) (t : Fin grid0.N) (hf : ((cfgA m h).win (4 : Fin 5)).flush t = true) :
    (dats m h 0 c).flushed (4 : Fin 5) t = (((cfgA m h).win (4 : Fin 5)).blk t).view.read (Elt Ideal) (result m h c) := by
  have h55 : t.val % 56 = 55 := by
    have := (flush_4 m h t).symm.trans hf
    simpa using this
  have hi0 : ((cfgA m h).win (4 : Fin 5)).index t (0 : Fin 2) = t.val / 56 := index_4 m h t 0
  have hi1 : ((cfgA m h).win (4 : Fin 5)).index t (1 : Fin 2) = 0 := index_4 m h t 1
  funext y
  rw [View.read_apply]
  have hy0 : (y (0 : Fin 2)).val < 1024 := (y (0 : Fin 2)).isLt
  refine (congrFun (after_4 m h c t) y).trans ?_
  unfold result
  have e0 : ((((cfgA m h).win (4 : Fin 5)).blk t).view.emb y (0 : Fin 2)).val = t.val / 56 * 1024 + (y (0 : Fin 2)).val := by
    show ((cfgA m h).win (4 : Fin 5)).index t (0 : Fin 2) * 1024 + 1 * (y (0 : Fin 2)).val = _
    rw [hi0]; omega
  have e1 : ((((cfgA m h).win (4 : Fin 5)).blk t).view.emb y (1 : Fin 2)).val = (y (1 : Fin 2)).val := by
    show ((cfgA m h).win (4 : Fin 5)).index t (1 : Fin 2) * 4096 + 1 * (y (1 : Fin 2)).val = _
    rw [hi1]; omega
  refine acc_congr m h c ?_ _ _ ?_
  · rw [e0]; omega
  · funext a; apply Fin.ext
    match a with
    | ⟨0, _⟩ => show (y (0 : Fin 2)).val = _ % 1024; rw [e0]; omega
    | ⟨1, _⟩ => exact e1.symm

theorem final_o (c : Dev nD) : (dats m h 0 c).arrAt (4 : Fin 5) grid0.N = result m h c :=
  (dats m h 0 c).arrAt_eq_of_cover (4 : Fin 5) (result m h c) (flushed_eq m h c) fun i => by
    have hi0 : (i (0 : Fin 2)).val < 19456 := (i (0 : Fin 2)).isLt
    have hi1 : (i (1 : Fin 2)).val < 4096 := (i (1 : Fin 2)).isLt
    have hN := N_0
    have ht : (i (0 : Fin 2)).val / 1024 * 56 + 55 < grid0.N := by omega
    refine ⟨⟨(i (0 : Fin 2)).val / 1024 * 56 + 55, ht⟩, (flush_4 m h _).trans (decide_eq_true (by show ((i (0 : Fin 2)).val / 1024 * 56 + 55) % 56 = 55; omega)), ?_⟩
    have hx0 := index_4 m h ⟨(i (0 : Fin 2)).val / 1024 * 56 + 55, ht⟩ 0
    have hx1 := index_4 m h ⟨(i (0 : Fin 2)).val / 1024 * 56 + 55, ht⟩ 1
    show i ∈ ((View.whole main_v80).slice (((cfgA m h).win (4 : Fin 5)).rect ⟨(i (0 : Fin 2)).val / 1024 * 56 + 55, ht⟩)).set
    rw [View.set_slice_whole, Rect.mem_set_unit]
    intro a
    match a with
    | ⟨0, _⟩ =>
      show ((cfgA m h).win (4 : Fin 5)).index _ (0 : Fin 2) * 1024 ≤ (i (0 : Fin 2)).val ∧ (i (0 : Fin 2)).val < ((cfgA m h).win (4 : Fin 5)).index _ (0 : Fin 2) * 1024 + 1024
      rw [hx0]
      show ((i (0 : Fin 2)).val / 1024 * 56 + 55) / 56 * 1024 ≤ _ ∧ _ < ((i (0 : Fin 2)).val / 1024 * 56 + 55) / 56 * 1024 + 1024
      omega
    | ⟨1, _⟩ =>
      show ((cfgA m h).win (4 : Fin 5)).index _ (1 : Fin 2) * 4096 ≤ (i (1 : Fin 2)).val ∧ (i (1 : Fin 2)).val < ((cfgA m h).win (4 : Fin 5)).index _ (1 : Fin 2) * 4096 + 4096
      rw [hx1]
      show 0 * 4096 ≤ _ ∧ _ < 0 * 4096 + 4096
      omega

/-- At a row in use the result array is the row's expert's feed-forward. -/
theorem result_apply (c : Dev nD) (i : S19456x4096.Idx) (j : S19.Idx) (hj : (j 0).val = (i 0).val / 1024)
    (hn : (nv m j : BitVec 32).toNat ≤ 1024) (hr : (i 0).val % 1024 < (nv m j : BitVec 32).toNat) :
    result m h c i = expert (rows m c) (m ((c.tc : Thread nD τ).loc main_arg2)) (m ((c.tc : Thread nD τ).loc main_arg3))
          (m ((c.tc : Thread nD τ).loc main_arg4)) ⟨(ie m j : BitVec 32).toNat, h j⟩ (i 0) (i 1) := by
  have hi : (i 0).val < 19456 := (i 0).isLt
  have hN := N_0
  refine Eq.trans ?_ (acc_final m h c j hn ⟨(i 0).val % 1024, Nat.mod_lt _ (by decide)⟩ hr (i 1) (i 0)
    (show (i 0).val = (j 0).val * 1024 + (i 0).val % 1024 by rw [hj]; omega) (by rw [hj]; omega))
  exact acc_congr m h c (by rw [hj]) _ _ rfl

end Cert.KernelIdeal.Hand

end
-- ==== Proof.KIDispatch.lean ====
/- The integers of the dispatch, as the host computes them: each buffer from the buffers it is computed from. -/
module

public import proofs.«01_k».proof.Proof.KIHost
public import Idealize.ShloMosaic.Lib.Routing.Words
public import Idealize.ShloMosaic.Lib.Routing.OpsSearch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Routing Idealize.ShloMosaic.ValueIdx

variable {F : FTy → Type} [FloatOps F]

variable (m : (ℓ : Loc nD τ sig) → Buf (Elt F) ℓ) (c : Dev nD)

/-- The region's entry, from the operations of part 1 on. -/
theorem from1 : ∃ U : Valuation τ sig (Elt F), V0 m c = StableHlo.after ([hostOps0_1, hostOps0_2, hostOps0_3, hostOps0_4, hostOps0_5, hostOps0_6, hostOps0_7, hostOps0_8, hostOps0_9, hostOps0_10, hostOps0_11] : List (List (HloOp τ sig (Elt F)))).flatten U :=
  ⟨StableHlo.after ([hostOps0] : List (List (HloOp τ sig (Elt F)))).flatten fun b => m (c, b), by rw [← StableHlo.after_append]; rfl⟩

/-- The region's entry, from the operations of part 3 on. -/
theorem from3 : ∃ U : Valuation τ sig (Elt F), V0 m c = StableHlo.after ([hostOps0_3, hostOps0_4, hostOps0_5, hostOps0_6, hostOps0_7, hostOps0_8, hostOps0_9, hostOps0_10, hostOps0_11] : List (List (HloOp τ sig (Elt F)))).flatten U :=
  ⟨StableHlo.after ([hostOps0, hostOps0_1, hostOps0_2] : List (List (HloOp τ sig (Elt F)))).flatten fun b => m (c, b), by rw [← StableHlo.after_append]; rfl⟩

/-- The region's entry, from the operations of part 4 on. -/
theorem from4 : ∃ U : Valuation τ sig (Elt F), V0 m c = StableHlo.after ([hostOps0_4, hostOps0_5, hostOps0_6, hostOps0_7, hostOps0_8, hostOps0_9, hostOps0_10, hostOps0_11] : List (List (HloOp τ sig (Elt F)))).flatten U :=
  ⟨StableHlo.after ([hostOps0, hostOps0_1, hostOps0_2, hostOps0_3] : List (List (HloOp τ sig (Elt F)))).flatten fun b => m (c, b), by rw [← StableHlo.after_append]; rfl⟩

/-- The region's entry, from the operations of part 6 on. -/
theorem from6 : ∃ U : Valuation τ sig (Elt F), V0 m c = StableHlo.after ([hostOps0_6, hostOps0_7, hostOps0_8, hostOps0_9, hostOps0_10, hostOps0_11] : List (List (HloOp τ sig (Elt F)))).flatten U :=
  ⟨StableHlo.after ([hostOps0, hostOps0_1, hostOps0_2, hostOps0_3, hostOps0_4, hostOps0_5] : List (List (HloOp τ sig (Elt F)))).flatten fun b => m (c, b), by rw [← StableHlo.after_append]; rfl⟩

/-- The region's entry, from the operations of part 8 on. -/
theorem from8 : ∃ U : Valuation τ sig (Elt F), V0 m c = StableHlo.after ([hostOps0_8, hostOps0_9, hostOps0_10, hostOps0_11] : List (List (HloOp τ sig (Elt F)))).flatten U :=
  ⟨StableHlo.after ([hostOps0, hostOps0_1, hostOps0_2, hostOps0_3, hostOps0_4, hostOps0_5, hostOps0_6, hostOps0_7] : List (List (HloOp τ sig (Elt F)))).flatten fun b => m (c, b), by rw [← StableHlo.after_append]; rfl⟩

/-- The region's entry, from the operations of part 10 on. -/
theorem from10 : ∃ U : Valuation τ sig (Elt F), V0 m c = StableHlo.after ([hostOps0_10, hostOps0_11] : List (List (HloOp τ sig (Elt F)))).flatten U :=
  ⟨StableHlo.after ([hostOps0, hostOps0_1, hostOps0_2, hostOps0_3, hostOps0_4, hostOps0_5, hostOps0_6, hostOps0_7, hostOps0_8, hostOps0_9] : List (List (HloOp τ sig (Elt F)))).flatten fun b => m (c, b), by rw [← StableHlo.after_append]; rfl⟩

/-- The region's entry, from the operations of part 11 on. -/
theorem from11 : ∃ U : Valuation τ sig (Elt F), V0 m c = StableHlo.after ([hostOps0_11] : List (List (HloOp τ sig (Elt F)))).flatten U :=
  ⟨StableHlo.after ([hostOps0, hostOps0_1, hostOps0_2, hostOps0_3, hostOps0_4, hostOps0_5, hostOps0_6, hostOps0_7, hostOps0_8, hostOps0_9, hostOps0_10] : List (List (HloOp τ sig (Elt F)))).flatten fun b => m (c, b), by rw [← StableHlo.after_append]; rfl⟩

/-- Each pair's expert. -/
theorem V_v2 : (V m c main_v2 : IVec S12288 32) = shapeCast S12288 (fptosi 32 (extractStridedSlice S6144x2 ![0, 0] (m ((c.tc : Thread nD τ).loc main_arg1) : FVec F S6144x128 .f32) slices_S6144x128_S6144x2_0_0)) shapeCasts_S6144x2_S12288 := by
  unfold V V0
  after_reads_simp
  rfl

/-- One-hot of the expert. -/
theorem V_v9 : (V m c main_v9 : IVec S12288x8 32) = extui 32 (cmpi .eq (broadcastInDim S12288x8 ![0, 1] bcast_S12288x1_S12288x8_0_1 (broadcastInDim S12288x1 ![0] bcast_S12288_S12288x1_0 (V m c main_v2 : IVec S12288 32))) (broadcastInDim S12288x8 ![0, 1] bcast_S1x8_S12288x8_0_1 (broadcastInDim S1x8 ![1] bcast_S8_S1x8_1 (iotaInDim S8 32 0)))) natLt_1_32 := by
  unfold V V0
  after_reads_simp

/-- Running sums down the columns. -/
def colSums (x : IVec S12288x8 32) (v : IVec S_ 32) : IVec S12288x8 32 := Host.reduceWindow IntOp.addi ![12288, 1] ![1, 1] ![12287, 0] ![0, 0] x v reduceWindows_S12288x8_S12288x8_w12288s1p12287_0_w1s1p0_0 h_S_

/-- Running counts. -/
theorem V_v10 : (V m c main_v10 : IVec S12288x8 32) = colSums (V m c main_v9 : IVec S12288x8 32) (broadcastInDim S_ ![] bcast_S_S_ (constantI S_ 32 0#32)) := by
  obtain ⟨U, hU⟩ := from1 m c
  unfold V
  rw [hU]
  after_reads_simp
  refine (cast_eq _ _).trans (congrArg₂ colSums (cast_eq _ _) ?_)
  simp only [StableHlo.TRef.ofBuf_toBuf]

/-- Each expert's count. -/
theorem V_v12 : (V m c main_v12 : IVec S8 32) = shapeCast S8 (extractStridedSlice S1x8 ![12287, 0] (V m c main_v10 : IVec S12288x8 32) slices_S12288x8_S1x8_12287_0) shapeCasts_S1x8_S8 := by
  unfold V V0
  after_reads_simp
  rfl

/-- Each pair's rank among its expert's. -/
theorem V_v16 : (V m c main_v16 : IVec S12288 32) = subi (Host.reduce IntOp.addi (muli (V m c main_v9 : IVec S12288x8 32) (V m c main_v10 : IVec S12288x8 32)) (constantI S_ 32 0#32) reducesTo_S12288x8_S12288_d1 h_S_) (broadcastInDim S12288 ![] bcast_S_S12288 (constantI S_ 32 1#32)) := by
  unfold V V0
  after_reads_simp

/-- Each count rounded up. -/
theorem V_v20 : (V m c main_v20 : IVec S8 32) = subi (addi (V m c main_v12 : IVec S8 32) (broadcastInDim S8 ![] bcast_S_S8 (constantI S_ 32 1024#32))) (broadcastInDim S8 ![] bcast_S_S8 (constantI S_ 32 1#32)) := by
  unfold V V0
  after_reads_simp

/-- A constant. -/
theorem V_c_3 : (V m c main_c_3 : IVec S_ 32) = constantI S_ 32 1024#32 := by
  unfold V V0
  after_reads_simp

/-- Each expert's blocks. -/
theorem V_v21 : (V m c main_v21 : IVec S8 32) = pyDiv bcast_S_S8 (V m c main_v20 : IVec S8 32) (V m c main_c_3 : IVec S_ 32) := by
  obtain ⟨U, hU⟩ := from3 m c
  unfold V
  rw [hU]
  after_reads_simp
  rfl

/-- Running sums. -/
def runSums (x : IVec S8 32) (v : IVec S_ 32) : IVec S8 32 := Host.reduceWindow IntOp.addi ![8] ![1] ![7] ![0] x v reduceWindows_S8_S8_w8s1p7_0 h_S_

/-- Where each expert's blocks end. -/
theorem V_v22 : (V m c main_v22 : IVec S8 32) = runSums (V m c main_v21 : IVec S8 32) (broadcastInDim S_ ![] bcast_S_S_ (constantI S_ 32 0#32)) := by
  obtain ⟨U, hU⟩ := from4 m c
  unfold V
  rw [hU]
  after_reads_simp
  refine (cast_eq _ _).trans (congrArg₂ runSums (cast_eq _ _) ?_)
  simp only [StableHlo.TRef.ofBuf_toBuf]

/-- And start. -/
theorem V_v23 : (V m c main_v23 : IVec S8 32) = subi (V m c main_v22 : IVec S8 32) (V m c main_v21 : IVec S8 32) := by
  unfold V V0
  after_reads_simp

/-- Each pair's row. -/
theorem V_v30 : (V m c main_v30 : IVec S12288 32) = addi (muli (Host.reduce IntOp.addi (muli (V m c main_v9 : IVec S12288x8 32) (broadcastInDim S12288x8 ![0, 1] bcast_S1x8_S12288x8_0_1 (broadcastInDim S1x8 ![1] bcast_S8_S1x8_1 (V m c main_v23 : IVec S8 32)))) (constantI S_ 32 0#32) reducesTo_S12288x8_S12288_d1 h_S_) (broadcastInDim S12288 ![] bcast_S_S12288 (constantI S_ 32 1024#32))) (V m c main_v16 : IVec S12288 32) := by
  unfold V V0
  after_reads_simp

/-- The pairs. -/
theorem V_v32 : (V m c main_v32 : IVec S12288 32) = iotaInDim S12288 32 0 := by
  unfold V V0
  after_reads_simp

/-- A constant. -/
theorem V_c_7 : (V m c main_c_7 : IVec S_ 32) = constantI S_ 32 2#32 := by
  unfold V V0
  after_reads_simp

/-- Each pair's token. -/
theorem V_v33 : (V m c main_v33 : IVec S12288 32) = pyDiv bcast_S_S12288 (V m c main_v32 : IVec S12288 32) (V m c main_c_7 : IVec S_ 32) := by
  obtain ⟨U, hU⟩ := from6 m c
  unfold V
  rw [hU]
  after_reads_simp
  rfl

/-- The rows as scatter indices. -/
theorem V_v39 : (V m c main_v39 : IVec S12288x1 32) = broadcastInDim S12288x1 ![0] bcast_S12288_S12288x1_0 (select (cmpi .slt (V m c main_v30 : IVec S12288 32) (broadcastInDim S12288 ![] bcast_S_S12288 (constantI S_ 32 0#32))) (addi (V m c main_v30 : IVec S12288 32) (broadcastInDim S12288 ![] bcast_S_S12288 (constantI S_ 32 19456#32))) (V m c main_v30 : IVec S12288 32)) := by
  unfold V V0
  after_reads_simp

/-- Each row's token. -/
theorem V_v40 : (V m c main_v40 : IVec S19456 32) = Host.scatter scatter_S19456_S12288x1_S12288_n_0_0_1 (fun _ b => b) (broadcastInDim S19456 ![] bcast_S_S19456 (constantI S_ 32 0#32)) (V m c main_v39 : IVec S12288x1 32) (V m c main_v33 : IVec S12288 32) := by
  unfold V V0
  after_reads_simp

/-- Each token's two rows. -/
theorem V_v41 : (V m c main_v41 : IVec S6144x2 32) = shapeCast S6144x2 (V m c main_v30 : IVec S12288 32) shapeCasts_S12288_S6144x2 := by
  unfold V V0
  after_reads_simp
  rfl

/-- The blocks in use. -/
theorem V_v44 : (V m c main_v44 : IVec S_ 32) = shapeCast S_ (extractStridedSlice S1 ![7] (V m c main_v22 : IVec S8 32) slices_S8_S1_7) shapeCasts_S1_S_ := by
  unfold V V0
  after_reads_simp
  rfl

/-- Each item, stopped at the last in use. -/
theorem V_v47 : (V m c main_v47 : IVec S19 32) = minsi (iotaInDim S19 32 0) (broadcastInDim S19 ![] bcast_S_S19 (subi (V m c main_v44 : IVec S_ 32) (constantI S_ 32 1#32))) := by
  unfold V V0
  after_reads_simp

/-- Each item's expert. -/
theorem V_v56 : (V m c main_v56 : IVec S19 32) = minsi (Host.reduce IntOp.addi (extui 32 (cmpi .sge (broadcastInDim S19x8 ![0, 1] bcast_S19x1_S19x8_0_1 (broadcastInDim S19x1 ![0] bcast_S19_S19x1_0 (V m c main_v47 : IVec S19 32))) (broadcastInDim S19x8 ![0, 1] bcast_S1x8_S19x8_0_1 (broadcastInDim S1x8 ![1] bcast_S8_S1x8_1 (V m c main_v22 : IVec S8 32)))) natLt_1_32) (constantI S_ 32 0#32) reducesTo_S19x8_S19_d1 h_S_) (broadcastInDim S19 ![] bcast_S_S19 (constantI S_ 32 7#32)) := by
  unfold V V0
  after_reads_simp

/-- The item's expert's count. -/
theorem V_v63 : (V m c main_v63 : IVec S19 32) = Host.gather gather_S8_S19x1_S19_n_0_n_n_0_1_1 (V m c main_v12 : IVec S8 32) (broadcastInDim S19x1 ![0] bcast_S19_S19x1_0 (select (cmpi .slt (V m c main_v56 : IVec S19 32) (broadcastInDim S19 ![] bcast_S_S19 (constantI S_ 32 0#32))) (addi (V m c main_v56 : IVec S19 32) (broadcastInDim S19 ![] bcast_S_S19 (constantI S_ 32 8#32))) (V m c main_v56 : IVec S19 32))) := by
  unfold V V0
  after_reads_simp

/-- And first block. -/
theorem V_v70 : (V m c main_v70 : IVec S19 32) = Host.gather gather_S8_S19x1_S19_n_0_n_n_0_1_1 (V m c main_v23 : IVec S8 32) (broadcastInDim S19x1 ![0] bcast_S19_S19x1_0 (select (cmpi .slt (V m c main_v56 : IVec S19 32) (broadcastInDim S19 ![] bcast_S_S19 (constantI S_ 32 0#32))) (addi (V m c main_v56 : IVec S19 32) (broadcastInDim S19 ![] bcast_S_S19 (constantI S_ 32 8#32))) (V m c main_v56 : IVec S19 32))) := by
  unfold V V0
  after_reads_simp

/-- The rows from the item on. -/
theorem V_v74 : (V m c main_v74 : IVec S19 32) = subi (V m c main_v63 : IVec S19 32) (muli (subi (V m c main_v47 : IVec S19 32) (V m c main_v70 : IVec S19 32)) (broadcastInDim S19 ![] bcast_S_S19 (constantI S_ 32 1024#32))) := by
  unfold V V0
  after_reads_simp

/-- A constant. -/
theorem V_c_18 : (V m c main_c_18 : IVec S_ 32) = constantI S_ 32 0#32 := by
  unfold V V0
  after_reads_simp

/-- A constant. -/
theorem V_c_19 : (V m c main_c_19 : IVec S_ 32) = constantI S_ 32 1024#32 := by
  unfold V V0
  after_reads_simp

/-- The rows of the item, clipped. -/
theorem V_v77 : (V m c main_v77 : IVec S19 32) = minsi (broadcastInDim S19 ![] bcast_S_S19 (V m c main_c_19 : IVec S_ 32)) (maxsi (broadcastInDim S19 ![] bcast_S_S19 (V m c main_c_18 : IVec S_ 32)) (V m c main_v74 : IVec S19 32)) := by
  obtain ⟨U, hU⟩ := from8 m c
  unfold V
  rw [hU]
  after_reads_simp
  rfl

/-- Which items are in use. -/
theorem V_v76 : (V m c main_v76 : IVec S19 1) = cmpi .slt (iotaInDim S19 32 0) (broadcastInDim S19 ![] bcast_S_S19 (V m c main_v44 : IVec S_ 32)) := by
  unfold V V0
  after_reads_simp

/-- A constant. -/
theorem V_c_20 : (V m c main_c_20 : IVec S_ 32) = constantI S_ 32 0#32 := by
  unfold V V0
  after_reads_simp

/-- The rows of the item, none past the last in use. -/
theorem V_v78 : (V m c main_v78 : IVec S19 32) = select (V m c main_v76 : IVec S19 1) (V m c main_v77 : IVec S19 32) (broadcastInDim S19 ![] bcast_S_S19 (V m c main_c_20 : IVec S_ 32)) := by
  obtain ⟨U, hU⟩ := from10 m c
  unfold V
  rw [hU]
  after_reads_simp
  rfl

/-- The gathered rows. -/
theorem V_v79 : (V m c main_v79 : FVec F S19456x4096 .bf16) = Host.gather gather_S6144x4096_S19456x1_S19456x4096_1_0_n_n_0_1_14096 (m ((c.tc : Thread nD τ).loc main_arg0) : FVec F S6144x4096 .bf16) (broadcastInDim S19456x1 ![0] bcast_S19456_S19456x1_0 (V m c main_v40 : IVec S19456 32)) := by
  rw [← V_arg0 m c]
  obtain ⟨U, hU⟩ := from11 m c
  unfold V
  rw [hU]
  after_reads_simp
  rfl

end Cert.KernelIdeal.Hand

end
-- ==== Proof.Dispatch.lean ====
/- The dispatch over natural numbers: pairs sent to experts, each expert's pairs in order in blocks of 1024 rows. -/
module

public import Idealize.ShloMosaic.Lib.Routing.Count
public import Mathlib.Tactic.IntervalCases

@[expose] public section

namespace Dispatch

/-- How many of the pairs go to an expert. -/
def cnt (ex : ℕ → ℕ) (e : ℕ) : ℕ := Nat.count (fun q => ex q = e) 12288
/-- How many pairs before a pair go to its expert. -/
def rk (ex : ℕ → ℕ) (p : ℕ) : ℕ := Nat.count (fun q => ex q = ex p) p
/-- How many blocks an expert takes, -/
def blk (ex : ℕ → ℕ) (e : ℕ) : ℕ := (cnt ex e + 1023) / 1024
/-- the first of them, -/
def bst (ex : ℕ → ℕ) (e : ℕ) : ℕ := ((List.range e).map (blk ex)).sum
/-- and the row of a pair. -/
def dst (ex : ℕ → ℕ) (p : ℕ) : ℕ := bst ex (ex p) * 1024 + rk ex p

variable {ex : ℕ → ℕ}

theorem bst_succ (e : ℕ) : bst ex (e + 1) = bst ex e + blk ex e := by
  unfold bst
  rw [List.range_succ, List.map_append, List.sum_append]
  simp

theorem bst_mono {a b : ℕ} (h : a ≤ b) : bst ex a ≤ bst ex b :=
  monotone_nat_of_le_succ (f := bst ex) (fun n => by rw [bst_succ]; omega) h

/-- Where every value is below eight, the eight counts add up to all. -/
theorem sum_count (N : ℕ) (hex : ∀ p < N, ex p < 8) : ((List.range 8).map fun e => Nat.count (fun q => ex q = e) N).sum = N := by
  induction N with
  | zero => simp
  | succ N ih =>
    have h8 := hex N (Nat.lt_succ_self N)
    have h := ih fun p hp => hex p (by omega)
    simp only [List.range, List.range.loop, List.map_cons, List.map_nil, List.sum_cons, List.sum_nil, Nat.count_succ] at h ⊢
    generalize ex N = e at h8 ⊢
    interval_cases e <;> simp <;> omega

theorem bst_eight (hex : ∀ p < 12288, ex p < 8) : bst ex 8 ≤ 19 := by
  have h := sum_count 12288 hex
  unfold bst blk cnt
  simp only [List.range, List.range.loop, List.map_cons, List.map_nil, List.sum_cons, List.sum_nil] at h ⊢
  omega

theorem rk_lt {p : ℕ} (hp : p < 12288) : rk ex p < cnt ex (ex p) := Nat.count_strict_mono (p := fun q => ex q = ex p) rfl hp

theorem cnt_le (e : ℕ) : cnt ex e ≤ 12288 := Nat.count_le _

/-- A pair's block is one of its expert's. -/
theorem block_ge (p : ℕ) : bst ex (ex p) ≤ dst ex p / 1024 := by unfold dst; omega
theorem block_lt {p : ℕ} (hp : p < 12288) : dst ex p / 1024 < bst ex (ex p + 1) := by
  have h := rk_lt (ex := ex) hp
  rw [bst_succ]
  unfold dst blk
  omega
theorem block_lt_eight (hex : ∀ p < 12288, ex p < 8) {p : ℕ} (hp : p < 12288) : dst ex p / 1024 < bst ex 8 :=
  Nat.lt_of_lt_of_le (block_lt hp) (bst_mono (hex p hp))
theorem block_lt_items (hex : ∀ p < 12288, ex p < 8) {p : ℕ} (hp : p < 12288) : dst ex p / 1024 < 19 :=
  Nat.lt_of_lt_of_le (block_lt_eight hex hp) (bst_eight hex)
theorem dst_lt (hex : ∀ p < 12288, ex p < 8) {p : ℕ} (hp : p < 12288) : dst ex p < 19456 := by
  have := block_lt_items hex hp
  omega

/-- Two pairs with the same row are one. -/
theorem dst_inj {p q : ℕ} (hp : p < 12288) (hq : q < 12288) (h : dst ex p = dst ex q) : p = q := by
  have he : ex p = ex q := by
    by_contra hne
    rcases Nat.lt_or_gt_of_ne hne with hl | hl
    · have h1 := block_lt (ex := ex) hp
      have h2 := block_ge (ex := ex) q
      have h3 := bst_mono (ex := ex) (Nat.succ_le_of_lt hl)
      rw [h] at h1
      exact absurd (Nat.lt_of_lt_of_le h1 h3) (by simpa using h2)
    · have h1 := block_lt (ex := ex) hq
      have h2 := block_ge (ex := ex) p
      have h3 := bst_mono (ex := ex) (Nat.succ_le_of_lt hl)
      rw [← h] at h1
      exact absurd (Nat.lt_of_lt_of_le h1 h3) (by simpa using h2)
  unfold dst rk at h
  rw [he] at h
  have hr := Nat.add_left_cancel h
  by_contra hne
  rcases Nat.lt_or_gt_of_ne hne with hl | hl
  · exact absurd hr (Nat.ne_of_lt (Nat.count_strict_mono (p := fun x => ex x = ex q) he hl))
  · exact absurd hr.symm (Nat.ne_of_lt (Nat.count_strict_mono (p := fun x => ex x = ex q) rfl hl))

/-- The experts whose blocks end at or before a pair's block are those before its own. -/
theorem count_ends (hex : ∀ p < 12288, ex p < 8) {p : ℕ} (hp : p < 12288) :
    Nat.count (fun e => bst ex (e + 1) ≤ dst ex p / 1024) 8 = ex p := by
  have h8 := hex p hp
  rw [Idealize.ShloMosaic.Routing.count_congr_of_lt (P := fun e => bst ex (e + 1) ≤ dst ex p / 1024) (Q := fun e => e < ex p) 8 fun e he => ?_]
  · generalize ex p = e at h8
    interval_cases e <;> decide
  · constructor
    · intro h
      by_contra hn
      exact absurd (Nat.lt_of_lt_of_le (block_lt (ex := ex) hp) ((bst_mono (by omega)).trans h)) (lt_irrefl _)
    · intro h
      exact (bst_mono (by omega)).trans (block_ge p)

/-- In its block a pair's row is below the count of the block's rows. -/
theorem row_lt {p : ℕ} (hp : p < 12288) :
    dst ex p % 1024 < min (cnt ex (ex p) - (dst ex p / 1024 - bst ex (ex p)) * 1024) 1024 ∧ (dst ex p / 1024 - bst ex (ex p)) * 1024 < cnt ex (ex p) := by
  have h := rk_lt (ex := ex) hp
  unfold dst
  generalize bst ex (ex p) = b at h ⊢
  have e : (b * 1024 + rk ex p) / 1024 - b = rk ex p / 1024 := by omega
  rw [e]
  omega

/-- The one-hot of an expert against a function of the experts. -/
theorem sum_pick (f : ℕ → ℕ) {x : ℕ} (hx : x < 8) : ((List.range 8).map fun e => (if x = e then 1 else 0) * f e).sum = f x := by
  interval_cases x <;> simp [List.range, List.range.loop]

end Dispatch

end
-- ==== Proof.RowSum.lean ====
/- A sum along the rows of a matrix of words that hold naturals. -/
module

public import Idealize.ShloMosaic.Lib.Routing.OpsOne
import Idealize.ShloMosaic.Lib.Pointwise.Reduce

@[expose] public section

namespace Dispatch

open Idealize.ShloMosaic

theorem rowSum {n k : ℕ} (x : IVec ⟨2, ![n, k]⟩ 32) (h : (⟨2, ![n, k]⟩ : Shape).ReducesTo [1] ⟨1, ![n]⟩) (hu : 0 < (⟨0, ![]⟩ : Shape).numel) (p : Fin n) (f : ℕ → ℕ)
    (hx : ∀ e : Fin k, x (ValueIdx.ix2 p e) = BitVec.ofNat 32 (f e.val)) :
    Host.reduce IntOp.addi x (constantI ⟨0, ![]⟩ 32 0#32) h hu (ValueIdx.ix1 p) = BitVec.ofNat 32 ((List.range k).map f).sum := by
  rw [Host.reduce_eq_fold, Shape.ReducesTo.fold_fiber_r2_a1, Routing.ofNat_sum_range, Finset.sum_range]
  show (∑ e : Fin k, x (ValueIdx.ix2 p e)) = _
  exact Finset.sum_congr rfl fun e _ => hx e

end Dispatch

end
-- ==== Proof.KIRoute.lean ====
/- The dispatch's buffers as natural numbers: each pair's row, each row's token, each block's expert and count of rows. -/
module

public import proofs.«01_k».proof.Proof.KIDispatch
public import proofs.«01_k».proof.Proof.Dispatch
public import Idealize.ShloMosaic.Lib.Routing.OpsOne
public import Idealize.ShloMosaic.Lib.Routing.OpsSet
public import Idealize.ShloMosaic.Lib.Routing.OpsPair
public import proofs.«01_k».proof.Proof.RowSum

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Routing Idealize.ShloMosaic.ValueIdx Idealize.ShloMosaic.WordCmp
open Dispatch

/-! ## The operations on vectors of words -/

/-- A one-hot row per pair. -/
theorem oneHot_apply (x : IVec S12288 32) (p : Fin 12288) (e : Fin 8) {a : ℕ} (ha : a < 8) (hx : x (ix1 p) = BitVec.ofNat 32 a) :
    extui 32 (cmpi .eq (broadcastInDim S12288x8 ![0, 1] bcast_S12288x1_S12288x8_0_1 (broadcastInDim S12288x1 ![0] bcast_S12288_S12288x1_0 x))
      (broadcastInDim S12288x8 ![0, 1] bcast_S1x8_S12288x8_0_1 (broadcastInDim S1x8 ![1] bcast_S8_S1x8_1 (iotaInDim S8 32 0)))) natLt_1_32 (ix2 p e)
      = BitVec.ofNat 32 (if a = e.val then 1 else 0) := by
  have h1 := bcRows bcast_S12288_S12288x1_0 bcast_S12288x1_S12288x8_0_1 x p e
  have h2 := bcCols bcast_S8_S1x8_1 bcast_S1x8_S12288x8_0_1 (iotaInDim S8 32 0) p e
  show (IntOp.cmpi .eq (broadcastInDim S12288x8 ![0, 1] bcast_S12288x1_S12288x8_0_1 (broadcastInDim S12288x1 ![0] bcast_S12288_S12288x1_0 x) (ix2 p e))
    (broadcastInDim S12288x8 ![0, 1] bcast_S1x8_S12288x8_0_1 (broadcastInDim S1x8 ![1] bcast_S8_S1x8_1 (iotaInDim S8 32 0)) (ix2 p e))).setWidth 32 = _
  have he := e.isLt
  rw [h1, h2, hx, iota1_ap, cmpi_eq_ofNat (w := 32) (by omega) (by omega), setWidth_ofBool]

/-- The sum of a row of eight. -/
theorem rowSum_apply (x : IVec S12288x8 32) (p : Fin 12288) (f : ℕ → ℕ) (hx : ∀ e : Fin 8, x (ix2 p e) = BitVec.ofNat 32 (f e.val)) :
    Host.reduce IntOp.addi x (constantI S_ 32 0#32) reducesTo_S12288x8_S12288_d1 h_S_ (ix1 p) = BitVec.ofNat 32 ((List.range 8).map f).sum :=
  Dispatch.rowSum x reducesTo_S12288x8_S12288_d1 h_S_ p f hx

theorem pred_word (a : ℕ) : BitVec.ofNat 32 (a + 1) - 1#32 = BitVec.ofNat 32 a := by
  rw [BitVec.ofNat_add]; exact add_sub_cancel_right _ _

theorem sub_word {a b : ℕ} (h : b ≤ a) : BitVec.ofNat 32 a - BitVec.ofNat 32 b = BitVec.ofNat 32 (a - b) := by
  obtain ⟨k, rfl⟩ := Nat.exists_eq_add_of_le h
  rw [Nat.add_sub_cancel_left, Nat.add_comm, BitVec.ofNat_add]; exact add_sub_cancel_right _ _

/-- Row `r` of a matrix of eight columns, as a vector. -/
theorem lastRow_apply (x : IVec S12288x8 32) (e : Fin 8) :
    shapeCast S8 (extractStridedSlice S1x8 ![12287, 0] x slices_S12288x8_S1x8_12287_0) shapeCasts_S1x8_S8 (ix1 e) = x (ix2 (12287 : Fin 12288) e) := by
  refine (cast21 _ shapeCasts_S1x8_S8 (0 : Fin 1) e e (by simp)).trans (congrArg x (funext fun a => Fin.ext ?_))
  match a with
  | ⟨0, _⟩ => rfl
  | ⟨1, _⟩ => exact Nat.zero_add _

/-- The last of eight. -/
theorem last_apply (x : IVec S8 32) :
    shapeCast S_ (extractStridedSlice S1 ![7] x slices_S8_S1_7) shapeCasts_S1_S_ ValueIdx.ix0 = x (ix1 (7 : Fin 8)) := by
  refine (shapeCast_apply _ shapeCasts_S1_S_ ValueIdx.ix0 (ix1 (0 : Fin 1)) ?_).trans (congrArg x (funext fun a => Fin.ext ?_))
  · rw [Shape.rowMajor_val_one]
    have := (S_.rowMajor ValueIdx.ix0).isLt
    have e : S_.numel = 1 := rfl
    show 0 = _
    omega
  · match a with
    | ⟨0, _⟩ => rfl

/-- An index with no sign to wrap. -/
theorem wrap_apply {s : Shape} (h : S_.BroadcastsInDim s (![] : Fin 0 → Fin s.rank)) (x : IVec s 32) (i : s.Idx) (k : BitVec 32) {a : ℕ} (ha : a < 2 ^ 31) (hx : x i = BitVec.ofNat 32 a) :
    select (cmpi .slt x (broadcastInDim s ![] h (constantI S_ 32 0#32))) (addi x (broadcastInDim s ![] h (constantI S_ 32 k))) x i = BitVec.ofNat 32 a := by
  show Scalar.select (IntOp.cmpi .slt (x i) (broadcastInDim s ![] h (constantI S_ 32 0#32) i)) _ (x i) = _
  rw [bc0 h, hx]
  show Scalar.select (IntOp.cmpi .slt (BitVec.ofNat 32 a) (BitVec.ofNat 32 0)) _ _ = _
  rw [cmpi_slt_ofNat (w := 32) ha (by decide), select_decide, if_neg (by omega)]

/-- Where a scattered entry lands. -/
theorem lands (j : IVec S12288x1 32) (i : Fin 12288) (x : Fin 19456) :
    scatter_S19456_S12288x1_S12288_n_0_0_1.resultIdx? (ix1 i) j = some (ix1 x) ↔ (j (ix2 i (0 : Fin 1))).toInt = (x.val : ℤ) := by
  have s0 : scatter_S19456_S12288x1_S12288_n_0_0_1.start (ix1 i) j 0 = (j (ix2 i (0 : Fin 1))).toInt :=
    congrArg (fun q => (j q).toInt) (funext fun a => by match a with | ⟨0, _⟩ => rfl | ⟨1, _⟩ => rfl)
  have w0 : scatter_S19456_S12288x1_S12288_n_0_0_1.window (ix1 i) 0 = 0 := rfl
  refine (resultIdx?_ix1 (N := 19456) _ _ _ x).trans ?_
  rw [s0, w0]
  omega

/-- Entries scattered to distinct places are found there. -/
theorem scatter_apply (z : IVec S19456 32) (j : IVec S12288x1 32) (u : IVec S12288 32) (d : ℕ → ℕ) (hd : ∀ p < 12288, d p < 19456)
    (hinj : ∀ p q, p < 12288 → q < 12288 → d p = d q → p = q) (hj : ∀ p : Fin 12288, j (ix2 p (0 : Fin 1)) = BitVec.ofNat 32 (d p.val)) (p : Fin 12288) :
    Host.scatter scatter_S19456_S12288x1_S12288_n_0_0_1 (fun _ b => b) z j u (ix1 (⟨d p.val, hd _ p.isLt⟩ : Fin 19456)) = u (ix1 p) := by
  have hto : ∀ q : Fin 12288, (j (ix2 q (0 : Fin 1))).toInt = (d q.val : ℤ) := fun q => by
    rw [hj, StableHlo.Predicate.toInt_ofNat_small _ (by have := hd _ q.isLt; omega)]
  refine scatter_set_hit _ z j u _ _ (fun k hk => ?_) (ix1 p) ((lands j p _).2 (hto p))
  rw [eq_ix1 k] at hk ⊢
  have h := (lands j _ _).1 hk
  have h' : (d (k 0).val : ℤ) = (d p.val : ℤ) := (hto (k 0)).symm.trans h
  exact congrArg (fun t => u (ix1 t)) (Fin.ext (hinj _ _ (k 0).isLt p.isLt (by exact_mod_cast h')))

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (by omega)]
  · rw [if_neg (fun e => h (of_decide_eq_true e)), Nat.min_eq_right (by omega)]

/-- How many of eight words are at most a word. -/
theorem ends_apply (x : IVec S19 32) (y : IVec S8 32) (j : Fin 19) {a : ℕ} (ha : a < 2 ^ 31) (f : ℕ → ℕ) (hf : ∀ e < 8, f e < 2 ^ 31)
    (hx : x (ix1 j) = BitVec.ofNat 32 a) (hy : ∀ e : Fin 8, y (ix1 e) = BitVec.ofNat 32 (f e.val)) :
    Host.reduce IntOp.addi (extui 32 (cmpi .sge (broadcastInDim S19x8 ![0, 1] bcast_S19x1_S19x8_0_1 (broadcastInDim S19x1 ![0] bcast_S19_S19x1_0 x))
      (broadcastInDim S19x8 ![0, 1] bcast_S1x8_S19x8_0_1 (broadcastInDim S1x8 ![1] bcast_S8_S1x8_1 y))) natLt_1_32) (constantI S_ 32 0#32) reducesTo_S19x8_S19_d1 h_S_ (ix1 j)
      = BitVec.ofNat 32 (Nat.count (fun e => f e ≤ a) 8) := by
  refine reduce_count (by norm_num) _ natLt_1_32 reducesTo_S19x8_S19_d1 h_S_ j (fun e => f e ≤ a) fun e => ?_
  have h1 := bcRows bcast_S19_S19x1_0 bcast_S19x1_S19x8_0_1 x j e
  have h2 := bcCols bcast_S8_S1x8_1 bcast_S1x8_S19x8_0_1 y j e
  show IntOp.cmpi .sge (broadcastInDim S19x8 ![0, 1] bcast_S19x1_S19x8_0_1 (broadcastInDim S19x1 ![0] bcast_S19_S19x1_0 x) (ix2 j e))
    (broadcastInDim S19x8 ![0, 1] bcast_S1x8_S19x8_0_1 (broadcastInDim S1x8 ![1] bcast_S8_S1x8_1 y) (ix2 j e)) = 1#1 ↔ _
  rw [h1, h2, hx, hy]
  exact cmpi_sge_ofNat_eq_one_iff (w := 32) ha (hf _ e.isLt)

/-- A table of eight read at a block's expert. -/
theorem take_apply (x : IVec S8 32) (t : IVec S19 32) (j : Fin 19) {a : ℕ} (ha : a < 8) (ht : t (ix1 j) = BitVec.ofNat 32 a) :
    Host.gather gather_S8_S19x1_S19_n_0_n_n_0_1_1 x (broadcastInDim S19x1 ![0] bcast_S19_S19x1_0 (select (cmpi .slt t (broadcastInDim S19 ![] bcast_S_S19 (constantI S_ 32 0#32)))
      (addi t (broadcastInDim S19 ![] bcast_S_S19 (constantI S_ 32 8#32))) t)) (ix1 j) = x (ix1 (⟨a, ha⟩ : Fin 8)) :=
  gather_take1 (N := 8) (n := 19) gather_S8_S19x1_S19_n_0_n_n_0_1_1 rfl rfl rfl rfl x _ j ⟨a, ha⟩
    ((bcCol bcast_S19_S19x1_0 _ j).trans (wrap_apply bcast_S_S19 t (ix1 j) 8#32 (by omega) ht)) (by norm_num)

/-! ## The buffers -/

variable {F : FTy → Type} [FloatOps F]

variable (m : (ℓ : Loc nD τ sig) → Buf (Elt F) ℓ) (c : Dev nD)

variable (ex : ℕ → ℕ) (hex : ∀ p < 12288, ex p < 8)
  (h2 : ∀ p : Fin 12288, (V m c main_v2 : IVec S12288 32) (ix1 p) = BitVec.ofNat 32 (ex p.val))

include hex h2

theorem R9 (p : Fin 12288) (e : Fin 8) : (V m c main_v9 : IVec S12288x8 32) (ix2 p e) = BitVec.ofNat 32 (if ex p.val = e.val then 1 else 0) :=
  (congrFun (V_v9 m c) _).trans (oneHot_apply _ p e (hex _ p.isLt) (h2 p))

theorem R10 (p : Fin 12288) (e : Fin 8) : (V m c main_v10 : IVec S12288x8 32) (ix2 p e) = BitVec.ofNat 32 (Nat.count (fun q => ex q = e.val) (p.val + 1)) := by
  refine (congrFun (V_v10 m c) _).trans ((cumsum_rows (R := 12288) (Rm1 := 12287) (C := 8) rfl _ (fun i e => if ex i = e then 1 else 0) (R9 m c ex hex h2) _ rfl
    reduceWindows_S12288x8_S12288x8_w12288s1p12287_0_w1s1p0_0 h_S_ p e).trans ?_)
  rw [sum_map_ite (fun i => ex i = e.val)]

theorem R12 (e : Fin 8) : (V m c main_v12 : IVec S8 32) (ix1 e) = BitVec.ofNat 32 (cnt ex e.val) :=
  (congrFun (V_v12 m c) _).trans ((lastRow_apply _ e).trans (R10 m c ex hex h2 _ e))

theorem R16 (p : Fin 12288) : (V m c main_v16 : IVec S12288 32) (ix1 p) = BitVec.ofNat 32 (rk ex p.val) := by
  refine (congrFun (V_v16 m c) _).trans ?_
  rw [subi_ap, rowSum_apply _ p (fun e => (if ex p.val = e then 1 else 0) * Nat.count (fun q => ex q = e) (p.val + 1)) fun e => by
    rw [muli_ap, R9 m c ex hex h2, R10 m c ex hex h2, ← BitVec.ofNat_mul], bc0 bcast_S_S12288, sum_pick _ (hex _ p.isLt), Nat.count_succ, if_pos rfl]
  exact pred_word _

theorem R20 (e : Fin 8) : (V m c main_v20 : IVec S8 32) (ix1 e) = BitVec.ofNat 32 (cnt ex e.val + 1023) := by
  refine (congrFun (V_v20 m c) _).trans ?_
  rw [subi_ap, addi_ap, bc0 bcast_S_S8, bc0 bcast_S_S8, R12 m c ex hex h2]
  show BitVec.ofNat 32 (cnt ex e.val) + BitVec.ofNat 32 1024 - 1#32 = _
  rw [← BitVec.ofNat_add]
  exact pred_word _

theorem R21 (e : Fin 8) : (V m c main_v21 : IVec S8 32) (ix1 e) = BitVec.ofNat 32 (blk ex e.val) := by
  have hc := cnt_le (ex := ex) e.val
  exact (congrFun (V_v21 m c) _).trans (pyDiv_ap bcast_S_S8 _ _ (ix1 e) (a := cnt ex e.val + 1023) (b := 1024) (R20 m c ex hex h2 e)
    (congrFun (V_c_3 m c) ValueIdx.ix0) (by omega) (by norm_num) (by norm_num))

theorem R22 (e : Fin 8) : (V m c main_v22 : IVec S8 32) (ix1 e) = BitVec.ofNat 32 (bst ex (e.val + 1)) :=
  (congrFun (V_v22 m c) _).trans (cumsum1 (N := 8) (Nm1 := 7) rfl _ (blk ex) (R21 m c ex hex h2) _ rfl reduceWindows_S8_S8_w8s1p7_0 h_S_ e)

theorem R23 (e : Fin 8) : (V m c main_v23 : IVec S8 32) (ix1 e) = BitVec.ofNat 32 (bst ex e.val) := by
  refine (congrFun (V_v23 m c) _).trans ?_
  rw [subi_ap, R22 m c ex hex h2, R21 m c ex hex h2, bst_succ, sub_word (Nat.le_add_left _ _), Nat.add_sub_cancel]

theorem R30 (p : Fin 12288) : (V m c main_v30 : IVec S12288 32) (ix1 p) = BitVec.ofNat 32 (dst ex p.val) := by
  refine (congrFun (V_v30 m c) _).trans ?_
  rw [addi_ap, muli_ap, rowSum_apply _ p (fun e => (if ex p.val = e then 1 else 0) * bst ex e) fun e => by
    rw [muli_ap, R9 m c ex hex h2]
    refine (congrArg _ (bcCols bcast_S8_S1x8_1 bcast_S1x8_S12288x8_0_1 _ p e)).trans ?_
    rw [R23 m c ex hex h2, ← BitVec.ofNat_mul], bc0 bcast_S_S12288, sum_pick _ (hex _ p.isLt), R16 m c ex hex h2]
  show BitVec.ofNat 32 (bst ex (ex p.val)) * BitVec.ofNat 32 1024 + _ = _
  rw [← BitVec.ofNat_mul, ← BitVec.ofNat_add]
  rfl

omit hex h2 in
theorem R33 (p : Fin 12288) : (V m c main_v33 : IVec S12288 32) (ix1 p) = BitVec.ofNat 32 (p.val / 2) := by
  have hp := p.isLt
  exact (congrFun (V_v33 m c) _).trans (pyDiv_ap bcast_S_S12288 _ _ (ix1 p) (a := p.val) (b := 2) (congrFun (V_v32 m c) _)
    (congrFun (V_c_7 m c) ValueIdx.ix0) (by omega) (by norm_num) (by norm_num))

theorem R39 (p : Fin 12288) : (V m c main_v39 : IVec S12288x1 32) (ix2 p (0 : Fin 1)) = BitVec.ofNat 32 (dst ex p.val) := by
  have := dst_lt hex p.isLt
  exact (congrFun (V_v39 m c) _).trans ((bcCol bcast_S12288_S12288x1_0 _ p).trans
    (wrap_apply bcast_S_S12288 _ (ix1 p) 19456#32 (by omega) (R30 m c ex hex h2 p)))

/-- A pair's row holds its token. -/
theorem R40 (p : Fin 12288) : (V m c main_v40 : IVec S19456 32) (ix1 (⟨dst ex p.val, dst_lt hex p.isLt⟩ : Fin 19456)) = BitVec.ofNat 32 (p.val / 2) :=
  (congrFun (V_v40 m c) _).trans ((scatter_apply _ _ _ (dst ex) (fun _ h => dst_lt hex h) (fun _ _ => dst_inj) (R39 m c ex hex h2) p).trans (R33 m c p))

/-- A token's two rows. -/
theorem R41 (t : Fin 6144) (k : Fin 2) : (V m c main_v41 : IVec S6144x2 32) (ix2 t k) = BitVec.ofNat 32 (dst ex (t.val * 2 + k.val)) :=
  (congrFun (V_v41 m c) _).trans ((cast12 _ shapeCasts_S12288_S6144x2 t k (⟨t.val * 2 + k.val, by have := t.isLt; have := k.isLt; omega⟩ : Fin 12288) rfl).trans (R30 m c ex hex h2 _))

theorem R44 : (V m c main_v44 : IVec S_ 32) ValueIdx.ix0 = BitVec.ofNat 32 (bst ex 8) :=
  (congrFun (V_v44 m c) _).trans ((last_apply _).trans (R22 m c ex hex h2 7))

theorem R47 (j : Fin 19) (hj : j.val < bst ex 8) : (V m c main_v47 : IVec S19 32) (ix1 j) = BitVec.ofNat 32 j.val := by
  have h8 := bst_eight hex
  refine (congrFun (V_v47 m c) _).trans ?_
  show IntOp.minsi (BitVec.ofNat 32 j.val) (broadcastInDim S19 ![] bcast_S_S19 (subi (V m c main_v44 : IVec S_ 32) (constantI S_ 32 1#32)) (ix1 j)) = _
  rw [bc0 bcast_S_S19, subi_ap, R44 m c ex hex h2]
  show IntOp.minsi (BitVec.ofNat 32 j.val) (BitVec.ofNat 32 (bst ex 8) - BitVec.ofNat 32 1) = _
  rw [sub_word (by omega), minsi_word (by omega) (by omega), Nat.min_eq_left (by omega)]

/-- A pair's block has its expert. -/
theorem R56 (p : Fin 12288) (j : Fin 19) (hj : j.val = dst ex p.val / 1024) : (V m c main_v56 : IVec S19 32) (ix1 j) = BitVec.ofNat 32 (ex p.val) := by
  have h8 := bst_eight hex
  have hlt := block_lt_eight hex p.isLt
  have he := hex _ p.isLt
  refine (congrFun (V_v56 m c) _).trans ?_
  show IntOp.minsi (Host.reduce IntOp.addi _ _ _ _ (ix1 j)) (broadcastInDim S19 ![] bcast_S_S19 (constantI S_ 32 7#32) (ix1 j)) = _
  rw [bc0 bcast_S_S19, ends_apply _ _ j (a := j.val) (by omega) (fun e => bst ex (e + 1))
    (fun e he => by have := bst_mono (ex := ex) (show e + 1 ≤ 8 by omega); omega) (R47 m c ex hex h2 j (by omega)) (R22 m c ex hex h2), hj, count_ends hex p.isLt]
  show IntOp.minsi (BitVec.ofNat 32 (ex p.val)) (BitVec.ofNat 32 7) = _
  rw [minsi_word (by omega) (by omega), Nat.min_eq_left (by omega)]

theorem R63 (p : Fin 12288) (j : Fin 19) (hj : j.val = dst ex p.val / 1024) : (V m c main_v63 : IVec S19 32) (ix1 j) = BitVec.ofNat 32 (cnt ex (ex p.val)) :=
  (congrFun (V_v63 m c) _).trans ((take_apply _ _ j (hex _ p.isLt) (R56 m c ex hex h2 p j hj)).trans (R12 m c ex hex h2 _))

theorem R70 (p : Fin 12288) (j : Fin 19) (hj : j.val = dst ex p.val / 1024) : (V m c main_v70 : IVec S19 32) (ix1 j) = BitVec.ofNat 32 (bst ex (ex p.val)) :=
  (congrFun (V_v70 m c) _).trans ((take_apply _ _ j (hex _ p.isLt) (R56 m c ex hex h2 p j hj)).trans (R23 m c ex hex h2 _))

theorem R74 (p : Fin 12288) (j : Fin 19) (hj : j.val = dst ex p.val / 1024) :
    (V m c main_v74 : IVec S19 32) (ix1 j) = BitVec.ofNat 32 (cnt ex (ex p.val) - (dst ex p.val / 1024 - bst ex (ex p.val)) * 1024) := by
  have hlt := block_lt_eight hex p.isLt
  have hr := (row_lt (ex := ex) p.isLt).2
  refine (congrFun (V_v74 m c) _).trans ?_
  rw [subi_ap, muli_ap, subi_ap, bc0 bcast_S_S19, R63 m c ex hex h2 p j hj, R70 m c ex hex h2 p j hj, R47 m c ex hex h2 j (by omega), hj, sub_word (block_ge _)]
  show BitVec.ofNat 32 _ - BitVec.ofNat 32 _ * BitVec.ofNat 32 1024 = _
  rw [← BitVec.ofNat_mul, sub_word (by omega)]

/-- A pair's block's count of rows. -/
theorem R78 (p : Fin 12288) (j : Fin 19) (hj : j.val = dst ex p.val / 1024) :
    (V m c main_v78 : IVec S19 32) (ix1 j) = BitVec.ofNat 32 (min (cnt ex (ex p.val) - (dst ex p.val / 1024 - bst ex (ex p.val)) * 1024) 1024) := by
  have hlt := block_lt_eight hex p.isLt
  have h8 := bst_eight hex
  have hc := cnt_le (ex := ex) (ex p.val)
  have h77 : (V m c main_v77 : IVec S19 32) (ix1 j) = BitVec.ofNat 32 (min (cnt ex (ex p.val) - (dst ex p.val / 1024 - bst ex (ex p.val)) * 1024) 1024) := by
    refine (congrFun (V_v77 m c) _).trans ?_
    show IntOp.minsi (broadcastInDim S19 ![] bcast_S_S19 (V m c main_c_19 : IVec S_ 32) (ix1 j))
      (IntOp.maxsi (broadcastInDim S19 ![] bcast_S_S19 (V m c main_c_18 : IVec S_ 32) (ix1 j)) ((V m c main_v74 : IVec S19 32) (ix1 j))) = _
    rw [bc0 bcast_S_S19, bc0 bcast_S_S19, R74 m c ex hex h2 p j hj, V_c_18 m c, V_c_19 m c]
    show IntOp.minsi (BitVec.ofNat 32 1024) (IntOp.maxsi (BitVec.ofNat 32 0) (BitVec.ofNat 32 _)) = _
    rw [clip_word (by omega) (by omega) (by omega), Nat.max_eq_left (Nat.zero_le _)]
  refine (congrFun (V_v78 m c) _).trans ?_
  show Scalar.select ((V m c main_v76 : IVec S19 1) (ix1 j)) ((V m c main_v77 : IVec S19 32) (ix1 j)) _ = _
  have h76 : (V m c main_v76 : IVec S19 1) (ix1 j) = 1#1 := by
    refine (congrFun (V_v76 m c) _).trans ?_
    show IntOp.cmpi .slt (BitVec.ofNat 32 j.val) (broadcastInDim S19 ![] bcast_S_S19 (V m c main_v44 : IVec S_ 32) (ix1 j)) = _
    rw [bc0 bcast_S_S19, R44 m c ex hex h2]
    exact (cmpi_slt_ofNat_eq_one_iff (w := 32) (by omega) (by omega)).2 (by omega)
  rw [select_of_eq_one h76, h77]

/-- A pair's row is its token's. -/
theorem R79 (p : Fin 12288) (y : Fin 4096) (t : Fin 6144) (ht : t.val = p.val / 2) :
    (V m c main_v79 : FVec F S19456x4096 .bf16) (ix2 (⟨dst ex p.val, dst_lt hex p.isLt⟩ : Fin 19456) y) = (m ((c.tc : Thread nD τ).loc main_arg0) : FVec F S6144x4096 .bf16) (ix2 t y) :=
  (congrFun (V_v79 m c) _).trans (gather_row (nb := 6144) (B := 4096) (n := 19456) _ rfl rfl rfl rfl rfl _ _ _ y t
    ((bcCol bcast_S19456_S19456x1_0 _ _).trans ((R40 m c ex hex h2 p).trans (by rw [ht]))) (by norm_num))

end Cert.KernelIdeal.Hand

end
-- ==== Proof.KIDone.lean ====
/- The kernel's two results at the extended reals: a token's row under its first expert and under its second. -/
module

public import proofs.«01_k».proof.Proof.KIRun
public import proofs.«01_k».proof.Proof.KIRoute

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Dispatch

attribute [local instance] Cert.KernelIdeal.Gen.facts

variable (m : (ℓ : Loc nD τ sig) → Buf (Elt Ideal) ℓ) (ρ : Dev nD → PrngReg)

/-- Expert `e`'s feed-forward of token `t`, column `c`. -/
def served (x : FVec Ideal S6144x4096 .bf16) (wg wu : FVec Ideal S1x8x4096x14336 .f32) (wd : FVec Ideal S1x8x14336x4096 .f32)
    (e : Fin 8) (t : Fin 6144) (c : Fin 4096) : EReal :=
  ∑ j : Fin 14336, gated (∑ k : Fin 4096, x (ix2 t k) * wg (ix4 0 e k j)) (∑ k : Fin 4096, x (ix2 t k) * wu (ix4 0 e k j)) * wd (ix4 0 e j c)

/-- A row that is a token's is served as the token is. -/
theorem expert_served (x : FVec Ideal S19456x4096 .bf16) (h : FVec Ideal S6144x4096 .bf16) (wg wu : FVec Ideal S1x8x4096x14336 .f32) (wd : FVec Ideal S1x8x14336x4096 .f32)
    (e e' : Fin 8) (he : e = e') (r : Fin 19456) (t : Fin 6144) (hx : ∀ k, x (ix2 r k) = h (ix2 t k)) (c : Fin 4096) : expert x wg wu wd e r c = served h wg wu wd e' t c := by
  subst he
  unfold expert served unit
  simp only [hx]

/-- Rows of the result array, taken by a column of the pairs' rows. -/
def taken (y : FVec Ideal S19456x4096 .f32) (d : IVec S6144 32) : FVec Ideal S6144x4096 .f32 :=
  Host.gather gather_S19456x4096_S6144x1_S6144x4096_1_0_n_n_0_1_14096 y (broadcastInDim S6144x1 ![0] bcast_S6144_S6144x1_0 d)

/-- The first column, -/
def first (d : IVec S6144x2 32) : IVec S6144 32 := shapeCast S6144 (extractStridedSlice S6144x1 ![0, 0] d slices_S6144x2_S6144x1_0_0) shapeCasts_S6144x1_S6144
/-- and the second. -/
def second (d : IVec S6144x2 32) : IVec S6144 32 := shapeCast S6144 (extractStridedSlice S6144x1 ![0, 1] d slices_S6144x2_S6144x1_0_1) shapeCasts_S6144x1_S6144

theorem first_apply (d : IVec S6144x2 32) (t : Fin 6144) : first d (ix1 t) = d (ix2 t (0 : Fin 2)) := by
  refine (Routing.cast21 _ shapeCasts_S6144x1_S6144 t (0 : Fin 1) t (by simp)).trans (congrArg d (funext fun a => Fin.ext ?_))
  match a with
  | ⟨0, _⟩ => exact Nat.zero_add _
  | ⟨1, _⟩ => rfl

theorem second_apply (d : IVec S6144x2 32) (t : Fin 6144) : second d (ix1 t) = d (ix2 t (1 : Fin 2)) := by
  refine (Routing.cast21 _ shapeCasts_S6144x1_S6144 t (0 : Fin 1) t (by simp)).trans (congrArg d (funext fun a => Fin.ext ?_))
  match a with
  | ⟨0, _⟩ => exact Nat.zero_add _
  | ⟨1, _⟩ => rfl

theorem taken_apply (y : FVec Ideal S19456x4096 .f32) (d : IVec S6144 32) (t : Fin 6144) (c : Fin 4096) (r : Fin 19456) (hr : d (ix1 t) = BitVec.ofNat 32 r.val) :
    taken y d (ix2 t c) = y (ix2 r c) :=
  Routing.gather_row (nb := 19456) (B := 4096) (n := 6144) _ rfl rfl rfl rfl rfl y _ t c r ((Routing.bcCol bcast_S6144_S6144x1_0 d t).trans hr) (by norm_num)

variable (h : Tables m)

/-- The two results, from the result array. -/
def out0 (c : Dev nD) : FVec Ideal S6144x4096 .f32 := taken (result m h c) (first (V m c main_v41 : IVec S6144x2 32))
def out1 (c : Dev nD) : FVec Ideal S6144x4096 .f32 := taken (result m h c) (second (V m c main_v41 : IVec S6144x2 32))

theorem tails (c : Dev nD) :
    Pipeline.afterTail (pcfgs (F := Ideal)) (fun _ => adm m h) (dats m h) 0 (V0 m) behind c main_v83 = out0 m h c
    ∧ Pipeline.afterTail (pcfgs (F := Ideal)) (fun _ => adm m h) (dats m h) 0 (V0 m) behind c main_v86 = out1 m h c := by
  unfold Pipeline.afterTail
  have e80 : (Pipeline.withArrays spec0 c (V0 m c) fun w => (dats m h 0 c).arrAt w grid0.N) (Proc.devRef (τ := τ) .tc main_v80) = result m h c :=
    (Pipeline.withArrays_arr spec0 (by decide) c (V0 m c) _ (4 : Fin 5)).trans (final_o m h c)
  have e41 : (Pipeline.withArrays spec0 c (V0 m c) fun w => (dats m h 0 c).arrAt w grid0.N) (Proc.devRef (τ := τ) .tc main_v41) = V m c main_v41 :=
    Pipeline.withArrays_of_ne spec0 c (V0 m c) _ main_v41 (by decide)
  unfold out0 out1
  generalize result m h c = y at e80 ⊢
  generalize V m c main_v41 = d at e41 ⊢
  change (StableHlo.after behind.flatten (Pipeline.withArrays spec0 c (V0 m c) fun w => (dats m h 0 c).arrAt w grid0.N) (Proc.devRef (τ := τ) .tc main_v83) = _
    ∧ StableHlo.after behind.flatten (Pipeline.withArrays spec0 c (V0 m c) fun w => (dats m h 0 c).arrAt w grid0.N) (Proc.devRef (τ := τ) .tc main_v86) = _)
  generalize (Pipeline.withArrays spec0 c (V0 m c) fun w => (dats m h 0 c).arrAt w grid0.N) = U at e80 e41 ⊢
  constructor
  · after_reads_simp
    rw [e80, e41]
    rfl
  · after_reads_simp
    rw [e80, e41]
    rfl

/-- The run: the two results, the arguments unchanged. -/
theorem run : θ_run defs (onTc (τ := τ) (main (F := Ideal))) ⟨m, fun _ => 0, ρ⟩ (fun r => ∀ c : Dev nD,
    r.2.mem ((c.tc : Thread nD τ).loc main_v83) = out0 m h c
    ∧ r.2.mem ((c.tc : Thread nD τ).loc main_v86) = out1 m h c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r hr c =>
    ⟨((hr.1 c).2 main_v83 (show main_v83 ∈ Pipeline.restRefs sig spec0 by decide)).trans (tails m h c).1,
     ((hr.1 c).2 main_v86 (show main_v86 ∈ Pipeline.restRefs sig spec0 by decide)).trans (tails m h c).2, unchanged_of m h r hr.1 c⟩) (run_main m ρ h)

/-! ## The results at an element -/

section Values

variable (ex : ℕ → ℕ) (hex : ∀ p < 12288, ex p < 8)
  (h2 : ∀ p : Fin 12288, (V m 0 main_v2 : IVec S12288 32) (ix1 p) = BitVec.ofNat 32 (ex p.val))

include h2

/-- The array's row of a pair: its token under its expert. -/
theorem result_pair (p : Fin 12288) (t : Fin 6144) (ht : t.val = p.val / 2) (c : Fin 4096) :
    result m h 0 (ix2 (⟨dst ex p.val, dst_lt hex p.isLt⟩ : Fin 19456) c)
      = served (m (((0 : Dev nD).tc : Thread nD τ).loc main_arg0)) (m (((0 : Dev nD).tc : Thread nD τ).loc main_arg2)) (m (((0 : Dev nD).tc : Thread nD τ).loc main_arg3))
          (m (((0 : Dev nD).tc : Thread nD τ).loc main_arg4)) ⟨ex p.val, hex _ p.isLt⟩ t c := by
  have hlt := block_lt_items hex p.isLt
  have hrow := (row_lt (ex := ex) p.isLt).1
  have hie : ie m (ix1 (⟨dst ex p.val / 1024, hlt⟩ : Fin 19)) = BitVec.ofNat 32 (ex p.val) := by
    rw [ie_eq]; exact R56 m 0 ex hex h2 p _ rfl
  have hnv : nv m (ix1 (⟨dst ex p.val / 1024, hlt⟩ : Fin 19)) = BitVec.ofNat 32 (min (cnt ex (ex p.val) - (dst ex p.val / 1024 - bst ex (ex p.val)) * 1024) 1024) := by
    rw [nv_eq]; exact R78 m 0 ex hex h2 p _ rfl
  have hn : (nv m (ix1 (⟨dst ex p.val / 1024, hlt⟩ : Fin 19)) : BitVec 32).toNat = min (cnt ex (ex p.val) - (dst ex p.val / 1024 - bst ex (ex p.val)) * 1024) 1024 := by
    rw [hnv, BitVec.toNat_ofNat, Nat.mod_eq_of_lt (by omega)]
  refine (result_apply m h 0 _ (ix1 (⟨dst ex p.val / 1024, hlt⟩ : Fin 19)) rfl (by rw [hn]; omega) (by rw [hn]; exact hrow)).trans ?_
  refine expert_served _ _ _ _ _ _ _ (Fin.ext ?_) _ t (fun k => ?_) c
  · show (ie m (ix1 (⟨dst ex p.val / 1024, hlt⟩ : Fin 19)) : BitVec 32).toNat = ex p.val
    rw [hie, BitVec.toNat_ofNat, Nat.mod_eq_of_lt (by have := hex _ p.isLt; omega)]
  · rw [rows_eq]
    exact R79 m 0 ex hex h2 p k t ht

theorem out0_apply (t : Fin 6144) (c : Fin 4096) : out0 m h 0 (ix2 t c)
      = served (m (((0 : Dev nD).tc : Thread nD τ).loc main_arg0)) (m (((0 : Dev nD).tc : Thread nD τ).loc main_arg2)) (m (((0 : Dev nD).tc : Thread nD τ).loc main_arg3))
          (m (((0 : Dev nD).tc : Thread nD τ).loc main_arg4)) ⟨ex (t.val * 2), hex _ (by omega)⟩ t c :=
  (taken_apply _ _ t c (⟨dst ex (t.val * 2), dst_lt hex (by omega)⟩ : Fin 19456) ((first_apply _ t).trans (R41 m 0 ex hex h2 t 0))).trans
    (result_pair m h ex hex h2 (⟨t.val * 2, by omega⟩ : Fin 12288) t (by show t.val = t.val * 2 / 2; omega) c)

theorem out1_apply (t : Fin 6144) (c : Fin 4096) : out1 m h 0 (ix2 t c)
      = served (m (((0 : Dev nD).tc : Thread nD τ).loc main_arg0)) (m (((0 : Dev nD).tc : Thread nD τ).loc main_arg2)) (m (((0 : Dev nD).tc : Thread nD τ).loc main_arg3))
          (m (((0 : Dev nD).tc : Thread nD τ).loc main_arg4)) ⟨ex (t.val * 2 + 1), hex _ (by omega)⟩ t c :=
  (taken_apply _ _ t c (⟨dst ex (t.val * 2 + 1), dst_lt hex (by omega)⟩ : Fin 19456) ((second_apply _ t).trans (R41 m 0 ex hex h2 t 1))).trans
    (result_pair m h ex hex h2 (⟨t.val * 2 + 1, by omega⟩ : Fin 12288) t (by show t.val = (t.val * 2 + 1) / 2; omega) c)

end Values

end Cert.KernelIdeal.Hand

end
-- ==== Proof.RefValue.lean ====
/- The reference's two results at an element: the feed-forward of the token under its first expert and under its second. -/
module

public import proofs.«01_k».proof.Proof.Gen.ReferenceIdeal.Read
public import Idealize.ShloMosaic.Lib.Pointwise
public import Idealize.ShloMosaic.PureOps.Ideal.Laws

@[expose] public section

set_option maxRecDepth 16384

noncomputable section

namespace Cert.ReferenceIdeal.RefValue

open Cert.ReferenceIdeal Cert.ReferenceIdeal.Gen Cert.ReferenceIdeal.Read Idealize.ShloMosaic

attribute [local instance] Cert.ReferenceIdeal.Gen.facts

/-! ## One expert's layer -/

/-- The gated activations of every row under one expert's two weight matrices. -/
def hidden (x : FVec Ideal S6144x4096 .bf16) (wg wu : FVec Ideal S4096x14336 .f32) : FVec Ideal S6144x14336 .f32 :=
  let g := Host.dotGeneral dot_S6144x4096_S4096x14336_S6144x14336_1_0_0_1_n_n none (extf .f32 x bitsLt_bf16_f32) wg
  mulf (mulf g (Host.divf (val_main_call2_v4 (F := Ideal)) (addf (val_main_call2_v2 (F := Ideal)) (Host.exp (Host.negf g)))))
    (Host.dotGeneral dot_S6144x4096_S4096x14336_S6144x14336_1_0_0_1_n_n none (extf .f32 x bitsLt_bf16_f32) wu)

/-- One expert's layer on every row. -/
def layer (x : FVec Ideal S6144x4096 .bf16) (wg wu : FVec Ideal S4096x14336 .f32) (wd : FVec Ideal S14336x4096 .f32) : FVec Ideal S6144x4096 .f32 :=
  Host.dotGeneral dot_S6144x14336_S14336x4096_S6144x4096_1_0_0_1_n_n none (hidden x wg wu) wd

theorem one_word : FloatOps.ofBits (F := Ideal) .f32 0x3F800000#32 = (1 : EReal) := by
  pointwise

theorem zero_word : FloatOps.ofBits (F := Ideal) .f32 0x00000000#32 = (0 : EReal) := by
  pointwise

theorem first_apply (x : FVec Ideal S6144x4096 .bf16) (w : FVec Ideal S4096x14336 .f32) (r : Fin 6144) (j : Fin 14336) :
    Host.dotGeneral dot_S6144x4096_S4096x14336_S6144x14336_1_0_0_1_n_n none (extf .f32 x bitsLt_bf16_f32) w (ix2 r j)
      = ∑ k : Fin 4096, x (ix2 r k) * w (ix2 k j) := by
  pointwise!

theorem hidden_apply (x : FVec Ideal S6144x4096 .bf16) (wg wu : FVec Ideal S4096x14336 .f32) (r : Fin 6144) (j : Fin 14336) :
    hidden x wg wu (ix2 r j) = (∑ k : Fin 4096, x (ix2 r k) * wg (ix2 k j)) * Ideal.logistic (∑ k : Fin 4096, x (ix2 r k) * wg (ix2 k j))
      * ∑ k : Fin 4096, x (ix2 r k) * wu (ix2 k j) := by
  rw [← first_apply, ← first_apply]
  unfold hidden
  generalize Host.dotGeneral dot_S6144x4096_S4096x14336_S6144x14336_1_0_0_1_n_n none (extf .f32 x bitsLt_bf16_f32) wg = g
  show _ * Ideal.div (val_main_call2_v4 (F := Ideal) (ix2 r j)) (val_main_call2_v2 (F := Ideal) (ix2 r j) + Ideal.exp (-(g (ix2 r j)))) * _ = _
  rw [val_main_call2_v4_apply, val_main_call2_v2_apply, val_main_call2_cst_apply, val_main_call2_cst_0_apply, one_word]
  rfl

theorem layer_apply (x : FVec Ideal S6144x4096 .bf16) (wg wu : FVec Ideal S4096x14336 .f32) (wd : FVec Ideal S14336x4096 .f32) (r : Fin 6144) (c : Fin 4096) :
    layer x wg wu wd (ix2 r c) = ∑ j : Fin 14336, hidden x wg wu (ix2 r j) * wd (ix2 j c) := by
  unfold layer
  generalize hidden x wg wu = y
  pointwise!

/-! ## The experts' slices of the weights and their columns of the indicator -/

theorem up_apply (e : ℕ) (he : e < 8) (w : FVec Ideal S1x8x4096x14336 .f32) (hs : S1x8x4096x14336.Slices ![0, e, 0, 0] S1x1x4096x14336)
    (hc) (k : Fin 4096) (j : Fin 14336) :
    shapeCast S4096x14336 (extractStridedSlice S1x1x4096x14336 ![0, e, 0, 0] w hs) hc (ix2 k j) = w (ix4 0 ⟨e, he⟩ k j) := by
  pointwise!

theorem down_apply (e : ℕ) (he : e < 8) (w : FVec Ideal S1x8x14336x4096 .f32) (hs : S1x8x14336x4096.Slices ![0, e, 0, 0] S1x1x14336x4096)
    (hc) (j : Fin 14336) (c : Fin 4096) :
    shapeCast S14336x4096 (extractStridedSlice S1x1x14336x4096 ![0, e, 0, 0] w hs) hc (ix2 j c) = w (ix4 0 ⟨e, he⟩ j c) := by
  pointwise!

theorem column_apply (e : ℕ) (he : e < 8) (v : FVec Ideal S6144x8 .f32) (hs : S6144x8.Slices ![0, e] S6144x1) (hb) (r : Fin 6144) (c : Fin 4096) :
    broadcastInDim S6144x4096 ![0, 1] hb (extractStridedSlice S6144x1 ![0, e] v hs) (ix2 r c) = v (ix2 r ⟨e, he⟩) := by
  pointwise!

/-- The word of a truth value of equality. -/
theorem indicator_word (u : BitVec 32) (e : Fin 8) :
    FloatOps.uitofp (F := Ideal) .f32 (IntOp.cmpi .eq u (BitVec.ofNat 32 e.val)) = if u = BitVec.ofNat 32 e.val then 1 else 0 := by
  by_cases h : u = BitVec.ofNat 32 e.val
  · rw [if_pos h]
    have : IntOp.cmpi .eq u (BitVec.ofNat 32 e.val) = 1#1 := by rw [h]; simp [IntOp.cmpi]
    rw [this]
    show (((1#1 : BitVec 1).toNat : ℝ) : EReal) = 1
    simp
  · rw [if_neg h]
    have : IntOp.cmpi .eq u (BitVec.ofNat 32 e.val) = 0#1 := by
      show BitVec.ofBool (u == _) = 0#1
      rw [beq_false_of_ne h]; rfl
    rw [this]
    show (((0#1 : BitVec 1).toNat : ℝ) : EReal) = 0
    simp

/-- The expert in a column of a token's routing. -/
def chosen (x1 : FVec Ideal S6144x128 .f32) (t : Fin 6144) (k : Fin 128) : BitVec 32 := FloatOps.fptosi (F := Ideal) 32 (x1 (ix2 t k))

/-- The indicator of the token's first expert, -/
theorem indicator0 (x1 : FVec Ideal S6144x128 .f32) (r : Fin 6144) (e : Fin 8) :
    val_main_v4 (F := Ideal) x1 (ix2 r e) = if chosen x1 r 0 = BitVec.ofNat 32 e.val then 1 else 0 := by
  rw [val_main_v4_apply, val_main_call0_v4_apply, val_main_call0_v2_apply, val_main_call0_v0_apply, val_main_v3_apply, val_main_v2_apply, val_main_v1_apply,
    val_main_call0_v3_apply, val_main_call0_v1_apply]
  have e1 : idx_main_v1 (idx_main_v2 (idx_main_call0_v0 (idx_main_call0_v2 (ix2 r e)))) = ix2 r 0 := by
    funext a
    match a with
    | ⟨0, _⟩ => exact Fin.ext (by simp)
    | ⟨1, _⟩ => exact Fin.ext (by simp)
  rw [e1]
  exact indicator_word (chosen x1 r 0) e

/-- and of its second. -/
theorem indicator1 (x1 : FVec Ideal S6144x128 .f32) (r : Fin 6144) (e : Fin 8) :
    val_main_v8 (F := Ideal) x1 (ix2 r e) = if chosen x1 r 1 = BitVec.ofNat 32 e.val then 1 else 0 := by
  rw [val_main_v8_apply, val_main_call1_v4_apply, val_main_call1_v2_apply, val_main_call1_v0_apply, val_main_v7_apply, val_main_v6_apply, val_main_v5_apply,
    val_main_call1_v3_apply, val_main_call1_v1_apply]
  have e1 : idx_main_v5 (idx_main_v6 (idx_main_call1_v0 (idx_main_call1_v2 (ix2 r e)))) = ix2 r 1 := by
    funext a
    match a with
    | ⟨0, _⟩ => exact Fin.ext (by simp)
    | ⟨1, _⟩ => exact Fin.ext (by simp)
  rw [e1]
  exact indicator_word (chosen x1 r 1) e

/-! ## The sum over the experts -/

/-- Expert `e`'s feed-forward of row `r`, column `c`. -/
def expert (x : FVec Ideal S6144x4096 .bf16) (wg wu : FVec Ideal S1x8x4096x14336 .f32) (wd : FVec Ideal S1x8x14336x4096 .f32)
    (e : Fin 8) (r : Fin 6144) (c : Fin 4096) : EReal :=
  ∑ j : Fin 14336, (∑ k : Fin 4096, x (ix2 r k) * wg (ix4 0 e k j)) * Ideal.logistic (∑ k : Fin 4096, x (ix2 r k) * wg (ix4 0 e k j))
      * (∑ k : Fin 4096, x (ix2 r k) * wu (ix4 0 e k j)) * wd (ix4 0 e j c)

theorem layer_expert (x : FVec Ideal S6144x4096 .bf16) (wg wu : FVec Ideal S1x8x4096x14336 .f32) (wd : FVec Ideal S1x8x14336x4096 .f32)
    (e : Fin 8) (g u : FVec Ideal S4096x14336 .f32) (d : FVec Ideal S14336x4096 .f32) (hg : ∀ k j, g (ix2 k j) = wg (ix4 0 e k j))
    (hu : ∀ k j, u (ix2 k j) = wu (ix4 0 e k j)) (hd : ∀ j c, d (ix2 j c) = wd (ix4 0 e j c)) (r : Fin 6144) (c : Fin 4096) :
    layer x g u d (ix2 r c) = expert x wg wu wd e r c := by
  rw [layer_apply]
  unfold expert
  refine Finset.sum_congr rfl fun j _ => ?_
  rw [hidden_apply, hd]
  simp only [hg, hu]

section Terms
variable (x0 : FVec Ideal S6144x4096 .bf16) (x1 : FVec Ideal S6144x128 .f32) (x2 x3 : FVec Ideal S1x8x4096x14336 .f32) (x4 : FVec Ideal S1x8x14336x4096 .f32)
  (r : Fin 6144) (c : Fin 4096)

/-- Expert `e`'s term of the sum for a token whose expert is the word `u`. -/
def term (u : BitVec 32) (e : Fin 8) : EReal := (if u = BitVec.ofNat 32 e.val then 1 else 0) * expert x0 x2 x3 x4 e r c

/-- A term of either sum: the indicator's column times the expert's layer. -/
theorem term_of (u : BitVec 32) (v : FVec Ideal S6144x8 .f32) (hv : ∀ e : Fin 8, v (ix2 r e) = if u = BitVec.ofNat 32 e.val then 1 else 0) (e : ℕ) (he : e < 8)
    (hs : S6144x8.Slices ![0, e] S6144x1) (hu : S1x8x4096x14336.Slices ![0, e, 0, 0] S1x1x4096x14336) (hd : S1x8x14336x4096.Slices ![0, e, 0, 0] S1x1x14336x4096) :
    mulf (broadcastInDim S6144x4096 ![0, 1] bcast_S6144x1_S6144x4096_0_1 (extractStridedSlice S6144x1 ![0, e] v hs))
      (layer x0 (shapeCast S4096x14336 (extractStridedSlice S1x1x4096x14336 ![0, e, 0, 0] x2 hu) shapeCasts_S1x1x4096x14336_S4096x14336)
        (shapeCast S4096x14336 (extractStridedSlice S1x1x4096x14336 ![0, e, 0, 0] x3 hu) shapeCasts_S1x1x4096x14336_S4096x14336)
        (shapeCast S14336x4096 (extractStridedSlice S1x1x14336x4096 ![0, e, 0, 0] x4 hd) shapeCasts_S1x1x14336x4096_S14336x4096)) (ix2 r c)
      = term x0 x2 x3 x4 r c u ⟨e, he⟩ := by
  show _ * _ = _
  rw [column_apply e he, hv, layer_expert x0 x2 x3 x4 ⟨e, he⟩ _ _ _ (up_apply e he x2 hu _) (up_apply e he x3 hu _) (down_apply e he x4 hd _)]
  rfl

/-- The sum of the terms is the chosen expert's feed-forward. -/
theorem sum_terms (u : BitVec 32) (h : u.toNat < 8) : ∑ e : Fin 8, term x0 x2 x3 x4 r c u e = expert x0 x2 x3 x4 ⟨u.toNat, h⟩ r c := by
  rw [Finset.sum_eq_single ⟨u.toNat, h⟩]
  · unfold term
    rw [if_pos (by simp), one_mul]
  · intro e _ he
    unfold term
    rw [if_neg, zero_mul]
    intro heq
    apply he
    apply Fin.ext
    show e.val = BitVec.toNat _
    rw [heq, BitVec.toNat_ofNat, Nat.mod_eq_of_lt (by omega)]
  · exact fun hn => absurd (Finset.mem_univ _) hn

/-- The reference's first result: the feed-forward of the token's first expert. -/
theorem value0 (h : (chosen x1 r 0).toNat < 8) : val_main_v158 (F := Ideal) x0 x1 x2 x3 x4 (ix2 r c) = expert x0 x2 x3 x4 ⟨(chosen x1 r 0).toNat, h⟩ r c := by
  have tm := term_of x0 x2 x3 x4 r c _ _ (indicator0 x1 r)
  rw [val_main_v158_apply, val_main_v139_apply, val_main_v120_apply, val_main_v101_apply, val_main_v82_apply, val_main_v63_apply, val_main_v44_apply, val_main_v25_apply, val_main_v9_apply, val_main_cst_apply, zero_word,
    ← sum_terms, Fin.sum_univ_eight, ← zero_add (term _ _ _ _ _ _ _ 0)]
  exact congrArg₂ _ (congrArg₂ _ (congrArg₂ _ (congrArg₂ _ (congrArg₂ _ (congrArg₂ _ (congrArg₂ _ (congrArg (fun z => (0 + z : EReal)) (tm 0 (by decide) slices_S6144x8_S6144x1_0_0 slices_S1x8x4096x14336_S1x1x4096x14336_0_0_0_0 slices_S1x8x14336x4096_S1x1x14336x4096_0_0_0_0))
    (tm 1 (by decide) slices_S6144x8_S6144x1_0_1 slices_S1x8x4096x14336_S1x1x4096x14336_0_1_0_0 slices_S1x8x14336x4096_S1x1x14336x4096_0_1_0_0))
    (tm 2 (by decide) slices_S6144x8_S6144x1_0_2 slices_S1x8x4096x14336_S1x1x4096x14336_0_2_0_0 slices_S1x8x14336x4096_S1x1x14336x4096_0_2_0_0))
    (tm 3 (by decide) slices_S6144x8_S6144x1_0_3 slices_S1x8x4096x14336_S1x1x4096x14336_0_3_0_0 slices_S1x8x14336x4096_S1x1x14336x4096_0_3_0_0))
    (tm 4 (by decide) slices_S6144x8_S6144x1_0_4 slices_S1x8x4096x14336_S1x1x4096x14336_0_4_0_0 slices_S1x8x14336x4096_S1x1x14336x4096_0_4_0_0))
    (tm 5 (by decide) slices_S6144x8_S6144x1_0_5 slices_S1x8x4096x14336_S1x1x4096x14336_0_5_0_0 slices_S1x8x14336x4096_S1x1x14336x4096_0_5_0_0))
    (tm 6 (by decide) slices_S6144x8_S6144x1_0_6 slices_S1x8x4096x14336_S1x1x4096x14336_0_6_0_0 slices_S1x8x14336x4096_S1x1x14336x4096_0_6_0_0))
    (tm 7 (by decide) slices_S6144x8_S6144x1_0_7 slices_S1x8x4096x14336_S1x1x4096x14336_0_7_0_0 slices_S1x8x14336x4096_S1x1x14336x4096_0_7_0_0)

/-- The reference's second result: the feed-forward of the token's second expert. -/
theorem value1 (h : (chosen x1 r 1).toNat < 8) : val_main_v162 (F := Ideal) x0 x1 x2 x3 x4 (ix2 r c) = expert x0 x2 x3 x4 ⟨(chosen x1 r 1).toNat, h⟩ r c := by
  have tm := term_of x0 x2 x3 x4 r c _ _ (indicator1 x1 r)
  rw [val_main_v162_apply, val_main_v143_apply, val_main_v124_apply, val_main_v105_apply, val_main_v86_apply, val_main_v67_apply, val_main_v48_apply, val_main_v29_apply, val_main_v10_apply, val_main_cst_0_apply, zero_word,
    ← sum_terms, Fin.sum_univ_eight, ← zero_add (term _ _ _ _ _ _ _ 0)]
  exact congrArg₂ _ (congrArg₂ _ (congrArg₂ _ (congrArg₂ _ (congrArg₂ _ (congrArg₂ _ (congrArg₂ _ (congrArg (fun z => (0 + z : EReal)) (tm 0 (by decide) slices_S6144x8_S6144x1_0_0 slices_S1x8x4096x14336_S1x1x4096x14336_0_0_0_0 slices_S1x8x14336x4096_S1x1x14336x4096_0_0_0_0))
    (tm 1 (by decide) slices_S6144x8_S6144x1_0_1 slices_S1x8x4096x14336_S1x1x4096x14336_0_1_0_0 slices_S1x8x14336x4096_S1x1x14336x4096_0_1_0_0))
    (tm 2 (by decide) slices_S6144x8_S6144x1_0_2 slices_S1x8x4096x14336_S1x1x4096x14336_0_2_0_0 slices_S1x8x14336x4096_S1x1x14336x4096_0_2_0_0))
    (tm 3 (by decide) slices_S6144x8_S6144x1_0_3 slices_S1x8x4096x14336_S1x1x4096x14336_0_3_0_0 slices_S1x8x14336x4096_S1x1x14336x4096_0_3_0_0))
    (tm 4 (by decide) slices_S6144x8_S6144x1_0_4 slices_S1x8x4096x14336_S1x1x4096x14336_0_4_0_0 slices_S1x8x14336x4096_S1x1x14336x4096_0_4_0_0))
    (tm 5 (by decide) slices_S6144x8_S6144x1_0_5 slices_S1x8x4096x14336_S1x1x4096x14336_0_5_0_0 slices_S1x8x14336x4096_S1x1x14336x4096_0_5_0_0))
    (tm 6 (by decide) slices_S6144x8_S6144x1_0_6 slices_S1x8x4096x14336_S1x1x4096x14336_0_6_0_0 slices_S1x8x14336x4096_S1x1x14336x4096_0_6_0_0))
    (tm 7 (by decide) slices_S6144x8_S6144x1_0_7 slices_S1x8x4096x14336_S1x1x4096x14336_0_7_0_0 slices_S1x8x14336x4096_S1x1x14336x4096_0_7_0_0)

end Terms

end Cert.ReferenceIdeal.RefValue

end
-- ==== Proof.Tables.lean ====
module

public import proofs.«01_k».proof.Proof.Gen.Pre_experts_in_range
public import Idealize.ShloMosaic.Lib.Claim
public import Idealize.ShloMosaic.Lib.Tactic
public import Idealize.ShloMosaic.Lib.StableHlo.Predicate
public import Idealize.ShloMosaic.Lib.ValueIdx
public import Idealize.ShloMosaic.Lib.Pipeline.Value

@[expose] public section

noncomputable section

namespace Cert.Tables

open Idealize.ShloMosaic Idealize.ShloMosaic.TcCoe Idealize.ShloMosaic.StableHlo.Predicate Idealize.ShloMosaic.ValueIdx

attribute [local instance] Cert.Pre_experts_in_range.Gen.facts

variable {F : FTy → Type} [FloatOps F]

theorem ofBool_and (a b : Bool) : BitVec.ofBool a &&& BitVec.ofBool b = BitVec.ofBool (a && b) := by cases a <;> cases b <;> rfl

theorem lt_eight (x : BitVec 32) (h : Scalar.cmpi .sge x 0#32 &&& Scalar.cmpi .slt x 8#32 = 1#1) : x.toNat < 8 := by
  simp only [Scalar.cmpi, IntOp.cmpi, ofBool_and, ofBool_eq_one_iff, Bool.and_eq_true, BitVec.sle_eq_decide,
    BitVec.slt_eq_decide, decide_eq_true_eq, BitVec.toInt_eq_toNat_cond, BitVec.toNat_ofNat] at h
  have hx := x.isLt
  obtain ⟨h1, h2⟩ := h
  split_ifs at * <;> omega

/-- The precondition decoded: both experts of every token are below eight. -/
theorem of_pre (a0 : FVec F ⟨2, ![6144, 4096]⟩ .bf16) (a1 : FVec F ⟨2, ![6144, 128]⟩ .f32) (a2 a3 : FVec F ⟨4, ![1, 8, 4096, 14336]⟩ .f32)
    (a4 : FVec F ⟨4, ![1, 8, 14336, 4096]⟩ .f32) (h : Cert.Pre_experts_in_range.fn a0 a1 a2 a3 a4 = fun _ => 1#1) (t : Fin 6144) (k : Fin 128) (hk : k.val < 2) :
    (FloatOps.fptosi (F := F) 32 (a1 (ix2 t k)) : BitVec 32).toNat < 8 := by
  have e := congrFun h (ix2 t ⟨k.val, hk⟩)
  simp only [Cert.Pre_experts_in_range.fn] at e
  have e1 := lt_eight _ e
  have es : extractStridedSlice Cert.Pre_experts_in_range.S6144x2 ![0, 0] a1 Cert.Pre_experts_in_range.Facts.slices_S6144x128_S6144x2_0_0 (ix2 t ⟨k.val, hk⟩) = a1 (ix2 t k) :=
    congrArg a1 (funext fun a => Fin.ext (match a with
      | ⟨0, _⟩ => Nat.zero_add _
      | ⟨1, _⟩ => Nat.zero_add _))
  rw [← es]
  exact e1

end Cert.Tables

end
-- ==== Proof.Algebra.lean ====
/- The value claim: the kernel's two results over the extended reals are the reference's. -/
module

public import proofs.«01_k».proof.Defs
public import proofs.«01_k».proof.Proof.KIDone
public import proofs.«01_k».proof.Proof.RefValue
public import proofs.«01_k».proof.Proof.Tables

@[expose] public section

noncomputable section

namespace Cert.Algebra

open Idealize.ShloMosaic Idealize.SL.Sem

attribute [local instance] Cert.KernelIdeal.Gen.facts Cert.ReferenceIdeal.Gen.facts Cert.Pre_experts_in_range.Gen.facts

/-- The pairs' experts, in the pairs' order: a token's first, then its second. -/
def experts (x1 : FVec Ideal ⟨2, ![6144, 128]⟩ .f32) (p : ℕ) : ℕ :=
  if h : p / 2 < 6144 then (Cert.ReferenceIdeal.RefValue.chosen x1 ⟨p / 2, h⟩ ⟨p % 2, by omega⟩).toNat else 0

/-- The kernel reads the pairs' experts in that order. -/
theorem pairs (x1 : FVec Ideal ⟨2, ![6144, 128]⟩ .f32) (hs) (hc) (p : Fin 12288) :
    shapeCast (⟨1, ![12288]⟩ : Shape) (fptosi 32 (extractStridedSlice (⟨2, ![6144, 2]⟩ : Shape) ![0, 0] x1 hs)) hc (ix1 p) = BitVec.ofNat 32 (experts x1 p.val) := by
  have hp : p.val / 2 < 6144 := by omega
  have e : experts x1 p.val = (Cert.ReferenceIdeal.RefValue.chosen x1 ⟨p.val / 2, hp⟩ ⟨p.val % 2, by omega⟩).toNat := dif_pos hp
  rw [e, BitVec.ofNat_toNat, BitVec.setWidth_eq]
  refine (Routing.cast21 _ hc ⟨p.val / 2, hp⟩ (⟨p.val % 2, by omega⟩ : Fin 2) p (by show p.val = p.val / 2 * 2 + p.val % 2; omega)).trans ?_
  exact congrArg (fun i => FloatOps.fptosi (F := Ideal) 32 (x1 i)) (funext fun a => Fin.ext (match a with
    | ⟨0, _⟩ => Nat.zero_add _
    | ⟨1, _⟩ => Nat.zero_add _))

/-- Both programs' forms of one expert's feed-forward are one sum. -/
theorem served_eq (x : FVec Ideal ⟨2, ![6144, 4096]⟩ .bf16) (wg wu : FVec Ideal ⟨4, ![1, 8, 4096, 14336]⟩ .f32) (wd : FVec Ideal ⟨4, ![1, 8, 14336, 4096]⟩ .f32)
    (e e' : Fin 8) (he : e = e') (t : Fin 6144) (c : Fin 4096) :
    Cert.KernelIdeal.Hand.served x wg wu wd e t c = Cert.ReferenceIdeal.RefValue.expert x wg wu wd e' t c := by subst he; rfl

section Results

variable (x0 y0 : FVec Ideal ⟨2, ![6144, 4096]⟩ .bf16) (x1 y1 : FVec Ideal ⟨2, ![6144, 128]⟩ .f32) (x2 y2 x3 y3 : FVec Ideal ⟨4, ![1, 8, 4096, 14336]⟩ .f32)
  (x4 y4 : FVec Ideal ⟨4, ![1, 8, 14336, 4096]⟩ .f32) (e0 : y0 = x0) (e1 : y1 = x1) (e2 : y2 = x2) (e3 : y3 = x3) (e4 : y4 = x4)
  (hex : ∀ p < 12288, experts x1 p < 8) (t : Fin 6144) (c : Fin 4096)

include e0 e1 e2 e3 e4

/-- The reference's first result, from the arrays the two programs share, in the kernel's form, -/
theorem ref0 : Cert.ReferenceIdeal.Read.val_main_v158 (F := Ideal) y0 y1 y2 y3 y4 (ix2 t c)
    = Cert.KernelIdeal.Hand.served x0 x2 x3 x4 ⟨experts x1 (t.val * 2), hex _ (by omega)⟩ t c := by
  subst e0 e1 e2 e3 e4
  have e : experts y1 (t.val * 2) = (Cert.ReferenceIdeal.RefValue.chosen y1 t 0).toNat := by
    have h : t.val * 2 / 2 < 6144 := by omega
    refine (dif_pos h).trans (congrArg₂ (fun a b => (Cert.ReferenceIdeal.RefValue.chosen y1 a b).toNat) (Fin.ext ?_) (Fin.ext ?_))
    · show t.val * 2 / 2 = t.val; omega
    · show t.val * 2 % 2 = 0; omega
  exact (Cert.ReferenceIdeal.RefValue.value0 y0 y1 y2 y3 y4 t c (by rw [← e]; exact hex _ (by omega))).trans (served_eq _ _ _ _ _ _ (Fin.ext e) t c).symm

/-- and its second. -/
theorem ref1 : Cert.ReferenceIdeal.Read.val_main_v162 (F := Ideal) y0 y1 y2 y3 y4 (ix2 t c)
    = Cert.KernelIdeal.Hand.served x0 x2 x3 x4 ⟨experts x1 (t.val * 2 + 1), hex _ (by omega)⟩ t c := by
  subst e0 e1 e2 e3 e4
  have e : experts y1 (t.val * 2 + 1) = (Cert.ReferenceIdeal.RefValue.chosen y1 t 1).toNat := by
    have h : (t.val * 2 + 1) / 2 < 6144 := by omega
    refine (dif_pos h).trans (congrArg₂ (fun a b => (Cert.ReferenceIdeal.RefValue.chosen y1 a b).toNat) (Fin.ext ?_) (Fin.ext ?_))
    · show (t.val * 2 + 1) / 2 = t.val; omega
    · show (t.val * 2 + 1) % 2 = 1; omega
  exact (Cert.ReferenceIdeal.RefValue.value1 y0 y1 y2 y3 y4 t c (by rw [← e]; exact hex _ (by omega))).trans (served_eq _ _ _ _ _ _ (Fin.ext e) t c).symm

end Results

theorem algebraic : Cert.algebraic_KernelIdeal_ReferenceIdeal_pre_experts_in_range := fun m g m' g' hpre hag => by
  have hT : Cert.KernelIdeal.Hand.Tables m := Cert.KernelIdeal.Hand.tables m
  refine ⟨fun c => Cert.KernelIdeal.Hand.out0 m hT c, fun c => Cert.KernelIdeal.Hand.out1 m hT c,
    Cert.KernelIdeal.Hand.run m g hT, (θ_run _ _ _).mono (fun r hr c => ?_) (Cert.ReferenceIdeal.Value.run m' g')⟩
  obtain rfl : c = 0 := Subsingleton.elim _ _
  obtain ⟨a0, a1, a2, a3, a4⟩ := hag 0
  have hex : ∀ p < 12288, experts (m (((0 : Dev Cert.KernelIdeal.nD).tc : Thread Cert.KernelIdeal.nD Cert.KernelIdeal.τ).loc Cert.KernelIdeal.main_arg1)) p < 8 := by
    intro p hp
    have h : p / 2 < 6144 := by omega
    refine lt_of_eq_of_lt (dif_pos h) ?_
    exact Cert.Tables.of_pre _ _ _ _ _ (hpre 0) ⟨p / 2, h⟩ ⟨p % 2, by omega⟩ (by show p % 2 < 2; omega)
  have h2 := fun p : Fin 12288 => (congrFun (Cert.KernelIdeal.Hand.V_v2 m 0) (ix1 p)).trans
    (pairs (m (((0 : Dev Cert.KernelIdeal.nD).tc : Thread Cert.KernelIdeal.nD Cert.KernelIdeal.τ).loc Cert.KernelIdeal.main_arg1)) _ _ p)
  refine ⟨(hr 0).1.trans ((Cert.ReferenceIdeal.Read.val_main_v158_eq _).trans (funext fun i => ?_)),
    (hr 0).2.1.trans ((Cert.ReferenceIdeal.Read.val_main_v162_eq _).trans (funext fun i => ?_)), (hr 0).2.2⟩
  · exact (congrArg _ (eq_ix2 i)).trans ((ref0 _ _ _ _ _ _ _ _ _ _ a0 a1 a2 a3 a4 hex (i 0) (i 1)).trans
      ((Cert.KernelIdeal.Hand.out0_apply m hT _ hex h2 (i 0) (i 1)).symm.trans (congrArg _ (eq_ix2 i).symm)))
  · exact (congrArg _ (eq_ix2 i)).trans ((ref1 _ _ _ _ _ _ _ _ _ _ a0 a1 a2 a3 a4 hex (i 0) (i 1)).trans
      ((Cert.KernelIdeal.Hand.out1_apply m hT _ hex h2 (i 0) (i 1)).symm.trans (congrArg _ (eq_ix2 i).symm)))

end Cert.Algebra

end
-- ==== Proof.FfnBody.lean ====
/- The dense feed-forward kernel's body: what it leaves in its output block. -/
module

public import proofs.«01_k».proof.Proof.Gen.Kernel2Ideal.Launch
public import proofs.«01_k».proof.Proof.Gen.Kernel2Ideal.Skeleton
public import Idealize.ShloMosaic.Lib.Claim
public import Idealize.ShloMosaic.Lib.VecWindow
public import Idealize.ShloMosaic.Lib.Pipeline.TableIdle
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load through a literal window of a memref held by values reads that window. -/
theorem readAt_win {sp : Space} {s : Shape} {e : EltTy} (v : View sig .tc sp s e) (x : s.Idx → Elt F e) {off size : Fin s.rank → ℕ}
    (inb : ∀ a, off a + size a ≤ s.size a) :
    v.readAt (Elt F) (Rect.unit off size inb).toLoadRect (v.rep x) = window x off size inb := View.readAt_rep_unit v x inb rfl inb

/-- A memref held by values and not yet written reads its values. -/
theorem read_nil {sp : Space} {s : Shape} {e : EltTy} (v : View sig .tc sp s e) (x : s.Idx → Elt F e) :
    v.read (Elt F) (v.writes (Elt F) (v.rep x) []) = x := View.read_rep v x

/-- The hidden activations of the rows: the four K-chunks' products added in order, gated. -/
def act (x : Vec F S1024x4096 .bf16) (wg wu : Vec F S1x4096x256 .f32) : FVec F S1024x256 .bf16 :=
  k0_pay8 (k0_pay5 (window x ![0, 0] S1024x1024.size inb_S1024x4096_S1024x1024_0_0) (window wu ![0, 0, 0] S1x1024x256.size inb_S1x4096x256_S1x1024x256_0_0_0) (window x ![0, 1024] S1024x1024.size inb_S1024x4096_S1024x1024_0_1024) (window wu ![0, 1024, 0] S1x1024x256.size inb_S1x4096x256_S1x1024x256_0_1024_0))
    (k0_pay6 (window x ![0, 2048] S1024x1024.size inb_S1024x4096_S1024x1024_0_2048) (window wu ![0, 2048, 0] S1x1024x256.size inb_S1x4096x256_S1x1024x256_0_2048_0))
    (k0_pay7 (window x ![0, 0] S1024x1024.size inb_S1024x4096_S1024x1024_0_0) (window wg ![0, 0, 0] S1x1024x256.size inb_S1x4096x256_S1x1024x256_0_0_0) (window x ![0, 1024] S1024x1024.size inb_S1024x4096_S1024x1024_0_1024) (window wg ![0, 1024, 0] S1x1024x256.size inb_S1x4096x256_S1x1024x256_0_1024_0) (window x ![0, 2048] S1024x1024.size inb_S1024x4096_S1024x1024_0_2048) (window wg ![0, 2048, 0] S1x1024x256.size inb_S1x4096x256_S1x1024x256_0_2048_0))
    (window x ![0, 3072] S1024x1024.size inb_S1024x4096_S1024x1024_0_3072) (window wg ![0, 3072, 0] S1x1024x256.size inb_S1x4096x256_S1x1024x256_0_3072_0) (window wu ![0, 3072, 0] S1x1024x256.size inb_S1x4096x256_S1x1024x256_0_3072_0)

/-- What the products leave in the output block that held `d`: its eight column chunks added to. -/
def rowsAdded (x : Vec F S1024x4096 .bf16) (wg wu : Vec F S1x4096x256 .f32) (wd : Vec F S1x256x4096 .f32) (d : Vec F S1024x4096 .f32) : Vec F S1024x4096 .f32 :=
  let a := act x wg wu
  put (put (put (put (put (put (put (put d ![0, 0] S1024x512.size (k0_pay3 a (window d ![0, 0] S1024x512.size inb_S1024x4096_S1024x512_0_0) (window wd ![0, 0, 0] S1x256x512.size inb_S1x256x4096_S1x256x512_0_0_0))) ![0, 512] S1024x512.size (k0_pay3 a (window d ![0, 512] S1024x512.size inb_S1024x4096_S1024x512_0_512) (window wd ![0, 0, 512] S1x256x512.size inb_S1x256x4096_S1x256x512_0_0_512))) ![0, 1024] S1024x512.size (k0_pay3 a (window d ![0, 1024] S1024x512.size inb_S1024x4096_S1024x512_0_1024) (window wd ![0, 0, 1024] S1x256x512.size inb_S1x256x4096_S1x256x512_0_0_1024))) ![0, 1536] S1024x512.size (k0_pay3 a (window d ![0, 1536] S1024x512.size inb_S1024x4096_S1024x512_0_1536) (window wd ![0, 0, 1536] S1x256x512.size inb_S1x256x4096_S1x256x512_0_0_1536))) ![0, 2048] S1024x512.size (k0_pay3 a (window d ![0, 2048] S1024x512.size inb_S1024x4096_S1024x512_0_2048) (window wd ![0, 0, 2048] S1x256x512.size inb_S1x256x4096_S1x256x512_0_0_2048))) ![0, 2560] S1024x512.size (k0_pay3 a (window d ![0, 2560] S1024x512.size inb_S1024x4096_S1024x512_0_2560) (window wd ![0, 0, 2560] S1x256x512.size inb_S1x256x4096_S1x256x512_0_0_2560))) ![0, 3072] S1024x512.size (k0_pay3 a (window d ![0, 3072] S1024x512.size inb_S1024x4096_S1024x512_0_3072) (window wd ![0, 0, 3072] S1x256x512.size inb_S1x256x4096_S1x256x512_0_0_3072))) ![0, 3584] S1024x512.size (k0_pay3 a (window d ![0, 3584] S1024x512.size inb_S1024x4096_S1024x512_0_3584) (window wd ![0, 0, 3584] S1x256x512.size inb_S1x256x4096_S1x256x512_0_0_3584))

/-- The products' branch of the body. -/
def ifRows (i : grid0.Coords) (arg2 : Memref sig .tc .smem S6 .i32) (harg2 : arg2.IsWhole) (arg3 : Memref sig .tc .smem S6 .i32) (harg3 : arg3.IsWhole) (arg4 : Memref sig .tc .smem S6 .i32) (harg4 : arg4.IsWhole) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1x256x4096 .f32) (harg8 : arg8.IsWhole) (arg9 : Memref sig .tc .vmem S1024x4096 .f32) (harg9 : arg9.IsWhole) (v1 : Elt F .i32) :
    Prog (TpuEff nD τ sig (Elt F) Λ₀ .tc) PUnit :=
  if h : k0_cond2 v1 = 1#1 then do
    let ⟨v46, v55, v56⟩ : Σ' (v46 : FVec F S1024x256 .f32) (v55 : FVec F S1024x256 .f32), FVec F S1024x256 .f32 ← k0_part1 i arg2 harg2 arg3 harg3 arg4 harg4 arg5 harg5 arg6 harg6 arg7 harg7 arg8 harg8 arg9 harg9
    let v72 : FVec F S1024x256 .bf16 ← k0_part2 i arg2 harg2 arg3 harg3 arg4 harg4 arg5 harg5 arg6 harg6 arg7 harg7 arg8 harg8 arg9 harg9 v46 v55 v56
    let ⟨v114, v116⟩ : Σ' (v114 : FVec F S1024x512 .f32), FVec F S256x512 .f32 ← k0_part3 i arg2 harg2 arg3 harg3 arg4 harg4 arg5 harg5 arg6 harg6 arg7 harg7 arg8 harg8 arg9 harg9 v72
    let v120 : Vec F S1024x512 .f32 ← Prog.lift (.load arg9 (Rect.unit (s := S1024x4096) ![0, 2560] S1024x512.size inb_S1024x4096_S1024x512_0_2560).toLoadRect (View.loadsAt_vmem h_S1024x512))
    Prog.lift (.store arg9 (Rect.unit (s := S1024x4096) ![0, 2560] S1024x512.size inb_S1024x4096_S1024x512_0_2560) (k0_pay2 v72 v114 v116) Finset.univ (View.stores_vmem_bits_univ h_S1024x512 rfl) (.inl rfl))
    let v121 : Vec F S1024x512 .f32 ← Prog.lift (.load arg9 (Rect.unit (s := S1024x4096) ![0, 3072] S1024x512.size inb_S1024x4096_S1024x512_0_3072).toLoadRect (View.loadsAt_vmem h_S1024x512))
    let v123 : Vec F S1x256x512 .f32 ← Prog.lift (.load arg8 (Rect.unit (s := S1x256x4096) ![0, 0, 3072] S1x256x512.size inb_S1x256x4096_S1x256x512_0_0_3072).toLoadRect (View.loadsAt_vmem h_S1x256x512))
    let v128 : Vec F S1024x512 .f32 ← Prog.lift (.load arg9 (Rect.unit (s := S1024x4096) ![0, 3072] S1024x512.size inb_S1024x4096_S1024x512_0_3072).toLoadRect (View.loadsAt_vmem h_S1024x512))
    Prog.lift (.store arg9 (Rect.unit (s := S1024x4096) ![0, 3072] S1024x512.size inb_S1024x4096_S1024x512_0_3072) (k0_pay3 v72 v121 v123) Finset.univ (View.stores_vmem_bits_univ h_S1024x512 rfl) (.inl rfl))
    let v129 : Vec F S1024x512 .f32 ← Prog.lift (.load arg9 (Rect.unit (s := S1024x4096) ![0, 3584] S1024x512.size inb_S1024x4096_S1024x512_0_3584).toLoadRect (View.loadsAt_vmem h_S1024x512))
    let v131 : Vec F S1x256x512 .f32 ← Prog.lift (.load arg8 (Rect.unit (s := S1x256x4096) ![0, 0, 3584] S1x256x512.size inb_S1x256x4096_S1x256x512_0_0_3584).toLoadRect (View.loadsAt_vmem h_S1x256x512))
    let v136 : Vec F S1024x512 .f32 ← Prog.lift (.load arg9 (Rect.unit (s := S1024x4096) ![0, 3584] S1024x512.size inb_S1024x4096_S1024x512_0_3584).toLoadRect (View.loadsAt_vmem h_S1024x512))
    Prog.lift (.store arg9 (Rect.unit (s := S1024x4096) ![0, 3584] S1024x512.size inb_S1024x4096_S1024x512_0_3584) (k0_pay4 v72 v129 v131) Finset.univ (View.stores_vmem_bits_univ h_S1024x512 rfl) (.inl rfl))
    pure ⟨⟩
  else pure ⟨⟩

set_option maxHeartbeats 4000000 in
/-- The products' branch of the body, whatever follows it. -/
theorem segRows (c : Dev nD) (i : grid0.Coords) (arg2 : Memref sig .tc .smem S6 .i32) (harg2 : arg2.IsWhole) (arg3 : Memref sig .tc .smem S6 .i32) (harg3 : arg3.IsWhole) (arg4 : Memref sig .tc .smem S6 .i32) (harg4 : arg4.IsWhole) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1x256x4096 .f32) (harg8 : arg8.IsWhole) (arg9 : Memref sig .tc .vmem S1024x4096 .f32) (harg9 : arg9.IsWhole)
    (x : Vec F S1024x4096 .bf16) (wg wu : Vec F S1x4096x256 .f32) (wd : Vec F S1x256x4096 .f32) (d : Vec F S1024x4096 .f32) (v1 : Elt F .i32)
    (E : Set ℕ) (k : PUnit → Prog (TpuEff nD τ sig (Elt F) Λ₀ .tc) PUnit) (K : PUnit → sProp 𝕄) :
    iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (if k0_cond2 v1 = 1#1 then rowsAdded x wg wu wd d else d)))
          -∗ wp frame (wpE (defs₀ (F := F)) Variants.none c none) E (k ⟨⟩) K))
    ⊢ wp frame (wpE (defs₀ (F := F)) Variants.none c none) E (ifRows i arg2 harg2 arg3 harg3 arg4 harg4 arg5 harg5 arg6 harg6 arg7 harg7 arg8 harg8 arg9 harg9 v1 >>= k) K := by
  unfold ifRows
  by_cases hc : k0_cond2 v1 = 1#1
  · simp only [dif_pos hc, if_pos hc]
    simp only [k0_part3_eq_skeleton, k0_part2_eq_skeleton, k0_part1_eq_skeleton]
    unfold k0_part3_skel k0_part2_skel k0_part1_skel
    iintro ⟨H0, H1, H2, H3, H4, Hk⟩
    sl_exec
    iapply Hk
    isplitl [H0]; · iexact H0
    isplitl [H1]; · iexact H1
    isplitl [H2]; · iexact H2
    isplitl [H3]; · iexact H3
    iapply (pointsTo_rep_of_read c.tc arg9 _ fullShare _ ?_)
    rotate_left
    · iexact H4
    sl_unfold_words
    simp only [View.read_writes_cons_put _ _ _ _ _ rfl, readAt_win, read_nil]
    rfl
  · simp only [dif_neg hc, if_neg hc]
    rw [show ((pure PUnit.unit : Prog (TpuEff nD τ sig (Elt F) Λ₀ .tc) PUnit) >>= k) = k ⟨⟩ from rfl]
    iintro ⟨H0, H1, H2, H3, H4, Hk⟩
    iapply Hk
    isplitl [H0]; · iexact H0
    isplitl [H1]; · iexact H1
    isplitl [H2]; · iexact H2
    isplitl [H3]; · iexact H3
    iexact H4

/-- The zeroing branch of the body. -/
def ifZ (i : grid0.Coords) (arg9 : Memref sig .tc .vmem S1024x4096 .f32) : Prog (TpuEff nD τ sig (Elt F) Λ₀ .tc) PUnit :=
  if h : k0_cond1 i = 1#1 then do
    let v37 : Vec F S1024x4096 .f32 ← Prog.lift (.load arg9 (Rect.unit (s := S1024x4096) ![0, 0] S1024x4096.size inb_S1024x4096_S1024x4096_0_0).toLoadRect (View.loadsAt_vmem h_S1024x4096))
    Prog.lift (.store arg9 (Rect.unit (s := S1024x4096) ![0, 0] S1024x4096.size inb_S1024x4096_S1024x4096_0_0) (k0_pay1 (F := F)) Finset.univ (View.stores_vmem_bits_univ h_S1024x4096 rfl) (.inl rfl))
    pure ⟨⟩
  else pure ⟨⟩

/-- The zeroing branch of the body, whatever follows it. -/
theorem segZ (c : Dev nD) (i : grid0.Coords) (arg9 : Memref sig .tc .vmem S1024x4096 .f32) (d : Vec F S1024x4096 .f32)
    (E : Set ℕ) (k : PUnit → Prog (TpuEff nD τ sig (Elt F) Λ₀ .tc) PUnit) (K : PUnit → sProp 𝕄) :
    iprop((arg9.view.loc (c : Thread nD τ) ↦[arg9.view.set]{fullShare} arg9.view.rep d) ∗ (iprop(arg9.view.loc (c : Thread nD τ) ↦[arg9.view.set]{fullShare} arg9.view.rep (if k0_cond1 i = 1#1 then k0_pay1 (F := F) else d)) -∗ wp frame (wpE (defs₀ (F := F)) Variants.none c none) E (k ⟨⟩) K))
    ⊢ wp frame (wpE (defs₀ (F := F)) Variants.none c none) E (ifZ i arg9 >>= k) K := by
  unfold ifZ
  by_cases hc : k0_cond1 i = 1#1
  · simp only [dif_pos hc, if_pos hc]
    iintro ⟨H4, Hk⟩
    sl_exec
    iapply Hk
    iapply (pointsTo_rep_of_read c.tc arg9 _ fullShare _ ?_)
    rotate_left
    · iexact H4
    exact View.read_writes_full _ _ _ _ _
  · simp only [dif_neg hc, if_neg hc]
    rw [show ((pure PUnit.unit : Prog (TpuEff nD τ sig (Elt F) Λ₀ .tc) PUnit) >>= k) = k ⟨⟩ from rfl]
    iintro ⟨H4, Hk⟩
    iapply Hk
    iexact H4

/-- The word of a table at a point's row block. -/
def tabAt (T : Vec F S6 .i32) (i : grid0.Coords) : Elt F .i32 := T (fun a => ⟨(i 0).val, Nat.lt_of_lt_of_le (i 0).isLt (by fin_cases a; exact le_rfl)⟩)

/-- What the body leaves in the output block: zeroed first at a first step, then the products added. -/
def step (i : grid0.Coords) (nv : Elt F .i32) (x : Vec F S1024x4096 .bf16) (wg wu : Vec F S1x4096x256 .f32) (wd : Vec F S1x256x4096 .f32)
    (d : Vec F S1024x4096 .f32) : Vec F S1024x4096 .f32 :=
  let d1 := if k0_cond1 i = 1#1 then k0_pay1 else d
  if k0_cond2 nv = 1#1 then rowsAdded x wg wu wd d1 else d1

set_option maxHeartbeats 4000000 in
/-- The printed body is the row count's load, then its two branches in order. -/
theorem body_eq (i : grid0.Coords) (arg2 : Memref sig .tc .smem S6 .i32) (harg2 : arg2.IsWhole) (arg3 : Memref sig .tc .smem S6 .i32) (harg3 : arg3.IsWhole) (arg4 : Memref sig .tc .smem S6 .i32) (harg4 : arg4.IsWhole) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1x256x4096 .f32) (harg8 : arg8.IsWhole) (arg9 : Memref sig .tc .vmem S1024x4096 .f32) (harg9 : arg9.IsWhole) :
    cc0_ffn (F := F) i arg2 harg2 arg3 harg3 arg4 harg4 arg5 harg5 arg6 harg6 arg7 harg7 arg8 harg8 arg9 harg9 = smemLoad arg4 (Rect.unit (s := S6) (k0_off1 i) S1.size (k0_off1_inb i)) numel1_S1 rfl >>= fun v1 =>
      ifZ i arg9 >>= fun _ => ifRows i arg2 harg2 arg3 harg3 arg4 harg4 arg5 harg5 arg6 harg6 arg7 harg7 arg8 harg8 arg9 harg9 v1 >>= fun _ => pure ⟨⟩ := by
  simp only [cc0_ffn_eq_skeleton]; unfold cc0_ffn_skel
  simp only [bind_assoc, pure_bind]
  congr 1
  funext v1
  unfold ifZ ifRows
  by_cases h1 : k0_cond1 i = 1#1 <;> by_cases h2 : k0_cond2 v1 = 1#1 <;>
  simp only [h1, h2, dif_pos, dif_neg, not_false_eq_true, bind_assoc, pure_bind]

/-- The branches of the body, the row count `v1` loaded. -/
def branches (i : grid0.Coords) (arg2 : Memref sig .tc .smem S6 .i32) (harg2 : arg2.IsWhole) (arg3 : Memref sig .tc .smem S6 .i32) (harg3 : arg3.IsWhole) (arg4 : Memref sig .tc .smem S6 .i32) (harg4 : arg4.IsWhole) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1x256x4096 .f32) (harg8 : arg8.IsWhole) (arg9 : Memref sig .tc .vmem S1024x4096 .f32) (harg9 : arg9.IsWhole) (v1 : Elt F .i32) : Prog (TpuEff nD τ sig (Elt F) Λ₀ .tc) PUnit :=
  ifZ i arg9 >>= fun _ => ifRows i arg2 harg2 arg3 harg3 arg4 harg4 arg5 harg5 arg6 harg6 arg7 harg7 arg8 harg8 arg9 harg9 v1 >>= fun _ => pure ⟨⟩

/-- The same, the load at the head. -/
theorem body_eq' (i : grid0.Coords) (arg2 : Memref sig .tc .smem S6 .i32) (harg2 : arg2.IsWhole) (arg3 : Memref sig .tc .smem S6 .i32) (harg3 : arg3.IsWhole) (arg4 : Memref sig .tc .smem S6 .i32) (harg4 : arg4.IsWhole) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1x256x4096 .f32) (harg8 : arg8.IsWhole) (arg9 : Memref sig .tc .vmem S1024x4096 .f32) (harg9 : arg9.IsWhole) :
    cc0_ffn (F := F) i arg2 harg2 arg3 harg3 arg4 harg4 arg5 harg5 arg6 harg6 arg7 harg7 arg8 harg8 arg9 harg9 = .op (.load arg4 (Rect.unit (s := S6) (k0_off1 i) S1.size (k0_off1_inb i)).toLoadRect (View.loadsAt_rect (View.loads_smem_one rfl numel1_S1)))
      fun f => branches i arg2 harg2 arg3 harg3 arg4 harg4 arg5 harg5 arg6 harg6 arg7 harg7 arg8 harg8 arg9 harg9 (f (Shape.Idx.first (numel1_S1.symm ▸ Nat.one_pos))) :=
  (body_eq i arg2 harg2 arg3 harg3 arg4 harg4 arg5 harg5 arg6 harg6 arg7 harg7 arg8 harg8 arg9 harg9).trans rfl

set_option maxHeartbeats 4000000 in
/-- The whole body, on whole memrefs held by values, the row-count table at any share. -/
theorem body_run (c : Dev nD) (i : grid0.Coords) (arg2 : Memref sig .tc .smem S6 .i32) (harg2 : arg2.IsWhole) (arg3 : Memref sig .tc .smem S6 .i32) (harg3 : arg3.IsWhole) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1x256x4096 .f32) (harg8 : arg8.IsWhole) (arg9 : Memref sig .tc .vmem S1024x4096 .f32) (harg9 : arg9.IsWhole)
    (q : PosShare TreeShare) (T : Vec F S6 .i32) (x : Vec F S1024x4096 .bf16) (wg wu : Vec F S1x4096x256 .f32) (wd : Vec F S1x256x4096 .f32) (d : Vec F S1024x4096 .f32)
    (E : Set ℕ) (K : PUnit → sProp 𝕄) :
    iprop((((c : Thread nD τ).loc main_v2) ↦{q} T) ∗ (arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep d)
       ∗ (iprop((((c : Thread nD τ).loc main_v2) ↦{q} T) ∗ (arg5.view.loc (c : Thread nD τ) ↦[arg5.view.set]{fullShare} arg5.view.rep x) ∗ (arg6.view.loc (c : Thread nD τ) ↦[arg6.view.set]{fullShare} arg6.view.rep wg) ∗ (arg7.view.loc (c : Thread nD τ) ↦[arg7.view.set]{fullShare} arg7.view.rep wu) ∗ (arg8.view.loc (c : Thread nD τ) ↦[arg8.view.set]{fullShare} arg8.view.rep wd) ∗ (arg9.view.loc (c : Thread nD τ) ↦[arg9.view.set]{fullShare} arg9.view.rep (step i (tabAt T i) x wg wu wd d)))
          -∗ K ⟨⟩))
    ⊢ wp frame (wpE (defs₀ (F := F)) Variants.none c none) E (cc0_ffn i arg2 harg2 arg3 harg3 (Memref.whole main_v2) (Memref.isWhole_whole _) arg5 harg5 arg6 harg6 arg7 harg7 arg8 harg8 arg9 harg9) K := by
  rw [body_eq']
  iintro ⟨HT, H0, H1, H2, H3, H4, Hk⟩
  sl_step
  have hw : ∀ h, View.readAt (Elt F) (Memref.whole main_v2).view (Rect.unit (s := S6) (k0_off1 i) S1.size (k0_off1_inb i)).toLoadRect T
      (Shape.Idx.first h) = tabAt T i := fun h => by
    unfold tabAt
    show T _ = T _
    congr 1
    funext a
    apply Fin.ext
    fin_cases a
    show k0_off1 i 0 + 1 * 0 = (i 0).val
    rw [k0_off1_eq]; rfl
  rw [hw]
  unfold branches
  iapply segZ
  isplitl [H4]; · iexact H4
  iintro H4
  iapply segRows
  isplitl [H0]; · iexact H0
  isplitl [H1]; · iexact H1
  isplitl [H2]; · iexact H2
  isplitl [H3]; · iexact H3
  isplitl [H4]; · iexact H4
  iintro ⟨H0, H1, H2, H3, H4⟩
  sl_step
  iapply Hk
  isplitl [HT]; · iexact HT
  isplitl [H0]; · iexact H0
  isplitl [H1]; · iexact H1
  isplitl [H2]; · iexact H2
  isplitl [H3]; · iexact H3
  iexact H4

end Cert.Kernel2Ideal.Hand
-- ==== Proof.FfnFrame.lean ====
/- The dense feed-forward kernel's frame: its tables are constants of the host, every point stores its output block. -/
module

public import proofs.«01_k».proof.Proof.FfnBody

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.VecWindow (window put)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- Every buffer at the region's entry: the launch memory after the host's constant tables. -/
def V (c : Dev nD) (b : Ref sig .tc) : Buf (Elt F) ((c.tc : Thread nD τ).loc b) :=
  StableHlo.after hostOps0 (fun b => m (c, b)) b

/-- Row block to expert: the host's zeros. -/
def ie : S6.Idx → BitVec 32 := fun _ => 0#32
/-- Item to row block, one item for each: the host's iota. -/
def ib : S6.Idx → BitVec 32 := fun j => BitVec.ofNat 32 (j 0).val
/-- Row block to its number of rows: the host's 1024s. -/
def nv : S6.Idx → BitVec 32 := fun _ => 1024#32

/-- The three tables' contents. -/
def pf : pre0.Contents (Elt F) := fun
  | ⟨0, _⟩ => ie
  | ⟨1, _⟩ => ib
  | ⟨2, _⟩ => nv
  | ⟨_ + 3, h⟩ => absurd h (by simp)

theorem V_v0 (c : Dev nD) : V m c main_v0 = (ie : S6.Idx → BitVec 32) := by
  unfold V
  dsimp only [hostOps0]
  after_results <;> rfl

theorem V_v1 (c : Dev nD) : V m c main_v1 = (ib : S6.Idx → BitVec 32) := by
  unfold V
  dsimp only [hostOps0]
  after_results <;> rfl

theorem V_v2 (c : Dev nD) : V m c main_v2 = (nv : S6.Idx → BitVec 32) := by
  unfold V
  dsimp only [hostOps0]
  after_results <;> rfl

theorem V_of_ne (c : Dev nD) (b : Ref sig .tc) (h0 : b ≠ main_c) (h1 : b ≠ main_v0) (h2 : b ≠ main_v1) (h3 : b ≠ main_c_0) (h4 : b ≠ main_v2) :
    V m c b = m ((c.tc : Thread nD τ).loc b) := by
  unfold V hostOps0
  simp only [StableHlo.after_cons, StableHlo.after_nil]
  exact (StableHlo.unary_result_ne _ _ _ _ _ _ h4).trans ((StableHlo.nullary_result_ne _ _ _ _ h3).trans
    ((StableHlo.nullary_result_ne _ _ _ _ h2).trans ((StableHlo.unary_result_ne _ _ _ _ _ _ h1).trans (StableHlo.nullary_result_ne _ _ _ _ h0))))

theorem hpf (c : Dev nD) (k) : V m c (pre0.ref k) = pf k := by
  match k with
  | (0 : Fin 3) => exact V_v0 m _
  | (1 : Fin 3) => exact V_v1 m _
  | (2 : Fin 3) => exact V_v2 m _

/-! ## The index maps -/

theorem at1 (p : pre0.Contents (Elt F)) (i : grid0.Coords) :
    p.at 1 (Rect.unit (s := S6) (k0_off1 i) S1.size (k0_off1_inb i)) numel1_S1 = tabAt (p 1) i := by
  unfold Pipeline.Prefetch.Contents.at tabAt
  congr 1; funext a; apply Fin.ext; fin_cases a
  show (k0_off1 i) 0 + 1 * 0 = _
  rw [k0_off1_eq]; rfl
theorem at2 (p : pre0.Contents (Elt F)) (i : grid0.Coords) :
    p.at 2 (Rect.unit (s := S6) (k0_off1 i) S1.size (k0_off1_inb i)) numel1_S1 = tabAt (p 2) i := by
  unfold Pipeline.Prefetch.Contents.at tabAt
  congr 1; funext a; apply Fin.ext; fin_cases a
  show (k0_off1 i) 0 + 1 * 0 = _
  rw [k0_off1_eq]; rfl
theorem atD2 (p : pre0.Contents (Elt F)) (i : grid0.Coords) : p.atD 2 (k0_off1 i) = tabAt (p 2) i := by
  unfold Pipeline.Prefetch.Contents.atD
  split
  · unfold tabAt
    congr 1; funext a; apply Fin.ext; fin_cases a
    show (k0_off1 i) 0 = _
    rw [k0_off1_eq]; rfl
  · next hn => exact absurd (fun a => by fin_cases a; exact k0_off1_inb i 0) hn

/-- The block of the hidden axis a grid point reads: its own where the row block has rows, else the last. -/
def fIdx (n : BitVec 32) (i : grid0.Coords) : BitVec 32 := Scalar.select (Scalar.cmpi .sgt n 0#32) (BitVec.ofNat 32 (i 1).val) 55#32

theorem fIdx_lt (n : BitVec 32) (i : grid0.Coords) : (fIdx n i).toNat < 56 := by
  have hi : (i 1).val < 56 := (i 1).isLt
  unfold fIdx Scalar.select
  split
  · rw [BitVec.toNat_ofNat, Nat.mod_eq_of_lt (by omega)]; exact hi
  · decide

theorem tr0 (p : pre0.Contents (Elt F)) (i : grid0.Coords) :
    cc0_transform_0 k0_off1_inb numel1_S1 p i = ![(tabAt (p 1) i : BitVec 32).toNat, 0] := congrArg (fun v : BitVec 32 => ![v.toNat, 0]) (at1 p i)
theorem tr1 (p : pre0.Contents (Elt F)) (i : grid0.Coords) :
    cc0_transform_1 k0_off1_inb numel1_S1 p i = ![0, 0, (fIdx (tabAt (p 2) i) i).toNat] := congrArg (fun v : BitVec 32 => ![0, 0, (fIdx v i).toNat]) (at2 p i)
theorem tr2 (p : pre0.Contents (Elt F)) (i : grid0.Coords) :
    cc0_transform_2 k0_off1_inb numel1_S1 p i = ![0, 0, (fIdx (tabAt (p 2) i) i).toNat] := congrArg (fun v : BitVec 32 => ![0, 0, (fIdx v i).toNat]) (at2 p i)
theorem tr3 (p : pre0.Contents (Elt F)) (i : grid0.Coords) :
    cc0_transform_3 k0_off1_inb numel1_S1 p i = ![0, (fIdx (tabAt (p 2) i) i).toNat, 0] := congrArg (fun v : BitVec 32 => ![0, (fIdx v i).toNat, 0]) (at2 p i)
theorem tr4 (p : pre0.Contents (Elt F)) (i : grid0.Coords) :
    cc0_transform_4 k0_off1_inb numel1_S1 p i = ![(tabAt (p 1) i : BitVec 32).toNat, 0] := congrArg (fun v : BitVec 32 => ![v.toNat, 0]) (at1 p i)

/-! ## The pipeline's side condition -/

theorem ok_pf : ok0 (pf (F := F)) := by
  have hb : ∀ i : grid0.Coords, (tabAt (pf (F := F) 1) i : BitVec 32).toNat = (i 0).val := fun i => by
    have hi : (i 0).val < 6 := (i 0).isLt
    show (BitVec.ofNat 32 (i 0).val).toNat = _
    rw [BitVec.toNat_ofNat, Nat.mod_eq_of_lt (by omega)]
  have hf := fun i : grid0.Coords => fIdx_lt (tabAt (pf (F := F) 2) i) i
  unfold ok0
  refine ⟨fun i => ⟨?_, ?_⟩, fun i => ⟨?_, .inl rfl⟩, fun i => ⟨?_, .inl rfl⟩, fun i => ⟨?_, .inl rfl⟩, fun i => ⟨?_, .inl rfl⟩⟩
  · have hi : (i 0).val < 6 := (i 0).isLt
    intro a; rw [tr0]; fin_cases a
    · show ((tabAt (pf (F := F) 1) i : BitVec 32).toNat + 1) * 1024 ≤ 6144; rw [hb]; omega
    · show (0 + 1) * 4096 ≤ 4096; omega
  · refine .inr (.inl (.inr ⟨Nat.le_refl 2, rfl, .inl ⟨?_, ?_⟩⟩))
    on_goal 2 => show 2 ∣ 1024; decide
    show 2 ∣ cc0_transform_0 k0_off1_inb numel1_S1 (pf (F := F)) i 0 * 1024
    exact Dvd.dvd.mul_left (by decide) _
  · intro a; rw [tr1]; have := hf i; fin_cases a
    · show (0 + 1) * 1 ≤ 1; omega
    · show (0 + 1) * 4096 ≤ 4096; omega
    · show ((fIdx (tabAt (pf (F := F) 2) i) i).toNat + 1) * 256 ≤ 14336; omega
  · intro a; rw [tr2]; have := hf i; fin_cases a
    · show (0 + 1) * 1 ≤ 1; omega
    · show (0 + 1) * 4096 ≤ 4096; omega
    · show ((fIdx (tabAt (pf (F := F) 2) i) i).toNat + 1) * 256 ≤ 14336; omega
  · intro a; rw [tr3]; have := hf i; fin_cases a
    · show (0 + 1) * 1 ≤ 1; omega
    · show ((fIdx (tabAt (pf (F := F) 2) i) i).toNat + 1) * 256 ≤ 14336; omega
    · show (0 + 1) * 4096 ≤ 4096; omega
  · have hi : (i 0).val < 6 := (i 0).isLt
    intro a; rw [tr4]; fin_cases a
    · show ((tabAt (pf (F := F) 1) i : BitVec 32).toNat + 1) * 1024 ≤ 6144; rw [hb]; omega
    · show (0 + 1) * 4096 ≤ 4096; omega

/-- The tables' contents, admissible. -/
def adm : (pcfg0 (F := F)).Adm := ⟨pf, ok_pf⟩

/-! ## The proof data -/

section Data

/-- The pipeline at the tables. -/
abbrev cfgA {F : FTy → Type} [FloatOps F] : Cfg sig Λ₀ := Pipeline.pin (pcfgs (F := F)) (fun _ => adm (F := F)) 0

/-- What an input's staging buffer holds at a grid point: its block of the array. -/
def iblk (c : Dev nD) (w : Fin 5) (t : Fin grid0.N) :
    (((cfgA (F := F)).win w).xblock (grid0.coords t)).Idx → Elt F ((cfgA (F := F)).win w).elt :=
  (((cfgA (F := F)).win w).blk t).view.read (Elt F) (V m c (Pipeline.arrRef spec0 w))

/-- THE ACCUMULATION: the output block after the body at position `n`. -/
def acc (c : Dev nD) : (n : ℕ) → n < grid0.N → Vec F S1024x4096 .f32
  | 0, hn => step (grid0.coords ⟨0, hn⟩) (tabAt (F := F) nv (grid0.coords ⟨0, hn⟩)) (iblk m c 0 ⟨0, hn⟩) (iblk m c 1 ⟨0, hn⟩)
      (iblk m c 2 ⟨0, hn⟩) (iblk m c 3 ⟨0, hn⟩) k0_pay1
  | n + 1, hn => step (grid0.coords ⟨n + 1, hn⟩) (tabAt (F := F) nv (grid0.coords ⟨n + 1, hn⟩)) (iblk m c 0 ⟨n + 1, hn⟩)
      (iblk m c 1 ⟨n + 1, hn⟩) (iblk m c 2 ⟨n + 1, hn⟩) (iblk m c 3 ⟨n + 1, hn⟩) (acc c n (Nat.lt_of_succ_lt hn))

/-- The proof data of the one pipeline. -/
def dats (p : Fin 1) (c : Dev nD) : Dat τ (Elt F) Unit ℕ (UR sig nD τ) ℕ (Pipeline.pin (pcfgs (F := F)) (fun _ => adm (F := F)) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
    | ⟨_ + 5, hw⟩ => absurd hw (Nat.not_lt.2 (Nat.le_add_left _ _))
  Φ _ := iprop(Pipeline.ΦA spec0 c ∗ Pipeline.ΦT pre0 (adm (F := F)).1 c)
  q _ := fullShare
  owed _ := 0

theorem A_eq (c : Dev nD) (w : Fin 5) : (dats m 0 c).A w = V m c (Pipeline.arrRef spec0 w) := by dsimp only [dats]
theorem after_0 (c : Dev nD) (t : Fin grid0.N) : (dats m 0 c).after (0 : Fin 5) t = iblk m c 0 t := by dsimp only [dats]
theorem after_1 (c : Dev nD) (t : Fin grid0.N) : (dats m 0 c).after (1 : Fin 5) t = iblk m c 1 t := by dsimp only [dats]
theorem after_2 (c : Dev nD) (t : Fin grid0.N) : (dats m 0 c).after (2 : Fin 5) t = iblk m c 2 t := by dsimp only [dats]
theorem after_3 (c : Dev nD) (t : Fin grid0.N) : (dats m 0 c).after (3 : Fin 5) t = iblk m c 3 t := by dsimp only [dats]
theorem after_4 (c : Dev nD) (t : Fin grid0.N) : (dats m 0 c).after (4 : Fin 5) t = acc m c t.val t.isLt := by dsimp only [dats]

theorem before_0 (c : Dev nD) (t : Fin grid0.N) (d) : (dats m 0 c).before (0 : Fin 5) t d = iblk m c 0 t :=
  ((dats m 0 c).before_in_eq_fetched (0 : Fin 5) rfl (fun _ => rfl) (fun _ _ _ => rfl) (fun t => by rw [after_0]; rfl) t d).trans rfl
theorem before_1 (c : Dev nD) (t : Fin grid0.N) (d) : (dats m 0 c).before (1 : Fin 5) t d = iblk m c 1 t :=
  ((dats m 0 c).before_in_eq_fetched (1 : Fin 5) rfl (fun _ => rfl) (fun _ _ _ => rfl) (fun t => by rw [after_1]; rfl) t d).trans rfl
theorem before_2 (c : Dev nD) (t : Fin grid0.N) (d) : (dats m 0 c).before (2 : Fin 5) t d = iblk m c 2 t :=
  ((dats m 0 c).before_in_eq_fetched (2 : Fin 5) rfl (fun _ => rfl) (fun _ _ _ => rfl) (fun t => by rw [after_2]; rfl) t d).trans rfl
theorem before_3 (c : Dev nD) (t : Fin grid0.N) (d) : (dats m 0 c).before (3 : Fin 5) t d = iblk m c 3 t :=
  ((dats m 0 c).before_in_eq_fetched (3 : Fin 5) rfl (fun _ => rfl) (fun _ _ _ => rfl) (fun t => by rw [after_3]; rfl) t d).trans rfl

/-! ## When the output block starts afresh and is written back -/

theorem coords_0 (t : Fin grid0.N) : (grid0.coords t 0).val = t.val / 56 := by
  have ht : t.val < 336 := Nat.lt_of_lt_of_eq t.isLt N_0
  have e : (grid0.coords t 0).val = t.val / 56 % 6 := Pipeline.Grid.coords_val t 0 (by decide) rfl
  omega
theorem coords_1 (t : Fin grid0.N) : (grid0.coords t 1).val = t.val % 56 := by
  have e : (grid0.coords t 1).val = t.val / 1 % 56 := Pipeline.Grid.coords_val t 1 (by decide) rfl
  omega

theorem index_4 (t : Fin grid0.N) (a) : ((cfgA (F := F)).win (4 : Fin 5)).index t a = (![t.val / 56, 0] : Fin 2 → ℕ) a := by
  have e : ((cfgA (F := F)).win (4 : Fin 5)).index t = ![(tabAt (pf (F := F) 1) (grid0.coords t) : BitVec 32).toNat, 0] := tr4 _ _
  have e2 : (tabAt (pf (F := F) 1) (grid0.coords t) : BitVec 32).toNat = t.val / 56 := by
    have hi : (grid0.coords t 0).val < 6 := (grid0.coords t 0).isLt
    show (BitVec.ofNat 32 (grid0.coords t 0).val).toNat = _
    rw [BitVec.toNat_ofNat, Nat.mod_eq_of_lt (by omega), coords_0]
  rw [e, e2]

theorem flush_4 (t : Fin grid0.N) : ((cfgA (F := F)).win (4 : Fin 5)).flush t = decide (t.val % 56 = 55) := by
  have ht : t.val < 336 := Nat.lt_of_lt_of_eq t.isLt N_0
  rw [Window.flush_eq_flushF]
  unfold Window.flushF
  show (true && (decide (t.val + 1 = grid0.N) || _)) = _
  by_cases h55 : t.val % 56 = 55
  · rw [decide_eq_true h55, Bool.true_and]
    by_cases hl : t.val + 1 = grid0.N
    · rw [decide_eq_true hl, Bool.true_or]
    · have hN := N_0
      rw [Bool.or_eq_true_iff]
      refine .inr (decide_eq_true ⟨by show _ < grid0.N; omega, (0 : Fin 2), ?_⟩)
      rw [index_4, index_4]
      show (t.val + 1) / 56 ≠ t.val / 56
      omega
  · rw [decide_eq_false h55, Bool.true_and, Bool.or_eq_false_iff]
    refine ⟨decide_eq_false (by have hN := N_0; omega), decide_eq_false ?_⟩
    rintro ⟨hl, a, hne⟩
    refine hne ?_
    rw [index_4, index_4]
    have : (t.val + 1) / 56 = t.val / 56 := by omega
    show (![(t.val + 1) / 56, 0] : Fin 2 → ℕ) a = _
    rw [this]

theorem cond1_iff (i : grid0.Coords) : k0_cond1 i = 1#1 ↔ (i 1).val = 0 := by
  have hi : (i 1).val < 56 := (i 1).isLt
  unfold k0_cond1
  generalize (i 1).val = n at hi
  revert n
  decide

/-- A row block always has rows. -/
theorem cond2_nv (i : grid0.Coords) : k0_cond2 (tabAt (F := F) nv i) = 1#1 := by
  show k0_cond2 1024#32 = 1#1
  decide

/-- Every point stores its output block. -/
theorem idle_4 (i : grid0.Coords) : (cfgA (F := F)).idle (4 : Fin 5) i = false := by
  show idle0 (pf (F := F)) (4 : Fin 5) i = _
  show (!(k0_cond1 i == 1#1) && !(k0_cond2 ((pf (F := F)).atD 2 (k0_off1 i)) == 1#1)) = _
  have e : k0_cond2 ((pf (F := F)).atD 2 (k0_off1 i)) = 1#1 := by rw [atD2]; exact cond2_nv i
  rw [e, beq_self_eq_true, Bool.not_true, Bool.and_false]

theorem fresh_4 : ∀ n, n ≤ grid0.N → (cfgA (F := F)).fresh (4 : Fin 5) n = decide (n % 56 = 0) := by
  refine Cfg.fresh_tab (cfgA (F := F)) (4 : Fin 5) (fun n => decide (n % 56 = 0)) rfl fun t => ?_
  rw [flush_4]
  by_cases h0 : t.val % 56 = 0
  · have hidle : (cfgA (F := F)).idle (4 : Fin 5) ((cfgA (F := F)).grid.coords t) = false := idle_4 _
    rw [hidle, Bool.false_and, Bool.or_false]
    simp only [decide_eq_decide]; omega
  · simp only [decide_eq_false h0, Bool.and_false, Bool.or_false, decide_eq_decide]; omega

/-! ## What the body finds in the output block -/

/-- At the first block of a row block the body clears the output, so what it found is not read. -/
theorem step_first (i : grid0.Coords) (n : BitVec 32) (x wg wu wd) (d d' : Vec F S1024x4096 .f32) (hc : k0_cond1 i = 1#1) :
    step i n x wg wu wd d = step i n x wg wu wd d' := by
  unfold step; simp only [if_pos hc]

/-- One point's step from whatever the row block's earlier points left. -/
theorem acc_succ (c : Dev nD) (t : Fin grid0.N) (h0 : t.val ≠ 0) :
    acc m c t.val t.isLt = step (grid0.coords t) (tabAt (F := F) nv (grid0.coords t)) (iblk m c 0 t) (iblk m c 1 t)
      (iblk m c 2 t) (iblk m c 3 t) (acc m c (t.val - 1) (by omega)) := by
  match t, h0 with
  | ⟨n + 1, _⟩, _ => rfl

theorem acc_first (c : Dev nD) (t : Fin grid0.N) (h0 : t.val % 56 = 0) (d) :
    acc m c t.val t.isLt = step (grid0.coords t) (tabAt (F := F) nv (grid0.coords t)) (iblk m c 0 t) (iblk m c 1 t)
      (iblk m c 2 t) (iblk m c 3 t) d := by
  have hc : k0_cond1 (grid0.coords t) = 1#1 := (cond1_iff _).2 (by rw [coords_1]; exact h0)
  obtain ⟨tv, htv⟩ := t
  match tv with
  | 0 => exact step_first _ _ _ _ _ _ _ _ hc
  | n + 1 => exact step_first _ _ _ _ _ _ _ _ hc

theorem before_4 (c : Dev nD) (t : Fin grid0.N) (d) : (dats m 0 c).before (4 : Fin 5) t d
    = if t.val % 56 = 0 then d else acc m c (t.val - 1) (by omega) := by
  refine ((dats m 0 c).before_out_traj (4 : Fin 5) rfl (fun _ _ => rfl) (fun t h0 hi hf => ?_) _ t rfl d).trans ?_
  · exact absurd (hi.symm.trans (idle_4 _)) (by decide)
  · show (if (cfgA (F := F)).fresh (4 : Fin 5) t.val = true then d else _) = _
    rw [fresh_4 (F := F) t.val (Nat.le_of_lt t.isLt), after_4]
    simp only [decide_eq_true_eq]

/-- So a step from what the body finds leaves the accumulation. -/
theorem step_before (c : Dev nD) (t : Fin grid0.N) (d) :
    step (grid0.coords t) (tabAt (F := F) nv (grid0.coords t)) (iblk m c 0 t) (iblk m c 1 t) (iblk m c 2 t) (iblk m c 3 t)
      ((dats m 0 c).before (4 : Fin 5) t d) = acc m c t.val t.isLt := by
  rw [before_4]
  by_cases h0 : t.val % 56 = 0
  · rw [if_pos h0, acc_first m c t h0 d]
  · rw [if_neg h0, ← acc_succ m c t (by omega)]

/-! ## The body obligation -/

abbrev ms0 {F : FTy → Type} [FloatOps F] (t : Fin grid0.N) := spec0_0.stage ((cfgA (F := F)).slots t (0 : Fin 5))
abbrev ms1 {F : FTy → Type} [FloatOps F] (t : Fin grid0.N) := spec0_1.stage ((cfgA (F := F)).slots t (1 : Fin 5))
abbrev ms2 {F : FTy → Type} [FloatOps F] (t : Fin grid0.N) := spec0_2.stage ((cfgA (F := F)).slots t (2 : Fin 5))
abbrev ms3 {F : FTy → Type} [FloatOps F] (t : Fin grid0.N) := spec0_3.stage ((cfgA (F := F)).slots t (3 : Fin 5))
abbrev ms4 {F : FTy → Type} [FloatOps F] (t : Fin grid0.N) := spec0_4.stage ((cfgA (F := F)).slots t (4 : Fin 5))

/-- The body as the pipeline calls it at point `t`. -/
abbrev bodyAt (t : Fin grid0.N) : Prog (TpuEff nD τ sig (Elt F) Λ₀ .tc) PUnit :=
  cc0_ffn (grid0.coords t) (Memref.whole main_v0) (Memref.isWhole_whole _) (Memref.whole main_v1) (Memref.isWhole_whole _)
    (Memref.whole main_v2) (Memref.isWhole_whole _)
    (ms0 (F := F) t) (hstage0_0 (((cfgA (F := F)).slots t (0 : Fin 5)).cast nbuf0_0)) (ms1 (F := F) t) (hstage0_1 (((cfgA (F := F)).slots t (1 : Fin 5)).cast nbuf0_1))
    (ms2 (F := F) t) (hstage0_2 (((cfgA (F := F)).slots t (2 : Fin 5)).cast nbuf0_2)) (ms3 (F := F) t) (hstage0_3 (((cfgA (F := F)).slots t (3 : Fin 5)).cast nbuf0_3))
    (ms4 (F := F) t) (hstage0_4 (((cfgA (F := F)).slots t (4 : Fin 5)).cast nbuf0_4))

/-- What the body is called with, the windows one by one, -/
def bodyPre (c : Dev nD) (t : Fin grid0.N) : sProp 𝕄 :=
  iprop((dats m 0 c).Φ t.castSucc ∗ (dats m 0 c).owesAt () t.castSucc
    ∗ (∃ d, owns (c : Thread nD τ) (ms0 (F := F) t) fullShare ((dats m 0 c).before (0 : Fin 5) t d))
    ∗ (∃ d, owns (c : Thread nD τ) (ms1 (F := F) t) fullShare ((dats m 0 c).before (1 : Fin 5) t d))
    ∗ (∃ d, owns (c : Thread nD τ) (ms2 (F := F) t) fullShare ((dats m 0 c).before (2 : Fin 5) t d))
    ∗ (∃ d, owns (c : Thread nD τ) (ms3 (F := F) t) fullShare ((dats m 0 c).before (3 : Fin 5) t d))
    ∗ (∃ d, owns (c : Thread nD τ) (ms4 (F := F) t) fullShare ((dats m 0 c).before (4 : Fin 5) t d)))

/-- and what it returns. -/
def bodyPost (c : Dev nD) (t : Fin grid0.N) : sProp 𝕄 :=
  iprop((dats m 0 c).Φ t.succ ∗ (dats m 0 c).owesAt () t.succ
    ∗ owns (c : Thread nD τ) (ms0 (F := F) t) fullShare ((dats m 0 c).after (0 : Fin 5) t)
    ∗ owns (c : Thread nD τ) (ms1 (F := F) t) fullShare ((dats m 0 c).after (1 : Fin 5) t)
    ∗ owns (c : Thread nD τ) (ms2 (F := F) t) fullShare ((dats m 0 c).after (2 : Fin 5) t)
    ∗ owns (c : Thread nD τ) (ms3 (F := F) t) fullShare ((dats m 0 c).after (3 : Fin 5) t)
    ∗ (dats m 0 c).leavesExact (4 : Fin 5) t)

/-- The stepped output is what the pipeline asks back. -/
theorem leaves_step (c : Dev nD) (t : Fin grid0.N) (d) :
    (owns (c : Thread nD τ) (ms4 (F := F) t) fullShare (step (grid0.coords t) (tabAt (F := F) nv (grid0.coords t)) (iblk m c 0 t)
      (iblk m c 1 t) (iblk m c 2 t) (iblk m c 3 t) ((dats m 0 c).before (4 : Fin 5) t d)) : sProp 𝕄)
      ⊢ (dats m 0 c).leavesExact (4 : Fin 5) t := by
  have hi : (cfgA (F := F)).idle (4 : Fin 5) ((cfgA (F := F)).grid.coords t) = false := idle_4 _
  unfold Dat.leavesExact; rw [hi, step_before, ← after_4]

/-- The tables' halves, one by one. -/
theorem tables_eq (c : Dev nD) : (Pipeline.ΦT (Val := Elt F) (U := UR sig nD τ) pre0 (pf (F := F)) c : sProp 𝕄)
    = iprop((((c : Thread nD τ).loc main_v0) ↦{fullShare.right} pf (F := F) 0) ∗ (((c : Thread nD τ).loc main_v1) ↦{fullShare.right} pf (F := F) 1)
      ∗ (((c : Thread nD τ).loc main_v2) ↦{fullShare.right} pf (F := F) 2)) := by
  unfold Pipeline.ΦT Pipeline.prefHeld
  exact bigSep_univ_eq_bigSepL [(0 : Fin 3), 1, 2] (by decide) (by decide) _

theorem sound_body (c : Dev nD) (t : Fin grid0.N) :
    bodyPre m c t ⊢ wp frame (wpE (defs₀ (F := F)) Variants.none c none) Set.univ (bodyAt (F := F) t) (fun _ => bodyPost m c t) := by
  unfold bodyPre bodyPost
  simp only [before_0, before_1, before_2, before_3]
  rw [show (dats m 0 c).Φ t.succ = iprop(Pipeline.ΦA spec0 c ∗ Pipeline.ΦT pre0 (pf (F := F)) c) from rfl,
    show (dats m 0 c).Φ t.castSucc = iprop(Pipeline.ΦA spec0 c ∗ Pipeline.ΦT pre0 (pf (F := F)) c) from rfl,
    show (dats m 0 c).owesAt () t.succ = (dats m 0 c).owesAt () t.castSucc from rfl,
    after_0, after_1, after_2, after_3, tables_eq]
  iintro ⟨⟨HA, HT0, HT1, HT2⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ fullShare.right nv (iblk m c 0 t) (iblk m c 1 t)
    (iblk m c 2 t) (iblk m c 3 t) ((dats m 0 c).before (4 : Fin 5) t d4) Set.univ _)
  isplitl [HT2]; · iexact HT2
  isplitl [H0]; · iapply (rep_of_owns _ _ _ _); iexact H0
  isplitl [H1]; · iapply (rep_of_owns _ _ _ _); iexact H1
  isplitl [H2]; · iapply (rep_of_owns _ _ _ _); iexact H2
  isplitl [H3]; · iapply (rep_of_owns _ _ _ _); iexact H3
  isplitl [H4]; · iapply (rep_of_owns _ _ _ _); iexact H4
  iintro ⟨HT2, H0, H1, H2, H3, H4⟩
  isplitl [HA HT0 HT1 HT2]
  · isplitl [HA]; · iexact HA
    isplitl [HT0]; · iexact HT0
    isplitl [HT1]; · iexact HT1
    iexact HT2
  isplitl [Ho]; · iexact Ho
  isplitl [H0]; · iapply (owns_of_rep _ _ _ _); iexact H0
  isplitl [H1]; · iapply (owns_of_rep _ _ _ _); iexact H1
  isplitl [H2]; · iapply (owns_of_rep _ _ _ _); iexact H2
  isplitl [H3]; · iapply (owns_of_rep _ _ _ _); iexact H3
  iapply (leaves_step m c t d4)
  iapply (owns_of_rep _ _ _ _); iexact H4

theorem defs₀_row (t : Fin grid0.N) :
    defs₀ (F := F) .tc (cfgA (F := F)).body ((cfgA (F := F)).bodyArgs t ((cfgA (F := F)).slots t)) = bodyAt (F := F) t := by
  unfold defs₀; rw [Defs.onTc_tc]

theorem of_eq {P Q : sProp 𝕄} (e : P = Q) : P ⊢ Q := e ▸ Entails.rfl

theorem body_obligation (c : Dev nD) : BodyObligation (dats (F := F) m 0 c) (defs₀ (F := F)) Variants.none () Set.univ := fun t => by
  rw [defs₀_row]
  refine BIBase.Entails.trans (of_eq ?_) ((sound_body m c t).trans (wp_mono _ _ _ fun _ => of_eq ?_))
  · unfold bodyPre; congr 2; exact bigSep_W0 _
  · unfold bodyPost; congr 2; symm; exact bigSep_W0 (fun w : Fin 5 => (dats m 0 c).leavesExact w t)

theorem hmain (𝒱 : Variants) : Pipeline.HMainP (Ix := Unit) (Name := ℕ) (U := UR sig nD τ) (Lvl := ℕ) (pcfgs (F := F)) 0 defs₀ 𝒱 m main (V m) :=
  Pipeline.hmainP_prefix (pcfgs (F := F)) 0 defs₀ 𝒱 m main hostOps0 hostOps0_sub (by unfold hostOps0; exact ⟨rfl, rfl, rfl, rfl, rfl⟩) main_chain

set_option backward.isDefEq.respectTransparency.types false in
/-- THE LAUNCH: every execution ends with every array at what the proof data compute, every other buffer as the region
    found it, and every semaphore at zero. -/
theorem run_main : θ_run defs (onTc (τ := τ) (main (F := F))) (s₀ m ρ)
    (fun r => (Pipeline.FramePost (Pipeline.pin (pcfgs (F := F)) (fun _ => adm (F := F))) (dats m) 0 (V m)) r ∧ r.2.sem = fun _ => 0) :=
  Pipeline.θ_run_frameP (Q' := _) (pcfgs (F := F)) (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

/-- The results an execution ends with: every argument array as at the launch. -/
theorem unchanged_of (r : PUnit × MemSt nD τ sig (Elt F))
    (hr : Pipeline.FramePost (Pipeline.pin (pcfgs (F := F)) (fun _ => adm (F := F))) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((hr c).1 (0 : Fin 5)).trans (((dats m 0 c).arrAt_in (0 : Fin 5) rfl _).trans ((A_eq m c 0).trans (V_of_ne m c _ (by decide) (by decide) (by decide) (by decide) (by decide)))),
   ((hr c).1 (1 : Fin 5)).trans (((dats m 0 c).arrAt_in (1 : Fin 5) rfl _).trans ((A_eq m c 1).trans (V_of_ne m c _ (by decide) (by decide) (by decide) (by decide) (by decide)))),
   ((hr c).1 (2 : Fin 5)).trans (((dats m 0 c).arrAt_in (2 : Fin 5) rfl _).trans ((A_eq m c 2).trans (V_of_ne m c _ (by decide) (by decide) (by decide) (by decide) (by decide)))),
   ((hr c).1 (3 : Fin 5)).trans (((dats m 0 c).arrAt_in (3 : Fin 5) rfl _).trans ((A_eq m c 3).trans (V_of_ne m c _ (by decide) (by decide) (by decide) (by decide) (by decide))))⟩

/-- THE FRAME: every execution ends, with the arguments unchanged and every semaphore at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun r hr => ⟨unchanged_of m r hr.1, hr.2⟩) (run_main m ρ)

end Data

end Cert.Kernel2Ideal.Hand

end
-- ==== Proof.FfnValue.lean ====
/- The dense feed-forward kernel at the extended reals: one visit at an element, and what a visit adds from the arrays. -/
module

public import proofs.«01_k».proof.Proof.FfnFrame
public import proofs.«01_k».proof.Proof.KIValue

@[expose] public section

set_option maxRecDepth 16384

noncomputable section

namespace Cert.Kernel2Ideal.Hand

open Cert.Kernel2Ideal Cert.Kernel2Ideal.Gen
open Cert.KernelIdeal.Hand (window2 put2 sum_quarters gated sum_runs)
open Idealize.ShloMosaic Idealize.ShloMosaic.TcCoe Idealize.SL.Sem
open Idealize.ShloMosaic.Pipeline (Dat Cfg Window)
open Idealize.ShloMosaic.VecWindow (window put)

attribute [local instance] Cert.Kernel2Ideal.Gen.facts

/-- A window of a stack of one matrix at an element. -/
theorem window3 {α : Type} {R C M W a b : ℕ} (x : (⟨3, ![1, R, C]⟩ : Shape).Idx → α) (inb) (i : Fin M) (j : Fin W) (hi : a + i.val < R) (hj : b + j.val < C) :
    window x ![0, a, b] ![1, M, W] inb (ix3 0 i j) = x (ix3 0 ⟨a + i.val, hi⟩ ⟨b + j.val, hj⟩) := by
  unfold window
  congr 1; funext t
  refine Fin.cases ?_ (fun t => Fin.cases ?_ (fun t => Fin.cases ?_ (fun t => t.elim0) t) t) t
  · exact Fin.ext rfl
  · exact Fin.ext (show a + 1 * i.val = a + i.val by omega)
  · exact Fin.ext (show b + 1 * j.val = b + j.val by omega)

/-- The product of a row of `x` and a column of a weight block. -/
def rowDot (x : FVec Ideal S1024x4096 .bf16) (w : FVec Ideal S1x4096x256 .f32) (r : Fin 1024) (q : Fin 256) : EReal :=
  ∑ k : Fin 4096, x (ix2 r k) * w (ix3 0 k q)

/-- What a visit adds to the output block. -/
def added (x : FVec Ideal S1024x4096 .bf16) (wg wu : FVec Ideal S1x4096x256 .f32) (wd : FVec Ideal S1x256x4096 .f32) (r : Fin 1024) (c : Fin 4096) : EReal :=
  ∑ q : Fin 256, gated (rowDot x wg r q) (rowDot x wu r q) * wd (ix3 0 q c)

theorem prod (x : FVec Ideal S1024x1024 .bf16) (w : FVec Ideal S1x1024x256 .f32) (r : Fin 1024) (q : Fin 256) :
    k0_pay6 (F := Ideal) x w (ix2 r q) = ∑ k : Fin 1024, x (ix2 r k) * w (ix3 0 k q) := by
  pointwise! [k0_pay6]

theorem sumU (x0 x1 : FVec Ideal S1024x1024 .bf16) (w0 w1 : FVec Ideal S1x1024x256 .f32) : k0_pay5 (F := Ideal) x0 w0 x1 w1 = addf (k0_pay6 x0 w0) (k0_pay6 x1 w1) := rfl

theorem sumG (x0 x1 x2 : FVec Ideal S1024x1024 .bf16) (w0 w1 w2 : FVec Ideal S1x1024x256 .f32) :
    k0_pay7 (F := Ideal) x0 w0 x1 w1 x2 w2 = addf (addf (k0_pay6 x0 w0) (k0_pay6 x1 w1)) (k0_pay6 x2 w2) := rfl

theorem actEq (u p g : FVec Ideal S1024x256 .f32) (x3 : FVec Ideal S1024x1024 .bf16) (wg3 wu3 : FVec Ideal S1x1024x256 .f32) (j : S1024x256.Idx) :
    k0_pay8 (F := Ideal) u p g x3 wg3 wu3 j = gated (g j + k0_pay6 (F := Ideal) x3 wg3 j) (u j + p j + k0_pay6 (F := Ideal) x3 wu3 j) := rfl

theorem act_apply (x : FVec Ideal S1024x4096 .bf16) (wg wu : FVec Ideal S1x4096x256 .f32) (i : Fin 1024) (r : Fin 1024) (hr : r.val = i.val) (q : Fin 256) :
    act (F := Ideal) x wg wu (ix2 i q) = gated (rowDot x wg r q) (rowDot x wu r q) := by
  have e : ∀ (w : FVec Ideal S1x4096x256 .f32) (o : ℕ) (ho : o + 1024 ≤ 4096) (inb inb'),
      k0_pay6 (F := Ideal) (window x ![0, o] S1024x1024.size inb) (window w ![0, o, 0] S1x1024x256.size inb') (ix2 i q)
        = ∑ k : Fin 1024, x (ix2 r ⟨o + k.val, by omega⟩) * w (ix3 0 ⟨o + k.val, by omega⟩ q) := by
    intro w o ho inb inb'
    rw [prod]
    refine Finset.sum_congr rfl fun k _ => ?_
    refine congrArg₂ (· * ·) ((window2 x inb i k (by omega) (by omega)).trans ?_) ((window3 w inb' k q (by omega) (by omega)).trans ?_)
    · exact congrArg x (congrArg (fun t => ix2 t _) (Fin.ext (by show 0 + i.val = r.val; omega)))
    · exact congrArg w (congrArg (fun t => ix3 0 _ t) (Fin.ext (by show 0 + q.val = q.val; omega)))
  unfold act rowDot
  rw [actEq, sumG, sumU, sum_quarters, sum_quarters]
  refine congrArg₂ gated ?_ ?_
  · show (k0_pay6 (F := Ideal) _ _ (ix2 i q) + k0_pay6 (F := Ideal) _ _ (ix2 i q)) + k0_pay6 (F := Ideal) _ _ (ix2 i q) + k0_pay6 (F := Ideal) _ _ (ix2 i q) = _
    rw [e wg 0 (by omega), e wg 1024 (by omega), e wg 2048 (by omega), e wg 3072 (by omega)]
  · show (k0_pay6 (F := Ideal) _ _ (ix2 i q) + k0_pay6 (F := Ideal) _ _ (ix2 i q)) + k0_pay6 (F := Ideal) _ _ (ix2 i q) + k0_pay6 (F := Ideal) _ _ (ix2 i q) = _
    rw [e wu 0 (by omega), e wu 1024 (by omega), e wu 2048 (by omega), e wu 3072 (by omega)]

theorem down (a : FVec Ideal S1024x256 .bf16) (d : FVec Ideal S1024x512 .f32) (w : FVec Ideal S1x256x512 .f32) (r : Fin 1024) (c : Fin 512) :
    k0_pay3 (F := Ideal) a d w (ix2 r c) = d (ix2 r c) + ∑ q : Fin 256, a (ix2 r q) * w (ix3 0 q c) := by
  pointwise! [k0_pay3]

theorem rowsAdded_apply (x : FVec Ideal S1024x4096 .bf16) (wg wu : FVec Ideal S1x4096x256 .f32) (wd : FVec Ideal S1x256x4096 .f32) (d : FVec Ideal S1024x4096 .f32)
    (r : Fin 1024) (hr : r.val < 1024) (c : Fin 4096) :
    rowsAdded (F := Ideal) x wg wu wd d (ix2 r c) = d (ix2 r c) + added x wg wu wd r c := by
  have e : ∀ (o : ℕ) (ho : o + 512 ≤ 4096) (inb inb') (i : Fin 1024) (j : Fin 512) (r : Fin 1024) (c : Fin 4096), r.val = i.val → c.val = o + j.val →
      k0_pay3 (F := Ideal) (act x wg wu) (window d ![0, o] S1024x512.size inb) (window wd ![0, 0, o] S1x256x512.size inb') (ix2 i j)
        = d (ix2 r c) + added x wg wu wd r c := by
    intro o ho inb inb' i j r c hr hc
    rw [down]
    refine congrArg₂ (· + ·) ((window2 d inb i j (by omega) (by omega)).trans ?_) (Finset.sum_congr rfl fun q _ => ?_)
    · exact congrArg d (congrArg₂ ix2 (Fin.ext (by show 0 + i.val = r.val; omega)) (Fin.ext hc.symm))
    · refine congrArg₂ (· * ·) (act_apply x wg wu i r hr q) ((window3 wd inb' q j (by omega) (by omega)).trans ?_)
      exact congrArg wd (congrArg₂ (ix3 0) (Fin.ext (by show 0 + q.val = q.val; omega)) (Fin.ext hc.symm))
  unfold rowsAdded
  dsimp only
  rw [put2 (hw := e 3584 (by omega) _ _), put2 (hw := e 3072 (by omega) _ _), put2 (hw := e 2560 (by omega) _ _), put2 (hw := e 2048 (by omega) _ _),
    put2 (hw := e 1536 (by omega) _ _), put2 (hw := e 1024 (by omega) _ _), put2 (hw := e 512 (by omega) _ _), put2 (hw := e 0 (by omega) _ _)]
  have hc := c.isLt
  split_ifs <;> first | rfl | (exfalso; omega)

/-- A visit at an element: the output block's element, or zero at a row block's first visit, and what the visit adds. -/
theorem step_apply (t : Fin grid0.N) (x : FVec Ideal S1024x4096 .bf16) (wg wu : FVec Ideal S1x4096x256 .f32)
    (wd : FVec Ideal S1x256x4096 .f32) (d : FVec Ideal S1024x4096 .f32) (r : Fin 1024) (c : Fin 4096) :
    step (F := Ideal) (grid0.coords t) (tabAt (F := Ideal) nv (grid0.coords t)) x wg wu wd d (ix2 r c)
      = (if t.val % 56 = 0 then 0 else d (ix2 r c)) + added x wg wu wd r c := by
  have hc : (k0_cond1 (grid0.coords t) = 1#1) = (t.val % 56 = 0) := propext ((cond1_iff _).trans (by rw [coords_1]))
  unfold step
  rw [if_pos (cond2_nv (F := Ideal) _), rowsAdded_apply _ _ _ _ _ r r.isLt]
  simp only [hc]
  split
  · refine congrArg (· + _) ?_
    pointwise [k0_pay1]
  · rfl

variable (m : (ℓ : Loc nD τ sig) → Buf (Elt Ideal) ℓ) (ρ : Dev nD → PrngReg)

/-! ## The layer's arithmetic, from the four arrays -/

/-- Hidden unit `j` at row `r`, times its weight towards column `c`. -/
def unit (x : FVec Ideal S6144x4096 .bf16) (wg wu : FVec Ideal S1x4096x14336 .f32) (wd : FVec Ideal S1x14336x4096 .f32) (r : Fin 6144) (c : Fin 4096) (j : Fin 14336) : EReal :=
  gated (∑ k : Fin 4096, x (ix2 r k) * wg (ix3 0 k j)) (∑ k : Fin 4096, x (ix2 r k) * wu (ix3 0 k j)) * wd (ix3 0 j c)

/-- The feed-forward of row `r`, column `c`. -/
def ffn (x : FVec Ideal S6144x4096 .bf16) (wg wu : FVec Ideal S1x4096x14336 .f32) (wd : FVec Ideal S1x14336x4096 .f32) (r : Fin 6144) (c : Fin 4096) : EReal := ∑ j : Fin 14336, unit x wg wu wd r c j

/-! ## The staged blocks, at an element -/

theorem index_0 (t : Fin grid0.N) : ((cfgA (F := Ideal)).win (0 : Fin 5)).index t = ![t.val / 56, 0] := by
  have e : ((cfgA (F := Ideal)).win (0 : Fin 5)).index t = ![(tabAt (pf (F := Ideal) 1) (grid0.coords t) : BitVec 32).toNat, 0] := tr0 _ _
  have e2 : (tabAt (pf (F := Ideal) 1) (grid0.coords t) : BitVec 32).toNat = t.val / 56 := by
    have hi : (grid0.coords t 0).val < 6 := (grid0.coords t 0).isLt
    show (BitVec.ofNat 32 (grid0.coords t 0).val).toNat = _
    rw [BitVec.toNat_ofNat, Nat.mod_eq_of_lt (by omega), coords_0]
  rw [e, e2]

/-- The weight block read is the position's own. -/
theorem fIdx_eq (t : Fin grid0.N) : (fIdx (tabAt (pf (F := Ideal) 2) (grid0.coords t)) (grid0.coords t)).toNat = t.val % 56 := by
  have hi : (grid0.coords t 1).val < 56 := (grid0.coords t 1).isLt
  show (BitVec.ofNat 32 (grid0.coords t 1).val).toNat = _
  rw [BitVec.toNat_ofNat, Nat.mod_eq_of_lt (by omega), coords_1]

theorem index_1 (t : Fin grid0.N) : ((cfgA (F := Ideal)).win (1 : Fin 5)).index t = ![0, 0, t.val % 56] := by
  rw [← fIdx_eq t]; exact tr1 _ _

theorem index_2 (t : Fin grid0.N) : ((cfgA (F := Ideal)).win (2 : Fin 5)).index t = ![0, 0, t.val % 56] := by
  rw [← fIdx_eq t]; exact tr2 _ _

theorem index_3 (t : Fin grid0.N) : ((cfgA (F := Ideal)).win (3 : Fin 5)).index t = ![0, t.val % 56, 0] := by
  rw [← fIdx_eq t]; exact tr3 _ _

theorem lt_N (t : Fin grid0.N) : t.val < 336 := Nat.lt_of_lt_of_eq t.isLt N_0

theorem rd0 (c : Dev nD) (t : Fin grid0.N) (r : Fin 1024) (k : Fin 4096) :
    (iblk m c 0 t : FVec Ideal S1024x4096 .bf16) (ix2 r k)
      = (m ((c.tc : Thread nD τ).loc main_arg0) : FVec Ideal S6144x4096 .bf16) (ix2 ⟨t.val / 56 * 1024 + r.val, by have := lt_N t; omega⟩ k) := by
  have hi := index_0 t
  unfold iblk
  rw [View.read_apply]
  show V m c main_arg0 _ = _
  rw [V_of_ne m c _ (by decide) (by decide) (by decide) (by decide) (by decide)]
  congr 1; funext a; apply Fin.ext
  match a with
  | ⟨0, _⟩ =>
    show ((cfgA (F := Ideal)).win (0 : Fin 5)).index t (0 : Fin 2) * 1024 + 1 * r.val = _
    rw [hi]; show t.val / 56 * 1024 + 1 * r.val = t.val / 56 * 1024 + r.val; omega
  | ⟨1, _⟩ =>
    show ((cfgA (F := Ideal)).win (0 : Fin 5)).index t (1 : Fin 2) * 4096 + 1 * k.val = _
    rw [hi]; show 0 * 4096 + 1 * k.val = k.val; omega

section At
variable (c : Dev nD) (t : Fin grid0.N)

theorem rd1 (k : Fin 4096) (q : Fin 256) (hb : t.val % 56 * 256 + q.val < 14336) :
    (iblk m c 1 t : FVec Ideal S1x4096x256 .f32) (ix3 0 k q)
      = (m ((c.tc : Thread nD τ).loc main_arg1) : FVec Ideal S1x4096x14336 .f32) (ix3 0 k ⟨t.val % 56 * 256 + q.val, hb⟩) := by
  have hi := index_1 t
  unfold iblk
  rw [View.read_apply]
  show V m c main_arg1 _ = _
  rw [V_of_ne m c _ (by decide) (by decide) (by decide) (by decide) (by decide)]
  congr 1; funext a; apply Fin.ext
  match a with
  | ⟨0, _⟩ =>
    show ((cfgA (F := Ideal)).win (1 : Fin 5)).index t (0 : Fin 3) * 1 + 1 * 0 = 0
    rw [hi]; rfl
  | ⟨1, _⟩ =>
    show ((cfgA (F := Ideal)).win (1 : Fin 5)).index t (1 : Fin 3) * 4096 + 1 * k.val = k.val
    rw [hi]; show 0 * 4096 + 1 * k.val = k.val; omega
  | ⟨2, _⟩ =>
    show ((cfgA (F := Ideal)).win (1 : Fin 5)).index t (2 : Fin 3) * 256 + 1 * q.val = t.val % 56 * 256 + q.val
    rw [hi]; show t.val % 56 * 256 + 1 * q.val = _; omega

theorem rd2 (k : Fin 4096) (q : Fin 256) (hb : t.val % 56 * 256 + q.val < 14336) :
    (iblk m c 2 t : FVec Ideal S1x4096x256 .f32) (ix3 0 k q)
      = (m ((c.tc : Thread nD τ).loc main_arg2) : FVec Ideal S1x4096x14336 .f32) (ix3 0 k ⟨t.val % 56 * 256 + q.val, hb⟩) := by
  have hi := index_2 t
  unfold iblk
  rw [View.read_apply]
  show V m c main_arg2 _ = _
  rw [V_of_ne m c _ (by decide) (by decide) (by decide) (by decide) (by decide)]
  congr 1; funext a; apply Fin.ext
  match a with
  | ⟨0, _⟩ =>
    show ((cfgA (F := Ideal)).win (2 : Fin 5)).index t (0 : Fin 3) * 1 + 1 * 0 = 0
    rw [hi]; rfl
  | ⟨1, _⟩ =>
    show ((cfgA (F := Ideal)).win (2 : Fin 5)).index t (1 : Fin 3) * 4096 + 1 * k.val = k.val
    rw [hi]; show 0 * 4096 + 1 * k.val = k.val; omega
  | ⟨2, _⟩ =>
    show ((cfgA (F := Ideal)).win (2 : Fin 5)).index t (2 : Fin 3) * 256 + 1 * q.val = t.val % 56 * 256 + q.val
    rw [hi]; show t.val % 56 * 256 + 1 * q.val = _; omega

theorem rd3 (q : Fin 256) (cc : Fin 4096) (hb : t.val % 56 * 256 + q.val < 14336) :
    (iblk m c 3 t : FVec Ideal S1x256x4096 .f32) (ix3 0 q cc)
      = (m ((c.tc : Thread nD τ).loc main_arg3) : FVec Ideal S1x14336x4096 .f32) (ix3 0 ⟨t.val % 56 * 256 + q.val, hb⟩ cc) := by
  have hi := index_3 t
  unfold iblk
  rw [View.read_apply]
  show V m c main_arg3 _ = _
  rw [V_of_ne m c _ (by decide) (by decide) (by decide) (by decide) (by decide)]
  congr 1; funext a; apply Fin.ext
  match a with
  | ⟨0, _⟩ =>
    show ((cfgA (F := Ideal)).win (3 : Fin 5)).index t (0 : Fin 3) * 1 + 1 * 0 = 0
    rw [hi]; rfl
  | ⟨1, _⟩ =>
    show ((cfgA (F := Ideal)).win (3 : Fin 5)).index t (1 : Fin 3) * 256 + 1 * q.val = t.val % 56 * 256 + q.val
    rw [hi]; show t.val % 56 * 256 + 1 * q.val = _; omega
  | ⟨2, _⟩ =>
    show ((cfgA (F := Ideal)).win (3 : Fin 5)).index t (2 : Fin 3) * 4096 + 1 * cc.val = cc.val
    rw [hi]; show 0 * 4096 + 1 * cc.val = cc.val; omega

/-- What the visit at `t` adds, from the arrays. -/
theorem added_eq (r : Fin 1024) (cc : Fin 4096) (R : Fin 6144) (hR : R.val = t.val / 56 * 1024 + r.val) :
    added (iblk m c 0 t) (iblk m c 1 t) (iblk m c 2 t) (iblk m c 3 t) r cc
      = ∑ q : Fin 256, (if hb : t.val % 56 * 256 + q.val < 14336 then
          unit (m ((c.tc : Thread nD τ).loc main_arg0)) (m ((c.tc : Thread nD τ).loc main_arg1)) (m ((c.tc : Thread nD τ).loc main_arg2))
            (m ((c.tc : Thread nD τ).loc main_arg3)) R cc ⟨t.val % 56 * 256 + q.val, hb⟩ else 0) := by
  unfold added
  refine Finset.sum_congr rfl fun q _ => ?_
  have hb : t.val % 56 * 256 + q.val < 14336 := by omega
  have eR : R = ⟨t.val / 56 * 1024 + r.val, by have := lt_N t; omega⟩ := Fin.ext hR
  rw [dif_pos hb, rd3 m c t q cc hb]
  unfold unit rowDot
  rw [eR]
  refine congrArg (· * _) (congrArg₂ gated ?_ ?_)
  · exact Finset.sum_congr rfl fun k _ => congrArg₂ (· * ·) (rd0 m c t r k) (rd1 m c t k q hb)
  · exact Finset.sum_congr rfl fun k _ => congrArg₂ (· * ·) (rd0 m c t r k) (rd2 m c t k q hb)

end At

end Cert.Kernel2Ideal.Hand

end
-- ==== Proof.FfnRun.lean ====
/- The dense feed-forward kernel at the extended reals: the result array is each row's feed-forward. -/
module

public import proofs.«01_k».proof.Proof.FfnValue

@[expose] public section

set_option maxRecDepth 16384

noncomputable section

namespace Cert.Kernel2Ideal.Hand

open Cert.Kernel2Ideal Cert.Kernel2Ideal.Gen
open Cert.KernelIdeal.Hand (window2 put2 sum_quarters gated sum_runs)
open Idealize.ShloMosaic Idealize.ShloMosaic.TcCoe Idealize.SL.Sem
open Idealize.ShloMosaic.Pipeline (Dat Cfg Window)
open Idealize.ShloMosaic.VecWindow (window put)

attribute [local instance] Cert.Kernel2Ideal.Gen.facts

variable (m : (ℓ : Loc nD τ sig) → Buf (Elt Ideal) ℓ) (ρ : Dev nD → PrngReg)

/-- What the visits of a row block add, from the arrays: the sum of the first `n` blocks of the hidden units. -/
def partialSum (c : Dev nD) (R : Fin 6144) (cc : Fin 4096) (n : ℕ) : EReal :=
  ∑ i ∈ Finset.range n, ∑ q : Fin 256, (if hb : i * 256 + q.val < 14336 then
    unit (m ((c.tc : Thread nD τ).loc main_arg0)) (m ((c.tc : Thread nD τ).loc main_arg1)) (m ((c.tc : Thread nD τ).loc main_arg2))
      (m ((c.tc : Thread nD τ).loc main_arg3)) R cc ⟨i * 256 + q.val, hb⟩ else 0)

section Item
variable (c : Dev nD) (j : Fin 6) (r : Fin 1024) (cc : Fin 4096) (R : Fin 6144) (hR : R.val = j.val * 1024 + r.val)
include hR

/-- One visit of the row block. -/
theorem visit (t : Fin grid0.N) (hj : t.val / 56 = j.val) (d : FVec Ideal S1024x4096 .f32) :
    step (F := Ideal) (grid0.coords t) (tabAt (F := Ideal) nv (grid0.coords t)) (iblk m c 0 t) (iblk m c 1 t) (iblk m c 2 t) (iblk m c 3 t) d (ix2 r cc)
      = (if t.val % 56 = 0 then 0 else d (ix2 r cc)) + ∑ q : Fin 256, (if hb : t.val % 56 * 256 + q.val < 14336 then
          unit (m ((c.tc : Thread nD τ).loc main_arg0)) (m ((c.tc : Thread nD τ).loc main_arg1)) (m ((c.tc : Thread nD τ).loc main_arg2))
            (m ((c.tc : Thread nD τ).loc main_arg3)) R cc ⟨t.val % 56 * 256 + q.val, hb⟩ else 0) := by
  refine (step_apply t _ _ _ _ d r cc).trans ?_
  rw [added_eq m c t r cc R (by rw [hj]; exact hR)]

/-- The output block during a row block. -/
theorem acc_run : ∀ (f : ℕ), f < 56 → ∀ (ht : j.val * 56 + f < grid0.N),
    acc m c (j.val * 56 + f) ht (ix2 r cc) = partialSum m c R cc (f + 1)
  | 0, hf, ht => by
    have hv := visit m c j r cc R hR ⟨j.val * 56 + 0, ht⟩ (show (j.val * 56 + 0) / 56 = j.val by omega) (k0_pay1 (F := Ideal))
    have h0 : (j.val * 56 + 0) % 56 = 0 := by omega
    rw [acc_first m c ⟨j.val * 56 + 0, ht⟩ h0 (k0_pay1 (F := Ideal))]
    refine hv.trans ?_
    simp only [h0, if_pos]
    unfold partialSum
    rw [Finset.sum_range_succ, Finset.sum_range_zero]
  | f + 1, hf, ht => by
    have hv := visit m c j r cc R hR ⟨j.val * 56 + (f + 1), ht⟩ (show (j.val * 56 + (f + 1)) / 56 = j.val by omega)
      (acc m c (j.val * 56 + f) (by omega))
    have h0 : (j.val * 56 + (f + 1)) % 56 = f + 1 := by omega
    have ha := acc_succ m c ⟨j.val * 56 + (f + 1), ht⟩ (by show j.val * 56 + (f + 1) ≠ 0; omega)
    refine (congrFun ha _).trans (hv.trans ?_)
    simp only [h0]
    rw [if_neg (Nat.succ_ne_zero f), acc_run f (by omega) (by omega)]
    unfold partialSum
    rw [Finset.sum_range_succ _ (f + 1)]

/-- The output block a row block leaves. -/
theorem acc_final (ht : j.val * 56 + 55 < grid0.N) :
    acc m c (j.val * 56 + 55) ht (ix2 r cc)
      = ffn (m ((c.tc : Thread nD τ).loc main_arg0)) (m ((c.tc : Thread nD τ).loc main_arg1)) (m ((c.tc : Thread nD τ).loc main_arg2))
          (m ((c.tc : Thread nD τ).loc main_arg3)) R cc :=
  (acc_run m c j r cc R hR 55 (by omega) ht).trans (sum_runs (fun q => unit _ _ _ _ R cc q))

end Item

/-! ## The result array -/

/-- The result array: each row block's rows as its last visit leaves them. -/
def result (c : Dev nD) : S6144x4096.Idx → EReal := fun i =>
  acc m c ((i 0).val / 1024 * 56 + 55)
    (by have hi : (i 0).val < 6144 := (i 0).isLt; have hN := N_0; omega)
    (ix2 ⟨(i 0).val % 1024, Nat.mod_lt _ (by decide)⟩ (i 1))

theorem acc_congr (c : Dev nD) {n n' : ℕ} (e : n = n') (hn hn') {p p' : S1024x4096.Idx} (e' : p = p') :
    acc m c n hn p = acc m c n' hn' p' := by subst e; subst e'; rfl

theorem flushed_eq (c : Dev nD) (t : Fin grid0.N) (hf : ((cfgA (F := Ideal)).win (4 : Fin 5)).flush t = true) :
    (dats m 0 c).flushed (4 : Fin 5) t = (((cfgA (F := Ideal)).win (4 : Fin 5)).blk t).view.read (Elt Ideal) (result m c) := by
  have h55 : t.val % 56 = 55 := by
    have := (flush_4 t).symm.trans hf
    simpa using this
  have hi0 : ((cfgA (F := Ideal)).win (4 : Fin 5)).index t (0 : Fin 2) = t.val / 56 := index_4 t 0
  have hi1 : ((cfgA (F := Ideal)).win (4 : Fin 5)).index t (1 : Fin 2) = 0 := index_4 t 1
  funext y
  rw [View.read_apply]
  have hy0 : (y (0 : Fin 2)).val < 1024 := (y (0 : Fin 2)).isLt
  refine (congrFun (after_4 m c t) y).trans ?_
  unfold result
  have e0 : ((((cfgA (F := Ideal)).win (4 : Fin 5)).blk t).view.emb y (0 : Fin 2)).val = t.val / 56 * 1024 + (y (0 : Fin 2)).val := by
    show ((cfgA (F := Ideal)).win (4 : Fin 5)).index t (0 : Fin 2) * 1024 + 1 * (y (0 : Fin 2)).val = _
    rw [hi0]; omega
  have e1 : ((((cfgA (F := Ideal)).win (4 : Fin 5)).blk t).view.emb y (1 : Fin 2)).val = (y (1 : Fin 2)).val := by
    show ((cfgA (F := Ideal)).win (4 : Fin 5)).index t (1 : Fin 2) * 4096 + 1 * (y (1 : Fin 2)).val = _
    rw [hi1]; omega
  refine acc_congr m c ?_ _ _ ?_
  · rw [e0]; omega
  · funext a; apply Fin.ext
    match a with
    | ⟨0, _⟩ => show (y (0 : Fin 2)).val = _ % 1024; rw [e0]; omega
    | ⟨1, _⟩ => exact e1.symm

theorem final_o (c : Dev nD) : (dats m 0 c).arrAt (4 : Fin 5) grid0.N = result m c :=
  (dats m 0 c).arrAt_eq_of_cover (4 : Fin 5) (result m c) (flushed_eq m c) fun i => by
    have hi0 : (i (0 : Fin 2)).val < 6144 := (i (0 : Fin 2)).isLt
    have hi1 : (i (1 : Fin 2)).val < 4096 := (i (1 : Fin 2)).isLt
    have hN := N_0
    have ht : (i (0 : Fin 2)).val / 1024 * 56 + 55 < grid0.N := by omega
    refine ⟨⟨(i (0 : Fin 2)).val / 1024 * 56 + 55, ht⟩, (flush_4 _).trans (decide_eq_true (by show ((i (0 : Fin 2)).val / 1024 * 56 + 55) % 56 = 55; omega)), ?_⟩
    have hx0 := index_4 (F := Ideal) ⟨(i (0 : Fin 2)).val / 1024 * 56 + 55, ht⟩ 0
    have hx1 := index_4 (F := Ideal) ⟨(i (0 : Fin 2)).val / 1024 * 56 + 55, ht⟩ 1
    show i ∈ ((View.whole main_v3).slice (((cfgA (F := Ideal)).win (4 : Fin 5)).rect ⟨(i (0 : Fin 2)).val / 1024 * 56 + 55, ht⟩)).set
    rw [View.set_slice_whole, Rect.mem_set_unit]
    intro a
    match a with
    | ⟨0, _⟩ =>
      show ((cfgA (F := Ideal)).win (4 : Fin 5)).index _ (0 : Fin 2) * 1024 ≤ (i (0 : Fin 2)).val ∧ (i (0 : Fin 2)).val < ((cfgA (F := Ideal)).win (4 : Fin 5)).index _ (0 : Fin 2) * 1024 + 1024
      rw [hx0]
      show ((i (0 : Fin 2)).val / 1024 * 56 + 55) / 56 * 1024 ≤ _ ∧ _ < ((i (0 : Fin 2)).val / 1024 * 56 + 55) / 56 * 1024 + 1024
      omega
    | ⟨1, _⟩ =>
      show ((cfgA (F := Ideal)).win (4 : Fin 5)).index _ (1 : Fin 2) * 4096 ≤ (i (1 : Fin 2)).val ∧ (i (1 : Fin 2)).val < ((cfgA (F := Ideal)).win (4 : Fin 5)).index _ (1 : Fin 2) * 4096 + 4096
      rw [hx1]
      show 0 * 4096 ≤ _ ∧ _ < 0 * 4096 + 4096
      omega

/-- The result array is the row's feed-forward. -/
theorem result_apply (c : Dev nD) (i : S6144x4096.Idx) :
    result m c i = ffn (m ((c.tc : Thread nD τ).loc main_arg0)) (m ((c.tc : Thread nD τ).loc main_arg1)) (m ((c.tc : Thread nD τ).loc main_arg2))
          (m ((c.tc : Thread nD τ).loc main_arg3)) (i 0) (i 1) := by
  have hi : (i 0).val < 6144 := (i 0).isLt
  have hN := N_0
  exact acc_final m c ⟨(i 0).val / 1024, by omega⟩ ⟨(i 0).val % 1024, Nat.mod_lt _ (by decide)⟩ (i 1) (i 0)
    (show (i 0).val = (i 0).val / 1024 * 1024 + (i 0).val % 1024 by omega) (by show (i 0).val / 1024 * 56 + 55 < grid0.N; omega)

/-- The run: the result array, the arguments unchanged. -/
theorem run : θ_run defs (onTc (τ := τ) (main (F := Ideal))) ⟨m, fun _ => 0, ρ⟩ (fun r => ∀ c : Dev nD,
    r.2.mem ((c.tc : Thread nD τ).loc main_v3) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r hr c => ⟨((hr.1 c).1 (4 : Fin 5)).trans (final_o m c), unchanged_of m r hr.1 c⟩) (run_main m ρ)

end Cert.Kernel2Ideal.Hand

end
-- ==== Proof.FfnRef.lean ====
/- The dense feed-forward's claims: the kernel's result is the reference's, and the frames of the three programs. -/
module

public import proofs.«01_k».proof.Proof.FfnRun
public import proofs.«01_k».proof.Proof.Gen.Kernel2.Launch
public import proofs.«01_k».proof.Proof.Gen.Reference2Ideal.Run
public import proofs.«01_k».proof.Proof.Gen.Reference2Ideal.Read
public import proofs.«01_k».proof.Proof.RefValue
public import proofs.«01_k».proof.Defs
public import Idealize.ShloMosaic.Lib.Pointwise

@[expose] public section

set_option maxRecDepth 16384

noncomputable section

namespace Cert.Dense

open Cert.Reference2Ideal Cert.Reference2Ideal.Gen Cert.Reference2Ideal.Read
open Idealize.ShloMosaic Idealize.ShloMosaic.TcCoe Idealize.SL.Sem
open Cert.KernelIdeal.Hand (gated)
open Cert.ReferenceIdeal.RefValue (one_word)

attribute [local instance] Cert.Kernel2.Gen.facts Cert.Kernel2Ideal.Gen.facts Cert.Reference2Ideal.Gen.facts

section Value
variable (x0 : FVec Ideal S6144x4096 .bf16) (x1 x2 : FVec Ideal S1x4096x14336 .f32) (x3 : FVec Ideal S1x14336x4096 .f32)

theorem gate_apply (r : Fin 6144) (j : Fin 14336) : val_main_v4 (F := Ideal) x0 x1 (ix2 r j) = ∑ k : Fin 4096, x0 (ix2 r k) * x1 (ix3 0 k j) := by
  pointwise! [val_main_v4, val_main_v1, val_main_v0]

theorem up_apply (r : Fin 6144) (j : Fin 14336) : val_main_v6 (F := Ideal) x0 x2 (ix2 r j) = ∑ k : Fin 4096, x0 (ix2 r k) * x2 (ix3 0 k j) := by
  pointwise! [val_main_v6, val_main_v2, val_main_v0]

/-- The reference's gated activation. -/
theorem hidden_apply (r : Fin 6144) (j : Fin 14336) : val_main_v7 (F := Ideal) x0 x1 x2 (ix2 r j)
    = gated (∑ k : Fin 4096, x0 (ix2 r k) * x1 (ix3 0 k j)) (∑ k : Fin 4096, x0 (ix2 r k) * x2 (ix3 0 k j)) := by
  rw [val_main_v7_apply, val_main_v5_apply, val_main_call0_v5_apply, val_main_call0_v4_apply, val_main_call0_v3_apply, val_main_call0_v2_apply,
    val_main_call0_v1_apply, val_main_call0_v0_apply, val_main_call0_cst_apply, val_main_call0_cst_0_apply, one_word, gate_apply, up_apply]
  rfl

theorem down_apply (r : Fin 6144) (c : Fin 4096) : val_main_v8 (F := Ideal) x0 x1 x2 x3 (ix2 r c)
    = ∑ j : Fin 14336, val_main_v7 (F := Ideal) x0 x1 x2 (ix2 r j) * x3 (ix3 0 j c) := by
  unfold val_main_v8
  generalize val_main_v7 (F := Ideal) x0 x1 x2 = y
  pointwise! [val_main_v3]

/-- The reference's result is the layer's arithmetic. -/
theorem ref_value (i : S6144x4096.Idx) : val_main_v8 (F := Ideal) x0 x1 x2 x3 i = Cert.Kernel2Ideal.Hand.ffn x0 x1 x2 x3 (i 0) (i 1) := by
  obtain ⟨a, b, rfl⟩ : ∃ (a : Fin 6144) (b : Fin 4096), i = ix2 a b := ⟨i 0, i 1, eq_ix2 i⟩
  refine (down_apply x0 x1 x2 x3 a b).trans ?_
  show _ = ∑ j : Fin 14336, Cert.Kernel2Ideal.Hand.unit x0 x1 x2 x3 a b j
  refine Finset.sum_congr rfl fun j _ => ?_
  rw [hidden_apply]
  rfl

end Value

theorem algebraic : Cert.algebraic_Kernel2Ideal_Reference2Ideal := fun m g m' g' _ hag => by
  refine ⟨fun c => Cert.Kernel2Ideal.Hand.result m c, Cert.Kernel2Ideal.Hand.run m g,
    (θ_run _ _ _).mono (fun r hr c => ⟨?_, (hr c).2⟩) (Cert.Reference2Ideal.Value.run m' g')⟩
  obtain rfl : c = 0 := Subsingleton.elim _ _
  obtain ⟨a0, a1, a2, a3⟩ := hag 0
  refine ((hr 0).1.trans (Cert.Reference2Ideal.Read.val_main_v8_eq _ _ _ _)).trans ?_
  funext i
  refine (ref_value _ _ _ _ i).trans (Eq.trans ?_ (Cert.Kernel2Ideal.Hand.result_apply m 0 i).symm)
  rw [a0, a1, a2, a3]

theorem kernelIdeal : Cert.quiescent_Kernel2Ideal := fun m g _ => Cert.Kernel2Ideal.Hand.frame_run m g

/-- The frame of the idealization's text, read at the machine's words. -/
def FrameBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩
      (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
        ∧ r.2.sem = fun _ => 0)

/-- The idealization changed no operation, so the kernel's frame is that same statement. -/
theorem frame_eq : Cert.quiescent_Kernel2 = FrameBits := by chain_rfl

theorem kernel : Cert.quiescent_Kernel2 := frame_eq.mpr fun m g _ => Cert.Kernel2Ideal.Hand.frame_run (F := Bits) m g

theorem referenceIdeal : Cert.quiescent_Reference2Ideal := fun m g _ =>
  (θ_run _ _ _).mono (fun r h => ⟨fun c => (h c).2, by
    funext k
    rcases k with ⟨c, k⟩
    cases k <;> rename_i x <;> exact Fin.elim0 x⟩) (Cert.Reference2Ideal.Value.run m g)

end Cert.Dense

end
-- ==== Proof.InProj.lean ====
/- What the input projection leaves in its result array, over the extended reals: column block `j` of the result is the
   rows times the 512 columns of the weights that begin at the block's own offset. -/
module

public import proofs.«01_k».proof.Proof.Gen.Kernel3Ideal.Value
public import Idealize.ShloMosaic.Lib.Pointwise
public import Idealize.ShloMosaic.Lib.Tactic

@[expose] public section

set_option maxRecDepth 16384

noncomputable section

namespace Cert.InProj

open Cert.Kernel3Ideal Cert.Kernel3Ideal.Gen Cert.Kernel3Ideal.Value
open Idealize.ShloMosaic Idealize.ShloMosaic.TcCoe Idealize.SL.Sem

theorem hz : (![0, 0] : Fin 2 → Nat) = fun _ => 0 := funext fun a => by fin_cases a <;> rfl

/-! ## The body's two cases -/

section Body
variable (c : Dev nD) (i : grid0.Coords) (a2 : Memref sig .tc .vmem S1024x4096 .bf16) (h2 : a2.IsWhole) (a3 : Memref sig .tc .vmem S512x4096 .f32) (h3 : a3.IsWhole)
  (a4 : Memref sig .tc .vmem S1024x512 .f32) (h4 : a4.IsWhole) (a5 : Memref sig .tc .vmem S512x4096 .bf16) (h5 : a5.IsWhole)
  (x : Vec Ideal S1024x4096 .bf16) (w : Vec Ideal S512x4096 .f32)

/-- At a column block's first visit the scratch takes the block of weights. -/
theorem scratch_first (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S512x4096) hz]
  simp only [View.readAt_eq_ld, h3.read_unread, View.ld_unit_zero (S := S512x4096) hz]

/-- At that visit the result is the product with the block of weights. -/
theorem out_first (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x512) hz, View.readCov_unit_zero (S := S512x4096) _ hz]
  simp only [View.readAt_eq_ld, h2.read_unread, h3.read_unread, View.ld_unit_zero (S := S1024x4096) hz, View.ld_unit_zero (S := S512x4096) hz]

/-- At a later visit the result is the product with what the scratch holds. -/
theorem out_later (hc : ¬cond0_0 i) (s : Vec Ideal S512x4096 .bf16) : out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_unit_zero (S := S1024x512) hz]
  simp only [View.readAt_eq_ld, h2.read_unread, h5.read_unread, View.ld_unit_zero (S := S1024x4096) hz, View.ld_unit_zero (S := S512x4096) hz]

end Body

/-- The cast to bf16 changes no entry. -/
theorem pay1_apply (w : Vec Ideal S512x4096 .f32) (q : Fin 512) (k : Fin 4096) : (k0_pay1 w : FVec Ideal S512x4096 .bf16) (ix2 q k) = w (ix2 q k) := by
  pointwise! [k0_pay1]

/-- The product of a block of rows with a block of transposed weights. -/
theorem pay2_apply (x : Vec Ideal S1024x4096 .bf16) (w : Vec Ideal S512x4096 .bf16) (r : Fin 1024) (q : Fin 512) :
    (k0_pay2 x w : FVec Ideal S1024x512 .f32) (ix2 r q) = ∑ k : Fin 4096, x (ix2 r k) * w (ix2 q k) := by
  pointwise! [k0_pay2]

/-! ## The staged blocks -/

variable (m : (ℓ : Loc nD τ sig) → Buf (Elt Ideal) ℓ) (ρ : Dev nD → PrngReg)

/-- Where column block `j` of the result begins in the weights' columns. -/
def off (j : ℕ) : ℕ := if j < 12 then j * 512 else if j < 18 then 6208 + (j - 12) * 512 else 6144

theorem lt_N (t : Fin cfg0.N) : t.val < 114 := Nat.lt_of_lt_of_eq t.isLt N_0

theorem index_0 : ∀ t : Fin cfg0.N, win0_0.index t = ![t.val % 6, 0] :=
  (by decide +kernel : ∀ t : Fin grid0.N, win0_0.index t = ![t.val % 6, 0])
theorem index_1 : ∀ t : Fin cfg0.N, cc0_transform_1 (grid0.coords t) = ![off (t.val / 6), 0] :=
  (by decide +kernel : ∀ t : Fin grid0.N, cc0_transform_1 (grid0.coords t) = ![off (t.val / 6), 0])

/-- The weights as the region finds them: transposed, the two layers one below the other. -/
theorem weights (c : Dev nD) (a : Fin 18560) (k : Fin 4096) (h : a.val < 9280) :
    (V m c main_v1 : FVec Ideal S18560x4096 .f32) (ix2 a k) = (m ((c.tc : Thread nD τ).loc main_arg1) : FVec Ideal S2x4096x9280 .f32) (ix3 0 k ⟨a.val, h⟩) := by
  have e : (V m c main_v1 : FVec Ideal S18560x4096 .f32)
      = shapeCast S18560x4096 (transpose S2x9280x4096 [0, 2, 1] (m ((c.tc : Thread nD τ).loc main_arg1) : FVec Ideal S2x4096x9280 .f32) transposes_S2x4096x9280_S2x9280x4096_0_2_1)
          shapeCasts_S2x9280x4096_S18560x4096 := by
    dsimp only [V, hostOps0]
    after_results <;> rfl
  rw [e]
  refine (shapeCast_apply _ _ (ix2 a k) (ix3 (0 : Fin 2) (⟨a.val, h⟩ : Fin 9280) k) ?_).trans ?_
  · rw [Shape.rowMajor_val_two, Shape.rowMajor_val_three]
    show (0 * 9280 + a.val) * 4096 + k.val = a.val * 4096 + k.val
    omega
  · pointwise

/-- The staged block of rows. -/
theorem rows_block (c : Dev nD) (t : Fin cfg0.N) (r : Fin 1024) (k : Fin 4096) :
    (iblk m c 0 t : FVec Ideal S1024x4096 .bf16) (ix2 r k)
      = (m ((c.tc : Thread nD τ).loc main_arg0) : FVec Ideal S6144x4096 .bf16) (ix2 ⟨t.val % 6 * 1024 + r.val, by omega⟩ k) := by
  have hi := index_0 t
  unfold iblk
  rw [View.read_apply]
  show V m c main_arg0 _ = _
  rw [V_main_arg0]
  congr 1; funext a; apply Fin.ext
  match a with
  | ⟨0, _⟩ =>
    show win0_0.index t (0 : Fin 2) * 1024 + 1 * r.val = _
    rw [hi]; show t.val % 6 * 1024 + 1 * r.val = t.val % 6 * 1024 + r.val; omega
  | ⟨1, _⟩ =>
    show win0_0.index t (1 : Fin 2) * 4096 + 1 * k.val = _
    rw [hi]; show 0 * 4096 + 1 * k.val = k.val; omega

theorem off_lt (j : ℕ) (hj : j < 19) (q : Fin 512) : off j + q.val < 9280 := by
  unfold off; split_ifs <;> omega

/-- The staged block of weights: 512 columns from the block's offset, each as a row. -/
theorem weights_block (c : Dev nD) (t : Fin cfg0.N) (q : Fin 512) (k : Fin 4096) (h : off (t.val / 6) + q.val < 9280) :
    (iblk m c 1 t : FVec Ideal S512x4096 .f32) (ix2 q k)
      = (m ((c.tc : Thread nD τ).loc main_arg1) : FVec Ideal S2x4096x9280 .f32) (ix3 0 k ⟨off (t.val / 6) + q.val, h⟩) := by
  have hi := index_1 t
  refine Eq.trans ?_ (weights m c ⟨off (t.val / 6) + q.val, by omega⟩ k h)
  unfold iblk
  rw [View.read_apply]
  show V m c main_v1 _ = _
  congr 1; funext a; apply Fin.ext
  match a with
  | ⟨0, _⟩ =>
    show cc0_transform_1 (grid0.coords t) (0 : Fin 2) + 1 * q.val = _
    rw [hi]; show off (t.val / 6) + 1 * q.val = off (t.val / 6) + q.val; omega
  | ⟨1, _⟩ =>
    show cc0_transform_1 (grid0.coords t) (1 : Fin 2) + 1 * k.val = _
    rw [hi]; show 0 + 1 * k.val = k.val; omega

/-! ## What each visit leaves -/

/-- Entry of the rows and entry of the weights, as plain functions. -/
abbrev row (c : Dev nD) : FVec Ideal S6144x4096 .bf16 := m ((c.tc : Thread nD τ).loc main_arg0)
abbrev wt (c : Dev nD) : FVec Ideal S2x4096x9280 .f32 := m ((c.tc : Thread nD τ).loc main_arg1)

/-- The scratch holds the column block's weights at every visit of the block. -/
theorem scratch (c : Dev nD) : ∀ (n : ℕ) (hn : n < cfg0.N) (q : Fin 512) (k : Fin 4096) (h : off (n / 6) + q.val < 9280),
    ((outsAt0 m c n hn).2 : FVec Ideal S512x4096 .bf16) (ix2 q k) = wt m c (ix3 0 k ⟨off (n / 6) + q.val, h⟩)
  | n, hn, q, k, h => by
    by_cases h0 : n % 6 = 0
    · rw [outsAt0_A m c ⟨n, hn⟩ h0]
      dsimp only
      rw [scratch_first, pay1_apply]
      exact weights_block m c ⟨n, hn⟩ q k h
    · rw [outsAt0_B m c ⟨n, hn⟩ h0]
      obtain ⟨p, rfl⟩ : ∃ p, n = p + 1 := ⟨n - 1, by omega⟩
      have e : (p + 1) / 6 = p / 6 := by omega
      have h' : off (p / 6) + q.val < 9280 := e ▸ h
      refine (scratch c p (Nat.lt_of_succ_lt hn) q k h').trans ?_
      congr 2
      exact Fin.ext (by show off (p / 6) + q.val = off ((p + 1) / 6) + q.val; rw [e])

/-- The result block after a visit. -/
theorem out_apply (c : Dev nD) (t : Fin cfg0.N) (r : Fin 1024) (q : Fin 512) (h : off (t.val / 6) + q.val < 9280) :
    ((outsAt0 m c t.val t.isLt).1 : FVec Ideal S1024x512 .f32) (ix2 r q)
      = ∑ k : Fin 4096, row m c (ix2 ⟨t.val % 6 * 1024 + r.val, by omega⟩ k) * wt m c (ix3 0 k ⟨off (t.val / 6) + q.val, h⟩) := by
  by_cases h0 : t.val % 6 = 0
  · rw [outsAt0_A m c t h0]
    dsimp only
    rw [out_first, pay2_apply]
    refine Finset.sum_congr rfl fun k _ => congrArg₂ (· * ·) (rows_block m c t r k) ?_
    rw [pay1_apply]
    exact weights_block m c t q k h
  · have hs := scratch m c t.val t.isLt q
    rw [outsAt0_B m c t h0] at hs
    rw [outsAt0_B m c t h0]
    dsimp only
    rw [out_later, pay2_apply]
    exact Finset.sum_congr rfl fun k _ => congrArg₂ (· * ·) (rows_block m c t r k) (hs k h)

/-- The result array. -/
theorem result_apply (c : Dev nD) (a : Fin 6144) (b : Fin 9728) (h : off (b.val / 512) + b.val % 512 < 9280) :
    (G2 m c : FVec Ideal S6144x9728 .f32) (ix2 a b) = ∑ k : Fin 4096, row m c (ix2 a k) * wt m c (ix3 0 k ⟨off (b.val / 512) + b.val % 512, h⟩) := by
  have hp : pt2Of (ix2 a b) = a.val / 1024 + 6 * (b.val / 512) := by
    show 1 * (a.val / 1024 - 0) + 6 * (b.val / 512 - 0) = _
    omega
  have hlt : pt2Of (ix2 a b) < cfg0.N := Nat.lt_of_lt_of_eq (by rw [hp]; omega) N_0.symm
  have hd : pt2Of (ix2 a b) / 6 = b.val / 512 := by rw [hp]; omega
  have hm : pt2Of (ix2 a b) % 6 = a.val / 1024 := by rw [hp]; omega
  have hl : loc2Of (ix2 a b) = ix2 (⟨a.val % 1024, Nat.mod_lt _ (by decide)⟩ : Fin 1024) (⟨b.val % 512, Nat.mod_lt _ (by decide)⟩ : Fin 512) := by
    funext d; match d with | ⟨0, _⟩ => rfl | ⟨1, _⟩ => rfl
  show G2 m c (ix2 a b) = _
  unfold G2
  rw [dif_pos hlt, hl]
  have h' : off (pt2Of (ix2 a b) / 6) + b.val % 512 < 9280 := hd ▸ h
  refine (congrArg (fun z : Vec Ideal S1024x512 .f32 × Vec Ideal S512x4096 .bf16 => z.1 _) (outsAt0_sweep m c (pt2Of (ix2 a b)) hlt).symm).trans ?_
  refine (out_apply m c ⟨pt2Of (ix2 a b), hlt⟩ _ ⟨b.val % 512, Nat.mod_lt _ (by decide)⟩ h').trans ?_
  refine Finset.sum_congr rfl fun k _ => congrArg₂ (· * ·) (congrArg (row m c) ?_) (congrArg (wt m c) ?_)
  · congr 1
    exact Fin.ext (by show pt2Of (ix2 a b) % 6 * 1024 + a.val % 1024 = a.val; rw [hm]; omega)
  · congr 1
    exact Fin.ext (by show off (pt2Of (ix2 a b) / 6) + b.val % 512 = _; rw [hd])

end Cert.InProj

end
-- ==== Proof.InProjRef.lean ====
/- The input projection's value claim: the kernel's result over the extended reals is the plain product, its columns in the
   order in which the layer's later calls read them. -/
module

public import proofs.«01_k».proof.Defs
public import proofs.«01_k».proof.Proof.InProj
public import proofs.«01_k».proof.Proof.Gen.Kernel3
public import proofs.«01_k».proof.Proof.Gen.Kernel3.Frame
public import proofs.«01_k».proof.Proof.Gen.Reference3Ideal.Run
public import proofs.«01_k».proof.Proof.Gen.Reference3Ideal.Read

@[expose] public section

noncomputable section

namespace Cert.InProj

open Idealize.ShloMosaic Idealize.SL.Sem

attribute [local instance] Cert.Kernel3.Gen.facts Cert.Kernel3Ideal.Gen.facts Cert.Reference3Ideal.Gen.facts

section Ref
open Cert.Reference3Ideal Cert.Reference3Ideal.Read

/-- One entry of the plain product. -/
theorem product_apply (x : FVec Ideal S6144x4096 .bf16) (w : FVec Ideal S2x4096x9280 .f32) (a : Fin 6144) (b : Fin 9280) :
    (val_main_v3 (F := Ideal) x w : FVec Ideal S6144x9280 .f32) (ix2 a b) = ∑ k : Fin 4096, x (ix2 a k) * w (ix3 0 k b) := by
  pointwise! [val_main_v3, val_main_v0, val_main_v2, val_main_v1]

/-- The columns in the result's order. -/
theorem order_apply (x : FVec Ideal S6144x4096 .bf16) (w : FVec Ideal S2x4096x9280 .f32) (a : Fin 6144) (b : Fin 9728) (h : off (b.val / 512) + b.val % 512 < 9280) :
    (val_main_v7 (F := Ideal) x w : FVec Ideal S6144x9728 .f32) (ix2 a b)
      = (val_main_v3 (F := Ideal) x w : FVec Ideal S6144x9280 .f32) (ix2 a ⟨off (b.val / 512) + b.val % 512, h⟩) := by
  unfold val_main_v7 val_main_v4 val_main_v5 val_main_v6
  generalize val_main_v3 (F := Ideal) x w = P
  have hb := b.isLt
  have e1 : b.val < 6144 → off (b.val / 512) + b.val % 512 = b.val := fun _ => by unfold off; rw [if_pos (by omega)]; omega
  have e2 : ¬b.val < 6144 → b.val < 9216 → off (b.val / 512) + b.val % 512 = 6208 + (b.val - 6144) := fun _ _ => by
    unfold off; rw [if_neg (by omega), if_pos (by omega)]; omega
  have e3 : ¬b.val < 9216 → off (b.val / 512) + b.val % 512 = 6144 + (b.val - 9216) := fun _ => by
    unfold off; rw [if_neg (by omega), if_neg (by omega)]; omega
  pointwise
  have at_eq : ∀ (p q : ℕ) (hp : p < 9280) (hq : q < 9280), p = q → P (ix2 a ⟨p, hp⟩) = P (ix2 a ⟨q, hq⟩) := by
    rintro p q hp hq rfl; rfl
  split_ifs <;> refine at_eq _ _ _ _ ?_
  · exact (e1 (by assumption)).symm
  · exact (e1 (by assumption)).symm
  · exact (e2 (by assumption) (by omega)).symm
  · exact (e2 (by assumption) (by omega)).symm
  · rw [e3 (by omega)]; omega
  · rw [e3 (by omega)]; omega

end Ref

theorem ref_value (x y : FVec Ideal Cert.Reference3Ideal.S6144x4096 .bf16) (w v : FVec Ideal Cert.Reference3Ideal.S2x4096x9280 .f32) (ex : y = x) (ew : v = w)
    (a : Fin 6144) (b : Fin 9728) (h : off (b.val / 512) + b.val % 512 < 9280) :
    (Cert.Reference3Ideal.Read.val_main_v7 (F := Ideal) y v : FVec Ideal Cert.Reference3Ideal.S6144x9728 .f32) (ix2 a b)
      = ∑ k : Fin 4096, x (ix2 a k) * w (ix3 0 k ⟨off (b.val / 512) + b.val % 512, h⟩) := by
  subst ex ew
  rw [order_apply _ _ a b h, product_apply]

theorem algebraic : Cert.algebraic_Kernel3Ideal_Reference3Ideal := fun m g m' g' _ hag => by
  refine ⟨fun c => Cert.Kernel3Ideal.Value.G2 m c, Cert.Kernel3Ideal.Value.run m g,
    (θ_run _ _ _).mono (fun r hr c => ⟨?_, (hr c).2⟩) (Cert.Reference3Ideal.Value.run m' g')⟩
  obtain rfl : c = 0 := Subsingleton.elim _ _
  obtain ⟨a0, a1⟩ := hag 0
  refine ((hr 0).1.trans (Cert.Reference3Ideal.Read.val_main_v7_eq _ _)).trans ?_
  funext i
  obtain ⟨a, b, rfl⟩ : ∃ (a : Fin 6144) (b : Fin 9728), i = ix2 a b := ⟨i 0, i 1, eq_ix2 i⟩
  have h : off (b.val / 512) + b.val % 512 < 9280 := off_lt _ (by omega) ⟨b.val % 512, Nat.mod_lt _ (by decide)⟩
  exact (ref_value _ _ _ _ a0 a1 a b h).trans (result_apply m 0 a b h).symm

theorem kernel : Cert.quiescent_Kernel3 := fun m g _ => Cert.Kernel3.Gen.frame m g
theorem kernelIdeal : Cert.quiescent_Kernel3Ideal := fun m g _ => Cert.Kernel3Ideal.Gen.frame m g
theorem referenceIdeal : Cert.quiescent_Reference3Ideal := fun m g _ =>
  (θ_run _ _ _).mono (fun r h => ⟨fun c => (h c).2, by
    funext k
    rcases k with ⟨c, k⟩
    cases k <;> rename_i x <;> exact Fin.elim0 x⟩) (Cert.Reference3Ideal.Value.run m g)

end Cert.InProj

end
-- ==== Proof.OutProj.lean ====
/- What the output projection leaves in its result array, over the extended reals: the residual plus the gate times the
   three parts of the mixer's output times the rows of the weights that belong to them. -/
module

public import proofs.«01_k».proof.Proof.Gen.Kernel4Ideal.Value
public import Idealize.ShloMosaic.Lib.Pointwise
public import Idealize.ShloMosaic.Lib.Tactic
public import Idealize.ShloMosaic.Lib.Pipeline.ReadBack

@[expose] public section

set_option maxRecDepth 16384

noncomputable section

namespace Cert.OutProj

open Cert.Kernel4Ideal Cert.Kernel4Ideal.Gen Cert.Kernel4Ideal.Value
open Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## The body's two cases -/

/-- The rows of the weights that belong to each of the three parts. -/
abbrev part0 (s : Vec Ideal S4096x512 .bf16) : Vec Ideal S1024x512 .bf16 := View.ld s (Rect.unit (s := S4096x512) ![0, 0] S1024x512.size inb_S4096x512_S1024x512_0_0)
abbrev part1 (s : Vec Ideal S4096x512 .bf16) : Vec Ideal S2048x512 .bf16 := View.ld s (Rect.unit (s := S4096x512) ![1024, 0] S2048x512.size inb_S4096x512_S2048x512_1024_0)
abbrev part2 (s : Vec Ideal S4096x512 .bf16) : Vec Ideal S1024x512 .bf16 := View.ld s (Rect.unit (s := S4096x512) ![3072, 0] S1024x512.size inb_S4096x512_S1024x512_3072_0)

section Body
variable (c : Dev nD) (i : grid0.Coords) (a2 : Memref sig .tc .vmem S1024x1024 .bf16) (h2 : a2.IsWhole) (a3 : Memref sig .tc .vmem S1024x2048 .bf16) (h3 : a3.IsWhole)
  (a4 : Memref sig .tc .vmem S1024x1024 .bf16) (h4 : a4.IsWhole) (a5 : Memref sig .tc .vmem S1x4096x512 .f32) (h5 : a5.IsWhole)
  (a6 : Memref sig .tc .vmem S1024x512 .f32) (h6 : a6.IsWhole) (a7 : Memref sig .tc .vmem S1x1x512 .f32) (h7 : a7.IsWhole)
  (a8 : Memref sig .tc .vmem S1024x512 .f32) (h8 : a8.IsWhole) (a9 : Memref sig .tc .vmem S4096x512 .bf16) (h9 : a9.IsWhole)
  (y0 : Vec Ideal S1024x1024 .bf16) (y1 : Vec Ideal S1024x2048 .bf16) (y2 : Vec Ideal S1024x1024 .bf16) (w : Vec Ideal S1x4096x512 .f32)
  (x : Vec Ideal S1024x512 .f32) (g : Vec Ideal S1x1x512 .f32)

/-- At a column block's first visit the scratch takes the block of weights. -/
theorem scratch_first (hc : cond0_0 i) : sout0_A_0 c i a2 h2 a3 h3 a4 h4 a5 h5 a6 h6 a7 h7 a8 h8 a9 h9 hc y0 y1 y2 w x g = k0_pay1 w := by
  unfold sout0_A_0
  rw [View.read_writes_eq_canon _ _ _ (scover0_A_0 c i a2 h2 a3 h3 a4 h4 a5 h5 a6 h6 a7 h7 a8 h8 a9 h9 hc y0 y1 y2 w x g)]
  unfold kernelRun0_A
  dsimp only
  sl_unfold_words
  rw [View.canon_unit_zero (S := S4096x512) hz]
  simp only [View.readAt_eq_ld, h5.read_unread, View.ld_unit_zero (S := S1x4096x512) hz3]

/-- At that visit the result is the sum of the three products with the block of weights. -/
theorem out_first (hc : cond0_0 i) : out0_A_6 c i a2 h2 a3 h3 a4 h4 a5 h5 a6 h6 a7 h7 a8 h8 a9 h9 hc y0 y1 y2 w x g
    = k0_pay2 y0 (part0 (k0_pay1 w)) y1 (part1 (k0_pay1 w)) y2 (part2 (k0_pay1 w)) x g := by
  unfold out0_A_6
  rw [View.read_writes_eq_canon _ _ _ (cover0_A_6 c i a2 h2 a3 h3 a4 h4 a5 h5 a6 h6 a7 h7 a8 h8 a9 h9 hc y0 y1 y2 w x g)]
  unfold kernelRun0_A
  dsimp only
  sl_unfold_words
  rw [View.canon_unit_zero (S := S1024x512) hz]
  have fill : ∀ (Z : Vec Ideal S4096x512 .bf16) (r : Rect S4096x512),
      a9.view.readCov [(⟨Rect.unit (s := S4096x512) ![0, 0] S4096x512.size inb_S4096x512_S4096x512_0_0, Z⟩ : View.Piece (Elt Ideal) S4096x512 .bf16)] r.toLoadRect = View.ld Z r :=
    fun Z r => View.readCov_fill _ _ Z [] r fun a => congrFun hz a
  simp only [fill, View.readAt_eq_ld, h2.read_unread, h3.read_unread, h4.read_unread, h5.read_unread, h6.read_unread, h7.read_unread,
    View.ld_unit_zero (S := S1024x1024) hz, View.ld_unit_zero (S := S1024x2048) hz, View.ld_unit_zero (S := S1024x512) hz,
    View.ld_unit_zero (S := S1x4096x512) hz3, View.ld_unit_zero (S := S1x1x512) hz3]

/-- At a later visit the result is the same with what the scratch holds. -/
theorem out_later (hc : ¬cond0_0 i) (s : Vec Ideal S4096x512 .bf16) : out0_B_6 c i a2 h2 a3 h3 a4 h4 a5 h5 a6 h6 a7 h7 a8 h8 a9 h9 hc y0 y1 y2 w x g s
    = k0_pay2 y0 (part0 s) y1 (part1 s) y2 (part2 s) x g := by
  unfold out0_B_6
  rw [View.read_writes_eq_canon _ _ _ (cover0_B_6 c i a2 h2 a3 h3 a4 h4 a5 h5 a6 h6 a7 h7 a8 h8 a9 h9 hc y0 y1 y2 w x g s)]
  unfold kernelRun0_B
  dsimp only
  rw [View.canon_unit_zero (S := S1024x512) hz]
  simp only [View.readAt_eq_ld, h2.read_unread, h3.read_unread, h4.read_unread, h6.read_unread, h7.read_unread, h9.read_unread,
    View.ld_unit_zero (S := S1024x1024) hz, View.ld_unit_zero (S := S1024x2048) hz, View.ld_unit_zero (S := S1024x512) hz,
    View.ld_unit_zero (S := S1x1x512) hz3]

end Body

/-- The cast to bf16 changes no entry. -/
theorem pay1_apply (w : Vec Ideal S1x4096x512 .f32) (k : Fin 4096) (q : Fin 512) : (k0_pay1 w : FVec Ideal S4096x512 .bf16) (ix2 k q) = w (ix3 0 k q) := by
  pointwise! [k0_pay1]

theorem part0_apply (s : Vec Ideal S4096x512 .bf16) (k : Fin 1024) (q : Fin 512) : part0 s (ix2 k q) = s (ix2 ⟨k.val, by omega⟩ q) := by
  show s _ = s _
  congr 1; funext a; apply Fin.ext
  match a with
  | ⟨0, _⟩ => show 0 + 1 * k.val = k.val; omega
  | ⟨1, _⟩ => show 0 + 1 * q.val = q.val; omega
theorem part1_apply (s : Vec Ideal S4096x512 .bf16) (k : Fin 2048) (q : Fin 512) : part1 s (ix2 k q) = s (ix2 ⟨1024 + k.val, by omega⟩ q) := by
  show s _ = s _
  congr 1; funext a; apply Fin.ext
  match a with
  | ⟨0, _⟩ => show 1024 + 1 * k.val = 1024 + k.val; omega
  | ⟨1, _⟩ => show 0 + 1 * q.val = q.val; omega
theorem part2_apply (s : Vec Ideal S4096x512 .bf16) (k : Fin 1024) (q : Fin 512) : part2 s (ix2 k q) = s (ix2 ⟨3072 + k.val, by omega⟩ q) := by
  show s _ = s _
  congr 1; funext a; apply Fin.ext
  match a with
  | ⟨0, _⟩ => show 3072 + 1 * k.val = 3072 + k.val; omega
  | ⟨1, _⟩ => show 0 + 1 * q.val = q.val; omega

/-- The residual plus the gate times the three products. -/
theorem pay2_apply (y0 : Vec Ideal S1024x1024 .bf16) (w0 : Vec Ideal S1024x512 .bf16) (y1 : Vec Ideal S1024x2048 .bf16) (w1 : Vec Ideal S2048x512 .bf16)
    (y2 : Vec Ideal S1024x1024 .bf16) (w2 : Vec Ideal S1024x512 .bf16) (x : Vec Ideal S1024x512 .f32) (g : Vec Ideal S1x1x512 .f32) (r : Fin 1024) (q : Fin 512) :
    (k0_pay2 y0 w0 y1 w1 y2 w2 x g : FVec Ideal S1024x512 .f32) (ix2 r q)
      = x (ix2 r q) + g (ix3 0 0 q) * (∑ k : Fin 1024, y0 (ix2 r k) * w0 (ix2 k q) + ∑ k : Fin 2048, y1 (ix2 r k) * w1 (ix2 k q) + ∑ k : Fin 1024, y2 (ix2 r k) * w2 (ix2 k q)) := by
  pointwise! [k0_pay2]

/-! ## The staged blocks -/

variable (m : (ℓ : Loc nD τ sig) → Buf (Elt Ideal) ℓ) (ρ : Dev nD → PrngReg)

theorem lt_N (t : Fin cfg0.N) : t.val < 48 := Nat.lt_of_lt_of_eq t.isLt N_0

theorem index_0 : ∀ t : Fin cfg0.N, win0_0.index t = ![t.val % 6, 0] :=
  (by decide +kernel : ∀ t : Fin grid0.N, win0_0.index t = ![t.val % 6, 0])
theorem index_1 : ∀ t : Fin cfg0.N, win0_1.index t = ![t.val % 6, 0] :=
  (by decide +kernel : ∀ t : Fin grid0.N, win0_1.index t = ![t.val % 6, 0])
theorem index_2 : ∀ t : Fin cfg0.N, win0_2.index t = ![t.val % 6, 0] :=
  (by decide +kernel : ∀ t : Fin grid0.N, win0_2.index t = ![t.val % 6, 0])
theorem index_3 : ∀ t : Fin cfg0.N, win0_3.index t = ![0, 0, t.val / 6] :=
  (by decide +kernel : ∀ t : Fin grid0.N, win0_3.index t = ![0, 0, t.val / 6])
theorem index_4 : ∀ t : Fin cfg0.N, win0_4.index t = ![t.val % 6, t.val / 6] :=
  (by decide +kernel : ∀ t : Fin grid0.N, win0_4.index t = ![t.val % 6, t.val / 6])
/-- The gate's row: the first for the first four row blocks, then one each. -/
theorem index_5 : ∀ t : Fin cfg0.N, win0_5.index t = ![t.val % 6 - 3, 0, t.val / 6] :=
  (by decide +kernel : ∀ t : Fin grid0.N, win0_5.index t = ![t.val % 6 - 3, 0, t.val / 6])

abbrev arg0 (c : Dev nD) : FVec Ideal S6144x1024 .bf16 := m ((c.tc : Thread nD τ).loc main_arg0)
abbrev arg1 (c : Dev nD) : FVec Ideal S6144x2048 .bf16 := m ((c.tc : Thread nD τ).loc main_arg1)
abbrev arg2 (c : Dev nD) : FVec Ideal S6144x1024 .bf16 := m ((c.tc : Thread nD τ).loc main_arg2)
abbrev arg3 (c : Dev nD) : FVec Ideal S2x4096x4096 .f32 := m ((c.tc : Thread nD τ).loc main_arg3)
abbrev arg4 (c : Dev nD) : FVec Ideal S6144x4096 .f32 := m ((c.tc : Thread nD τ).loc main_arg4)
abbrev arg5 (c : Dev nD) : FVec Ideal S3x1x4096 .f32 := m ((c.tc : Thread nD τ).loc main_arg5)

theorem block_0 (c : Dev nD) (t : Fin cfg0.N) (r : Fin 1024) (k : Fin 1024) :
    (iblk m c 0 t : FVec Ideal S1024x1024 .bf16) (ix2 r k) = arg0 m c (ix2 ⟨t.val % 6 * 1024 + r.val, by omega⟩ k) := by
  have hi := index_0 t
  have ht := lt_N t
  unfold iblk
  rw [View.read_apply]
  show V m c main_arg0 _ = _
  rw [V_main_arg0]
  congr 1; funext a; apply Fin.ext
  match a with
  | ⟨0, _⟩ =>
    show win0_0.index t (0 : Fin 2) * 1024 + 1 * r.val = _
    rw [hi]; show (t.val % 6) * 1024 + 1 * r.val = t.val % 6 * 1024 + r.val; omega
  | ⟨1, _⟩ =>
    show win0_0.index t (1 : Fin 2) * 1024 + 1 * k.val = _
    rw [hi]; show 0 * 1024 + 1 * k.val = k.val; omega

theorem block_1 (c : Dev nD) (t : Fin cfg0.N) (r : Fin 1024) (k : Fin 2048) :
    (iblk m c 1 t : FVec Ideal S1024x2048 .bf16) (ix2 r k) = arg1 m c (ix2 ⟨t.val % 6 * 1024 + r.val, by omega⟩ k) := by
  have hi := index_1 t
  have ht := lt_N t
  unfold iblk
  rw [View.read_apply]
  show V m c main_arg1 _ = _
  rw [V_main_arg1]
  congr 1; funext a; apply Fin.ext
  match a with
  | ⟨0, _⟩ =>
    show win0_1.index t (0 : Fin 2) * 1024 + 1 * r.val = _
    rw [hi]; show (t.val % 6) * 1024 + 1 * r.val = t.val % 6 * 1024 + r.val; omega
  | ⟨1, _⟩ =>
    show win0_1.index t (1 : Fin 2) * 2048 + 1 * k.val = _
    rw [hi]; show 0 * 2048 + 1 * k.val = k.val; omega

theorem block_2 (c : Dev nD) (t : Fin cfg0.N) (r : Fin 1024) (k : Fin 1024) :
    (iblk m c 2 t : FVec Ideal S1024x1024 .bf16) (ix2 r k) = arg2 m c (ix2 ⟨t.val % 6 * 1024 + r.val, by omega⟩ k) := by
  have hi := index_2 t
  have ht := lt_N t
  unfold iblk
  rw [View.read_apply]
  show V m c main_arg2 _ = _
  rw [V_main_arg2]
  congr 1; funext a; apply Fin.ext
  match a with
  | ⟨0, _⟩ =>
    show win0_2.index t (0 : Fin 2) * 1024 + 1 * r.val = _
    rw [hi]; show (t.val % 6) * 1024 + 1 * r.val = t.val % 6 * 1024 + r.val; omega
  | ⟨1, _⟩ =>
    show win0_2.index t (1 : Fin 2) * 1024 + 1 * k.val = _
    rw [hi]; show 0 * 1024 + 1 * k.val = k.val; omega

theorem block_3 (c : Dev nD) (t : Fin cfg0.N) (k : Fin 4096) (q : Fin 512) :
    (iblk m c 3 t : FVec Ideal S1x4096x512 .f32) (ix3 0 k q) = arg3 m c (ix3 0 k ⟨t.val / 6 * 512 + q.val, by have := lt_N t; omega⟩) := by
  have hi := index_3 t
  have ht := lt_N t
  unfold iblk
  rw [View.read_apply]
  show V m c main_arg3 _ = _
  rw [V_main_arg3]
  congr 1; funext a; apply Fin.ext
  match a with
  | ⟨0, _⟩ =>
    show win0_3.index t (0 : Fin 3) * 1 + 1 * 0 = _
    rw [hi]; show 0 * 1 + 1 * 0 = 0; omega
  | ⟨1, _⟩ =>
    show win0_3.index t (1 : Fin 3) * 4096 + 1 * k.val = _
    rw [hi]; show 0 * 4096 + 1 * k.val = k.val; omega
  | ⟨2, _⟩ =>
    show win0_3.index t (2 : Fin 3) * 512 + 1 * q.val = _
    rw [hi]; show (t.val / 6) * 512 + 1 * q.val = t.val / 6 * 512 + q.val; omega

theorem block_4 (c : Dev nD) (t : Fin cfg0.N) (r : Fin 1024) (q : Fin 512) :
    (iblk m c 4 t : FVec Ideal S1024x512 .f32) (ix2 r q)
      = arg4 m c (ix2 ⟨t.val % 6 * 1024 + r.val, by omega⟩ ⟨t.val / 6 * 512 + q.val, by have := lt_N t; omega⟩) := by
  have hi := index_4 t
  have ht := lt_N t
  unfold iblk
  rw [View.read_apply]
  show V m c main_arg4 _ = _
  rw [V_main_arg4]
  congr 1; funext a; apply Fin.ext
  match a with
  | ⟨0, _⟩ =>
    show win0_4.index t (0 : Fin 2) * 1024 + 1 * r.val = _
    rw [hi]; show (t.val % 6) * 1024 + 1 * r.val = t.val % 6 * 1024 + r.val; omega
  | ⟨1, _⟩ =>
    show win0_4.index t (1 : Fin 2) * 512 + 1 * q.val = _
    rw [hi]; show (t.val / 6) * 512 + 1 * q.val = t.val / 6 * 512 + q.val; omega

theorem block_5 (c : Dev nD) (t : Fin cfg0.N) (q : Fin 512) :
    (iblk m c 5 t : FVec Ideal S1x1x512 .f32) (ix3 0 0 q) = arg5 m c (ix3 ⟨t.val % 6 - 3, by omega⟩ 0 ⟨t.val / 6 * 512 + q.val, by have := lt_N t; omega⟩) := by
  have hi := index_5 t
  have ht := lt_N t
  unfold iblk
  rw [View.read_apply]
  show V m c main_arg5 _ = _
  rw [V_main_arg5]
  congr 1; funext a; apply Fin.ext
  match a with
  | ⟨0, _⟩ =>
    show win0_5.index t (0 : Fin 3) * 1 + 1 * 0 = _
    rw [hi]; show (t.val % 6 - 3) * 1 + 1 * 0 = t.val % 6 - 3; omega
  | ⟨1, _⟩ =>
    show win0_5.index t (1 : Fin 3) * 1 + 1 * 0 = _
    rw [hi]; show 0 * 1 + 1 * 0 = 0; omega
  | ⟨2, _⟩ =>
    show win0_5.index t (2 : Fin 3) * 512 + 1 * q.val = _
    rw [hi]; show (t.val / 6) * 512 + 1 * q.val = t.val / 6 * 512 + q.val; omega

/-! ## What each visit leaves -/

/-- The scratch holds the column block's weights at every visit of the block. -/
theorem scratch (c : Dev nD) : ∀ (n : ℕ) (hn : n < cfg0.N) (k : Fin 4096) (q : Fin 512) (h : n / 6 * 512 + q.val < 4096),
    ((outsAt0 m c n hn).2 : FVec Ideal S4096x512 .bf16) (ix2 k q) = arg3 m c (ix3 0 k ⟨n / 6 * 512 + q.val, h⟩)
  | n, hn, k, q, h => by
    by_cases h0 : n % 6 = 0
    · rw [outsAt0_A m c ⟨n, hn⟩ h0]
      dsimp only
      rw [scratch_first, pay1_apply]
      exact block_3 m c ⟨n, hn⟩ k q
    · rw [outsAt0_B m c ⟨n, hn⟩ h0]
      obtain ⟨p, rfl⟩ : ∃ p, n = p + 1 := ⟨n - 1, by omega⟩
      have e : (p + 1) / 6 = p / 6 := by omega
      have h' : p / 6 * 512 + q.val < 4096 := e ▸ h
      refine (scratch c p (Nat.lt_of_succ_lt hn) k q h').trans ?_
      congr 2
      exact Fin.ext (by show p / 6 * 512 + q.val = (p + 1) / 6 * 512 + q.val; rw [e])

/-- One entry of the result: the residual plus the gate times the three products. -/
def entry (y0 : FVec Ideal S6144x1024 .bf16) (y1 : FVec Ideal S6144x2048 .bf16) (y2 : FVec Ideal S6144x1024 .bf16) (w : FVec Ideal S2x4096x4096 .f32)
    (x : FVec Ideal S6144x4096 .f32) (g : FVec Ideal S3x1x4096 .f32) (a : Fin 6144) (b : Fin 4096) : EReal :=
  x (ix2 a b) + g (ix3 ⟨a.val / 1024 - 3, by omega⟩ 0 b)
    * (∑ k : Fin 1024, y0 (ix2 a k) * w (ix3 0 ⟨k.val, by omega⟩ b) + ∑ k : Fin 2048, y1 (ix2 a k) * w (ix3 0 ⟨1024 + k.val, by omega⟩ b)
      + ∑ k : Fin 1024, y2 (ix2 a k) * w (ix3 0 ⟨3072 + k.val, by omega⟩ b))

/-- The body's result block, once the scratch is known to hold the weights. -/
theorem entry_of (c : Dev nD) (t : Fin cfg0.N) (s : Vec Ideal S4096x512 .bf16) (r : Fin 1024) (q : Fin 512) (h : t.val / 6 * 512 + q.val < 4096)
    (hs : ∀ k : Fin 4096, s (ix2 k q) = arg3 m c (ix3 0 k ⟨t.val / 6 * 512 + q.val, h⟩)) :
    (k0_pay2 (iblk m c 0 t) (part0 s) (iblk m c 1 t) (part1 s) (iblk m c 2 t) (part2 s) (iblk m c 4 t) (iblk m c 5 t) : FVec Ideal S1024x512 .f32) (ix2 r q)
      = entry (arg0 m c) (arg1 m c) (arg2 m c) (arg3 m c) (arg4 m c) (arg5 m c) ⟨t.val % 6 * 1024 + r.val, by omega⟩ ⟨t.val / 6 * 512 + q.val, h⟩ := by
  rw [pay2_apply]
  unfold entry
  refine congrArg₂ (· + ·) (block_4 m c t r q) (congrArg₂ (· * ·) ((block_5 m c t q).trans ?_) (congrArg₂ (· + ·) (congrArg₂ (· + ·) ?_ ?_) ?_))
  · congr 2
    exact Fin.ext (by show t.val % 6 - 3 = (t.val % 6 * 1024 + r.val) / 1024 - 3; omega)
  · exact Finset.sum_congr rfl fun k _ => congrArg₂ (· * ·) (block_0 m c t r k) ((part0_apply s k q).trans (hs _))
  · exact Finset.sum_congr rfl fun k _ => congrArg₂ (· * ·) (block_1 m c t r k) ((part1_apply s k q).trans (hs _))
  · exact Finset.sum_congr rfl fun k _ => congrArg₂ (· * ·) (block_2 m c t r k) ((part2_apply s k q).trans (hs _))

/-- The result block after a visit. -/
theorem out_apply (c : Dev nD) (t : Fin cfg0.N) (r : Fin 1024) (q : Fin 512) (h : t.val / 6 * 512 + q.val < 4096) :
    ((outsAt0 m c t.val t.isLt).1 : FVec Ideal S1024x512 .f32) (ix2 r q)
      = entry (arg0 m c) (arg1 m c) (arg2 m c) (arg3 m c) (arg4 m c) (arg5 m c) ⟨t.val % 6 * 1024 + r.val, by omega⟩ ⟨t.val / 6 * 512 + q.val, h⟩ := by
  by_cases h0 : t.val % 6 = 0
  · rw [outsAt0_A m c t h0]
    dsimp only
    rw [out_first]
    exact entry_of m c t _ r q h fun k => (pay1_apply _ k q).trans (block_3 m c t k q)
  · have hs := fun k => scratch m c t.val t.isLt k q h
    rw [outsAt0_B m c t h0] at hs
    rw [outsAt0_B m c t h0]
    dsimp only
    rw [out_later]
    exact entry_of m c t _ r q h hs

/-- The result array. -/
theorem result_apply (c : Dev nD) (a : Fin 6144) (b : Fin 4096) :
    (G6 m c : FVec Ideal S6144x4096 .f32) (ix2 a b) = entry (arg0 m c) (arg1 m c) (arg2 m c) (arg3 m c) (arg4 m c) (arg5 m c) a b := by
  have hp : pt6Of (ix2 a b) = a.val / 1024 + 6 * (b.val / 512) := by
    show 1 * (a.val / 1024 - 0) + 6 * (b.val / 512 - 0) = _
    omega
  have hlt : pt6Of (ix2 a b) < cfg0.N := Nat.lt_of_lt_of_eq (by rw [hp]; omega) N_0.symm
  have hd : pt6Of (ix2 a b) / 6 = b.val / 512 := by rw [hp]; omega
  have hm : pt6Of (ix2 a b) % 6 = a.val / 1024 := by rw [hp]; omega
  have hl : loc6Of (ix2 a b) = ix2 (⟨a.val % 1024, Nat.mod_lt _ (by decide)⟩ : Fin 1024) (⟨b.val % 512, Nat.mod_lt _ (by decide)⟩ : Fin 512) := by
    funext d; match d with | ⟨0, _⟩ => rfl | ⟨1, _⟩ => rfl
  show G6 m c (ix2 a b) = _
  unfold G6
  rw [dif_pos hlt, hl]
  refine (congrArg (fun z : Vec Ideal S1024x512 .f32 × Vec Ideal S4096x512 .bf16 => z.1 _) (outsAt0_sweep m c (pt6Of (ix2 a b)) hlt).symm).trans ?_
  refine (out_apply m c ⟨pt6Of (ix2 a b), hlt⟩ _ ⟨b.val % 512, Nat.mod_lt _ (by decide)⟩ (by show _ / 6 * 512 + _ < _; rw [hd]; omega)).trans ?_
  congr 1
  · exact Fin.ext (by show pt6Of (ix2 a b) % 6 * 1024 + a.val % 1024 = a.val; rw [hm]; omega)
  · exact Fin.ext (by show pt6Of (ix2 a b) / 6 * 512 + b.val % 512 = b.val; rw [hd]; omega)

end Cert.OutProj

end
-- ==== Proof.OutProjRef.lean ====
/- The output projection's value claim: the kernel's result over the extended reals is the residual plus the gate times the
   plain product of the whole mixer output with the weights. -/
module

public import proofs.«01_k».proof.Defs
public import proofs.«01_k».proof.Proof.OutProj
public import proofs.«01_k».proof.Proof.Gen.Kernel4
public import proofs.«01_k».proof.Proof.Gen.Kernel4.Frame
public import proofs.«01_k».proof.Proof.Gen.Reference4Ideal.Run
public import proofs.«01_k».proof.Proof.Gen.Reference4Ideal.Read

@[expose] public section

noncomputable section

namespace Cert.OutProj

open Idealize.ShloMosaic Idealize.SL.Sem

attribute [local instance] Cert.Kernel4.Gen.facts Cert.Kernel4Ideal.Gen.facts Cert.Reference4Ideal.Gen.facts

section Ref
open Cert.Reference4Ideal Cert.Reference4Ideal.Read

variable (y0 : FVec Ideal S6144x1024 .bf16) (y1 : FVec Ideal S6144x2048 .bf16) (y2 : FVec Ideal S6144x1024 .bf16)
  (w : FVec Ideal S2x4096x4096 .f32) (x : FVec Ideal S6144x4096 .f32) (g : FVec Ideal S3x1x4096 .f32)

/-- The three parts of the mixer's output, side by side. -/
theorem parts_apply (a : Fin 6144) :
    (∀ k : Fin 1024, (val_main_v0 (F := Ideal) y0 y1 y2 : FVec Ideal S6144x4096 .bf16) (ix2 a ⟨k.val, by omega⟩) = y0 (ix2 a k))
    ∧ (∀ k : Fin 2048, (val_main_v0 (F := Ideal) y0 y1 y2 : FVec Ideal S6144x4096 .bf16) (ix2 a ⟨1024 + k.val, by omega⟩) = y1 (ix2 a k))
    ∧ (∀ k : Fin 1024, (val_main_v0 (F := Ideal) y0 y1 y2 : FVec Ideal S6144x4096 .bf16) (ix2 a ⟨3072 + k.val, by omega⟩) = y2 (ix2 a k)) := by
  refine ⟨fun k => ?_, fun k => ?_, fun k => ?_⟩
  · have hk := k.isLt
    unfold val_main_v0
    pointwise
  · have hk := k.isLt
    unfold val_main_v0
    pointwise
  · have hk := k.isLt
    have at_eq : ∀ (p : ℕ) (hp : p < 1024), p = k.val → y2 (ix2 a ⟨p, hp⟩) = y2 (ix2 a k) := by rintro p hp rfl; rfl
    unfold val_main_v0
    pointwise
    split_ifs
    all_goals first
      | omega
      | exact at_eq _ _ (by omega)

/-- The product with the weights, over all the columns at once. -/
theorem product_apply (a : Fin 6144) (b : Fin 4096) :
    (val_main_v14 (F := Ideal) y0 y1 y2 w : FVec Ideal S6144x4096 .f32) (ix2 a b)
      = ∑ k : Fin 4096, (val_main_v0 (F := Ideal) y0 y1 y2 : FVec Ideal S6144x4096 .bf16) (ix2 a k) * w (ix3 0 k b) := by
  unfold val_main_v14 val_main_v1
  generalize val_main_v0 (F := Ideal) y0 y1 y2 = Y
  pointwise! [val_main_v13, val_main_v12]

/-- The gate of a row: the row's own of the three. -/
theorem gate_apply (a : Fin 6144) (b : Fin 4096) :
    (val_main_v11 (F := Ideal) g : FVec Ideal S6144x4096 .f32) (ix2 a b) = g (ix3 ⟨a.val / 1024 - 3, by omega⟩ 0 b) := by
  have e0 : ∀ r : Fin 4096, (val_main_v4 (F := Ideal) g : FVec Ideal S4096x4096 .f32) (ix2 r b) = g (ix3 0 0 b) := fun r => by
    pointwise! [val_main_v4, val_main_v3, val_main_v2]
  have e1 : ∀ r : Fin 1024, (val_main_v7 (F := Ideal) g : FVec Ideal S1024x4096 .f32) (ix2 r b) = g (ix3 1 0 b) := fun r => by
    pointwise! [val_main_v7, val_main_v6, val_main_v5]
  have e2 : ∀ r : Fin 1024, (val_main_v10 (F := Ideal) g : FVec Ideal S1024x4096 .f32) (ix2 r b) = g (ix3 2 0 b) := fun r => by
    pointwise! [val_main_v10, val_main_v9, val_main_v8]
  have ha := a.isLt
  unfold val_main_v11
  revert e0 e1 e2
  generalize val_main_v4 (F := Ideal) g = A
  generalize val_main_v7 (F := Ideal) g = B
  generalize val_main_v10 (F := Ideal) g = C
  intro e0 e1 e2
  have at_eq : ∀ (p q : Fin 3), p = q → g (ix3 p 0 b) = g (ix3 q 0 b) := by rintro p q rfl; rfl
  pointwise
  split_ifs
  all_goals first
    | exact (e0 _).trans (at_eq _ _ (Fin.ext (by show 0 = a.val / 1024 - 3; omega)))
    | exact (e1 _).trans (at_eq _ _ (Fin.ext (by show 1 = a.val / 1024 - 3; omega)))
    | exact (e2 _).trans (at_eq _ _ (Fin.ext (by show 2 = a.val / 1024 - 3; omega)))

end Ref

/-- A sum over 4096 columns in the three parts. -/
theorem sum_parts (f : Fin 4096 → EReal) :
    ∑ k : Fin 4096, f k = ∑ k : Fin 1024, f ⟨k.val, by omega⟩ + ∑ k : Fin 2048, f ⟨1024 + k.val, by omega⟩ + ∑ k : Fin 1024, f ⟨3072 + k.val, by omega⟩ :=
  (Fin.sum_univ_add (a := 3072) (b := 1024) f).trans
    (congrArg₂ (· + ·) (Fin.sum_univ_add (a := 1024) (b := 2048) fun k : Fin 3072 => f ⟨k.val, by omega⟩) rfl)

theorem ref_value (y0 : FVec Ideal Cert.Reference4Ideal.S6144x1024 .bf16) (y1 : FVec Ideal Cert.Reference4Ideal.S6144x2048 .bf16)
    (y2 : FVec Ideal Cert.Reference4Ideal.S6144x1024 .bf16) (w : FVec Ideal Cert.Reference4Ideal.S2x4096x4096 .f32)
    (x : FVec Ideal Cert.Reference4Ideal.S6144x4096 .f32) (g : FVec Ideal Cert.Reference4Ideal.S3x1x4096 .f32) (a : Fin 6144) (b : Fin 4096) :
    (Cert.Reference4Ideal.Read.val_main_v16 (F := Ideal) y0 y1 y2 w x g : FVec Ideal Cert.Reference4Ideal.S6144x4096 .f32) (ix2 a b) = entry y0 y1 y2 w x g a b := by
  obtain ⟨p0, p1, p2⟩ := parts_apply y0 y1 y2 a
  show x (ix2 a b) + (Cert.Reference4Ideal.Read.val_main_v11 (F := Ideal) g : FVec Ideal Cert.Reference4Ideal.S6144x4096 .f32) (ix2 a b)
    * (Cert.Reference4Ideal.Read.val_main_v14 (F := Ideal) y0 y1 y2 w : FVec Ideal Cert.Reference4Ideal.S6144x4096 .f32) (ix2 a b) = _
  rw [gate_apply, product_apply, sum_parts]
  simp only [p0, p1, p2]
  rfl

theorem algebraic : Cert.algebraic_Kernel4Ideal_Reference4Ideal := fun m g m' g' _ hag => by
  refine ⟨fun c => Cert.Kernel4Ideal.Value.G6 m c, Cert.Kernel4Ideal.Value.run m g,
    (θ_run _ _ _).mono (fun r hr c => ⟨?_, (hr c).2⟩) (Cert.Reference4Ideal.Value.run m' g')⟩
  obtain rfl : c = 0 := Subsingleton.elim _ _
  obtain ⟨a0, a1, a2, a3, a4, a5⟩ := hag 0
  refine ((hr 0).1.trans (Cert.Reference4Ideal.Read.val_main_v16_eq _ _ _ _ _ _)).trans ?_
  funext i
  obtain ⟨a, b, rfl⟩ : ∃ (a : Fin 6144) (b : Fin 4096), i = ix2 a b := ⟨i 0, i 1, eq_ix2 i⟩
  refine (ref_value _ _ _ _ _ _ a b).trans (Eq.trans ?_ (result_apply m 0 a b).symm)
  rw [a0, a1, a2, a3, a4, a5]

theorem kernel : Cert.quiescent_Kernel4 := fun m g _ => Cert.Kernel4.Gen.frame m g
theorem kernelIdeal : Cert.quiescent_Kernel4Ideal := fun m g _ => Cert.Kernel4Ideal.Gen.frame m g
theorem referenceIdeal : Cert.quiescent_Reference4Ideal := fun m g _ =>
  (θ_run _ _ _).mono (fun r h => ⟨fun c => (h c).2, by
    funext k
    rcases k with ⟨c, k⟩
    cases k <;> rename_i x <;> exact Fin.elim0 x⟩) (Cert.Reference4Ideal.Value.run m g)

end Cert.OutProj

end
-- ==== Proof.Rows.lean ====
/- What the row-wise calls share, over the extended reals: the division of a row by the root of its mean square, and the row's
   group among the three that have their own modulation. -/
module

public import Idealize.ShloMosaic.Lib.Pointwise
public import Idealize.ShloMosaic.Lib.Tactic

@[expose] public section

noncomputable section

namespace Cert.Rows

open Idealize.ShloMosaic

/-- A row's entry over the root of the row's mean square. `d` is the word that both programs divide the sum by; the word added
    to the mean is that of 1e-6. -/
def unit {n : ℕ} (d : BitVec 32) (f : Fin n → EReal) (k : Fin n) : EReal :=
  f k * Ideal.rsqrt (Ideal.div (∑ j, f j * f j) (Ideal.ofBits .f32 d) + Ideal.ofBits .f32 897988541#32)

/-- A row's group: the first 4096 rows, then 1024 and 1024. -/
def group (a : Fin 6144) : Fin 3 := ⟨a.val / 1024 - 3, by omega⟩

/-- Two entries at equal indices. -/
theorem at_eq {n0 n1 : ℕ} {f : (⟨2, ![n0, n1]⟩ : Shape).Idx → EReal} {a a' : Fin n0} {b b' : Fin n1} (ha : a.val = a'.val) (hb : b.val = b'.val) :
    f (ix2 a b) = f (ix2 a' b') := by
  obtain rfl := Fin.ext ha
  obtain rfl := Fin.ext hb
  rfl

theorem at_eq3 {n0 n1 n2 : ℕ} {f : (⟨3, ![n0, n1, n2]⟩ : Shape).Idx → EReal} {a a' : Fin n0} {b b' : Fin n1} {c c' : Fin n2}
    (ha : a.val = a'.val) (hb : b.val = b'.val) (hc : c.val = c'.val) : f (ix3 a b c) = f (ix3 a' b' c') := by
  obtain rfl := Fin.ext ha
  obtain rfl := Fin.ext hb
  obtain rfl := Fin.ext hc
  rfl

/-- Three groups of rows one below the other, each constant along a column: a row's entry is its group's. -/
theorem groups_apply (A : FVec Ideal ⟨2, ![4096, 4096]⟩ .f32) (B C : FVec Ideal ⟨2, ![1024, 4096]⟩ .f32)
    (h : Shape.Concatenates [⟨2, ![4096, 4096]⟩, ⟨2, ![1024, 4096]⟩, ⟨2, ![1024, 4096]⟩] ⟨2, ![6144, 4096]⟩ 0) (f : Fin 3 → EReal) (a : Fin 6144) (b : Fin 4096)
    (e0 : ∀ r : Fin 4096, A (ix2 r b) = f 0) (e1 : ∀ r : Fin 1024, B (ix2 r b) = f 1) (e2 : ∀ r : Fin 1024, C (ix2 r b) = f 2) :
    (concatenate ⟨2, ![6144, 4096]⟩ 0 [⟨⟨2, ![4096, 4096]⟩, A⟩, ⟨⟨2, ![1024, 4096]⟩, B⟩, ⟨⟨2, ![1024, 4096]⟩, C⟩] h : FVec Ideal ⟨2, ![6144, 4096]⟩ .f32) (ix2 a b)
      = f (group a) := by
  have ha := a.isLt
  pointwise
  split_ifs
  all_goals first
    | exact (e0 _).trans (congrArg f (Fin.ext (by show 0 = a.val / 1024 - 3; omega)))
    | exact (e1 _).trans (congrArg f (Fin.ext (by show 1 = a.val / 1024 - 3; omega)))
    | exact (e2 _).trans (congrArg f (Fin.ext (by show 2 = a.val / 1024 - 3; omega)))

end Cert.Rows

end
-- ==== Proof.SsdNorm.lean ====
/- What the gated norm of the SSD mixer leaves in its result array, over the extended reals: the mixer's rows times the gate's
   `silu`, each row over the root of its mean square, times the norm's weight. -/
module

public import proofs.«01_k».proof.Proof.Rows
public import proofs.«01_k».proof.Proof.Gen.Kernel9Ideal.Value
public import Idealize.ShloMosaic.Lib.Pointwise
public import Idealize.ShloMosaic.Lib.Tactic
public import Idealize.ShloMosaic.Lib.Pipeline.ValueKit

@[expose] public section

set_option maxRecDepth 16384

noncomputable section

namespace Cert.SsdNorm

open Cert.Kernel9Ideal Cert.Kernel9Ideal.Gen Cert.Kernel9Ideal.Value Cert.Rows
open Idealize.ShloMosaic Idealize.ShloMosaic.TcCoe Idealize.SL.Sem

/-- A row of the mixer times the gate's `silu`. -/
def gated {n : ℕ} (y z : Fin n → EReal) (k : Fin n) : EReal := y k * (z k * Ideal.logistic (z k))

/-- The gate's two halves side by side. -/
theorem gate_apply (z0 z1 : Vec Ideal S256x1024 .f32) (r : Fin 256) (z : Fin 2048 → EReal) (h0 : ∀ k : Fin 1024, z0 (ix2 r k) = z ⟨k.val, by omega⟩)
    (h1 : ∀ k : Fin 1024, z1 (ix2 r k) = z ⟨1024 + k.val, by omega⟩) (q : Fin 2048) :
    (concatenate S256x2048 1 [⟨S256x1024, z0⟩, ⟨S256x1024, z1⟩] concatenates_S256x1024_S256x1024_S256x2048_d1 : FVec Ideal S256x2048 .f32) (ix2 r q) = z q := by
  have hq := q.isLt
  pointwise
  split_ifs
  all_goals first
    | exact h0 ⟨q.val, by omega⟩
    | exact (h1 ⟨q.val - 1024, by omega⟩).trans (congrArg z (Fin.ext (by show 1024 + (q.val - 1024) = q.val; omega)))

/-- The body's result block. -/
theorem pay1_apply (z0 z1 : Vec Ideal S256x1024 .f32) (y : Vec Ideal S256x2048 .f32) (w : Vec Ideal S1x2048 .f32) (r : Fin 256) (z : Fin 2048 → EReal)
    (h0 : ∀ k : Fin 1024, z0 (ix2 r k) = z ⟨k.val, by omega⟩) (h1 : ∀ k : Fin 1024, z1 (ix2 r k) = z ⟨1024 + k.val, by omega⟩) (q : Fin 2048) :
    (k0_pay1 z0 z1 y w : FVec Ideal S256x2048 .bf16) (ix2 r q) = unit 1157627904#32 (gated (fun k => y (ix2 r k)) z) q * w (ix2 0 q) := by
  have hz := gate_apply z0 z1 r z h0 h1
  unfold k0_pay1
  revert hz
  generalize concatenate S256x2048 1 [⟨S256x1024, z0⟩, ⟨S256x1024, z1⟩] concatenates_S256x1024_S256x1024_S256x2048_d1 = Z
  intro hz
  obtain rfl : (fun k => Z (ix2 r k)) = z := funext hz
  unfold unit gated
  pointwise!

variable (m : (ℓ : Loc nD τ sig) → Buf (Elt Ideal) ℓ) (ρ : Dev nD → PrngReg)

theorem lt_N (t : Fin cfg0.N) : t.val < 24 := Nat.lt_of_lt_of_eq t.isLt N_0

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 1] :=
  (by decide +kernel : ∀ t : Fin grid0.N, win0_1.index t = ![t.val, 1])
theorem index_2 : ∀ t : Fin cfg0.N, win0_2.index t = ![t.val, 2] :=
  (by decide +kernel : ∀ t : Fin grid0.N, win0_2.index t = ![t.val, 2])
theorem index_3 : ∀ t : Fin cfg0.N, win0_3.index t = ![0, 0] :=
  (by decide +kernel : ∀ t : Fin grid0.N, win0_3.index t = ![0, 0])
theorem index_4 : ∀ t : Fin cfg0.N, win0_4.index t = ![t.val, 0] :=
  (by decide +kernel : ∀ t : Fin grid0.N, win0_4.index t = ![t.val, 0])

abbrev arg0 (c : Dev nD) : FVec Ideal S6144x2048 .f32 := m ((c.tc : Thread nD τ).loc main_arg0)
abbrev arg1 (c : Dev nD) : FVec Ideal S6144x9728 .f32 := m ((c.tc : Thread nD τ).loc main_arg1)
abbrev arg2 (c : Dev nD) : FVec Ideal S2x2048 .f32 := m ((c.tc : Thread nD τ).loc main_arg2)

/-- The norm's weight as the region finds it. -/
theorem weight (c : Dev nD) (q : Fin 2048) : (V m c main_v2 : FVec Ideal S1x2048 .f32) (ix2 0 q) = arg2 m c (ix2 0 q) := by
  have e : (V m c main_v2 : FVec Ideal S1x2048 .f32)
      = broadcastInDim S1x2048 ![1] bcast_S2048_S1x2048_1
          (shapeCast S2048 (extractStridedSlice S1x2048 ![0, 0] (arg2 m c) slices_S2x2048_S1x2048_0_0) shapeCasts_S1x2048_S2048) := by
    dsimp only [V, hostOps0]
    after_results <;> rfl
  rw [e]
  pointwise!

theorem block_0 (c : Dev nD) (t : Fin cfg0.N) (r : Fin 256) (k : Fin 2048) :
    (iblk m c 0 t : FVec Ideal S256x2048 .f32) (ix2 r k) = arg0 m c (ix2 ⟨t.val * 256 + r.val, by have := lt_N t; omega⟩ k) := by
  have hi := index_0 t
  unfold iblk
  rw [View.read_apply]
  show V m c main_arg0 _ = _
  rw [V_main_arg0]
  congr 1; funext a; apply Fin.ext
  match a with
  | ⟨0, _⟩ =>
    show win0_0.index t (0 : Fin 2) * 256 + 1 * r.val = _
    rw [hi]; show t.val * 256 + 1 * r.val = t.val * 256 + r.val; omega
  | ⟨1, _⟩ =>
    show win0_0.index t (1 : Fin 2) * 2048 + 1 * k.val = _
    rw [hi]; show 0 * 2048 + 1 * k.val = k.val; omega

/-- The gate's first half, columns 1024 to 2047 of the projection: never cut at the array's edge. -/
theorem block_1 (c : Dev nD) (t : Fin cfg0.N) (r : Fin 256) (k : Fin 1024) :
    (X0_1 m c t : FVec Ideal S256x1024 .f32) (ix2 r k) = arg1 m c (ix2 ⟨t.val * 256 + r.val, by have := lt_N t; omega⟩ ⟨1024 + k.val, by omega⟩) := by
  have hi := index_1 t
  unfold X0_1 Pipeline.Window.fill
  rw [dif_pos (moved0_1 t _)]
  unfold iblk
  rw [View.read_apply]
  show V m c main_arg1 _ = _
  rw [V_main_arg1]
  congr 1; funext a; apply Fin.ext
  match a with
  | ⟨0, _⟩ =>
    show win0_1.index t (0 : Fin 2) * 256 + 1 * r.val = _
    rw [hi]; show t.val * 256 + 1 * r.val = t.val * 256 + r.val; omega
  | ⟨1, _⟩ =>
    show win0_1.index t (1 : Fin 2) * 1024 + 1 * k.val = _
    rw [hi]; show 1 * 1024 + 1 * k.val = 1024 + k.val; omega

/-- The gate's second half, columns 2048 to 3071. -/
theorem block_2 (c : Dev nD) (t : Fin cfg0.N) (r : Fin 256) (k : Fin 1024) :
    (X0_2 m c t : FVec Ideal S256x1024 .f32) (ix2 r k) = arg1 m c (ix2 ⟨t.val * 256 + r.val, by have := lt_N t; omega⟩ ⟨2048 + k.val, by omega⟩) := by
  have hi := index_2 t
  unfold X0_2 Pipeline.Window.fill
  rw [dif_pos (moved0_2 t _)]
  unfold iblk
  rw [View.read_apply]
  show V m c main_arg1 _ = _
  rw [V_main_arg1]
  congr 1; funext a; apply Fin.ext
  match a with
  | ⟨0, _⟩ =>
    show win0_2.index t (0 : Fin 2) * 256 + 1 * r.val = _
    rw [hi]; show t.val * 256 + 1 * r.val = t.val * 256 + r.val; omega
  | ⟨1, _⟩ =>
    show win0_2.index t (1 : Fin 2) * 1024 + 1 * k.val = _
    rw [hi]; show 2 * 1024 + 1 * k.val = 2048 + k.val; omega

theorem block_3 (c : Dev nD) (t : Fin cfg0.N) (q : Fin 2048) : (iblk m c 3 t : FVec Ideal S1x2048 .f32) (ix2 0 q) = arg2 m c (ix2 0 q) := by
  have hi := index_3 t
  refine Eq.trans ?_ (weight m c q)
  unfold iblk
  rw [View.read_apply]
  show V m c main_v2 _ = _
  congr 1; funext a; apply Fin.ext
  match a with
  | ⟨0, _⟩ =>
    show win0_3.index t (0 : Fin 2) * 1 + 1 * 0 = _
    rw [hi]; rfl
  | ⟨1, _⟩ =>
    show win0_3.index t (1 : Fin 2) * 2048 + 1 * q.val = _
    rw [hi]; show 0 * 2048 + 1 * q.val = q.val; omega

/-- One entry of the result. -/
def entry (y : FVec Ideal S6144x2048 .f32) (z : FVec Ideal S6144x9728 .f32) (w : FVec Ideal S2x2048 .f32) (a : Fin 6144) (b : Fin 2048) : EReal :=
  unit 1157627904#32 (gated (fun k : Fin 2048 => y (ix2 a k)) fun k => z (ix2 a ⟨1024 + k.val, by omega⟩)) b * w (ix2 0 b)

/-- The result array. -/
theorem result (c : Dev nD) :
    (dats m 0 c).arrAt 4 cfg0.N = (fun i => entry (arg0 m c) (arg1 m c) (arg2 m c) (i 0) (i 1) : FVec Ideal S6144x2048 .bf16) := by
  refine (dats m 0 c).arrAt_eq_of_covers 4 _ (by decide +kernel) fun t hf y => ?_
  blk_simp
  rw [after0_4]
  unfold outsAt0
  frame_out
  have hi := index_4 t
  have ht := lt_N t
  obtain ⟨r, q, rfl⟩ : ∃ (r : Fin 256) (q : Fin 2048), y = ix2 r q := ⟨y 0, y 1, by funext d; match d with | ⟨0, _⟩ => rfl | ⟨1, _⟩ => rfl⟩
  have e : ((View.whole main_v3).slice (win0_4.rect t)).emb (ix2 r q) = (ix2 (⟨t.val * 256 + r.val, by omega⟩ : Fin 6144) q : S6144x2048.Idx) := by
    funext a; apply Fin.ext
    match a with
    | ⟨0, _⟩ =>
      show win0_4.index t (0 : Fin 2) * 256 + 1 * r.val = _
      rw [hi]; show t.val * 256 + 1 * r.val = t.val * 256 + r.val; omega
    | ⟨1, _⟩ =>
      show win0_4.index t (1 : Fin 2) * 2048 + 1 * q.val = _
      rw [hi]; show 0 * 2048 + 1 * q.val = q.val; omega
  rw [e]
  refine (pay1_apply _ _ _ _ r (fun k => arg1 m c (ix2 ⟨t.val * 256 + r.val, by omega⟩ ⟨1024 + k.val, by omega⟩)) (block_1 m c t r)
    (fun k => (block_2 m c t r k).trans (at_eq rfl (by show 2048 + k.val = 1024 + (1024 + k.val); omega))) q).trans ?_
  refine congrArg₂ (· * ·) ?_ (block_3 m c t q)
  simp only [block_0]
  rfl

end Cert.SsdNorm

end
-- ==== Proof.SsdNormRef.lean ====
/- The value claim of the SSD mixer's gated norm: the kernel's result over the extended reals is the plain norm of the rows times
   the gate's `silu`. -/
module

public import proofs.«01_k».proof.Defs
public import proofs.«01_k».proof.Proof.SsdNorm
public import proofs.«01_k».proof.Proof.Gen.Kernel9
public import proofs.«01_k».proof.Proof.Gen.Kernel9.Frame
public import proofs.«01_k».proof.Proof.Gen.Reference9Ideal.Run
public import proofs.«01_k».proof.Proof.Gen.Reference9Ideal.Read

@[expose] public section

noncomputable section

namespace Cert.SsdNorm

open Idealize.ShloMosaic Idealize.SL.Sem Cert.Rows

attribute [local instance] Cert.Kernel9.Gen.facts Cert.Kernel9Ideal.Gen.facts Cert.Reference9Ideal.Gen.facts

section Ref
open Cert.Reference9Ideal Cert.Reference9Ideal.Read

variable (y : FVec Ideal S6144x2048 .f32) (z : FVec Ideal S6144x9728 .f32) (w : FVec Ideal S2x2048 .f32) (a : Fin 6144) (b : Fin 2048)

/-- The rows times the gate's `silu`. -/
theorem gated_apply : (val_main_v2 (F := Ideal) y z : FVec Ideal S6144x2048 .f32) (ix2 a b)
    = gated (fun k : Fin 2048 => y (ix2 a k)) (fun k => z (ix2 a ⟨1024 + k.val, by omega⟩)) b := by
  unfold gated Ideal.logistic
  pointwise! [val_main_v2, val_main_v1, val_main_v0, val_main_call0_v5, val_main_call0_v4, val_main_call0_v3, val_main_call0_v2, val_main_call0_v1,
    val_main_call0_v0, val_main_call0_cst, val_main_call0_cst_0]

theorem ref_value : (val_main_v18 (F := Ideal) y z w : FVec Ideal S6144x2048 .bf16) (ix2 a b) = entry y z w a b := by
  have h := gated_apply y z a
  unfold val_main_v18 val_main_v17 val_main_v14 val_main_v13 val_main_v12 val_main_v11 val_main_v9 val_main_v7 val_main_v6 val_main_v5 entry
  revert h
  generalize val_main_v2 (F := Ideal) y z = Y
  intro h
  rw [show gated (fun k : Fin 2048 => y (ix2 a k)) (fun k => z (ix2 a ⟨1024 + k.val, by omega⟩)) = fun k => Y (ix2 a k) from funext fun k => (h k).symm]
  unfold unit
  pointwise! [val_main_v16, val_main_v15, val_main_v10, val_main_v8, val_main_v4, val_main_v3, val_main_cst, val_main_cst_0, val_main_cst_1]

end Ref

theorem algebraic : Cert.algebraic_Kernel9Ideal_Reference9Ideal := fun m g m' g' _ hag => by
  refine ⟨_, Cert.Kernel9Ideal.Value.run_blocks m g, (θ_run _ _ _).mono (fun r hr c => ⟨?_, (hr c).2⟩) (Cert.Reference9Ideal.Value.run m' g')⟩
  obtain rfl : c = 0 := Subsingleton.elim _ _
  obtain ⟨a0, a1, a2⟩ := hag 0
  refine (((hr 0).1.trans (Cert.Reference9Ideal.Read.val_main_v18_eq _ _ _)).trans ?_).trans (result m 0).symm
  funext i
  obtain ⟨a, b, rfl⟩ : ∃ (a : Fin 6144) (b : Fin 2048), i = ix2 a b := ⟨i 0, i 1, eq_ix2 i⟩
  refine (ref_value _ _ _ a b).trans ?_
  rw [a0, a1, a2]
  rfl

theorem kernel : Cert.quiescent_Kernel9 := fun m g _ => Cert.Kernel9.Gen.frame m g
theorem kernelIdeal : Cert.quiescent_Kernel9Ideal := fun m g _ => Cert.Kernel9Ideal.Gen.frame m g
theorem referenceIdeal : Cert.quiescent_Reference9Ideal := fun m g _ =>
  (θ_run _ _ _).mono (fun r h => ⟨fun c => (h c).2, by
    funext k
    rcases k with ⟨c, k⟩
    cases k <;> rename_i x <;> exact Fin.elim0 x⟩) (Cert.Reference9Ideal.Value.run m g)

end Cert.SsdNorm

end
-- ==== Proof.S5Glu.lean ====
/- What the gated unit of the S5 mixer leaves in its result array, over the extended reals: `gelu` of a row times the `sigmoid` of
   that row's product with the unit's weights. -/
module

public import proofs.«01_k».proof.Proof.Rows
public import proofs.«01_k».proof.Proof.Gen.Kernel8Ideal.Value
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384

noncomputable section

namespace Cert.S5Glu

open Cert.Kernel8Ideal Cert.Kernel8Ideal.Gen Cert.Kernel8Ideal.Value Cert.Rows
open Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## The body's two cases -/

section Body
variable (c : Dev nD) (i : grid0.Coords) (a1 : Memref sig .tc .vmem S512x1024 .bf16) (h1 : a1.IsWhole) (a2 : Memref sig .tc .vmem S1x1024x1024 .f32) (h2 : a2.IsWhole)
  (a3 : Memref sig .tc .vmem S512x1024 .bf16) (h3 : a3.IsWhole) (a4 : Memref sig .tc .vmem S1024x1024 .bf16) (h4 : a4.IsWhole)
  (y : Vec Ideal S512x1024 .bf16) (w : Vec Ideal S1x1024x1024 .f32)

/-- At the first visit the scratch takes the weights. -/
theorem scratch_first (hc : cond0_0 i) : sout0_A_0 c i a1 h1 a2 h2 a3 h3 a4 h4 hc y w = k0_pay1 w := by
  unfold sout0_A_0
  rw [View.read_writes_eq_canon _ _ _ (scover0_A_0 c i a1 h1 a2 h2 a3 h3 a4 h4 hc y w)]
  unfold kernelRun0_A
  dsimp only
  sl_unfold_words
  rw [View.canon_unit_zero (S := S1024x1024) hz]
  simp only [View.readAt_eq_ld, h2.read_unread, View.ld_unit_zero (S := S1x1024x1024) hz3]

/-- At that visit the result is over the weights. -/
theorem out_first (hc : cond0_0 i) : out0_A_2 c i a1 h1 a2 h2 a3 h3 a4 h4 hc y w = k0_pay2 y (k0_pay1 w) := by
  unfold out0_A_2
  rw [View.read_writes_eq_canon _ _ _ (cover0_A_2 c i a1 h1 a2 h2 a3 h3 a4 h4 hc y w)]
  unfold kernelRun0_A
  dsimp only
  sl_unfold_words
  rw [View.canon_unit_zero (S := S512x1024) hz]
  have fill : ∀ (Z : Vec Ideal S1024x1024 .bf16) (r : Rect S1024x1024),
      a4.view.readCov [(⟨Rect.unit (s := S1024x1024) ![0, 0] S1024x1024.size inb_S1024x1024_S1024x1024_0_0, Z⟩ : View.Piece (Elt Ideal) S1024x1024 .bf16)] r.toLoadRect = View.ld Z r :=
    fun Z r => View.readCov_fill _ _ Z [] r fun a => congrFun hz a
  simp only [fill, View.readAt_eq_ld, h1.read_unread, h2.read_unread, View.ld_unit_zero (S := S512x1024) hz, View.ld_unit_zero (S := S1024x1024) hz,
    View.ld_unit_zero (S := S1x1024x1024) hz3]

/-- At a later visit it is over what the scratch holds. -/
theorem out_later (hc : ¬cond0_0 i) (s : Vec Ideal S1024x1024 .bf16) : out0_B_2 c i a1 h1 a2 h2 a3 h3 a4 h4 hc y w s = k0_pay2 y s := by
  unfold out0_B_2
  rw [View.read_writes_eq_canon _ _ _ (cover0_B_2 c i a1 h1 a2 h2 a3 h3 a4 h4 hc y w s)]
  unfold kernelRun0_B
  dsimp only
  rw [View.canon_unit_zero (S := S512x1024) hz]
  simp only [View.readAt_eq_ld, h1.read_unread, h4.read_unread, View.ld_unit_zero (S := S512x1024) hz, View.ld_unit_zero (S := S1024x1024) hz]

end Body

/-- `gelu`, in its `tanh` form. -/
def gelu (z : EReal) : EReal :=
  z * (Ideal.ofBits .f32 1056964608#32 * (1 + Ideal.tanh (Ideal.ofBits .f32 1061962282#32 * (z + Ideal.ofBits .f32 1027024659#32 * (z * (z * z))))))

/-- The cast to bf16 changes no entry. -/
theorem pay1_apply (w : Vec Ideal S1x1024x1024 .f32) (k q : Fin 1024) : (k0_pay1 w : FVec Ideal S1024x1024 .bf16) (ix2 k q) = w (ix3 0 k q) := by
  pointwise! [k0_pay1]

theorem pay2_apply (y : Vec Ideal S512x1024 .bf16) (s : Vec Ideal S1024x1024 .bf16) (r : Fin 512) (q : Fin 1024) :
    (k0_pay2 y s : FVec Ideal S512x1024 .bf16) (ix2 r q)
      = gelu (y (ix2 r q)) * Ideal.logistic (∑ k : Fin 1024, gelu (y (ix2 r k)) * s (ix2 k q)) := by
  unfold gelu
  pointwise! [k0_pay2]

/-! ## The staged blocks -/

variable (m : (ℓ : Loc nD τ sig) → Buf (Elt Ideal) ℓ) (ρ : Dev nD → PrngReg)

theorem lt_N (t : Fin cfg0.N) : t.val < 12 := Nat.lt_of_lt_of_eq t.isLt N_0

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0, 0] :=
  (by decide +kernel : ∀ t : Fin grid0.N, win0_1.index t = ![0, 0, 0])
theorem index_2 : ∀ t : Fin cfg0.N, win0_2.index t = ![t.val, 0] :=
  (by decide +kernel : ∀ t : Fin grid0.N, win0_2.index t = ![t.val, 0])

abbrev arg0 (c : Dev nD) : FVec Ideal S6144x1024 .bf16 := m ((c.tc : Thread nD τ).loc main_arg0)
abbrev arg1 (c : Dev nD) : FVec Ideal S2x1024x1024 .f32 := m ((c.tc : Thread nD τ).loc main_arg1)

theorem block_0 (c : Dev nD) (t : Fin cfg0.N) (r : Fin 512) (k : Fin 1024) :
    (iblk m c 0 t : FVec Ideal S512x1024 .bf16) (ix2 r k) = arg0 m c (ix2 ⟨t.val * 512 + r.val, by have := lt_N t; omega⟩ k) := by
  have hi := index_0 t
  unfold iblk
  rw [View.read_apply]
  show V m c main_arg0 _ = _
  rw [V_main_arg0]
  congr 1; funext a; apply Fin.ext
  match a with
  | ⟨0, _⟩ =>
    show win0_0.index t (0 : Fin 2) * 512 + 1 * r.val = _
    rw [hi]; show t.val * 512 + 1 * r.val = t.val * 512 + r.val; omega
  | ⟨1, _⟩ =>
    show win0_0.index t (1 : Fin 2) * 1024 + 1 * k.val = _
    rw [hi]; show 0 * 1024 + 1 * k.val = k.val; omega

theorem block_1 (c : Dev nD) (t : Fin cfg0.N) (k q : Fin 1024) : (iblk m c 1 t : FVec Ideal S1x1024x1024 .f32) (ix3 0 k q) = arg1 m c (ix3 0 k q) := by
  have hi := index_1 t
  unfold iblk
  rw [View.read_apply]
  show V m c main_arg1 _ = _
  rw [V_main_arg1]
  congr 1; funext a; apply Fin.ext
  match a with
  | ⟨0, _⟩ =>
    show win0_1.index t (0 : Fin 3) * 1 + 1 * 0 = _
    rw [hi]; rfl
  | ⟨1, _⟩ =>
    show win0_1.index t (1 : Fin 3) * 1024 + 1 * k.val = _
    rw [hi]; show 0 * 1024 + 1 * k.val = k.val; omega
  | ⟨2, _⟩ =>
    show win0_1.index t (2 : Fin 3) * 1024 + 1 * q.val = _
    rw [hi]; show 0 * 1024 + 1 * q.val = q.val; omega

/-! ## What each visit leaves -/

/-- The scratch holds the weights after every visit. -/
theorem scratch (c : Dev nD) : ∀ (n : ℕ) (hn : n < cfg0.N) (k q : Fin 1024),
    ((outsAt0 m c n hn).2 : FVec Ideal S1024x1024 .bf16) (ix2 k q) = arg1 m c (ix3 0 k q)
  | n, hn, k, q => by
    by_cases h0 : n % 12 = 0
    · rw [outsAt0_A m c ⟨n, hn⟩ h0]
      dsimp only
      rw [scratch_first, pay1_apply]
      exact block_1 m c ⟨n, hn⟩ k q
    · rw [outsAt0_B m c ⟨n, hn⟩ h0]
      obtain ⟨p, rfl⟩ : ∃ p, n = p + 1 := ⟨n - 1, by omega⟩
      exact scratch c p (Nat.lt_of_succ_lt hn) k q

/-- One entry of the result. -/
def entry (y : FVec Ideal S6144x1024 .bf16) (w : FVec Ideal S2x1024x1024 .f32) (a : Fin 6144) (b : Fin 1024) : EReal :=
  gelu (y (ix2 a b)) * Ideal.logistic (∑ k : Fin 1024, gelu (y (ix2 a k)) * w (ix3 0 k b))

/-- The body's result block, once the scratch is known to hold the weights. -/
theorem entry_of (c : Dev nD) (t : Fin cfg0.N) (s : Vec Ideal S1024x1024 .bf16) (r : Fin 512) (q : Fin 1024)
    (hs : ∀ k : Fin 1024, s (ix2 k q) = arg1 m c (ix3 0 k q)) :
    (k0_pay2 (iblk m c 0 t) s : FVec Ideal S512x1024 .bf16) (ix2 r q)
      = entry (arg0 m c) (arg1 m c) ⟨t.val * 512 + r.val, by have := lt_N t; omega⟩ q := by
  rw [pay2_apply]
  unfold entry
  exact congrArg₂ (· * ·) (congrArg gelu (block_0 m c t r q))
    (congrArg Ideal.logistic (Finset.sum_congr rfl fun k _ => congrArg₂ (· * ·) (congrArg gelu (block_0 m c t r k)) (hs k)))

/-- The result block after a visit. -/
theorem out_apply (c : Dev nD) (t : Fin cfg0.N) (r : Fin 512) (q : Fin 1024) :
    ((outsAt0 m c t.val t.isLt).1 : FVec Ideal S512x1024 .bf16) (ix2 r q)
      = entry (arg0 m c) (arg1 m c) ⟨t.val * 512 + r.val, by have := lt_N t; omega⟩ q := by
  by_cases h0 : t.val % 12 = 0
  · rw [outsAt0_A m c t h0]
    dsimp only
    rw [out_first]
    exact entry_of m c t _ r q fun k => (pay1_apply _ k q).trans (block_1 m c t k q)
  · have hs := fun k => scratch m c t.val t.isLt k q
    rw [outsAt0_B m c t h0] at hs
    rw [outsAt0_B m c t h0]
    dsimp only
    rw [out_later]
    exact entry_of m c t _ r q hs

/-- The result array. -/
theorem result (c : Dev nD) : (dats m 0 c).arrAt 2 cfg0.N = (fun i => entry (arg0 m c) (arg1 m c) (i 0) (i 1) : FVec Ideal S6144x1024 .bf16) := by
  refine (dats m 0 c).arrAt_eq_of_covers 2 _ (by decide +kernel) fun t hf y => ?_
  blk_simp
  rw [after0_2]
  have hi := index_2 t
  have ht := lt_N t
  obtain ⟨r, q, rfl⟩ : ∃ (r : Fin 512) (q : Fin 1024), y = ix2 r q := ⟨y 0, y 1, by funext d; match d with | ⟨0, _⟩ => rfl | ⟨1, _⟩ => rfl⟩
  have e : ((View.whole main_v0).slice (win0_2.rect t)).emb (ix2 r q) = (ix2 (⟨t.val * 512 + r.val, by omega⟩ : Fin 6144) q : S6144x1024.Idx) := by
    funext a; apply Fin.ext
    match a with
    | ⟨0, _⟩ =>
      show win0_2.index t (0 : Fin 2) * 512 + 1 * r.val = _
      rw [hi]; show t.val * 512 + 1 * r.val = t.val * 512 + r.val; omega
    | ⟨1, _⟩ =>
      show win0_2.index t (1 : Fin 2) * 1024 + 1 * q.val = _
      rw [hi]; show 0 * 1024 + 1 * q.val = q.val; omega
  rw [e]
  exact out_apply m c t r q

end Cert.S5Glu

end
-- ==== Proof.S5GluRef.lean ====
/- The value claim of the S5 mixer's gated unit: the kernel's result over the extended reals is the plain `gelu` of the rows times the
   `sigmoid` of their product with the unit's weights. -/
module

public import proofs.«01_k».proof.Defs
public import proofs.«01_k».proof.Proof.S5Glu
public import proofs.«01_k».proof.Proof.Gen.Kernel8
public import proofs.«01_k».proof.Proof.Gen.Kernel8.Frame
public import proofs.«01_k».proof.Proof.Gen.Reference8Ideal.Run
public import proofs.«01_k».proof.Proof.Gen.Reference8Ideal.Read

@[expose] public section

noncomputable section

namespace Cert.S5Glu

open Idealize.ShloMosaic Idealize.SL.Sem

attribute [local instance] Cert.Kernel8.Gen.facts Cert.Kernel8Ideal.Gen.facts Cert.Reference8Ideal.Gen.facts

section Ref
open Cert.Reference8Ideal Cert.Reference8Ideal.Read

variable (y : FVec Ideal S6144x1024 .bf16) (w : FVec Ideal S2x1024x1024 .f32) (a : Fin 6144) (b : Fin 1024)

/-- The rows' `gelu`: the reference's cube groups its factors the other way. -/
theorem gelu_apply : (val_main_v13 (F := Ideal) y : FVec Ideal S6144x1024 .f32) (ix2 a b) = gelu (y (ix2 a b)) := by
  unfold gelu
  rw [mul_comm (y (ix2 a b)) (y (ix2 a b) * y (ix2 a b))]
  pointwise! [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]

/-- The rows' product with the unit's weights. -/
theorem product_apply : (val_main_v16 (F := Ideal) y w : FVec Ideal S6144x1024 .f32) (ix2 a b) = ∑ k : Fin 1024, gelu (y (ix2 a k)) * w (ix3 0 k b) := by
  have h := gelu_apply y a
  unfold val_main_v16
  revert h
  generalize val_main_v13 (F := Ideal) y = Y
  intro h
  rw [show (fun k : Fin 1024 => gelu (y (ix2 a k)) * w (ix3 0 k b)) = fun k => Y (ix2 a k) * w (ix3 0 k b) from funext fun k => by rw [h k]]
  pointwise! [val_main_v15, val_main_v14]

theorem ref_value : (val_main_v24 (F := Ideal) y w : FVec Ideal S6144x1024 .bf16) (ix2 a b) = entry y w a b := by
  unfold entry
  rw [← product_apply y w a b, ← gelu_apply y a b]
  unfold val_main_v24 val_main_v23 val_main_v22 val_main_v20 val_main_v18 val_main_v17 Ideal.logistic
  generalize val_main_v13 (F := Ideal) y = Y
  generalize val_main_v16 (F := Ideal) y w = Z
  pointwise! [val_main_v21, val_main_v19, val_main_cst_3, val_main_cst_4]

end Ref

theorem algebraic : Cert.algebraic_Kernel8Ideal_Reference8Ideal := fun m g m' g' _ hag => by
  refine ⟨_, Cert.Kernel8Ideal.Value.run_blocks m g, (θ_run _ _ _).mono (fun r hr c => ⟨?_, (hr c).2⟩) (Cert.Reference8Ideal.Value.run m' g')⟩
  obtain rfl : c = 0 := Subsingleton.elim _ _
  obtain ⟨a0, a1⟩ := hag 0
  refine (((hr 0).1.trans (Cert.Reference8Ideal.Read.val_main_v24_eq _ _)).trans ?_).trans (result m 0).symm
  funext i
  obtain ⟨a, b, rfl⟩ : ∃ (a : Fin 6144) (b : Fin 1024), i = ix2 a b := ⟨i 0, i 1, eq_ix2 i⟩
  refine (ref_value _ _ a b).trans ?_
  rw [a0, a1]
  rfl

theorem kernel : Cert.quiescent_Kernel8 := fun m g _ => Cert.Kernel8.Gen.frame m g
theorem kernelIdeal : Cert.quiescent_Kernel8Ideal := fun m g _ => Cert.Kernel8Ideal.Gen.frame m g
theorem referenceIdeal : Cert.quiescent_Reference8Ideal := fun m g _ =>
  (θ_run _ _ _).mono (fun r h => ⟨fun c => (h c).2, by
    funext k
    rcases k with ⟨c, k⟩
    cases k <;> rename_i x <;> exact Fin.elim0 x⟩) (Cert.Reference8Ideal.Value.run m g)

end Cert.S5Glu

end
-- ==== Proof.AdaMod.lean ====
/- What the modulation's call leaves in its result array, over the extended reals: the `silu` of each conditioning vector times the
   weights, plus the bias. The call pads the three vectors to eight rows; only the first three rows of the result are kept. -/
module

public import proofs.«01_k».proof.Proof.Gen.Kernel7Ideal.Frame
public import Idealize.ShloMosaic.Lib.Pointwise
public import Idealize.ShloMosaic.Lib.Tactic
public import Idealize.ShloMosaic.Lib.Claim
public import Idealize.ShloMosaic.Lib.Routing.OpsSet
public import Idealize.ShloMosaic.Lib.Pipeline.ReadBack
public import Idealize.ShloMosaic.Lib.Pipeline.ValueKit

@[expose] public section

set_option maxRecDepth 16384

noncomputable section

namespace Cert.AdaMod

open Cert.Kernel7Ideal Cert.Kernel7Ideal.Gen
open Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-! ## The body -/

section Body
variable (c : Dev nD) (i : grid0.Coords) (a2 : Memref sig .tc .vmem S8x4096 .f32) (h2 : a2.IsWhole) (a3 : Memref sig .tc .vmem S1x4096x512 .f32) (h3 : a3.IsWhole)
  (a4 : Memref sig .tc .vmem S1x1x512 .f32) (h4 : a4.IsWhole) (a5 : Memref sig .tc .vmem S8x512 .f32) (h5 : a5.IsWhole)
  (a6 : Memref sig .tc .vmem S4096x512 .bf16) (h6 : a6.IsWhole) (x : Vec Ideal S8x4096 .f32) (w : Vec Ideal S1x4096x512 .f32) (b : Vec Ideal S1x1x512 .f32)

/-- Each visit fills the scratch with its block of weights and multiplies by it. -/
theorem out_body (hc : cond0_0 i) : out0_A_3 c i a2 h2 a3 h3 a4 h4 a5 h5 a6 h6 hc x w b = k0_pay2 x (k0_pay1 w) b := by
  unfold out0_A_3
  rw [View.read_writes_eq_canon _ _ _ (cover0_A_3 c i a2 h2 a3 h3 a4 h4 a5 h5 a6 h6 hc x w b)]
  unfold kernelRun0_A
  dsimp only
  sl_unfold_words
  rw [View.canon_unit_zero (S := S8x512) hz]
  have fill : ∀ (Z : Vec Ideal S4096x512 .bf16) (r : Rect S4096x512),
      a6.view.readCov [(⟨Rect.unit (s := S4096x512) ![0, 0] S4096x512.size inb_S4096x512_S4096x512_0_0, Z⟩ : View.Piece (Elt Ideal) S4096x512 .bf16)] r.toLoadRect = View.ld Z r :=
    fun Z r => View.readCov_fill _ _ Z [] r fun a => congrFun hz a
  simp only [fill, View.readAt_eq_ld, h2.read_unread, h3.read_unread, h4.read_unread, View.ld_unit_zero (S := S8x4096) hz, View.ld_unit_zero (S := S4096x512) hz,
    View.ld_unit_zero (S := S1x4096x512) hz3, View.ld_unit_zero (S := S1x1x512) hz3]

end Body

/-- The cast to bf16 changes no entry. -/
theorem pay1_apply (w : Vec Ideal S1x4096x512 .f32) (k : Fin 4096) (q : Fin 512) : (k0_pay1 w : FVec Ideal S4096x512 .bf16) (ix2 k q) = w (ix3 0 k q) := by
  pointwise! [k0_pay1]

theorem pay2_apply (x : Vec Ideal S8x4096 .f32) (s : Vec Ideal S4096x512 .bf16) (b : Vec Ideal S1x1x512 .f32) (r : Fin 8) (q : Fin 512) :
    (k0_pay2 x s b : FVec Ideal S8x512 .f32) (ix2 r q)
      = ∑ k : Fin 4096, x (ix2 r k) * Ideal.logistic (x (ix2 r k)) * s (ix2 k q) + b (ix3 0 0 q) := by
  pointwise! [k0_pay2]

/-! ## The padded conditioning -/

/-- A conditioning vector: the context's first, then the two given. -/
def cond (x : FVec Ideal S2x4096 .f32) (ctx : FVec Ideal S4096 .f32) (g : Fin 3) (k : Fin 4096) : EReal :=
  if g = 0 then ctx (ix1 k) else x (ix2 ⟨g.val - 1, by omega⟩ k)

section Pad
variable (j : IVec S1 32)

/-- Entry `k` of a vector written as row 0 lands there. -/
theorem row_lands (hj : ∀ i, (j i).toInt = 0) (k : Fin 4096) (a : Fin 8) (b : Fin 4096) :
    scatter_S8x4096_S1_S4096_0_0_0_0.resultIdx? (ix1 k) j = some (ix2 a b) ↔ a.val = 0 ∧ k.val = b.val := by
  have s0 : scatter_S8x4096_S1_S4096_0_0_0_0.start (ix1 k) j 0 = 0 := hj _
  have s1 : scatter_S8x4096_S1_S4096_0_0_0_0.start (ix1 k) j 1 = 0 := rfl
  have w0 : scatter_S8x4096_S1_S4096_0_0_0_0.window (ix1 k) 0 = 0 := rfl
  have w1 : scatter_S8x4096_S1_S4096_0_0_0_0.window (ix1 k) 1 = k.val := rfl
  refine (Routing.resultIdx?_ix2 (R := 8) (C := 4096) _ _ _ a b).trans ?_
  rw [s0, s1, w0, w1]
  omega

/-- Entry `(i, k)` of two rows written from row 1 lands at row `1 + i`. -/
theorem rows_lands (hj : ∀ i, (j i).toInt = 1) (i : Fin 2) (k : Fin 4096) (a : Fin 8) (b : Fin 4096) :
    scatter_S8x4096_S1_S2x4096_01_n_0_0.resultIdx? (ix2 i k) j = some (ix2 a b) ↔ a.val = 1 + i.val ∧ k.val = b.val := by
  have s0 : scatter_S8x4096_S1_S2x4096_01_n_0_0.start (ix2 i k) j 0 = 1 := hj _
  have s1 : scatter_S8x4096_S1_S2x4096_01_n_0_0.start (ix2 i k) j 1 = 0 := rfl
  have w0 : scatter_S8x4096_S1_S2x4096_01_n_0_0.window (ix2 i k) 0 = i.val := rfl
  have w1 : scatter_S8x4096_S1_S2x4096_01_n_0_0.window (ix2 i k) 1 = k.val := rfl
  refine (Routing.resultIdx?_ix2 (R := 8) (C := 4096) _ _ _ a b).trans ?_
  rw [s0, s1, w0, w1]
  omega

/-- Writing a row over row 0. -/
theorem row_apply (hj : ∀ i, (j i).toInt = 0) (z : FVec Ideal S8x4096 .f32) (u : FVec Ideal S4096 .f32) (b : Fin 4096) :
    (Host.scatter scatter_S8x4096_S1_S4096_0_0_0_0 (fun _ b => b) z j u : FVec Ideal S8x4096 .f32) (ix2 0 b) = u (ix1 b) := by
  refine Routing.scatter_set_hit _ z j u _ _ (fun k hk => ?_) (ix1 b) ((row_lands j hj b 0 b).2 ⟨rfl, rfl⟩)
  rw [eq_ix1 k] at hk ⊢
  exact congrArg (fun t => u (ix1 t)) (Fin.ext ((row_lands j hj _ 0 b).1 hk).2)

/-- Writing two rows from row 1 keeps row 0. -/
theorem rows_keep (hj : ∀ i, (j i).toInt = 1) (z : FVec Ideal S8x4096 .f32) (u : FVec Ideal S2x4096 .f32) (b : Fin 4096) :
    (Host.scatter scatter_S8x4096_S1_S2x4096_01_n_0_0 (fun _ b => b) z j u : FVec Ideal S8x4096 .f32) (ix2 0 b) = z (ix2 0 b) := by
  refine Routing.scatter_set_miss _ z j u _ fun k hk => ?_
  rw [eq_ix2 k] at hk
  have h := ((rows_lands j hj _ _ 0 b).1 hk).1
  have h' : (0 : ℕ) = 1 + (k 0).val := h
  omega

/-- They become rows 1 and 2. -/
theorem rows_apply (hj : ∀ i, (j i).toInt = 1) (z : FVec Ideal S8x4096 .f32) (u : FVec Ideal S2x4096 .f32) (i : Fin 2) (a : Fin 8) (ha : a.val = 1 + i.val) (b : Fin 4096) :
    (Host.scatter scatter_S8x4096_S1_S2x4096_01_n_0_0 (fun _ b => b) z j u : FVec Ideal S8x4096 .f32) (ix2 a b) = u (ix2 i b) := by
  refine Routing.scatter_set_hit _ z j u _ _ (fun k hk => ?_) (ix2 i b) ((rows_lands j hj i b a b).2 ⟨ha, rfl⟩)
  rw [eq_ix2 k] at hk ⊢
  have h := (rows_lands j hj _ _ a b).1 hk
  have h0 : k 0 = i := Fin.ext (by have := h.1; show (k 0).val = i.val; omega)
  have h1 : k 1 = b := Fin.ext h.2
  rw [h0, h1]

end Pad

/-! ## The staged blocks -/

variable (m : (ℓ : Loc nD τ sig) → Buf (Elt Ideal) ℓ) (ρ : Dev nD → PrngReg)

theorem lt_N (t : Fin cfg0.N) : t.val < 48 := Nat.lt_of_lt_of_eq t.isLt N_0

theorem index_0 : ∀ t : Fin cfg0.N, win0_0.index t = ![0, 0] :=
  (by decide +kernel : ∀ t : Fin grid0.N, win0_0.index t = ![0, 0])
theorem index_1 : ∀ t : Fin cfg0.N, win0_1.index t = ![0, 0, t.val] :=
  (by decide +kernel : ∀ t : Fin grid0.N, win0_1.index t = ![0, 0, t.val])
theorem index_2 : ∀ t : Fin cfg0.N, win0_2.index t = ![0, 0, t.val] :=
  (by decide +kernel : ∀ t : Fin grid0.N, win0_2.index t = ![0, 0, t.val])
theorem index_3 : ∀ t : Fin cfg0.N, win0_3.index t = ![0, t.val] :=
  (by decide +kernel : ∀ t : Fin grid0.N, win0_3.index t = ![0, t.val])

abbrev arg0 (c : Dev nD) : FVec Ideal S2x4096 .f32 := m ((c.tc : Thread nD τ).loc main_arg0)
abbrev arg1 (c : Dev nD) : FVec Ideal S4096 .f32 := m ((c.tc : Thread nD τ).loc main_arg1)
abbrev arg2 (c : Dev nD) : FVec Ideal S2x4096x24576 .f32 := m ((c.tc : Thread nD τ).loc main_arg2)
abbrev arg3 (c : Dev nD) : FVec Ideal S2x24576 .f32 := m ((c.tc : Thread nD τ).loc main_arg3)

/-- The padded conditioning as the region finds it. -/
abbrev padded (c : Dev nD) : FVec Ideal S8x4096 .f32 := V m c main_v4

/-- Its first three rows are the conditioning vectors. -/
theorem padded_apply (c : Dev nD) (g : Fin 3) (k : Fin 4096) : padded m c (ix2 ⟨g.val, by omega⟩ k) = cond (arg0 m c) (arg1 m c) g k := by
  have e : (V m c main_v4 : FVec Ideal S8x4096 .f32)
      = Host.scatter scatter_S8x4096_S1_S2x4096_01_n_0_0 (fun _ b => b)
          (Host.scatter scatter_S8x4096_S1_S4096_0_0_0_0 (fun _ b => b) (broadcastInDim S8x4096 ![] bcast_S_S8x4096 (constant S_ .f32 0x00000000#32))
            (broadcastInDim S1 ![] bcast_S_S1 (constantI S_ 32 0#32)) (arg1 m c))
          (broadcastInDim S1 ![] bcast_S_S1 (constantI S_ 32 1#32)) (arg0 m c) := by
    show StableHlo.after (List.flatten [hostOps0]) _ _ = _
    simp only [List.flatten_cons, List.flatten_nil, List.append_nil, hostOps0]
    after_results <;> rfl
  unfold padded cond
  rw [e]
  split_ifs with h
  · subst h
    exact (rows_keep _ (fun _ => rfl) _ _ k).trans (row_apply _ (fun _ => rfl) _ _ k)
  · have hg : g.val ≠ 0 := fun h' => h (Fin.ext h')
    exact rows_apply _ (fun _ => rfl) _ _ ⟨g.val - 1, by omega⟩ _ (by show g.val = 1 + (g.val - 1); omega) k

/-- The bias as the region finds it. -/
theorem bias (c : Dev nD) (q : Fin 24576) : (V m c main_v5 : FVec Ideal S2x1x24576 .f32) (ix3 0 0 q) = arg3 m c (ix2 0 q) := by
  have e : (V m c main_v5 : FVec Ideal S2x1x24576 .f32) = shapeCast S2x1x24576 (arg3 m c) shapeCasts_S2x24576_S2x1x24576 := by
    show StableHlo.after (List.flatten [hostOps0]) _ _ = _
    simp only [List.flatten_cons, List.flatten_nil, List.append_nil, hostOps0]
    after_results <;> rfl
  rw [e]
  pointwise!

theorem block_0 (c : Dev nD) (t : Fin cfg0.N) (r : Fin 8) (k : Fin 4096) : (iblk m c 0 t : FVec Ideal S8x4096 .f32) (ix2 r k) = padded m c (ix2 r k) := by
  have hi := index_0 t
  unfold iblk
  rw [View.read_apply]
  show V m c main_v4 _ = _
  congr 1; funext a; apply Fin.ext
  match a with
  | ⟨0, _⟩ =>
    show win0_0.index t (0 : Fin 2) * 8 + 1 * r.val = _
    rw [hi]; show 0 * 8 + 1 * r.val = r.val; omega
  | ⟨1, _⟩ =>
    show win0_0.index t (1 : Fin 2) * 4096 + 1 * k.val = _
    rw [hi]; show 0 * 4096 + 1 * k.val = k.val; omega

theorem block_1 (c : Dev nD) (t : Fin cfg0.N) (k : Fin 4096) (q : Fin 512) :
    (iblk m c 1 t : FVec Ideal S1x4096x512 .f32) (ix3 0 k q) = arg2 m c (ix3 0 k ⟨t.val * 512 + q.val, by have := lt_N t; omega⟩) := by
  have hi := index_1 t
  unfold iblk
  rw [View.read_apply]
  show V m c main_arg2 _ = _
  rw [V_main_arg2]
  congr 1; funext a; apply Fin.ext
  match a with
  | ⟨0, _⟩ =>
    show win0_1.index t (0 : Fin 3) * 1 + 1 * 0 = _
    rw [hi]; rfl
  | ⟨1, _⟩ =>
    show win0_1.index t (1 : Fin 3) * 4096 + 1 * k.val = _
    rw [hi]; show 0 * 4096 + 1 * k.val = k.val; omega
  | ⟨2, _⟩ =>
    show win0_1.index t (2 : Fin 3) * 512 + 1 * q.val = _
    rw [hi]; show t.val * 512 + 1 * q.val = t.val * 512 + q.val; omega

theorem block_2 (c : Dev nD) (t : Fin cfg0.N) (q : Fin 512) :
    (iblk m c 2 t : FVec Ideal S1x1x512 .f32) (ix3 0 0 q) = arg3 m c (ix2 0 ⟨t.val * 512 + q.val, by have := lt_N t; omega⟩) := by
  have hi := index_2 t
  refine Eq.trans ?_ (bias m c _)
  unfold iblk
  rw [View.read_apply]
  show V m c main_v5 _ = _
  congr 1; funext a; apply Fin.ext
  match a with
  | ⟨0, _⟩ =>
    show win0_2.index t (0 : Fin 3) * 1 + 1 * 0 = _
    rw [hi]; rfl
  | ⟨1, _⟩ =>
    show win0_2.index t (1 : Fin 3) * 1 + 1 * 0 = _
    rw [hi]; rfl
  | ⟨2, _⟩ =>
    show win0_2.index t (2 : Fin 3) * 512 + 1 * q.val = _
    rw [hi]; show t.val * 512 + 1 * q.val = t.val * 512 + q.val; omega

/-- One row's entry: its `silu` times a column of the weights, plus the bias. -/
def entry (x : Fin 4096 → EReal) (w : FVec Ideal S2x4096x24576 .f32) (b : FVec Ideal S2x24576 .f32) (q : Fin 24576) : EReal :=
  ∑ k : Fin 4096, x k * Ideal.logistic (x k) * w (ix3 0 k q) + b (ix2 0 q)

/-- The result array, all eight rows. -/
def whole (c : Dev nD) : FVec Ideal S8x24576 .f32 := fun i =>
  entry (fun k => padded m c (ix2 (i 0) k)) (arg2 m c) (arg3 m c) (i 1)

theorem result (c : Dev nD) : (dats m 0 c).arrAt 3 cfg0.N = whole m c := by
  refine (dats m 0 c).arrAt_eq_of_covers 3 _ (by decide +kernel) fun t hf y => ?_
  blk_simp
  rw [after0_3]
  unfold outsAt0
  rw [out_body]
  have hi := index_3 t
  have ht := lt_N t
  obtain ⟨r, q, rfl⟩ : ∃ (r : Fin 8) (q : Fin 512), y = ix2 r q := ⟨y 0, y 1, by funext d; match d with | ⟨0, _⟩ => rfl | ⟨1, _⟩ => rfl⟩
  have e : ((View.whole main_v6).slice (win0_3.rect t)).emb (ix2 r q) = (ix2 r (⟨t.val * 512 + q.val, by omega⟩ : Fin 24576) : S8x24576.Idx) := by
    funext a; apply Fin.ext
    match a with
    | ⟨0, _⟩ =>
      show win0_3.index t (0 : Fin 2) * 8 + 1 * r.val = _
      rw [hi]; show 0 * 8 + 1 * r.val = r.val; omega
    | ⟨1, _⟩ =>
      show win0_3.index t (1 : Fin 2) * 512 + 1 * q.val = _
      rw [hi]; show t.val * 512 + 1 * q.val = t.val * 512 + q.val; omega
  rw [e]
  refine (pay2_apply _ _ _ r q).trans ?_
  refine congrArg₂ (· + ·) (Finset.sum_congr rfl fun k _ => ?_) (block_2 m c t q)
  rw [block_0, pay1_apply, block_1]
  rfl

/-- The result array as the lines after the region find it. -/
theorem array (c : Dev nD) :
    Pipeline.withArrays (cfgs 0).spec c (V0 m c) (fun w => (dats m 0 c).arrAt w (cfgs 0).N) (Proc.devRef .tc main_v6) = whole m c :=
  (Pipeline.withArrays_arr spec0 launch0.win.arr_inj c _ _ 3).trans (result m c)

/-- Its first three rows, after the lines that keep them. -/
theorem kept (c : Dev nD) : Pipeline.afterTail₀ cfgs (dats m) 0 (V0 m) [hostOps1] c main_v8
    = shapeCast S3x1x24576 (extractStridedSlice S3x24576 ![0, 0] (whole m c) slices_S8x24576_S3x24576_0_0) shapeCasts_S3x24576_S3x1x24576 := by
  rw [← array m c]
  unfold Pipeline.afterTail₀
  simp only [List.flatten_cons, List.flatten_nil, List.append_nil, hostOps1]
  after_results <;> rfl

theorem kept_apply (c : Dev nD) (g : Fin 3) (q : Fin 24576) :
    (shapeCast S3x1x24576 (extractStridedSlice S3x24576 ![0, 0] (whole m c) slices_S8x24576_S3x24576_0_0) shapeCasts_S3x24576_S3x1x24576 : FVec Ideal S3x1x24576 .f32)
      (ix3 g 0 q) = entry (cond (arg0 m c) (arg1 m c) g) (arg2 m c) (arg3 m c) q := by
  have h : whole m c (ix2 ⟨g.val, by omega⟩ q) = entry (cond (arg0 m c) (arg1 m c) g) (arg2 m c) (arg3 m c) q :=
    congrArg (fun x => entry x (arg2 m c) (arg3 m c) q) (funext fun k => padded_apply m c g k)
  rw [← h]
  generalize whole m c = W
  pointwise!

/-- The whole call. -/
theorem run : θ_run defs (onTc (τ := τ) (main (F := Ideal))) ⟨m, fun _ => 0, ρ⟩ (fun r => ∀ c : Dev nD,
      r.2.mem ((c.tc : Thread nD τ).loc main_v8)
        = shapeCast S3x1x24576 (extractStridedSlice S3x24576 ![0, 0] (whole m c) slices_S8x24576_S3x24576_0_0) shapeCasts_S3x24576_S3x1x24576
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from (run_main m ρ)
  · exact kept m c
  · exact W_main_arg0 m _ c
  · exact W_main_arg1 m _ c
  · exact W_main_arg3 m _ c

end Cert.AdaMod

end
-- ==== Proof.AdaModRef.lean ====
/- The value claim of the modulation: the kernel's result over the extended reals is the plain `silu` of the conditioning vectors times
   the weights, plus the bias. -/
module

public import proofs.«01_k».proof.Defs
public import proofs.«01_k».proof.Proof.AdaMod
public import proofs.«01_k».proof.Proof.Gen.Kernel7
public import proofs.«01_k».proof.Proof.Gen.Kernel7.Frame
public import proofs.«01_k».proof.Proof.Gen.Reference7Ideal.Run
public import proofs.«01_k».proof.Proof.Gen.Reference7Ideal.Read

@[expose] public section

noncomputable section

namespace Cert.AdaMod

open Idealize.ShloMosaic Idealize.SL.Sem

attribute [local instance] Cert.Kernel7.Gen.facts Cert.Kernel7Ideal.Gen.facts Cert.Reference7Ideal.Gen.facts

section Ref
open Cert.Reference7Ideal Cert.Reference7Ideal.Read

variable (x : FVec Ideal S2x4096 .f32) (ctx : FVec Ideal S4096 .f32) (w : FVec Ideal S2x4096x24576 .f32) (b : FVec Ideal S2x24576 .f32)
  (g : Fin 3) (k : Fin 4096) (q : Fin 24576)

/-- The context's vector above the two given. -/
theorem cond_apply : (val_main_v1 (F := Ideal) x ctx : FVec Ideal S3x4096 .f32) (ix2 g k) = cond x ctx g k := by
  have hg := g.isLt
  have e0 : g.val < 1 → cond x ctx g k = ctx (ix1 k) := fun h => if_pos (Fin.ext (by show g.val = 0; omega))
  have e1 : (h : ¬g.val < 1) → cond x ctx g k = x (ix2 ⟨g.val - 1, by omega⟩ k) :=
    fun h => if_neg fun h' => h (by rw [h']; decide)
  revert e0 e1
  generalize cond x ctx g k = C
  intro e0 e1
  unfold val_main_v1 val_main_v0
  pointwise
  split_ifs
  all_goals first
    | exact (e0 ‹_›).symm
    | exact (e1 ‹_›).symm

/-- Its `silu`. -/
theorem silu_apply : (val_main_v2 (F := Ideal) x ctx : FVec Ideal S3x4096 .f32) (ix2 g k) = cond x ctx g k * Ideal.logistic (cond x ctx g k) := by
  rw [← cond_apply]
  unfold val_main_v2 val_main_call0_v5 val_main_call0_v3 val_main_call0_v1 val_main_call0_v0 Ideal.logistic
  generalize val_main_v1 (F := Ideal) x ctx = Z
  pointwise! [val_main_call0_v4, val_main_call0_v2, val_main_call0_cst, val_main_call0_cst_0]

theorem ref_value : (val_main_v11 (F := Ideal) x ctx w b : FVec Ideal S3x1x24576 .f32) (ix3 g 0 q) = entry (cond x ctx g) w b q := by
  have h := silu_apply x ctx g
  unfold val_main_v11 val_main_v10 val_main_v5 entry
  revert h
  generalize val_main_v2 (F := Ideal) x ctx = Y
  intro h
  rw [show (fun k => cond x ctx g k * Ideal.logistic (cond x ctx g k) * w (ix3 0 k q)) = fun k => Y (ix2 g k) * w (ix3 0 k q) from funext fun k => by rw [h k]]
  pointwise! [val_main_v9, val_main_v8, val_main_v7, val_main_v6, val_main_v4, val_main_v3]

end Ref

theorem algebraic : Cert.algebraic_Kernel7Ideal_Reference7Ideal := fun m g m' g' _ hag => by
  refine ⟨_, run m g, (θ_run _ _ _).mono (fun r hr c => ⟨?_, (hr c).2⟩) (Cert.Reference7Ideal.Value.run m' g')⟩
  obtain rfl : c = 0 := Subsingleton.elim _ _
  obtain ⟨a0, a1, a2, a3⟩ := hag 0
  refine ((hr 0).1.trans (Cert.Reference7Ideal.Read.val_main_v11_eq _ _ _ _)).trans ?_
  funext i
  obtain ⟨a, b, rfl⟩ : ∃ (a : Fin 3) (b : Fin 24576), i = ix3 a 0 b :=
    ⟨i 0, i 2, by
      funext d
      match d with
      | ⟨0, _⟩ => rfl
      | ⟨1, _⟩ => exact Subsingleton.elim (α := Fin 1) _ _
      | ⟨2, _⟩ => rfl⟩
  refine (ref_value _ _ _ _ a b).trans ?_
  rw [a0, a1, a2, a3]
  exact (kept_apply m 0 a b).symm

theorem kernel : Cert.quiescent_Kernel7 := fun m g _ => Cert.Kernel7.Gen.frame m g
theorem kernelIdeal : Cert.quiescent_Kernel7Ideal := fun m g _ => Cert.Kernel7Ideal.Gen.frame m g
theorem referenceIdeal : Cert.quiescent_Reference7Ideal := fun m g _ =>
  (θ_run _ _ _).mono (fun r h => ⟨fun c => (h c).2, by
    funext k
    rcases k with ⟨c, k⟩
    cases k <;> rename_i x <;> exact Fin.elim0 x⟩) (Cert.Reference7Ideal.Value.run m g)

end Cert.AdaMod

end
-- ==== Proof.NormMod.lean ====
/- What the norm with modulation leaves in its result array, over the extended reals: each row over the root of its mean
   square, times the norm's weight, times one plus its group's scale, plus its group's shift. -/
module

public import proofs.«01_k».proof.Proof.Rows
public import proofs.«01_k».proof.Proof.Gen.Kernel6Ideal.Value
public import Idealize.ShloMosaic.Lib.Pointwise
public import Idealize.ShloMosaic.Lib.Tactic
public import Idealize.ShloMosaic.Lib.Pipeline.ValueKit

@[expose] public section

set_option maxRecDepth 16384

noncomputable section

namespace Cert.NormMod

open Cert.Kernel6Ideal Cert.Kernel6Ideal.Gen Cert.Kernel6Ideal.Value Cert.Rows
open Idealize.ShloMosaic Idealize.ShloMosaic.TcCoe Idealize.SL.Sem

/-- The body's result block. -/
theorem pay1_apply (x : Vec Ideal S256x4096 .f32) (w : Vec Ideal S1x4096 .f32) (s h : Vec Ideal S1x1x4096 .f32) (r : Fin 256) (q : Fin 4096) :
    (k0_pay1 x w s h : FVec Ideal S256x4096 .bf16) (ix2 r q)
      = unit 1166016512#32 (fun k : Fin 4096 => x (ix2 r k)) q * w (ix2 0 q) * (1 + s (ix3 0 0 q)) + h (ix3 0 0 q) := by
  unfold unit
  pointwise! [k0_pay1]

variable (m : (ℓ : Loc nD τ sig) → Buf (Elt Ideal) ℓ) (ρ : Dev nD → PrngReg)

theorem lt_N (t : Fin cfg0.N) : t.val < 24 := Nat.lt_of_lt_of_eq t.isLt N_0

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
/-- The scale's block: the group's row, the second part of the columns. -/
theorem index_2 : ∀ t : Fin cfg0.N, win0_2.index t = ![t.val / 4 - 3, 0, 1] :=
  (by decide +kernel : ∀ t : Fin grid0.N, win0_2.index t = ![t.val / 4 - 3, 0, 1])
/-- The shift's block: the group's row, the first part of the columns. -/
theorem index_3 : ∀ t : Fin cfg0.N, win0_3.index t = ![t.val / 4 - 3, 0, 0] :=
  (by decide +kernel : ∀ t : Fin grid0.N, win0_3.index t = ![t.val / 4 - 3, 0, 0])
theorem index_4 : ∀ t : Fin cfg0.N, win0_4.index t = ![t.val, 0] :=
  (by decide +kernel : ∀ t : Fin grid0.N, win0_4.index t = ![t.val, 0])

abbrev arg0 (c : Dev nD) : FVec Ideal S6144x4096 .f32 := m ((c.tc : Thread nD τ).loc main_arg0)
abbrev arg1 (c : Dev nD) : FVec Ideal S2x4096 .f32 := m ((c.tc : Thread nD τ).loc main_arg1)
abbrev arg2 (c : Dev nD) : FVec Ideal S3x1x24576 .f32 := m ((c.tc : Thread nD τ).loc main_arg2)

/-- The norm's weight as the region finds it. -/
theorem weight (c : Dev nD) (q : Fin 4096) : (V m c main_v2 : FVec Ideal S1x4096 .f32) (ix2 0 q) = arg1 m c (ix2 0 q) := by
  have e : (V m c main_v2 : FVec Ideal S1x4096 .f32)
      = broadcastInDim S1x4096 ![1] bcast_S4096_S1x4096_1
          (shapeCast S4096 (extractStridedSlice S1x4096 ![0, 0] (arg1 m c) slices_S2x4096_S1x4096_0_0) shapeCasts_S1x4096_S4096) := by
    dsimp only [V, hostOps0]
    after_results <;> rfl
  rw [e]
  pointwise!

theorem block_0 (c : Dev nD) (t : Fin cfg0.N) (r : Fin 256) (k : Fin 4096) :
    (iblk m c 0 t : FVec Ideal S256x4096 .f32) (ix2 r k) = arg0 m c (ix2 ⟨t.val * 256 + r.val, by have := lt_N t; omega⟩ k) := by
  have hi := index_0 t
  unfold iblk
  rw [View.read_apply]
  show V m c main_arg0 _ = _
  rw [V_main_arg0]
  congr 1; funext a; apply Fin.ext
  match a with
  | ⟨0, _⟩ =>
    show win0_0.index t (0 : Fin 2) * 256 + 1 * r.val = _
    rw [hi]; show t.val * 256 + 1 * r.val = t.val * 256 + r.val; omega
  | ⟨1, _⟩ =>
    show win0_0.index t (1 : Fin 2) * 4096 + 1 * k.val = _
    rw [hi]; show 0 * 4096 + 1 * k.val = k.val; omega

theorem block_1 (c : Dev nD) (t : Fin cfg0.N) (q : Fin 4096) : (iblk m c 1 t : FVec Ideal S1x4096 .f32) (ix2 0 q) = arg1 m c (ix2 0 q) := by
  have hi := index_1 t
  refine Eq.trans ?_ (weight m c q)
  unfold iblk
  rw [View.read_apply]
  show V m c main_v2 _ = _
  congr 1; funext a; apply Fin.ext
  match a with
  | ⟨0, _⟩ =>
    show win0_1.index t (0 : Fin 2) * 1 + 1 * 0 = _
    rw [hi]; rfl
  | ⟨1, _⟩ =>
    show win0_1.index t (1 : Fin 2) * 4096 + 1 * q.val = _
    rw [hi]; show 0 * 4096 + 1 * q.val = q.val; omega

theorem block_2 (c : Dev nD) (t : Fin cfg0.N) (q : Fin 4096) :
    (iblk m c 2 t : FVec Ideal S1x1x4096 .f32) (ix3 0 0 q) = arg2 m c (ix3 ⟨t.val / 4 - 3, by have := lt_N t; omega⟩ 0 ⟨4096 + q.val, by omega⟩) := by
  have hi := index_2 t
  unfold iblk
  rw [View.read_apply]
  show V m c main_arg2 _ = _
  rw [V_main_arg2]
  congr 1; funext a; apply Fin.ext
  match a with
  | ⟨0, _⟩ =>
    show win0_2.index t (0 : Fin 3) * 1 + 1 * 0 = _
    rw [hi]; show (t.val / 4 - 3) * 1 + 1 * 0 = t.val / 4 - 3; omega
  | ⟨1, _⟩ =>
    show win0_2.index t (1 : Fin 3) * 1 + 1 * 0 = _
    rw [hi]; rfl
  | ⟨2, _⟩ =>
    show win0_2.index t (2 : Fin 3) * 4096 + 1 * q.val = _
    rw [hi]; show 1 * 4096 + 1 * q.val = 4096 + q.val; omega

theorem block_3 (c : Dev nD) (t : Fin cfg0.N) (q : Fin 4096) :
    (iblk m c 3 t : FVec Ideal S1x1x4096 .f32) (ix3 0 0 q) = arg2 m c (ix3 ⟨t.val / 4 - 3, by have := lt_N t; omega⟩ 0 ⟨q.val, by omega⟩) := by
  have hi := index_3 t
  unfold iblk
  rw [View.read_apply]
  show V m c main_arg2 _ = _
  rw [V_main_arg2]
  congr 1; funext a; apply Fin.ext
  match a with
  | ⟨0, _⟩ =>
    show win0_3.index t (0 : Fin 3) * 1 + 1 * 0 = _
    rw [hi]; show (t.val / 4 - 3) * 1 + 1 * 0 = t.val / 4 - 3; omega
  | ⟨1, _⟩ =>
    show win0_3.index t (1 : Fin 3) * 1 + 1 * 0 = _
    rw [hi]; rfl
  | ⟨2, _⟩ =>
    show win0_3.index t (2 : Fin 3) * 4096 + 1 * q.val = _
    rw [hi]; show 0 * 4096 + 1 * q.val = q.val; omega

/-- One entry of the result. -/
def entry (x : FVec Ideal S6144x4096 .f32) (w : FVec Ideal S2x4096 .f32) (s : FVec Ideal S3x1x24576 .f32) (a : Fin 6144) (b : Fin 4096) : EReal :=
  unit 1166016512#32 (fun k : Fin 4096 => x (ix2 a k)) b * w (ix2 0 b) * (1 + s (ix3 (group a) 0 ⟨4096 + b.val, by omega⟩))
    + s (ix3 (group a) 0 ⟨b.val, by omega⟩)

/-- The result array. -/
theorem result (c : Dev nD) :
    (dats m 0 c).arrAt 4 cfg0.N = (fun i => entry (arg0 m c) (arg1 m c) (arg2 m c) (i 0) (i 1) : FVec Ideal S6144x4096 .bf16) := by
  refine (dats m 0 c).arrAt_eq_of_covers 4 _ (by decide +kernel) fun t hf y => ?_
  blk_simp
  rw [after0_4]
  frame_out
  have hi := index_4 t
  have ht := lt_N t
  obtain ⟨r, q, rfl⟩ : ∃ (r : Fin 256) (q : Fin 4096), y = ix2 r q := ⟨y 0, y 1, by funext d; match d with | ⟨0, _⟩ => rfl | ⟨1, _⟩ => rfl⟩
  have e : ((View.whole main_v3).slice (win0_4.rect t)).emb (ix2 r q) = (ix2 (⟨t.val * 256 + r.val, by omega⟩ : Fin 6144) q : S6144x4096.Idx) := by
    funext a; apply Fin.ext
    match a with
    | ⟨0, _⟩ =>
      show win0_4.index t (0 : Fin 2) * 256 + 1 * r.val = _
      rw [hi]; show t.val * 256 + 1 * r.val = t.val * 256 + r.val; omega
    | ⟨1, _⟩ =>
      show win0_4.index t (1 : Fin 2) * 4096 + 1 * q.val = _
      rw [hi]; show 0 * 4096 + 1 * q.val = q.val; omega
  rw [e]
  refine (pay1_apply _ _ _ _ r q).trans ?_
  have hg : t.val / 4 - 3 = (t.val * 256 + r.val) / 1024 - 3 := by omega
  refine congrArg₂ (· + ·) (congrArg₂ (· * ·) (congrArg₂ (· * ·) ?_ (block_1 m c t q)) (congrArg (1 + ·) ((block_2 m c t q).trans (at_eq3 hg rfl rfl))))
    ((block_3 m c t q).trans (at_eq3 hg rfl rfl))
  simp only [block_0]
  rfl

end Cert.NormMod

end
-- ==== Proof.NormModRef.lean ====
/- The value claim of the norm with modulation: the kernel's result over the extended reals is the plain norm of the rows, times
   one plus the scale, plus the shift. -/
module

public import proofs.«01_k».proof.Defs
public import proofs.«01_k».proof.Proof.NormMod
public import proofs.«01_k».proof.Proof.Gen.Kernel6
public import proofs.«01_k».proof.Proof.Gen.Kernel6.Frame
public import proofs.«01_k».proof.Proof.Gen.Reference6Ideal.Run
public import proofs.«01_k».proof.Proof.Gen.Reference6Ideal.Read

@[expose] public section

noncomputable section

namespace Cert.NormMod

open Idealize.ShloMosaic Idealize.SL.Sem Cert.Rows

attribute [local instance] Cert.Kernel6.Gen.facts Cert.Kernel6Ideal.Gen.facts Cert.Reference6Ideal.Gen.facts

section Ref
open Cert.Reference6Ideal Cert.Reference6Ideal.Read

variable (x : FVec Ideal S6144x4096 .f32) (w : FVec Ideal S2x4096 .f32) (s : FVec Ideal S3x1x24576 .f32) (a : Fin 6144) (b : Fin 4096)

/-- The plain norm. -/
theorem norm_apply : (val_main_v36 (F := Ideal) x w : FVec Ideal S6144x4096 .f32) (ix2 a b)
    = unit 1166016512#32 (fun k : Fin 4096 => x (ix2 a k)) b * w (ix2 0 b) := by
  unfold unit
  pointwise! [val_main_v36, val_main_v35, val_main_v34, val_main_v33, val_main_v32, val_main_v31, val_main_v30, val_main_v29, val_main_v28, val_main_v27,
    val_main_v26, val_main_v25, val_main_v24, val_main_v23, val_main_v22, val_main_cst, val_main_cst_0, val_main_cst_1]

/-- The shift of a row: its group's. -/
theorem shift_apply : (val_main_v10 (F := Ideal) s : FVec Ideal S6144x4096 .f32) (ix2 a b) = s (ix3 (group a) 0 ⟨b.val, by omega⟩) := by
  refine groups_apply _ _ _ _ (fun g => s (ix3 g 0 ⟨b.val, by omega⟩)) a b (fun r => ?_) (fun r => ?_) (fun r => ?_)
  · pointwise! [val_main_v3, val_main_v2, val_main_v1, val_main_v0]
  · pointwise! [val_main_v6, val_main_v5, val_main_v4, val_main_v0]
  · pointwise! [val_main_v9, val_main_v8, val_main_v7, val_main_v0]

/-- The scale of a row: its group's. -/
theorem scale_apply : (val_main_v21 (F := Ideal) s : FVec Ideal S6144x4096 .f32) (ix2 a b) = s (ix3 (group a) 0 ⟨4096 + b.val, by omega⟩) := by
  refine groups_apply _ _ _ _ (fun g => s (ix3 g 0 ⟨4096 + b.val, by omega⟩)) a b (fun r => ?_) (fun r => ?_) (fun r => ?_)
  · pointwise! [val_main_v14, val_main_v13, val_main_v12, val_main_v11]
  · pointwise! [val_main_v17, val_main_v16, val_main_v15, val_main_v11]
  · pointwise! [val_main_v20, val_main_v19, val_main_v18, val_main_v11]

theorem one_apply : (val_main_v37 (F := Ideal) : FVec Ideal S6144x4096 .f32) (ix2 a b) = 1 := by
  pointwise! [val_main_v37, val_main_cst_2]

theorem ref_value : (val_main_v41 (F := Ideal) x w s : FVec Ideal S6144x4096 .bf16) (ix2 a b) = entry x w s a b := by
  show (val_main_v36 (F := Ideal) x w : FVec Ideal S6144x4096 .f32) (ix2 a b)
      * ((val_main_v37 (F := Ideal) : FVec Ideal S6144x4096 .f32) (ix2 a b) + (val_main_v21 (F := Ideal) s : FVec Ideal S6144x4096 .f32) (ix2 a b))
      + (val_main_v10 (F := Ideal) s : FVec Ideal S6144x4096 .f32) (ix2 a b) = _
  rw [norm_apply, one_apply, scale_apply, shift_apply]
  rfl

end Ref

theorem algebraic : Cert.algebraic_Kernel6Ideal_Reference6Ideal := fun m g m' g' _ hag => by
  refine ⟨_, Cert.Kernel6Ideal.Value.run_blocks m g, (θ_run _ _ _).mono (fun r hr c => ⟨?_, (hr c).2⟩) (Cert.Reference6Ideal.Value.run m' g')⟩
  obtain rfl : c = 0 := Subsingleton.elim _ _
  obtain ⟨a0, a1, a2⟩ := hag 0
  refine (((hr 0).1.trans (Cert.Reference6Ideal.Read.val_main_v41_eq _ _ _)).trans ?_).trans (result m 0).symm
  funext i
  obtain ⟨a, b, rfl⟩ : ∃ (a : Fin 6144) (b : Fin 4096), i = ix2 a b := ⟨i 0, i 1, eq_ix2 i⟩
  refine (ref_value _ _ _ a b).trans ?_
  rw [a0, a1, a2]
  rfl

theorem kernel : Cert.quiescent_Kernel6 := fun m g _ => Cert.Kernel6.Gen.frame m g
theorem kernelIdeal : Cert.quiescent_Kernel6Ideal := fun m g _ => Cert.Kernel6Ideal.Gen.frame m g
theorem referenceIdeal : Cert.quiescent_Reference6Ideal := fun m g _ =>
  (θ_run _ _ _).mono (fun r h => ⟨fun c => (h c).2, by
    funext k
    rcases k with ⟨c, k⟩
    cases k <;> rename_i x <;> exact Fin.elim0 x⟩) (Cert.Reference6Ideal.Value.run m g)

end Cert.NormMod

end
-- ==== Proof.LastNorm.lean ====
/- What the layer's last step leaves in its result array, over the extended reals: the stream plus the gate times the two experts'
   rows weighted by the routing, each row over the root of its mean square, times the final norm's weight. -/
module

public import proofs.«01_k».proof.Proof.Rows
public import proofs.«01_k».proof.Proof.Gen.Kernel5Ideal.Frame
public import Idealize.ShloMosaic.Lib.Pointwise
public import Idealize.ShloMosaic.Lib.Tactic
public import Idealize.ShloMosaic.Lib.Claim
public import Idealize.ShloMosaic.Lib.Pipeline.ValueKit

@[expose] public section

set_option maxRecDepth 16384

noncomputable section

namespace Cert.LastNorm

open Cert.Kernel5Ideal Cert.Kernel5Ideal.Gen Cert.Rows
open Idealize.ShloMosaic Idealize.ShloMosaic.TcCoe Idealize.SL.Sem

/-- The body's result block. -/
theorem pay1_apply (p : Vec Ideal S256x1 .f32) (f : Vec Ideal S256x4096 .f32) (p' : Vec Ideal S256x1 .f32) (f' x : Vec Ideal S256x4096 .f32)
    (g : Vec Ideal S1x1x4096 .f32) (w : Vec Ideal S1x4096 .f32) (r : Fin 256) (q : Fin 4096) :
    (k0_pay1 p f p' f' x g w : FVec Ideal S256x4096 .f32) (ix2 r q)
      = unit 1166016512#32 (fun k : Fin 4096 => x (ix2 r k) + g (ix3 0 0 k) * (p (ix2 r 0) * f (ix2 r k) + p' (ix2 r 0) * f' (ix2 r k))) q * w (ix2 0 q) := by
  unfold unit
  pointwise! [k0_pay1]

variable (m : (ℓ : Loc nD τ sig) → Buf (Elt Ideal) ℓ) (ρ : Dev nD → PrngReg)

theorem lt_N (t : Fin cfg0.N) : t.val < 24 := Nat.lt_of_lt_of_eq t.isLt N_0

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 0] :=
  (by decide +kernel : ∀ t : Fin grid0.N, win0_1.index t = ![t.val, 0])
theorem index_2 : ∀ t : Fin cfg0.N, win0_2.index t = ![t.val, 0] :=
  (by decide +kernel : ∀ t : Fin grid0.N, win0_2.index t = ![t.val, 0])
/-- The gate's block: the group's row, the last part of the columns. -/
theorem index_3 : ∀ t : Fin cfg0.N, win0_3.index t = ![t.val / 4 - 3, 0, 5] :=
  (by decide +kernel : ∀ t : Fin grid0.N, win0_3.index t = ![t.val / 4 - 3, 0, 5])
theorem index_4 : ∀ t : Fin cfg0.N, win0_4.index t = ![t.val, 0] :=
  (by decide +kernel : ∀ t : Fin grid0.N, win0_4.index t = ![t.val, 0])
theorem index_5 : ∀ t : Fin cfg0.N, win0_5.index t = ![0, 0] :=
  (by decide +kernel : ∀ t : Fin grid0.N, win0_5.index t = ![0, 0])
theorem index_6 : ∀ t : Fin cfg0.N, win0_6.index t = ![t.val, 0] :=
  (by decide +kernel : ∀ t : Fin grid0.N, win0_6.index t = ![t.val, 0])

abbrev arg0 (c : Dev nD) : FVec Ideal S6144x4096 .f32 := m ((c.tc : Thread nD τ).loc main_arg0)
abbrev arg1 (c : Dev nD) : FVec Ideal S6144x4096 .f32 := m ((c.tc : Thread nD τ).loc main_arg1)
abbrev arg2 (c : Dev nD) : FVec Ideal S6144x4096 .f32 := m ((c.tc : Thread nD τ).loc main_arg2)
abbrev arg3 (c : Dev nD) : FVec Ideal S3x1x24576 .f32 := m ((c.tc : Thread nD τ).loc main_arg3)
abbrev arg4 (c : Dev nD) : FVec Ideal S6144x128 .f32 := m ((c.tc : Thread nD τ).loc main_arg4)
abbrev arg5 (c : Dev nD) : FVec Ideal S4096 .f32 := m ((c.tc : Thread nD τ).loc main_arg5)

/-- The final norm's weight as the region finds it. -/
theorem weight (c : Dev nD) (q : Fin 4096) : (V m c main_v0 : FVec Ideal S1x4096 .f32) (ix2 0 q) = arg5 m c (ix1 q) := by
  have e : (V m c main_v0 : FVec Ideal S1x4096 .f32) = broadcastInDim S1x4096 ![1] bcast_S4096_S1x4096_1 (arg5 m c) := by
    show StableHlo.after (List.flatten [hostOps0]) _ _ = _
    simp only [List.flatten_cons, List.flatten_nil, List.append_nil, hostOps0]
    after_results <;> rfl
  rw [e]
  pointwise!

theorem block_0 (c : Dev nD) (t : Fin cfg0.N) (r : Fin 256) (k : Fin 4096) :
    (iblk m c 0 t : FVec Ideal S256x4096 .f32) (ix2 r k) = arg0 m c (ix2 ⟨t.val * 256 + r.val, by have := lt_N t; omega⟩ k) := by
  have hi := index_0 t
  unfold iblk
  rw [View.read_apply]
  show V m c main_arg0 _ = _
  rw [V_main_arg0]
  congr 1; funext a; apply Fin.ext
  match a with
  | ⟨0, _⟩ =>
    show win0_0.index t (0 : Fin 2) * 256 + 1 * r.val = _
    rw [hi]; show t.val * 256 + 1 * r.val = t.val * 256 + r.val; omega
  | ⟨1, _⟩ =>
    show win0_0.index t (1 : Fin 2) * 4096 + 1 * k.val = _
    rw [hi]; show 0 * 4096 + 1 * k.val = k.val; omega

theorem block_1 (c : Dev nD) (t : Fin cfg0.N) (r : Fin 256) (k : Fin 4096) :
    (iblk m c 1 t : FVec Ideal S256x4096 .f32) (ix2 r k) = arg1 m c (ix2 ⟨t.val * 256 + r.val, by have := lt_N t; omega⟩ k) := by
  have hi := index_1 t
  unfold iblk
  rw [View.read_apply]
  show V m c main_arg1 _ = _
  rw [V_main_arg1]
  congr 1; funext a; apply Fin.ext
  match a with
  | ⟨0, _⟩ =>
    show win0_1.index t (0 : Fin 2) * 256 + 1 * r.val = _
    rw [hi]; show t.val * 256 + 1 * r.val = t.val * 256 + r.val; omega
  | ⟨1, _⟩ =>
    show win0_1.index t (1 : Fin 2) * 4096 + 1 * k.val = _
    rw [hi]; show 0 * 4096 + 1 * k.val = k.val; omega

theorem block_2 (c : Dev nD) (t : Fin cfg0.N) (r : Fin 256) (k : Fin 4096) :
    (iblk m c 2 t : FVec Ideal S256x4096 .f32) (ix2 r k) = arg2 m c (ix2 ⟨t.val * 256 + r.val, by have := lt_N t; omega⟩ k) := by
  have hi := index_2 t
  unfold iblk
  rw [View.read_apply]
  show V m c main_arg2 _ = _
  rw [V_main_arg2]
  congr 1; funext a; apply Fin.ext
  match a with
  | ⟨0, _⟩ =>
    show win0_2.index t (0 : Fin 2) * 256 + 1 * r.val = _
    rw [hi]; show t.val * 256 + 1 * r.val = t.val * 256 + r.val; omega
  | ⟨1, _⟩ =>
    show win0_2.index t (1 : Fin 2) * 4096 + 1 * k.val = _
    rw [hi]; show 0 * 4096 + 1 * k.val = k.val; omega

theorem block_3 (c : Dev nD) (t : Fin cfg0.N) (q : Fin 4096) :
    (iblk m c 3 t : FVec Ideal S1x1x4096 .f32) (ix3 0 0 q) = arg3 m c (ix3 ⟨t.val / 4 - 3, by have := lt_N t; omega⟩ 0 ⟨20480 + q.val, by omega⟩) := by
  have hi := index_3 t
  unfold iblk
  rw [View.read_apply]
  show V m c main_arg3 _ = _
  rw [V_main_arg3]
  congr 1; funext a; apply Fin.ext
  match a with
  | ⟨0, _⟩ =>
    show win0_3.index t (0 : Fin 3) * 1 + 1 * 0 = _
    rw [hi]; show (t.val / 4 - 3) * 1 + 1 * 0 = t.val / 4 - 3; omega
  | ⟨1, _⟩ =>
    show win0_3.index t (1 : Fin 3) * 1 + 1 * 0 = _
    rw [hi]; rfl
  | ⟨2, _⟩ =>
    show win0_3.index t (2 : Fin 3) * 4096 + 1 * q.val = _
    rw [hi]; show 5 * 4096 + 1 * q.val = 20480 + q.val; omega

theorem block_4 (c : Dev nD) (t : Fin cfg0.N) (r : Fin 256) (k : Fin 128) :
    (iblk m c 4 t : FVec Ideal S256x128 .f32) (ix2 r k) = arg4 m c (ix2 ⟨t.val * 256 + r.val, by have := lt_N t; omega⟩ k) := by
  have hi := index_4 t
  unfold iblk
  rw [View.read_apply]
  show V m c main_arg4 _ = _
  rw [V_main_arg4]
  congr 1; funext a; apply Fin.ext
  match a with
  | ⟨0, _⟩ =>
    show win0_4.index t (0 : Fin 2) * 256 + 1 * r.val = _
    rw [hi]; show t.val * 256 + 1 * r.val = t.val * 256 + r.val; omega
  | ⟨1, _⟩ =>
    show win0_4.index t (1 : Fin 2) * 128 + 1 * k.val = _
    rw [hi]; show 0 * 128 + 1 * k.val = k.val; omega

theorem block_5 (c : Dev nD) (t : Fin cfg0.N) (q : Fin 4096) : (iblk m c 5 t : FVec Ideal S1x4096 .f32) (ix2 0 q) = arg5 m c (ix1 q) := by
  have hi := index_5 t
  refine Eq.trans ?_ (weight m c q)
  unfold iblk
  rw [View.read_apply]
  show V m c main_v0 _ = _
  congr 1; funext a; apply Fin.ext
  match a with
  | ⟨0, _⟩ =>
    show win0_5.index t (0 : Fin 2) * 1 + 1 * 0 = _
    rw [hi]; rfl
  | ⟨1, _⟩ =>
    show win0_5.index t (1 : Fin 2) * 4096 + 1 * q.val = _
    rw [hi]; show 0 * 4096 + 1 * q.val = q.val; omega

/-- A column of a routing block as the body loads it. -/
theorem column_2 (x : Vec Ideal S256x128 .f32) (r : Fin 256) : (View.ld x r0_0 : FVec Ideal S256x1 .f32) (ix2 r 0) = x (ix2 r 2) := by
  show x _ = _
  congr 1; funext a; apply Fin.ext
  match a with
  | ⟨0, _⟩ => show 0 + 1 * r.val = r.val; omega
  | ⟨1, _⟩ => rfl

theorem column_3 (x : Vec Ideal S256x128 .f32) (r : Fin 256) : (View.ld x r0_2 : FVec Ideal S256x1 .f32) (ix2 r 0) = x (ix2 r 3) := by
  show x _ = _
  congr 1; funext a; apply Fin.ext
  match a with
  | ⟨0, _⟩ => show 0 + 1 * r.val = r.val; omega
  | ⟨1, _⟩ => rfl

/-- A row of the stream after the experts: `x + gate * (p * f + p' * f')`. -/
def stream (x f f' : FVec Ideal S6144x4096 .f32) (s : FVec Ideal S3x1x24576 .f32) (p : FVec Ideal S6144x128 .f32) (a : Fin 6144) (k : Fin 4096) : EReal :=
  x (ix2 a k) + s (ix3 (group a) 0 ⟨20480 + k.val, by omega⟩) * (p (ix2 a 2) * f (ix2 a k) + p (ix2 a 3) * f' (ix2 a k))

/-- One entry of the result. -/
def entry (x f f' : FVec Ideal S6144x4096 .f32) (s : FVec Ideal S3x1x24576 .f32) (p : FVec Ideal S6144x128 .f32) (w : FVec Ideal S4096 .f32)
    (a : Fin 6144) (b : Fin 4096) : EReal := unit 1166016512#32 (stream x f f' s p a) b * w (ix1 b)

/-- The result array, before it is split by group. -/
def whole (c : Dev nD) : FVec Ideal S6144x4096 .f32 := fun i =>
  entry (arg0 m c) (arg1 m c) (arg2 m c) (arg3 m c) (arg4 m c) (arg5 m c) (i 0) (i 1)

theorem result (c : Dev nD) : (dats m 0 c).arrAt 6 cfg0.N = whole m c := by
  refine (dats m 0 c).arrAt_eq_of_covers 6 _ (by decide +kernel) fun t hf y => ?_
  blk_simp
  rw [after0_6]
  frame_out
  have hi := index_6 t
  have ht := lt_N t
  obtain ⟨r, q, rfl⟩ : ∃ (r : Fin 256) (q : Fin 4096), y = ix2 r q := ⟨y 0, y 1, by funext d; match d with | ⟨0, _⟩ => rfl | ⟨1, _⟩ => rfl⟩
  have e : ((View.whole main_v1).slice (win0_6.rect t)).emb (ix2 r q) = (ix2 (⟨t.val * 256 + r.val, by omega⟩ : Fin 6144) q : S6144x4096.Idx) := by
    funext a; apply Fin.ext
    match a with
    | ⟨0, _⟩ =>
      show win0_6.index t (0 : Fin 2) * 256 + 1 * r.val = _
      rw [hi]; show t.val * 256 + 1 * r.val = t.val * 256 + r.val; omega
    | ⟨1, _⟩ =>
      show win0_6.index t (1 : Fin 2) * 4096 + 1 * q.val = _
      rw [hi]; show 0 * 4096 + 1 * q.val = q.val; omega
  rw [e]
  refine (pay1_apply _ _ _ _ _ _ _ r q).trans ?_
  refine congrArg₂ (· * ·) (congrArg (unit _ · q) (funext fun k => ?_)) (block_5 m c t q)
  rw [column_2, column_3, block_0, block_1, block_2, block_3, block_4, block_4]
  unfold stream
  refine congrArg₂ (· + ·) rfl (congrArg₂ (· * ·) (at_eq3 ?_ rfl rfl) rfl)
  show t.val / 4 - 3 = (t.val * 256 + r.val) / 1024 - 3
  omega

/-- The result array as the lines after the region find it. -/
theorem array (c : Dev nD) :
    Pipeline.withArrays (cfgs 0).spec c (V0 m c) (fun w => (dats m 0 c).arrAt w (cfgs 0).N) (Proc.devRef .tc main_v1) = whole m c :=
  (Pipeline.withArrays_arr spec0 launch0.win.arr_inj c _ _ 6).trans (result m c)

/-- The first group of rows, after the lines that split it off. -/
theorem first (c : Dev nD) : Pipeline.afterTail₀ cfgs (dats m) 0 (V0 m) [hostOps1] c main_v3
    = shapeCast S16x256x4096 (extractStridedSlice S4096x4096 ![0, 0] (whole m c) slices_S6144x4096_S4096x4096_0_0) shapeCasts_S4096x4096_S16x256x4096 := by
  rw [← array m c]
  unfold Pipeline.afterTail₀
  simp only [List.flatten_cons, List.flatten_nil, List.append_nil, hostOps1]
  after_results <;> rfl

/-- The second. -/
theorem second (c : Dev nD) : Pipeline.afterTail₀ cfgs (dats m) 0 (V0 m) [hostOps1] c main_v5
    = shapeCast S2x1024x4096 (extractStridedSlice S2048x4096 ![4096, 0] (whole m c) slices_S6144x4096_S2048x4096_4096_0) shapeCasts_S2048x4096_S2x1024x4096 := by
  rw [← array m c]
  unfold Pipeline.afterTail₀
  simp only [List.flatten_cons, List.flatten_nil, List.append_nil, hostOps1]
  after_results <;> rfl

/-- The whole call: the result array's two groups of rows, each as rows of its own batch. -/
theorem run : θ_run defs (onTc (τ := τ) (main (F := Ideal))) ⟨m, fun _ => 0, ρ⟩ (fun r => ∀ c : Dev nD,
      r.2.mem ((c.tc : Thread nD τ).loc main_v3)
        = shapeCast S16x256x4096 (extractStridedSlice S4096x4096 ![0, 0] (whole m c) slices_S6144x4096_S4096x4096_0_0) shapeCasts_S4096x4096_S16x256x4096
      ∧ r.2.mem ((c.tc : Thread nD τ).loc main_v5)
        = shapeCast S2x1024x4096 (extractStridedSlice S2048x4096 ![4096, 0] (whole m c) slices_S6144x4096_S2048x4096_4096_0) shapeCasts_S2048x4096_S2x1024x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from (run_main m ρ)
  · exact first m c
  · exact second m c
  · exact W_main_arg5 m _ c

end Cert.LastNorm

end
-- ==== Proof.LastNormRef.lean ====
/- The value claim of the layer's last step: the kernel's two results over the extended reals are the plain norm of the stream after
   the experts, split by group. -/
module

public import proofs.«01_k».proof.Defs
public import proofs.«01_k».proof.Proof.LastNorm
public import proofs.«01_k».proof.Proof.Gen.Kernel5
public import proofs.«01_k».proof.Proof.Gen.Kernel5.Frame
public import proofs.«01_k».proof.Proof.Gen.Reference5Ideal.Run
public import proofs.«01_k».proof.Proof.Gen.Reference5Ideal.Read

@[expose] public section

noncomputable section

namespace Cert.LastNorm

open Idealize.ShloMosaic Idealize.SL.Sem Cert.Rows

attribute [local instance] Cert.Kernel5.Gen.facts Cert.Kernel5Ideal.Gen.facts Cert.Reference5Ideal.Gen.facts

section Ref
open Cert.Reference5Ideal Cert.Reference5Ideal.Read

variable (x f f' : FVec Ideal S6144x4096 .f32) (s : FVec Ideal S3x1x24576 .f32) (p : FVec Ideal S6144x128 .f32) (w : FVec Ideal S4096 .f32)
  (a : Fin 6144) (b : Fin 4096)

/-- The gate of a row: its group's. -/
theorem gate_apply : (val_main_v10 (F := Ideal) s : FVec Ideal S6144x4096 .f32) (ix2 a b) = s (ix3 (group a) 0 ⟨20480 + b.val, by omega⟩) := by
  refine groups_apply _ _ _ _ (fun g => s (ix3 g 0 ⟨20480 + b.val, by omega⟩)) a b (fun r => ?_) (fun r => ?_) (fun r => ?_)
  · pointwise! [val_main_v3, val_main_v2, val_main_v1, val_main_v0]
  · pointwise! [val_main_v6, val_main_v5, val_main_v4, val_main_v0]
  · pointwise! [val_main_v9, val_main_v8, val_main_v7, val_main_v0]

/-- The experts' rows weighted by the routing. -/
theorem experts_apply : (val_main_v17 (F := Ideal) f f' p : FVec Ideal S6144x4096 .f32) (ix2 a b)
    = p (ix2 a 2) * f (ix2 a b) + p (ix2 a 3) * f' (ix2 a b) := by
  pointwise! [val_main_v17, val_main_v16, val_main_v15, val_main_v14, val_main_v13, val_main_v12, val_main_v11]

/-- The stream after the experts. -/
theorem stream_apply : (val_main_v19 (F := Ideal) x f f' s p : FVec Ideal S6144x4096 .f32) (ix2 a b) = stream x f f' s p a b := by
  show x (ix2 a b) + (val_main_v10 (F := Ideal) s : FVec Ideal S6144x4096 .f32) (ix2 a b)
    * (val_main_v17 (F := Ideal) f f' p : FVec Ideal S6144x4096 .f32) (ix2 a b) = _
  rw [gate_apply, experts_apply]
  rfl

theorem ref_value : (val_main_v32 (F := Ideal) x f f' s p w : FVec Ideal S6144x4096 .f32) (ix2 a b) = entry x f f' s p w a b := by
  have h := stream_apply x f f' s p a
  unfold val_main_v32 val_main_v29 val_main_v28 val_main_v27 val_main_v26 val_main_v24 val_main_v22 val_main_v21 val_main_v20 entry
  revert h
  generalize val_main_v19 (F := Ideal) x f f' s p = Y
  intro h
  rw [show stream x f f' s p a = fun k => Y (ix2 a k) from funext fun k => (h k).symm]
  unfold unit
  pointwise! [val_main_v31, val_main_v30, val_main_v25, val_main_v23, val_main_cst, val_main_cst_0, val_main_cst_1]

/-- The result array, before it is split by group. -/
theorem ref_whole : (val_main_v32 (F := Ideal) x f f' s p w : FVec Ideal S6144x4096 .f32) = fun i => entry x f f' s p w (i 0) (i 1) := by
  funext i
  obtain ⟨a, b, rfl⟩ : ∃ (a : Fin 6144) (b : Fin 4096), i = ix2 a b := ⟨i 0, i 1, eq_ix2 i⟩
  exact ref_value x f f' s p w a b

end Ref

theorem algebraic : Cert.algebraic_Kernel5Ideal_Reference5Ideal := fun m g m' g' _ hag => by
  refine ⟨_, _, run m g, (θ_run _ _ _).mono (fun r hr c => ⟨?_, ?_, (hr c).2.2⟩) (Cert.Reference5Ideal.Value.run m' g')⟩
  all_goals
    obtain rfl : c = 0 := Subsingleton.elim _ _
    obtain ⟨a0, a1, a2, a3, a4, a5⟩ := hag 0
  · refine ((hr 0).1.trans (Cert.Reference5Ideal.Read.val_main_v34_eq _ _)).trans ?_
    unfold Cert.Reference5Ideal.Read.val_main_v34 Cert.Reference5Ideal.Read.val_main_v33
    rw [ref_whole, a0, a1, a2, a3, a4, a5]
    rfl
  · refine ((hr 0).2.1.trans (Cert.Reference5Ideal.Read.val_main_v36_eq _ _)).trans ?_
    unfold Cert.Reference5Ideal.Read.val_main_v36 Cert.Reference5Ideal.Read.val_main_v35
    rw [ref_whole, a0, a1, a2, a3, a4, a5]
    rfl

theorem kernel : Cert.quiescent_Kernel5 := fun m g _ => Cert.Kernel5.Gen.frame m g
theorem kernelIdeal : Cert.quiescent_Kernel5Ideal := fun m g _ => Cert.Kernel5Ideal.Gen.frame m g
theorem referenceIdeal : Cert.quiescent_Reference5Ideal := fun m g _ =>
  (θ_run _ _ _).mono (fun r h => ⟨fun c => (h c).2.2, by
    funext k
    rcases k with ⟨c, k⟩
    cases k <;> rename_i x <;> exact Fin.elim0 x⟩) (Cert.Reference5Ideal.Value.run m g)

end Cert.LastNorm

end
-- ==== Proof.lean ====
module

public import proofs.«01_k».proof.Defs
public import proofs.«01_k».proof.Proof.Frames
public import proofs.«01_k».proof.Proof.Algebra
public import proofs.«01_k».proof.Proof.FfnRef
public import proofs.«01_k».proof.Proof.InProjRef
public import proofs.«01_k».proof.Proof.OutProjRef
public import proofs.«01_k».proof.Proof.SsdNormRef
public import proofs.«01_k».proof.Proof.S5GluRef
public import proofs.«01_k».proof.Proof.AdaModRef
public import proofs.«01_k».proof.Proof.NormModRef
public import proofs.«01_k».proof.Proof.LastNormRef
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts,
   Cert.Reference3Ideal.Gen.facts, Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Pre_experts_in_range.Gen.facts,
   Cert.Frames.kernel, Cert.Frames.kernelIdeal, Cert.Frames.kernelIdeal_pre, Cert.Frames.referenceIdeal, Cert.Frames.referenceIdeal_pre,
   Cert.Dense.kernel, Cert.Dense.kernelIdeal, Cert.Dense.referenceIdeal,
   Cert.InProj.kernel, Cert.InProj.kernelIdeal, Cert.InProj.referenceIdeal, Cert.OutProj.kernel, Cert.OutProj.kernelIdeal, Cert.OutProj.referenceIdeal,
   Cert.LastNorm.kernel, Cert.LastNorm.kernelIdeal, Cert.LastNorm.referenceIdeal,
   Cert.NormMod.kernel, Cert.NormMod.kernelIdeal, Cert.NormMod.referenceIdeal,
   Cert.AdaMod.kernel, Cert.AdaMod.kernelIdeal, Cert.AdaMod.referenceIdeal,
   Cert.S5Glu.kernel, Cert.S5Glu.kernelIdeal, Cert.S5Glu.referenceIdeal,
   Cert.SsdNorm.kernel, Cert.SsdNorm.kernelIdeal, Cert.SsdNorm.referenceIdeal,
   trivial, Cert.Algebra.algebraic, trivial, Cert.Dense.algebraic, trivial, Cert.InProj.algebraic, trivial, Cert.OutProj.algebraic,
   trivial, Cert.LastNorm.algebraic, trivial, Cert.NormMod.algebraic, trivial, Cert.AdaMod.algebraic, trivial, Cert.S5Glu.algebraic, trivial, Cert.SsdNorm.algebraic⟩

end Cert.Proof

end
